-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_in_range [hPre_experts_in_range : Cert.Pre_experts_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_MoeSecond [hPre_next_experts_in_range : Cert.Pre_next_experts_in_range.Facts] (m : (ℓ : Loc Cert.MoeSecond.nD Cert.MoeSecond.τ Cert.MoeSecond.sig) → Buf (Elt Bits) ℓ) : Prop :=
  ∀ c : Dev Cert.MoeSecond.nD,
    (Cert.Pre_next_experts_in_range.fn (F := Bits) (m ((c.tc : Thread Cert.MoeSecond.nD Cert.MoeSecond.τ).loc Cert.MoeSecond.main_arg0)) (m ((c.tc : Thread Cert.MoeSecond.nD Cert.MoeSecond.τ).loc Cert.MoeSecond.main_arg1)) (m ((c.tc : Thread Cert.MoeSecond.nD Cert.MoeSecond.τ).loc Cert.MoeSecond.main_arg2)) (m ((c.tc : Thread Cert.MoeSecond.nD Cert.MoeSecond.τ).loc Cert.MoeSecond.main_arg3)) (m ((c.tc : Thread Cert.MoeSecond.nD Cert.MoeSecond.τ).loc Cert.MoeSecond.main_arg4)) (m ((c.tc : Thread Cert.MoeSecond.nD Cert.MoeSecond.τ).loc Cert.MoeSecond.main_arg5))) = (fun _ => 1#1)

def Pre_MoeSecondIdeal [hPre_next_experts_in_range : Cert.Pre_next_experts_in_range.Facts] (m : (ℓ : Loc Cert.MoeSecondIdeal.nD Cert.MoeSecondIdeal.τ Cert.MoeSecondIdeal.sig) → Buf (Elt Ideal) ℓ) : Prop :=
  ∀ c : Dev Cert.MoeSecondIdeal.nD,
    (Cert.Pre_next_experts_in_range.fn (F := Ideal) (m ((c.tc : Thread Cert.MoeSecondIdeal.nD Cert.MoeSecondIdeal.τ).loc Cert.MoeSecondIdeal.main_arg0)) (m ((c.tc : Thread Cert.MoeSecondIdeal.nD Cert.MoeSecondIdeal.τ).loc Cert.MoeSecondIdeal.main_arg1)) (m ((c.tc : Thread Cert.MoeSecondIdeal.nD Cert.MoeSecondIdeal.τ).loc Cert.MoeSecondIdeal.main_arg2)) (m ((c.tc : Thread Cert.MoeSecondIdeal.nD Cert.MoeSecondIdeal.τ).loc Cert.MoeSecondIdeal.main_arg3)) (m ((c.tc : Thread Cert.MoeSecondIdeal.nD Cert.MoeSecondIdeal.τ).loc Cert.MoeSecondIdeal.main_arg4)) (m ((c.tc : Thread Cert.MoeSecondIdeal.nD Cert.MoeSecondIdeal.τ).loc Cert.MoeSecondIdeal.main_arg5))) = (fun _ => 1#1)

def Pre_MoeSecondRefIdeal (m : (ℓ : Loc Cert.MoeSecondRefIdeal.nD Cert.MoeSecondRefIdeal.τ Cert.MoeSecondRefIdeal.sig) → Buf (Elt Ideal) ℓ) : Prop :=
  True

def Pre_MoeSecondRefIdeal_next_experts_in_range [hPre_next_experts_in_range : Cert.Pre_next_experts_in_range.Facts] (m : (ℓ : Loc Cert.MoeSecondRefIdeal.nD Cert.MoeSecondRefIdeal.τ Cert.MoeSecondRefIdeal.sig) → Buf (Elt Ideal) ℓ) : Prop :=
  ∀ c : Dev Cert.MoeSecondRefIdeal.nD,
    (Cert.Pre_next_experts_in_range.fn (F := Ideal) (m ((c.tc : Thread Cert.MoeSecondRefIdeal.nD Cert.MoeSecondRefIdeal.τ).loc Cert.MoeSecondRefIdeal.main_arg0)) (m ((c.tc : Thread Cert.MoeSecondRefIdeal.nD Cert.MoeSecondRefIdeal.τ).loc Cert.MoeSecondRefIdeal.main_arg1)) (m ((c.tc : Thread Cert.MoeSecondRefIdeal.nD Cert.MoeSecondRefIdeal.τ).loc Cert.MoeSecondRefIdeal.main_arg2)) (m ((c.tc : Thread Cert.MoeSecondRefIdeal.nD Cert.MoeSecondRefIdeal.τ).loc Cert.MoeSecondRefIdeal.main_arg3)) (m ((c.tc : Thread Cert.MoeSecondRefIdeal.nD Cert.MoeSecondRefIdeal.τ).loc Cert.MoeSecondRefIdeal.main_arg4)) (m ((c.tc : Thread Cert.MoeSecondRefIdeal.nD Cert.MoeSecondRefIdeal.τ).loc Cert.MoeSecondRefIdeal.main_arg5))) = (fun _ => 1#1)

def Pre_MoeThird [hPre_next_experts_in_range : Cert.Pre_next_experts_in_range.Facts] (m : (ℓ : Loc Cert.MoeThird.nD Cert.MoeThird.τ Cert.MoeThird.sig) → Buf (Elt Bits) ℓ) : Prop :=
  ∀ c : Dev Cert.MoeThird.nD,
    (Cert.Pre_next_experts_in_range.fn (F := Bits) (m ((c.tc : Thread Cert.MoeThird.nD Cert.MoeThird.τ).loc Cert.MoeThird.main_arg0)) (m ((c.tc : Thread Cert.MoeThird.nD Cert.MoeThird.τ).loc Cert.MoeThird.main_arg1)) (m ((c.tc : Thread Cert.MoeThird.nD Cert.MoeThird.τ).loc Cert.MoeThird.main_arg2)) (m ((c.tc : Thread Cert.MoeThird.nD Cert.MoeThird.τ).loc Cert.MoeThird.main_arg3)) (m ((c.tc : Thread Cert.MoeThird.nD Cert.MoeThird.τ).loc Cert.MoeThird.main_arg4)) (m ((c.tc : Thread Cert.MoeThird.nD Cert.MoeThird.τ).loc Cert.MoeThird.main_arg5))) = (fun _ => 1#1)

def Pre_MoeThirdIdeal [hPre_next_experts_in_range : Cert.Pre_next_experts_in_range.Facts] (m : (ℓ : Loc Cert.MoeThirdIdeal.nD Cert.MoeThirdIdeal.τ Cert.MoeThirdIdeal.sig) → Buf (Elt Ideal) ℓ) : Prop :=
  ∀ c : Dev Cert.MoeThirdIdeal.nD,
    (Cert.Pre_next_experts_in_range.fn (F := Ideal) (m ((c.tc : Thread Cert.MoeThirdIdeal.nD Cert.MoeThirdIdeal.τ).loc Cert.MoeThirdIdeal.main_arg0)) (m ((c.tc : Thread Cert.MoeThirdIdeal.nD Cert.MoeThirdIdeal.τ).loc Cert.MoeThirdIdeal.main_arg1)) (m ((c.tc : Thread Cert.MoeThirdIdeal.nD Cert.MoeThirdIdeal.τ).loc Cert.MoeThirdIdeal.main_arg2)) (m ((c.tc : Thread Cert.MoeThirdIdeal.nD Cert.MoeThirdIdeal.τ).loc Cert.MoeThirdIdeal.main_arg3)) (m ((c.tc : Thread Cert.MoeThirdIdeal.nD Cert.MoeThirdIdeal.τ).loc Cert.MoeThirdIdeal.main_arg4)) (m ((c.tc : Thread Cert.MoeThirdIdeal.nD Cert.MoeThirdIdeal.τ).loc Cert.MoeThirdIdeal.main_arg5))) = (fun _ => 1#1)

def Pre_MoeThirdRefIdeal (m : (ℓ : Loc Cert.MoeThirdRefIdeal.nD Cert.MoeThirdRefIdeal.τ Cert.MoeThirdRefIdeal.sig) → Buf (Elt Ideal) ℓ) : Prop :=
  True

def Pre_MoeThirdRefIdeal_next_experts_in_range [hPre_next_experts_in_range : Cert.Pre_next_experts_in_range.Facts] (m : (ℓ : Loc Cert.MoeThirdRefIdeal.nD Cert.MoeThirdRefIdeal.τ Cert.MoeThirdRefIdeal.sig) → Buf (Elt Ideal) ℓ) : Prop :=
  ∀ c : Dev Cert.MoeThirdRefIdeal.nD,
    (Cert.Pre_next_experts_in_range.fn (F := Ideal) (m ((c.tc : Thread Cert.MoeThirdRefIdeal.nD Cert.MoeThirdRefIdeal.τ).loc Cert.MoeThirdRefIdeal.main_arg0)) (m ((c.tc : Thread Cert.MoeThirdRefIdeal.nD Cert.MoeThirdRefIdeal.τ).loc Cert.MoeThirdRefIdeal.main_arg1)) (m ((c.tc : Thread Cert.MoeThirdRefIdeal.nD Cert.MoeThirdRefIdeal.τ).loc Cert.MoeThirdRefIdeal.main_arg2)) (m ((c.tc : Thread Cert.MoeThirdRefIdeal.nD Cert.MoeThirdRefIdeal.τ).loc Cert.MoeThirdRefIdeal.main_arg3)) (m ((c.tc : Thread Cert.MoeThirdRefIdeal.nD Cert.MoeThirdRefIdeal.τ).loc Cert.MoeThirdRefIdeal.main_arg4)) (m ((c.tc : Thread Cert.MoeThirdRefIdeal.nD Cert.MoeThirdRefIdeal.τ).loc Cert.MoeThirdRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenIdeal_real_inputs [hPre_real_inputs : Cert.Pre_real_inputs.Facts] (m : (ℓ : Loc Cert.EvenIdeal.nD Cert.EvenIdeal.τ Cert.EvenIdeal.sig) → Buf (Elt Ideal) ℓ) : Prop :=
  ∀ c : Dev Cert.EvenIdeal.nD,
    (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.2.2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.2.2.2.2.1 = (fun _ => 1#1)
    ∧ (Cert.Pre_real_inputs.fn (F := Ideal) (m ((c.tc : Thread Cert.EvenIdeal.nD Cert.EvenIdeal.τ).loc Cert.EvenIdeal.main_arg0)) (m ((c.tc : Thread Cert.EvenIdeal.nD Cert.EvenIdeal.τ).loc Cert.EvenIdeal.main_arg1)) (m ((c.tc : Thread Cert.EvenIdeal.nD Cert.EvenIdeal.τ).loc Cert.EvenIdeal.main_arg2)) (m ((c.tc : Thread Cert.EvenIdeal.nD Cert.EvenIdeal.τ).loc Cert.EvenIdeal.main_arg3)) (m ((c.tc : Thread Cert.EvenIdeal.nD Cert.EvenIdeal.τ).loc Cert.EvenIdeal.main_arg4)) (m ((c.tc : Thread Cert.EvenIdeal.nD Cert.EvenIdeal.τ).loc Cert.EvenIdeal.main_arg5)) (m ((c.tc : Thread Cert.EvenIdeal.nD Cert.EvenIdeal.τ).loc Cert.EvenIdeal.main_arg6)) (m ((c.tc : Thread Cert.EvenIdeal.nD Cert.EvenIdeal.τ).loc Cert.EvenIdeal.main_arg7)) (m ((c.tc : Thread Cert.EvenIdeal.nD Cert.EvenIdeal.τ).loc Cert.EvenIdeal.main_arg8))).2.2.2.2.2.2.2.2 = (fun _ => 1#1)

def Pre_EvenRefIdeal (m : (ℓ : Loc Cert.EvenRefIdeal.nD Cert.EvenRefIdeal.τ Cert.EvenRefIdeal.sig) → Buf (Elt Ideal) ℓ) : Prop :=
  True

def Pre_EvenRefIdeal_real_inputs [hPre_real_inputs : Cert.Pre_real_inputs.Facts] (m : (ℓ : Loc Cert.EvenRefIdeal.nD Cert.EvenRefIdeal.τ Cert.EvenRefIdeal.sig) → Buf (Elt Ideal) ℓ) : Prop :=
  ∀ c : Dev Cert.EvenRefIdeal.nD,
    (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.2.2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.2.2.2.2.1 = (fun _ => 1#1)
    ∧ (Cert.Pre_real_inputs.fn (F := Ideal) (m ((c.tc : Thread Cert.EvenRefIdeal.nD Cert.EvenRefIdeal.τ).loc Cert.EvenRefIdeal.main_arg0)) (m ((c.tc : Thread Cert.EvenRefIdeal.nD Cert.EvenRefIdeal.τ).loc Cert.EvenRefIdeal.main_arg1)) (m ((c.tc : Thread Cert.EvenRefIdeal.nD Cert.EvenRefIdeal.τ).loc Cert.EvenRefIdeal.main_arg2)) (m ((c.tc : Thread Cert.EvenRefIdeal.nD Cert.EvenRefIdeal.τ).loc Cert.EvenRefIdeal.main_arg3)) (m ((c.tc : Thread Cert.EvenRefIdeal.nD Cert.EvenRefIdeal.τ).loc Cert.EvenRefIdeal.main_arg4)) (m ((c.tc : Thread Cert.EvenRefIdeal.nD Cert.EvenRefIdeal.τ).loc Cert.EvenRefIdeal.main_arg5)) (m ((c.tc : Thread Cert.EvenRefIdeal.nD Cert.EvenRefIdeal.τ).loc Cert.EvenRefIdeal.main_arg6)) (m ((c.tc : Thread Cert.EvenRefIdeal.nD Cert.EvenRefIdeal.τ).loc Cert.EvenRefIdeal.main_arg7)) (m ((c.tc : Thread Cert.EvenRefIdeal.nD Cert.EvenRefIdeal.τ).loc Cert.EvenRefIdeal.main_arg8))).2.2.2.2.2.2.2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeRefIdeal_pre_experts_in_range [hMoeRefIdeal : Cert.MoeRefIdeal.Facts] [hPre_experts_in_range : Cert.Pre_experts_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeSecond [hMoeSecond : Cert.MoeSecond.Facts] [hPre_next_experts_in_range : Cert.Pre_next_experts_in_range.Facts] : Prop :=
  ∀ (m : (ℓ : Loc Cert.MoeSecond.nD Cert.MoeSecond.τ Cert.MoeSecond.sig) → Buf (Elt Bits) ℓ) (g : Dev Cert.MoeSecond.nD → PrngReg), Pre_MoeSecond m →
    θ_run (Cert.MoeSecond.defs (F := Bits)) (onTc (τ := Cert.MoeSecond.τ) (Cert.MoeSecond.main (F := Bits))) ⟨m, fun _ => 0, g⟩ (fun r => (∀ c : Dev Cert.MoeSecond.nD,
      r.2.mem ((c.tc : Thread Cert.MoeSecond.nD Cert.MoeSecond.τ).loc Cert.MoeSecond.main_arg0) = m ((c.tc : Thread Cert.MoeSecond.nD Cert.MoeSecond.τ).loc Cert.MoeSecond.main_arg0)
      ∧ r.2.mem ((c.tc : Thread Cert.MoeSecond.nD Cert.MoeSecond.τ).loc Cert.MoeSecond.main_arg1) = m ((c.tc : Thread Cert.MoeSecond.nD Cert.MoeSecond.τ).loc Cert.MoeSecond.main_arg1)
      ∧ r.2.mem ((c.tc : Thread Cert.MoeSecond.nD Cert.MoeSecond.τ).loc Cert.MoeSecond.main_arg2) = m ((c.tc : Thread Cert.MoeSecond.nD Cert.MoeSecond.τ).loc Cert.MoeSecond.main_arg2)
      ∧ r.2.mem ((c.tc : Thread Cert.MoeSecond.nD Cert.MoeSecond.τ).loc Cert.MoeSecond.main_arg3) = m ((c.tc : Thread Cert.MoeSecond.nD Cert.MoeSecond.τ).loc Cert.MoeSecond.main_arg3)
      ∧ r.2.mem ((c.tc : Thread Cert.MoeSecond.nD Cert.MoeSecond.τ).loc Cert.MoeSecond.main_arg4) = m ((c.tc : Thread Cert.MoeSecond.nD Cert.MoeSecond.τ).loc Cert.MoeSecond.main_arg4)
      ∧ r.2.mem ((c.tc : Thread Cert.MoeSecond.nD Cert.MoeSecond.τ).loc Cert.MoeSecond.main_arg5) = m ((c.tc : Thread Cert.MoeSecond.nD Cert.MoeSecond.τ).loc Cert.MoeSecond.main_arg5))
      ∧ r.2.sem = fun _ => 0)

def quiescent_MoeSecondIdeal [hMoeSecondIdeal : Cert.MoeSecondIdeal.Facts] [hPre_next_experts_in_range : Cert.Pre_next_experts_in_range.Facts] : Prop :=
  ∀ (m : (ℓ : Loc Cert.MoeSecondIdeal.nD Cert.MoeSecondIdeal.τ Cert.MoeSecondIdeal.sig) → Buf (Elt Ideal) ℓ) (g : Dev Cert.MoeSecondIdeal.nD → PrngReg), Pre_MoeSecondIdeal m →
    θ_run (Cert.MoeSecondIdeal.defs (F := Ideal)) (onTc (τ := Cert.MoeSecondIdeal.τ) (Cert.MoeSecondIdeal.main (F := Ideal))) ⟨m, fun _ => 0, g⟩ (fun r => (∀ c : Dev Cert.MoeSecondIdeal.nD,
      r.2.mem ((c.tc : Thread Cert.MoeSecondIdeal.nD Cert.MoeSecondIdeal.τ).loc Cert.MoeSecondIdeal.main_arg0) = m ((c.tc : Thread Cert.MoeSecondIdeal.nD Cert.MoeSecondIdeal.τ).loc Cert.MoeSecondIdeal.main_arg0)
      ∧ r.2.mem ((c.tc : Thread Cert.MoeSecondIdeal.nD Cert.MoeSecondIdeal.τ).loc Cert.MoeSecondIdeal.main_arg1) = m ((c.tc : Thread Cert.MoeSecondIdeal.nD Cert.MoeSecondIdeal.τ).loc Cert.MoeSecondIdeal.main_arg1)
      ∧ r.2.mem ((c.tc : Thread Cert.MoeSecondIdeal.nD Cert.MoeSecondIdeal.τ).loc Cert.MoeSecondIdeal.main_arg2) = m ((c.tc : Thread Cert.MoeSecondIdeal.nD Cert.MoeSecondIdeal.τ).loc Cert.MoeSecondIdeal.main_arg2)
      ∧ r.2.mem ((c.tc : Thread Cert.MoeSecondIdeal.nD Cert.MoeSecondIdeal.τ).loc Cert.MoeSecondIdeal.main_arg3) = m ((c.tc : Thread Cert.MoeSecondIdeal.nD Cert.MoeSecondIdeal.τ).loc Cert.MoeSecondIdeal.main_arg3)
      ∧ r.2.mem ((c.tc : Thread Cert.MoeSecondIdeal.nD Cert.MoeSecondIdeal.τ).loc Cert.MoeSecondIdeal.main_arg4) = m ((c.tc : Thread Cert.MoeSecondIdeal.nD Cert.MoeSecondIdeal.τ).loc Cert.MoeSecondIdeal.main_arg4)
      ∧ r.2.mem ((c.tc : Thread Cert.MoeSecondIdeal.nD Cert.MoeSecondIdeal.τ).loc Cert.MoeSecondIdeal.main_arg5) = m ((c.tc : Thread Cert.MoeSecondIdeal.nD Cert.MoeSecondIdeal.τ).loc Cert.MoeSecondIdeal.main_arg5))
      ∧ r.2.sem = fun _ => 0)

def quiescent_MoeSecondRefIdeal [hMoeSecondRefIdeal : Cert.MoeSecondRefIdeal.Facts] : Prop :=
  ∀ (m : (ℓ : Loc Cert.MoeSecondRefIdeal.nD Cert.MoeSecondRefIdeal.τ Cert.MoeSecondRefIdeal.sig) → Buf (Elt Ideal) ℓ) (g : Dev Cert.MoeSecondRefIdeal.nD → PrngReg), Pre_MoeSecondRefIdeal m →
    θ_run (Cert.MoeSecondRefIdeal.defs (F := Ideal)) (onTc (τ := Cert.MoeSecondRefIdeal.τ) (Cert.MoeSecondRefIdeal.main (F := Ideal))) ⟨m, fun _ => 0, g⟩ (fun r => (∀ c : Dev Cert.MoeSecondRefIdeal.nD,
      r.2.mem ((c.tc : Thread Cert.MoeSecondRefIdeal.nD Cert.MoeSecondRefIdeal.τ).loc Cert.MoeSecondRefIdeal.main_arg0) = m ((c.tc : Thread Cert.MoeSecondRefIdeal.nD Cert.MoeSecondRefIdeal.τ).loc Cert.MoeSecondRefIdeal.main_arg0)
      ∧ r.2.mem ((c.tc : Thread Cert.MoeSecondRefIdeal.nD Cert.MoeSecondRefIdeal.τ).loc Cert.MoeSecondRefIdeal.main_arg1) = m ((c.tc : Thread Cert.MoeSecondRefIdeal.nD Cert.MoeSecondRefIdeal.τ).loc Cert.MoeSecondRefIdeal.main_arg1)
      ∧ r.2.mem ((c.tc : Thread Cert.MoeSecondRefIdeal.nD Cert.MoeSecondRefIdeal.τ).loc Cert.MoeSecondRefIdeal.main_arg2) = m ((c.tc : Thread Cert.MoeSecondRefIdeal.nD Cert.MoeSecondRefIdeal.τ).loc Cert.MoeSecondRefIdeal.main_arg2)
      ∧ r.2.mem ((c.tc : Thread Cert.MoeSecondRefIdeal.nD Cert.MoeSecondRefIdeal.τ).loc Cert.MoeSecondRefIdeal.main_arg3) = m ((c.tc : Thread Cert.MoeSecondRefIdeal.nD Cert.MoeSecondRefIdeal.τ).loc Cert.MoeSecondRefIdeal.main_arg3)
      ∧ r.2.mem ((c.tc : Thread Cert.MoeSecondRefIdeal.nD Cert.MoeSecondRefIdeal.τ).loc Cert.MoeSecondRefIdeal.main_arg4) = m ((c.tc : Thread Cert.MoeSecondRefIdeal.nD Cert.MoeSecondRefIdeal.τ).loc Cert.MoeSecondRefIdeal.main_arg4)
      ∧ r.2.mem ((c.tc : Thread Cert.MoeSecondRefIdeal.nD Cert.MoeSecondRefIdeal.τ).loc Cert.MoeSecondRefIdeal.main_arg5) = m ((c.tc : Thread Cert.MoeSecondRefIdeal.nD Cert.MoeSecondRefIdeal.τ).loc Cert.MoeSecondRefIdeal.main_arg5))
      ∧ r.2.sem = fun _ => 0)

def quiescent_MoeSecondRefIdeal_pre_next_experts_in_range [hMoeSecondRefIdeal : Cert.MoeSecondRefIdeal.Facts] [hPre_next_experts_in_range : Cert.Pre_next_experts_in_range.Facts] : Prop :=
  ∀ (m : (ℓ : Loc Cert.MoeSecondRefIdeal.nD Cert.MoeSecondRefIdeal.τ Cert.MoeSecondRefIdeal.sig) → Buf (Elt Ideal) ℓ) (g : Dev Cert.MoeSecondRefIdeal.nD → PrngReg), Pre_MoeSecondRefIdeal_next_experts_in_range m →
    θ_run (Cert.MoeSecondRefIdeal.defs (F := Ideal)) (onTc (τ := Cert.MoeSecondRefIdeal.τ) (Cert.MoeSecondRefIdeal.main (F := Ideal))) ⟨m, fun _ => 0, g⟩ (fun r => (∀ c : Dev Cert.MoeSecondRefIdeal.nD,
      r.2.mem ((c.tc : Thread Cert.MoeSecondRefIdeal.nD Cert.MoeSecondRefIdeal.τ).loc Cert.MoeSecondRefIdeal.main_arg0) = m ((c.tc : Thread Cert.MoeSecondRefIdeal.nD Cert.MoeSecondRefIdeal.τ).loc Cert.MoeSecondRefIdeal.main_arg0)
      ∧ r.2.mem ((c.tc : Thread Cert.MoeSecondRefIdeal.nD Cert.MoeSecondRefIdeal.τ).loc Cert.MoeSecondRefIdeal.main_arg1) = m ((c.tc : Thread Cert.MoeSecondRefIdeal.nD Cert.MoeSecondRefIdeal.τ).loc Cert.MoeSecondRefIdeal.main_arg1)
      ∧ r.2.mem ((c.tc : Thread Cert.MoeSecondRefIdeal.nD Cert.MoeSecondRefIdeal.τ).loc Cert.MoeSecondRefIdeal.main_arg2) = m ((c.tc : Thread Cert.MoeSecondRefIdeal.nD Cert.MoeSecondRefIdeal.τ).loc Cert.MoeSecondRefIdeal.main_arg2)
      ∧ r.2.mem ((c.tc : Thread Cert.MoeSecondRefIdeal.nD Cert.MoeSecondRefIdeal.τ).loc Cert.MoeSecondRefIdeal.main_arg3) = m ((c.tc : Thread Cert.MoeSecondRefIdeal.nD Cert.MoeSecondRefIdeal.τ).loc Cert.MoeSecondRefIdeal.main_arg3)
      ∧ r.2.mem ((c.tc : Thread Cert.MoeSecondRefIdeal.nD Cert.MoeSecondRefIdeal.τ).loc Cert.MoeSecondRefIdeal.main_arg4) = m ((c.tc : Thread Cert.MoeSecondRefIdeal.nD Cert.MoeSecondRefIdeal.τ).loc Cert.MoeSecondRefIdeal.main_arg4)
      ∧ r.2.mem ((c.tc : Thread Cert.MoeSecondRefIdeal.nD Cert.MoeSecondRefIdeal.τ).loc Cert.MoeSecondRefIdeal.main_arg5) = m ((c.tc : Thread Cert.MoeSecondRefIdeal.nD Cert.MoeSecondRefIdeal.τ).loc Cert.MoeSecondRefIdeal.main_arg5))
      ∧ r.2.sem = fun _ => 0)

def quiescent_MoeThird [hMoeThird : Cert.MoeThird.Facts] [hPre_next_experts_in_range : Cert.Pre_next_experts_in_range.Facts] : Prop :=
  ∀ (m : (ℓ : Loc Cert.MoeThird.nD Cert.MoeThird.τ Cert.MoeThird.sig) → Buf (Elt Bits) ℓ) (g : Dev Cert.MoeThird.nD → PrngReg), Pre_MoeThird m →
    θ_run (Cert.MoeThird.defs (F := Bits)) (onTc (τ := Cert.MoeThird.τ) (Cert.MoeThird.main (F := Bits))) ⟨m, fun _ => 0, g⟩ (fun r => (∀ c : Dev Cert.MoeThird.nD,
      r.2.mem ((c.tc : Thread Cert.MoeThird.nD Cert.MoeThird.τ).loc Cert.MoeThird.main_arg0) = m ((c.tc : Thread Cert.MoeThird.nD Cert.MoeThird.τ).loc Cert.MoeThird.main_arg0)
      ∧ r.2.mem ((c.tc : Thread Cert.MoeThird.nD Cert.MoeThird.τ).loc Cert.MoeThird.main_arg1) = m ((c.tc : Thread Cert.MoeThird.nD Cert.MoeThird.τ).loc Cert.MoeThird.main_arg1)
      ∧ r.2.mem ((c.tc : Thread Cert.MoeThird.nD Cert.MoeThird.τ).loc Cert.MoeThird.main_arg2) = m ((c.tc : Thread Cert.MoeThird.nD Cert.MoeThird.τ).loc Cert.MoeThird.main_arg2)
      ∧ r.2.mem ((c.tc : Thread Cert.MoeThird.nD Cert.MoeThird.τ).loc Cert.MoeThird.main_arg3) = m ((c.tc : Thread Cert.MoeThird.nD Cert.MoeThird.τ).loc Cert.MoeThird.main_arg3)
      ∧ r.2.mem ((c.tc : Thread Cert.MoeThird.nD Cert.MoeThird.τ).loc Cert.MoeThird.main_arg4) = m ((c.tc : Thread Cert.MoeThird.nD Cert.MoeThird.τ).loc Cert.MoeThird.main_arg4)
      ∧ r.2.mem ((c.tc : Thread Cert.MoeThird.nD Cert.MoeThird.τ).loc Cert.MoeThird.main_arg5) = m ((c.tc : Thread Cert.MoeThird.nD Cert.MoeThird.τ).loc Cert.MoeThird.main_arg5))
      ∧ r.2.sem = fun _ => 0)

def quiescent_MoeThirdIdeal [hMoeThirdIdeal : Cert.MoeThirdIdeal.Facts] [hPre_next_experts_in_range : Cert.Pre_next_experts_in_range.Facts] : Prop :=
  ∀ (m : (ℓ : Loc Cert.MoeThirdIdeal.nD Cert.MoeThirdIdeal.τ Cert.MoeThirdIdeal.sig) → Buf (Elt Ideal) ℓ) (g : Dev Cert.MoeThirdIdeal.nD → PrngReg), Pre_MoeThirdIdeal m →
    θ_run (Cert.MoeThirdIdeal.defs (F := Ideal)) (onTc (τ := Cert.MoeThirdIdeal.τ) (Cert.MoeThirdIdeal.main (F := Ideal))) ⟨m, fun _ => 0, g⟩ (fun r => (∀ c : Dev Cert.MoeThirdIdeal.nD,
      r.2.mem ((c.tc : Thread Cert.MoeThirdIdeal.nD Cert.MoeThirdIdeal.τ).loc Cert.MoeThirdIdeal.main_arg0) = m ((c.tc : Thread Cert.MoeThirdIdeal.nD Cert.MoeThirdIdeal.τ).loc Cert.MoeThirdIdeal.main_arg0)
      ∧ r.2.mem ((c.tc : Thread Cert.MoeThirdIdeal.nD Cert.MoeThirdIdeal.τ).loc Cert.MoeThirdIdeal.main_arg1) = m ((c.tc : Thread Cert.MoeThirdIdeal.nD Cert.MoeThirdIdeal.τ).loc Cert.MoeThirdIdeal.main_arg1)
      ∧ r.2.mem ((c.tc : Thread Cert.MoeThirdIdeal.nD Cert.MoeThirdIdeal.τ).loc Cert.MoeThirdIdeal.main_arg2) = m ((c.tc : Thread Cert.MoeThirdIdeal.nD Cert.MoeThirdIdeal.τ).loc Cert.MoeThirdIdeal.main_arg2)
      ∧ r.2.mem ((c.tc : Thread Cert.MoeThirdIdeal.nD Cert.MoeThirdIdeal.τ).loc Cert.MoeThirdIdeal.main_arg3) = m ((c.tc : Thread Cert.MoeThirdIdeal.nD Cert.MoeThirdIdeal.τ).loc Cert.MoeThirdIdeal.main_arg3)
      ∧ r.2.mem ((c.tc : Thread Cert.MoeThirdIdeal.nD Cert.MoeThirdIdeal.τ).loc Cert.MoeThirdIdeal.main_arg4) = m ((c.tc : Thread Cert.MoeThirdIdeal.nD Cert.MoeThirdIdeal.τ).loc Cert.MoeThirdIdeal.main_arg4)
      ∧ r.2.mem ((c.tc : Thread Cert.MoeThirdIdeal.nD Cert.MoeThirdIdeal.τ).loc Cert.MoeThirdIdeal.main_arg5) = m ((c.tc : Thread Cert.MoeThirdIdeal.nD Cert.MoeThirdIdeal.τ).loc Cert.MoeThirdIdeal.main_arg5))
      ∧ r.2.sem = fun _ => 0)

def quiescent_MoeThirdRefIdeal [hMoeThirdRefIdeal : Cert.MoeThirdRefIdeal.Facts] : Prop :=
  ∀ (m : (ℓ : Loc Cert.MoeThirdRefIdeal.nD Cert.MoeThirdRefIdeal.τ Cert.MoeThirdRefIdeal.sig) → Buf (Elt Ideal) ℓ) (g : Dev Cert.MoeThirdRefIdeal.nD → PrngReg), Pre_MoeThirdRefIdeal m →
    θ_run (Cert.MoeThirdRefIdeal.defs (F := Ideal)) (onTc (τ := Cert.MoeThirdRefIdeal.τ) (Cert.MoeThirdRefIdeal.main (F := Ideal))) ⟨m, fun _ => 0, g⟩ (fun r => (∀ c : Dev Cert.MoeThirdRefIdeal.nD,
      r.2.mem ((c.tc : Thread Cert.MoeThirdRefIdeal.nD Cert.MoeThirdRefIdeal.τ).loc Cert.MoeThirdRefIdeal.main_arg0) = m ((c.tc : Thread Cert.MoeThirdRefIdeal.nD Cert.MoeThirdRefIdeal.τ).loc Cert.MoeThirdRefIdeal.main_arg0)
      ∧ r.2.mem ((c.tc : Thread Cert.MoeThirdRefIdeal.nD Cert.MoeThirdRefIdeal.τ).loc Cert.MoeThirdRefIdeal.main_arg1) = m ((c.tc : Thread Cert.MoeThirdRefIdeal.nD Cert.MoeThirdRefIdeal.τ).loc Cert.MoeThirdRefIdeal.main_arg1)
      ∧ r.2.mem ((c.tc : Thread Cert.MoeThirdRefIdeal.nD Cert.MoeThirdRefIdeal.τ).loc Cert.MoeThirdRefIdeal.main_arg2) = m ((c.tc : Thread Cert.MoeThirdRefIdeal.nD Cert.MoeThirdRefIdeal.τ).loc Cert.MoeThirdRefIdeal.main_arg2)
      ∧ r.2.mem ((c.tc : Thread Cert.MoeThirdRefIdeal.nD Cert.MoeThirdRefIdeal.τ).loc Cert.MoeThirdRefIdeal.main_arg3) = m ((c.tc : Thread Cert.MoeThirdRefIdeal.nD Cert.MoeThirdRefIdeal.τ).loc Cert.MoeThirdRefIdeal.main_arg3)
      ∧ r.2.mem ((c.tc : Thread Cert.MoeThirdRefIdeal.nD Cert.MoeThirdRefIdeal.τ).loc Cert.MoeThirdRefIdeal.main_arg4) = m ((c.tc : Thread Cert.MoeThirdRefIdeal.nD Cert.MoeThirdRefIdeal.τ).loc Cert.MoeThirdRefIdeal.main_arg4)
      ∧ r.2.mem ((c.tc : Thread Cert.MoeThirdRefIdeal.nD Cert.MoeThirdRefIdeal.τ).loc Cert.MoeThirdRefIdeal.main_arg5) = m ((c.tc : Thread Cert.MoeThirdRefIdeal.nD Cert.MoeThirdRefIdeal.τ).loc Cert.MoeThirdRefIdeal.main_arg5))
      ∧ r.2.sem = fun _ => 0)

def quiescent_MoeThirdRefIdeal_pre_next_experts_in_range [hMoeThirdRefIdeal : Cert.MoeThirdRefIdeal.Facts] [hPre_next_experts_in_range : Cert.Pre_next_experts_in_range.Facts] : Prop :=
  ∀ (m : (ℓ : Loc Cert.MoeThirdRefIdeal.nD Cert.MoeThirdRefIdeal.τ Cert.MoeThirdRefIdeal.sig) → Buf (Elt Ideal) ℓ) (g : Dev Cert.MoeThirdRefIdeal.nD → PrngReg), Pre_MoeThirdRefIdeal_next_experts_in_range m →
    θ_run (Cert.MoeThirdRefIdeal.defs (F := Ideal)) (onTc (τ := Cert.MoeThirdRefIdeal.τ) (Cert.MoeThirdRefIdeal.main (F := Ideal))) ⟨m, fun _ => 0, g⟩ (fun r => (∀ c : Dev Cert.MoeThirdRefIdeal.nD,
      r.2.mem ((c.tc : Thread Cert.MoeThirdRefIdeal.nD Cert.MoeThirdRefIdeal.τ).loc Cert.MoeThirdRefIdeal.main_arg0) = m ((c.tc : Thread Cert.MoeThirdRefIdeal.nD Cert.MoeThirdRefIdeal.τ).loc Cert.MoeThirdRefIdeal.main_arg0)
      ∧ r.2.mem ((c.tc : Thread Cert.MoeThirdRefIdeal.nD Cert.MoeThirdRefIdeal.τ).loc Cert.MoeThirdRefIdeal.main_arg1) = m ((c.tc : Thread Cert.MoeThirdRefIdeal.nD Cert.MoeThirdRefIdeal.τ).loc Cert.MoeThirdRefIdeal.main_arg1)
      ∧ r.2.mem ((c.tc : Thread Cert.MoeThirdRefIdeal.nD Cert.MoeThirdRefIdeal.τ).loc Cert.MoeThirdRefIdeal.main_arg2) = m ((c.tc : Thread Cert.MoeThirdRefIdeal.nD Cert.MoeThirdRefIdeal.τ).loc Cert.MoeThirdRefIdeal.main_arg2)
      ∧ r.2.mem ((c.tc : Thread Cert.MoeThirdRefIdeal.nD Cert.MoeThirdRefIdeal.τ).loc Cert.MoeThirdRefIdeal.main_arg3) = m ((c.tc : Thread Cert.MoeThirdRefIdeal.nD Cert.MoeThirdRefIdeal.τ).loc Cert.MoeThirdRefIdeal.main_arg3)
      ∧ r.2.mem ((c.tc : Thread Cert.MoeThirdRefIdeal.nD Cert.MoeThirdRefIdeal.τ).loc Cert.MoeThirdRefIdeal.main_arg4) = m ((c.tc : Thread Cert.MoeThirdRefIdeal.nD Cert.MoeThirdRefIdeal.τ).loc Cert.MoeThirdRefIdeal.main_arg4)
      ∧ r.2.mem ((c.tc : Thread Cert.MoeThirdRefIdeal.nD Cert.MoeThirdRefIdeal.τ).loc Cert.MoeThirdRefIdeal.main_arg5) = m ((c.tc : Thread Cert.MoeThirdRefIdeal.nD Cert.MoeThirdRefIdeal.τ).loc Cert.MoeThirdRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ r.2.sem = fun _ => 0)

def quiescent_EvenIdeal_pre_real_inputs [hEvenIdeal : Cert.EvenIdeal.Facts] [hPre_real_inputs : Cert.Pre_real_inputs.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal_real_inputs m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8))
      ∧ r.2.sem = fun _ => 0)

def quiescent_EvenRefIdeal_pre_real_inputs [hEvenRefIdeal : Cert.EvenRefIdeal.Facts] [hPre_real_inputs : Cert.Pre_real_inputs.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal_real_inputs m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def preserves_Attn_AttnIdeal : Prop :=
  IdealRules.named_const.Statement Cert.AttnIdeal.κ "scale" .f32 0x3E38AA3B#32 (((1 / 8) * (Real.log 2)⁻¹ : ℝ) : EReal)

def algebraic_AttnIdeal_AttnRefIdeal_on_latent_rows_pre_finite [hAttnIdeal : Cert.AttnIdeal.Facts] [hAttnRefIdeal : Cert.AttnRefIdeal.Facts] [hPre_finite : Cert.Pre_finite.Facts] [hOn_latent_rows : Cert.On_latent_rows.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨2, ![33280, 512]⟩ : Shape).Idx, (Cert.On_latent_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnIdeal.nD Cert.AttnIdeal.τ).loc Cert.AttnIdeal.main_v7) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨2, ![33280, 512]⟩ : Shape).Idx, (Cert.On_latent_rows.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) i = 1#1 → r.2.mem ((c.tc : Thread Cert.AttnRefIdeal.nD Cert.AttnRefIdeal.τ).loc Cert.AttnRefIdeal.main_v35) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Moe_MoeIdeal : Prop :=
  True

def algebraic_MoeIdeal_MoeRefIdeal_on_first_part [hMoeIdeal : Cert.MoeIdeal.Facts] [hMoeRefIdeal : Cert.MoeRefIdeal.Facts] [hPre_experts_in_range : Cert.Pre_experts_in_range.Facts] [hOn_first_part : Cert.On_first_part.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          (∀ i : (⟨2, ![70656, 1024]⟩ : Shape).Idx, (Cert.On_first_part.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) i = 1#1 → r.2.mem ((c.tc : Thread Cert.MoeIdeal.nD Cert.MoeIdeal.τ).loc Cert.MoeIdeal.main_v0) i = v0 c i)
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          (∀ i : (⟨2, ![70656, 1024]⟩ : Shape).Idx, (Cert.On_first_part.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) i = 1#1 → r.2.mem ((c.tc : Thread Cert.MoeRefIdeal.nD Cert.MoeRefIdeal.τ).loc Cert.MoeRefIdeal.main_v28) i = v0 c i)
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_MoeSecond_MoeSecondIdeal : Prop :=
  True

def algebraic_MoeSecondIdeal_MoeSecondRefIdeal [hMoeSecondIdeal : Cert.MoeSecondIdeal.Facts] [hMoeSecondRefIdeal : Cert.MoeSecondRefIdeal.Facts] [hPre_next_experts_in_range : Cert.Pre_next_experts_in_range.Facts] : Prop :=
  ∀ (m : (ℓ : Loc Cert.MoeSecondIdeal.nD Cert.MoeSecondIdeal.τ Cert.MoeSecondIdeal.sig) → Buf (Elt Ideal) ℓ) (g : Dev Cert.MoeSecondIdeal.nD → PrngReg)
    (m' : (ℓ : Loc Cert.MoeSecondRefIdeal.nD Cert.MoeSecondRefIdeal.τ Cert.MoeSecondRefIdeal.sig) → Buf (Elt Ideal) ℓ) (g' : Dev Cert.MoeSecondRefIdeal.nD → PrngReg), Pre_MoeSecondIdeal m →
    (∀ c : Dev Cert.MoeSecondIdeal.nD,
      m' ((c.tc : Thread Cert.MoeSecondRefIdeal.nD Cert.MoeSecondRefIdeal.τ).loc Cert.MoeSecondRefIdeal.main_arg0) = m ((c.tc : Thread Cert.MoeSecondIdeal.nD Cert.MoeSecondIdeal.τ).loc Cert.MoeSecondIdeal.main_arg0)
      ∧ m' ((c.tc : Thread Cert.MoeSecondRefIdeal.nD Cert.MoeSecondRefIdeal.τ).loc Cert.MoeSecondRefIdeal.main_arg1) = m ((c.tc : Thread Cert.MoeSecondIdeal.nD Cert.MoeSecondIdeal.τ).loc Cert.MoeSecondIdeal.main_arg1)
      ∧ m' ((c.tc : Thread Cert.MoeSecondRefIdeal.nD Cert.MoeSecondRefIdeal.τ).loc Cert.MoeSecondRefIdeal.main_arg2) = m ((c.tc : Thread Cert.MoeSecondIdeal.nD Cert.MoeSecondIdeal.τ).loc Cert.MoeSecondIdeal.main_arg2)
      ∧ m' ((c.tc : Thread Cert.MoeSecondRefIdeal.nD Cert.MoeSecondRefIdeal.τ).loc Cert.MoeSecondRefIdeal.main_arg3) = m ((c.tc : Thread Cert.MoeSecondIdeal.nD Cert.MoeSecondIdeal.τ).loc Cert.MoeSecondIdeal.main_arg3)
      ∧ m' ((c.tc : Thread Cert.MoeSecondRefIdeal.nD Cert.MoeSecondRefIdeal.τ).loc Cert.MoeSecondRefIdeal.main_arg4) = m ((c.tc : Thread Cert.MoeSecondIdeal.nD Cert.MoeSecondIdeal.τ).loc Cert.MoeSecondIdeal.main_arg4)
      ∧ m' ((c.tc : Thread Cert.MoeSecondRefIdeal.nD Cert.MoeSecondRefIdeal.τ).loc Cert.MoeSecondRefIdeal.main_arg5) = m ((c.tc : Thread Cert.MoeSecondIdeal.nD Cert.MoeSecondIdeal.τ).loc Cert.MoeSecondIdeal.main_arg5)) →
    ∃ (v0 : (c : Dev Cert.MoeSecondIdeal.nD) → Buf (Elt Ideal) ((c.tc : Thread Cert.MoeSecondIdeal.nD Cert.MoeSecondIdeal.τ).loc Cert.MoeSecondIdeal.main_v0)),
      θ_run (Cert.MoeSecondIdeal.defs (F := Ideal)) (onTc (τ := Cert.MoeSecondIdeal.τ) (Cert.MoeSecondIdeal.main (F := Ideal))) ⟨m, fun _ => 0, g⟩ (fun r => ∀ c : Dev Cert.MoeSecondIdeal.nD,
          r.2.mem ((c.tc : Thread Cert.MoeSecondIdeal.nD Cert.MoeSecondIdeal.τ).loc Cert.MoeSecondIdeal.main_v0) = v0 c
          ∧ r.2.mem ((c.tc : Thread Cert.MoeSecondIdeal.nD Cert.MoeSecondIdeal.τ).loc Cert.MoeSecondIdeal.main_arg0) = m ((c.tc : Thread Cert.MoeSecondIdeal.nD Cert.MoeSecondIdeal.τ).loc Cert.MoeSecondIdeal.main_arg0)
          ∧ r.2.mem ((c.tc : Thread Cert.MoeSecondIdeal.nD Cert.MoeSecondIdeal.τ).loc Cert.MoeSecondIdeal.main_arg1) = m ((c.tc : Thread Cert.MoeSecondIdeal.nD Cert.MoeSecondIdeal.τ).loc Cert.MoeSecondIdeal.main_arg1)
          ∧ r.2.mem ((c.tc : Thread Cert.MoeSecondIdeal.nD Cert.MoeSecondIdeal.τ).loc Cert.MoeSecondIdeal.main_arg2) = m ((c.tc : Thread Cert.MoeSecondIdeal.nD Cert.MoeSecondIdeal.τ).loc Cert.MoeSecondIdeal.main_arg2)
          ∧ r.2.mem ((c.tc : Thread Cert.MoeSecondIdeal.nD Cert.MoeSecondIdeal.τ).loc Cert.MoeSecondIdeal.main_arg3) = m ((c.tc : Thread Cert.MoeSecondIdeal.nD Cert.MoeSecondIdeal.τ).loc Cert.MoeSecondIdeal.main_arg3)
          ∧ r.2.mem ((c.tc : Thread Cert.MoeSecondIdeal.nD Cert.MoeSecondIdeal.τ).loc Cert.MoeSecondIdeal.main_arg4) = m ((c.tc : Thread Cert.MoeSecondIdeal.nD Cert.MoeSecondIdeal.τ).loc Cert.MoeSecondIdeal.main_arg4)
          ∧ r.2.mem ((c.tc : Thread Cert.MoeSecondIdeal.nD Cert.MoeSecondIdeal.τ).loc Cert.MoeSecondIdeal.main_arg5) = m ((c.tc : Thread Cert.MoeSecondIdeal.nD Cert.MoeSecondIdeal.τ).loc Cert.MoeSecondIdeal.main_arg5))
      ∧ θ_run (Cert.MoeSecondRefIdeal.defs (F := Ideal)) (onTc (τ := Cert.MoeSecondRefIdeal.τ) (Cert.MoeSecondRefIdeal.main (F := Ideal))) ⟨m', fun _ => 0, g'⟩ (fun r => ∀ c : Dev Cert.MoeSecondRefIdeal.nD,
          r.2.mem ((c.tc : Thread Cert.MoeSecondRefIdeal.nD Cert.MoeSecondRefIdeal.τ).loc Cert.MoeSecondRefIdeal.main_v32) = v0 c
          ∧ r.2.mem ((c.tc : Thread Cert.MoeSecondRefIdeal.nD Cert.MoeSecondRefIdeal.τ).loc Cert.MoeSecondRefIdeal.main_arg0) = m' ((c.tc : Thread Cert.MoeSecondRefIdeal.nD Cert.MoeSecondRefIdeal.τ).loc Cert.MoeSecondRefIdeal.main_arg0)
          ∧ r.2.mem ((c.tc : Thread Cert.MoeSecondRefIdeal.nD Cert.MoeSecondRefIdeal.τ).loc Cert.MoeSecondRefIdeal.main_arg1) = m' ((c.tc : Thread Cert.MoeSecondRefIdeal.nD Cert.MoeSecondRefIdeal.τ).loc Cert.MoeSecondRefIdeal.main_arg1)
          ∧ r.2.mem ((c.tc : Thread Cert.MoeSecondRefIdeal.nD Cert.MoeSecondRefIdeal.τ).loc Cert.MoeSecondRefIdeal.main_arg2) = m' ((c.tc : Thread Cert.MoeSecondRefIdeal.nD Cert.MoeSecondRefIdeal.τ).loc Cert.MoeSecondRefIdeal.main_arg2)
          ∧ r.2.mem ((c.tc : Thread Cert.MoeSecondRefIdeal.nD Cert.MoeSecondRefIdeal.τ).loc Cert.MoeSecondRefIdeal.main_arg3) = m' ((c.tc : Thread Cert.MoeSecondRefIdeal.nD Cert.MoeSecondRefIdeal.τ).loc Cert.MoeSecondRefIdeal.main_arg3)
          ∧ r.2.mem ((c.tc : Thread Cert.MoeSecondRefIdeal.nD Cert.MoeSecondRefIdeal.τ).loc Cert.MoeSecondRefIdeal.main_arg4) = m' ((c.tc : Thread Cert.MoeSecondRefIdeal.nD Cert.MoeSecondRefIdeal.τ).loc Cert.MoeSecondRefIdeal.main_arg4)
          ∧ r.2.mem ((c.tc : Thread Cert.MoeSecondRefIdeal.nD Cert.MoeSecondRefIdeal.τ).loc Cert.MoeSecondRefIdeal.main_arg5) = m' ((c.tc : Thread Cert.MoeSecondRefIdeal.nD Cert.MoeSecondRefIdeal.τ).loc Cert.MoeSecondRefIdeal.main_arg5))

def preserves_MoeThird_MoeThirdIdeal : Prop :=
  True

def algebraic_MoeThirdIdeal_MoeThirdRefIdeal [hMoeThirdIdeal : Cert.MoeThirdIdeal.Facts] [hMoeThirdRefIdeal : Cert.MoeThirdRefIdeal.Facts] [hPre_next_experts_in_range : Cert.Pre_next_experts_in_range.Facts] : Prop :=
  ∀ (m : (ℓ : Loc Cert.MoeThirdIdeal.nD Cert.MoeThirdIdeal.τ Cert.MoeThirdIdeal.sig) → Buf (Elt Ideal) ℓ) (g : Dev Cert.MoeThirdIdeal.nD → PrngReg)
    (m' : (ℓ : Loc Cert.MoeThirdRefIdeal.nD Cert.MoeThirdRefIdeal.τ Cert.MoeThirdRefIdeal.sig) → Buf (Elt Ideal) ℓ) (g' : Dev Cert.MoeThirdRefIdeal.nD → PrngReg), Pre_MoeThirdIdeal m →
    (∀ c : Dev Cert.MoeThirdIdeal.nD,
      m' ((c.tc : Thread Cert.MoeThirdRefIdeal.nD Cert.MoeThirdRefIdeal.τ).loc Cert.MoeThirdRefIdeal.main_arg0) = m ((c.tc : Thread Cert.MoeThirdIdeal.nD Cert.MoeThirdIdeal.τ).loc Cert.MoeThirdIdeal.main_arg0)
      ∧ m' ((c.tc : Thread Cert.MoeThirdRefIdeal.nD Cert.MoeThirdRefIdeal.τ).loc Cert.MoeThirdRefIdeal.main_arg1) = m ((c.tc : Thread Cert.MoeThirdIdeal.nD Cert.MoeThirdIdeal.τ).loc Cert.MoeThirdIdeal.main_arg1)
      ∧ m' ((c.tc : Thread Cert.MoeThirdRefIdeal.nD Cert.MoeThirdRefIdeal.τ).loc Cert.MoeThirdRefIdeal.main_arg2) = m ((c.tc : Thread Cert.MoeThirdIdeal.nD Cert.MoeThirdIdeal.τ).loc Cert.MoeThirdIdeal.main_arg2)
      ∧ m' ((c.tc : Thread Cert.MoeThirdRefIdeal.nD Cert.MoeThirdRefIdeal.τ).loc Cert.MoeThirdRefIdeal.main_arg3) = m ((c.tc : Thread Cert.MoeThirdIdeal.nD Cert.MoeThirdIdeal.τ).loc Cert.MoeThirdIdeal.main_arg3)
      ∧ m' ((c.tc : Thread Cert.MoeThirdRefIdeal.nD Cert.MoeThirdRefIdeal.τ).loc Cert.MoeThirdRefIdeal.main_arg4) = m ((c.tc : Thread Cert.MoeThirdIdeal.nD Cert.MoeThirdIdeal.τ).loc Cert.MoeThirdIdeal.main_arg4)
      ∧ m' ((c.tc : Thread Cert.MoeThirdRefIdeal.nD Cert.MoeThirdRefIdeal.τ).loc Cert.MoeThirdRefIdeal.main_arg5) = m ((c.tc : Thread Cert.MoeThirdIdeal.nD Cert.MoeThirdIdeal.τ).loc Cert.MoeThirdIdeal.main_arg5)) →
    ∃ (v0 : (c : Dev Cert.MoeThirdIdeal.nD) → Buf (Elt Ideal) ((c.tc : Thread Cert.MoeThirdIdeal.nD Cert.MoeThirdIdeal.τ).loc Cert.MoeThirdIdeal.main_v0)),
      θ_run (Cert.MoeThirdIdeal.defs (F := Ideal)) (onTc (τ := Cert.MoeThirdIdeal.τ) (Cert.MoeThirdIdeal.main (F := Ideal))) ⟨m, fun _ => 0, g⟩ (fun r => ∀ c : Dev Cert.MoeThirdIdeal.nD,
          r.2.mem ((c.tc : Thread Cert.MoeThirdIdeal.nD Cert.MoeThirdIdeal.τ).loc Cert.MoeThirdIdeal.main_v0) = v0 c
          ∧ r.2.mem ((c.tc : Thread Cert.MoeThirdIdeal.nD Cert.MoeThirdIdeal.τ).loc Cert.MoeThirdIdeal.main_arg0) = m ((c.tc : Thread Cert.MoeThirdIdeal.nD Cert.MoeThirdIdeal.τ).loc Cert.MoeThirdIdeal.main_arg0)
          ∧ r.2.mem ((c.tc : Thread Cert.MoeThirdIdeal.nD Cert.MoeThirdIdeal.τ).loc Cert.MoeThirdIdeal.main_arg1) = m ((c.tc : Thread Cert.MoeThirdIdeal.nD Cert.MoeThirdIdeal.τ).loc Cert.MoeThirdIdeal.main_arg1)
          ∧ r.2.mem ((c.tc : Thread Cert.MoeThirdIdeal.nD Cert.MoeThirdIdeal.τ).loc Cert.MoeThirdIdeal.main_arg2) = m ((c.tc : Thread Cert.MoeThirdIdeal.nD Cert.MoeThirdIdeal.τ).loc Cert.MoeThirdIdeal.main_arg2)
          ∧ r.2.mem ((c.tc : Thread Cert.MoeThirdIdeal.nD Cert.MoeThirdIdeal.τ).loc Cert.MoeThirdIdeal.main_arg3) = m ((c.tc : Thread Cert.MoeThirdIdeal.nD Cert.MoeThirdIdeal.τ).loc Cert.MoeThirdIdeal.main_arg3)
          ∧ r.2.mem ((c.tc : Thread Cert.MoeThirdIdeal.nD Cert.MoeThirdIdeal.τ).loc Cert.MoeThirdIdeal.main_arg4) = m ((c.tc : Thread Cert.MoeThirdIdeal.nD Cert.MoeThirdIdeal.τ).loc Cert.MoeThirdIdeal.main_arg4)
          ∧ r.2.mem ((c.tc : Thread Cert.MoeThirdIdeal.nD Cert.MoeThirdIdeal.τ).loc Cert.MoeThirdIdeal.main_arg5) = m ((c.tc : Thread Cert.MoeThirdIdeal.nD Cert.MoeThirdIdeal.τ).loc Cert.MoeThirdIdeal.main_arg5))
      ∧ θ_run (Cert.MoeThirdRefIdeal.defs (F := Ideal)) (onTc (τ := Cert.MoeThirdRefIdeal.τ) (Cert.MoeThirdRefIdeal.main (F := Ideal))) ⟨m', fun _ => 0, g'⟩ (fun r => ∀ c : Dev Cert.MoeThirdRefIdeal.nD,
          r.2.mem ((c.tc : Thread Cert.MoeThirdRefIdeal.nD Cert.MoeThirdRefIdeal.τ).loc Cert.MoeThirdRefIdeal.main_v30) = v0 c
          ∧ r.2.mem ((c.tc : Thread Cert.MoeThirdRefIdeal.nD Cert.MoeThirdRefIdeal.τ).loc Cert.MoeThirdRefIdeal.main_arg0) = m' ((c.tc : Thread Cert.MoeThirdRefIdeal.nD Cert.MoeThirdRefIdeal.τ).loc Cert.MoeThirdRefIdeal.main_arg0)
          ∧ r.2.mem ((c.tc : Thread Cert.MoeThirdRefIdeal.nD Cert.MoeThirdRefIdeal.τ).loc Cert.MoeThirdRefIdeal.main_arg1) = m' ((c.tc : Thread Cert.MoeThirdRefIdeal.nD Cert.MoeThirdRefIdeal.τ).loc Cert.MoeThirdRefIdeal.main_arg1)
          ∧ r.2.mem ((c.tc : Thread Cert.MoeThirdRefIdeal.nD Cert.MoeThirdRefIdeal.τ).loc Cert.MoeThirdRefIdeal.main_arg2) = m' ((c.tc : Thread Cert.MoeThirdRefIdeal.nD Cert.MoeThirdRefIdeal.τ).loc Cert.MoeThirdRefIdeal.main_arg2)
          ∧ r.2.mem ((c.tc : Thread Cert.MoeThirdRefIdeal.nD Cert.MoeThirdRefIdeal.τ).loc Cert.MoeThirdRefIdeal.main_arg3) = m' ((c.tc : Thread Cert.MoeThirdRefIdeal.nD Cert.MoeThirdRefIdeal.τ).loc Cert.MoeThirdRefIdeal.main_arg3)
          ∧ r.2.mem ((c.tc : Thread Cert.MoeThirdRefIdeal.nD Cert.MoeThirdRefIdeal.τ).loc Cert.MoeThirdRefIdeal.main_arg4) = m' ((c.tc : Thread Cert.MoeThirdRefIdeal.nD Cert.MoeThirdRefIdeal.τ).loc Cert.MoeThirdRefIdeal.main_arg4)
          ∧ r.2.mem ((c.tc : Thread Cert.MoeThirdRefIdeal.nD Cert.MoeThirdRefIdeal.τ).loc Cert.MoeThirdRefIdeal.main_arg5) = m' ((c.tc : Thread Cert.MoeThirdRefIdeal.nD Cert.MoeThirdRefIdeal.τ).loc Cert.MoeThirdRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v67) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v38) = v0 c
          ∧ r.2.mem ((c.tc : Thread Cert.InRefIdeal.nD Cert.InRefIdeal.τ).loc Cert.InRefIdeal.main_v40) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Even_EvenIdeal : Prop :=
  True

def algebraic_EvenIdeal_EvenRefIdeal_pre_real_inputs [hEvenIdeal : Cert.EvenIdeal.Facts] [hEvenRefIdeal : Cert.EvenRefIdeal.Facts] [hPre_real_inputs : Cert.Pre_real_inputs.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal_real_inputs m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)) →
    ∃ (v0 : (c : Dev Cert.EvenIdeal.nD) → Buf (Elt Ideal) ((c.tc : Thread Cert.EvenIdeal.nD Cert.EvenIdeal.τ).loc Cert.EvenIdeal.main_v75_0)) (v1 : (c : Dev Cert.EvenIdeal.nD) → Buf (Elt Ideal) ((c.tc : Thread Cert.EvenIdeal.nD Cert.EvenIdeal.τ).loc Cert.EvenIdeal.main_v75_1)) (v2 : (c : Dev Cert.EvenIdeal.nD) → Buf (Elt Ideal) ((c.tc : Thread Cert.EvenIdeal.nD Cert.EvenIdeal.τ).loc Cert.EvenIdeal.main_v75_2)) (v3 : (c : Dev Cert.EvenIdeal.nD) → Buf (Elt Ideal) ((c.tc : Thread Cert.EvenIdeal.nD Cert.EvenIdeal.τ).loc Cert.EvenIdeal.main_v75_3)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v75_0) = v0 c
          ∧ r.2.mem ((c.tc : Thread Cert.EvenIdeal.nD Cert.EvenIdeal.τ).loc Cert.EvenIdeal.main_v75_1) = v1 c
          ∧ r.2.mem ((c.tc : Thread Cert.EvenIdeal.nD Cert.EvenIdeal.τ).loc Cert.EvenIdeal.main_v75_2) = v2 c
          ∧ r.2.mem ((c.tc : Thread Cert.EvenIdeal.nD Cert.EvenIdeal.τ).loc Cert.EvenIdeal.main_v75_3) = v3 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v136) = v0 c
          ∧ r.2.mem ((c.tc : Thread Cert.EvenRefIdeal.nD Cert.EvenRefIdeal.τ).loc Cert.EvenRefIdeal.main_v137) = v1 c
          ∧ r.2.mem ((c.tc : Thread Cert.EvenRefIdeal.nD Cert.EvenRefIdeal.τ).loc Cert.EvenRefIdeal.main_v138) = v2 c
          ∧ r.2.mem ((c.tc : Thread Cert.EvenRefIdeal.nD Cert.EvenRefIdeal.τ).loc Cert.EvenRefIdeal.main_v139) = v3 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v26) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v28) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hMoeSecond : Cert.MoeSecond.Facts) (hMoeSecondIdeal : Cert.MoeSecondIdeal.Facts) (hMoeSecondRefIdeal : Cert.MoeSecondRefIdeal.Facts) (hMoeThird : Cert.MoeThird.Facts) (hMoeThirdIdeal : Cert.MoeThirdIdeal.Facts) (hMoeThirdRefIdeal : Cert.MoeThirdRefIdeal.Facts) (hFfn : Cert.Ffn.Facts) (hFfnIdeal : Cert.FfnIdeal.Facts) (hFfnRefIdeal : Cert.FfnRefIdeal.Facts) (hIn : Cert.In.Facts) (hInIdeal : Cert.InIdeal.Facts) (hInRefIdeal : Cert.InRefIdeal.Facts) (hEven : Cert.Even.Facts) (hEvenIdeal : Cert.EvenIdeal.Facts) (hEvenRefIdeal : Cert.EvenRefIdeal.Facts) (hOut : Cert.Out.Facts) (hOutIdeal : Cert.OutIdeal.Facts) (hOutRefIdeal : Cert.OutRefIdeal.Facts) (hMixOut : Cert.MixOut.Facts) (hMixOutIdeal : Cert.MixOutIdeal.Facts) (hMixOutRefIdeal : Cert.MixOutRefIdeal.Facts) (hPre_finite : Cert.Pre_finite.Facts) (hPre_experts_in_range : Cert.Pre_experts_in_range.Facts) (hPre_next_experts_in_range : Cert.Pre_next_experts_in_range.Facts) (hPre_real_inputs : Cert.Pre_real_inputs.Facts) (hOn_latent_rows : Cert.On_latent_rows.Facts) (hOn_first_part : Cert.On_first_part.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Moe (hMoe := hMoe) (hPre_experts_in_range := hPre_experts_in_range)
    ∧ quiescent_MoeIdeal (hMoeIdeal := hMoeIdeal) (hPre_experts_in_range := hPre_experts_in_range)
    ∧ quiescent_MoeRefIdeal (hMoeRefIdeal := hMoeRefIdeal)
    ∧ quiescent_MoeRefIdeal_pre_experts_in_range (hMoeRefIdeal := hMoeRefIdeal) (hPre_experts_in_range := hPre_experts_in_range)
    ∧ quiescent_MoeSecond (hMoeSecond := hMoeSecond) (hPre_next_experts_in_range := hPre_next_experts_in_range)
    ∧ quiescent_MoeSecondIdeal (hMoeSecondIdeal := hMoeSecondIdeal) (hPre_next_experts_in_range := hPre_next_experts_in_range)
    ∧ quiescent_MoeSecondRefIdeal (hMoeSecondRefIdeal := hMoeSecondRefIdeal)
    ∧ quiescent_MoeSecondRefIdeal_pre_next_experts_in_range (hMoeSecondRefIdeal := hMoeSecondRefIdeal) (hPre_next_experts_in_range := hPre_next_experts_in_range)
    ∧ quiescent_MoeThird (hMoeThird := hMoeThird) (hPre_next_experts_in_range := hPre_next_experts_in_range)
    ∧ quiescent_MoeThirdIdeal (hMoeThirdIdeal := hMoeThirdIdeal) (hPre_next_experts_in_range := hPre_next_experts_in_range)
    ∧ quiescent_MoeThirdRefIdeal (hMoeThirdRefIdeal := hMoeThirdRefIdeal)
    ∧ quiescent_MoeThirdRefIdeal_pre_next_experts_in_range (hMoeThirdRefIdeal := hMoeThirdRefIdeal) (hPre_next_experts_in_range := hPre_next_experts_in_range)
    ∧ quiescent_Ffn (hFfn := hFfn)
    ∧ quiescent_FfnIdeal (hFfnIdeal := hFfnIdeal)
    ∧ quiescent_FfnRefIdeal (hFfnRefIdeal := hFfnRefIdeal)
    ∧ quiescent_In (hIn := hIn)
    ∧ quiescent_InIdeal (hInIdeal := hInIdeal)
    ∧ quiescent_InRefIdeal (hInRefIdeal := hInRefIdeal)
    ∧ quiescent_Even (hEven := hEven)
    ∧ quiescent_EvenIdeal (hEvenIdeal := hEvenIdeal)
    ∧ quiescent_EvenIdeal_pre_real_inputs (hEvenIdeal := hEvenIdeal) (hPre_real_inputs := hPre_real_inputs)
    ∧ quiescent_EvenRefIdeal (hEvenRefIdeal := hEvenRefIdeal)
    ∧ quiescent_EvenRefIdeal_pre_real_inputs (hEvenRefIdeal := hEvenRefIdeal) (hPre_real_inputs := hPre_real_inputs)
    ∧ quiescent_Out (hOut := hOut)
    ∧ quiescent_OutIdeal (hOutIdeal := hOutIdeal)
    ∧ quiescent_OutRefIdeal (hOutRefIdeal := hOutRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ preserves_Attn_AttnIdeal
    ∧ algebraic_AttnIdeal_AttnRefIdeal_on_latent_rows_pre_finite (hAttnIdeal := hAttnIdeal) (hAttnRefIdeal := hAttnRefIdeal) (hPre_finite := hPre_finite) (hOn_latent_rows := hOn_latent_rows)
    ∧ preserves_Moe_MoeIdeal
    ∧ algebraic_MoeIdeal_MoeRefIdeal_on_first_part (hMoeIdeal := hMoeIdeal) (hMoeRefIdeal := hMoeRefIdeal) (hPre_experts_in_range := hPre_experts_in_range) (hOn_first_part := hOn_first_part)
    ∧ preserves_MoeSecond_MoeSecondIdeal
    ∧ algebraic_MoeSecondIdeal_MoeSecondRefIdeal (hMoeSecondIdeal := hMoeSecondIdeal) (hMoeSecondRefIdeal := hMoeSecondRefIdeal) (hPre_next_experts_in_range := hPre_next_experts_in_range)
    ∧ preserves_MoeThird_MoeThirdIdeal
    ∧ algebraic_MoeThirdIdeal_MoeThirdRefIdeal (hMoeThirdIdeal := hMoeThirdIdeal) (hMoeThirdRefIdeal := hMoeThirdRefIdeal) (hPre_next_experts_in_range := hPre_next_experts_in_range)
    ∧ preserves_Ffn_FfnIdeal
    ∧ algebraic_FfnIdeal_FfnRefIdeal (hFfnIdeal := hFfnIdeal) (hFfnRefIdeal := hFfnRefIdeal)
    ∧ preserves_In_InIdeal
    ∧ algebraic_InIdeal_InRefIdeal (hInIdeal := hInIdeal) (hInRefIdeal := hInRefIdeal)
    ∧ preserves_Even_EvenIdeal
    ∧ algebraic_EvenIdeal_EvenRefIdeal_pre_real_inputs (hEvenIdeal := hEvenIdeal) (hEvenRefIdeal := hEvenRefIdeal) (hPre_real_inputs := hPre_real_inputs)
    ∧ preserves_Out_OutIdeal
    ∧ algebraic_OutIdeal_OutRefIdeal (hOutIdeal := hOutIdeal) (hOutRefIdeal := hOutRefIdeal)
    ∧ preserves_MixOut_MixOutIdeal
    ∧ algebraic_MixOutIdeal_MixOutRefIdeal (hMixOutIdeal := hMixOutIdeal) (hMixOutRefIdeal := hMixOutRefIdeal)
-- ==== On_first_part.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S_ : Shape := ⟨0, ![]⟩

class Facts : Prop where
  bcast_S_S70656x1024 : S_.BroadcastsInDim S70656x1024 (![] : Fin 0 → Fin S70656x1024.rank)

variable [Facts]

def fn {F : FTy → Type} [FloatOps F] (main_arg0 : FVec F S23552x1024 .bf16) (main_arg1 : IVec S46 32) (main_arg2 : IVec S46 32) (main_arg3 : FVec F S2x8x1024x7168 .bf16) (main_arg4 : FVec F S2x8x3584x1024 .bf16) : IVec S70656x1024 1 :=
  let main_v0 : IVec S70656x1024 32 := iotaInDim S70656x1024 32 0
  let main_c : IVec S_ 32 := constantI S_ 32 23552#32
  let main_v1 : IVec S70656x1024 32 := broadcastInDim S70656x1024 ![] bcast_S_S70656x1024 main_c
  let main_v2 : IVec S70656x1024 1 := cmpi .slt main_v0 main_v1
  main_v2
-- ==== On_latent_rows.lean ====
abbrev S33280x512 : Shape := ⟨2, ![33280, 512]⟩
abbrev S2x33280x64 : Shape := ⟨3, ![2, 33280, 64]⟩
abbrev S2x64x33280 : Shape := ⟨3, ![2, 64, 33280]⟩
abbrev S_ : Shape := ⟨0, ![]⟩

class Facts : Prop where
  bcast_S_S33280x512 : S_.BroadcastsInDim S33280x512 (![] : Fin 0 → Fin S33280x512.rank)

variable [Facts]

def fn {F : FTy → Type} [FloatOps F] (main_arg0 : FVec F S33280x512 .f32) (main_arg1 : FVec F S2x33280x64 .bf16) (main_arg2 : FVec F S2x64x33280 .f32) : IVec S33280x512 1 :=
  let main_v0 : IVec S33280x512 32 := iotaInDim S33280x512 32 0
  let main_c : IVec S_ 32 := constantI S_ 32 32768#32
  let main_v1 : IVec S33280x512 32 := broadcastInDim S33280x512 ![] bcast_S_S33280x512 main_c
  let main_v2 : IVec S33280x512 1 := cmpi .slt main_v0 main_v1
  main_v2
-- ==== Pre_experts_in_range.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S_ : Shape := ⟨0, ![]⟩

class Facts : Prop where
  bcast_S_S46 : S_.BroadcastsInDim S46 (![] : Fin 0 → Fin S46.rank)

variable [Facts]

def fn {F : FTy → Type} [FloatOps F] (main_arg0 : FVec F S23552x1024 .bf16) (main_arg1 : IVec S46 32) (main_arg2 : IVec S46 32) (main_arg3 : FVec F S2x8x1024x7168 .bf16) (main_arg4 : FVec F S2x8x3584x1024 .bf16) : IVec S46 1 :=
  let main_c : IVec S_ 32 := constantI S_ 32 0#32
  let main_v0 : IVec S46 32 := broadcastInDim S46 ![] bcast_S_S46 main_c
  let main_v1 : IVec S46 1 := cmpi .sge main_arg1 main_v0
  let main_c_0 : IVec S_ 32 := constantI S_ 32 8#32
  let main_v2 : IVec S46 32 := broadcastInDim S46 ![] bcast_S_S46 main_c_0
  let main_v3 : IVec S46 1 := cmpi .slt main_arg1 main_v2
  let main_v4 : IVec S46 1 := andi main_v1 main_v3
  main_v4
-- ==== Pre_finite.lean ====
abbrev S33280x512 : Shape := ⟨2, ![33280, 512]⟩
abbrev S2x33280x64 : Shape := ⟨3, ![2, 33280, 64]⟩
abbrev S2x64x33280 : Shape := ⟨3, ![2, 64, 33280]⟩
abbrev S_ : Shape := ⟨0, ![]⟩

class Facts : Prop where
  bcast_S_S33280x512 : S_.BroadcastsInDim S33280x512 (![] : Fin 0 → Fin S33280x512.rank)
  bitsLt_bf16_f32 : FTy.bits .bf16 < FTy.bits .f32
  bcast_S_S2x33280x64 : S_.BroadcastsInDim S2x33280x64 (![] : Fin 0 → Fin S2x33280x64.rank)
  bcast_S_S2x64x33280 : S_.BroadcastsInDim S2x64x33280 (![] : Fin 0 → Fin S2x64x33280.rank)

variable [Facts]

def fn {F : FTy → Type} [FloatOps F] (main_arg0 : FVec F S33280x512 .f32) (main_arg1 : FVec F S2x33280x64 .bf16) (main_arg2 : FVec F S2x64x33280 .f32) : IVec S33280x512 1 × IVec S2x33280x64 1 × IVec S2x64x33280 1 :=
  let main_v0 : FVec F S33280x512 .f32 := Host.absf main_arg0
  let main_cst : FVec F S_ .f32 := constant S_ .f32 0x7F800000#32
  let main_v1 : FVec F S33280x512 .f32 := broadcastInDim S33280x512 ![] bcast_S_S33280x512 main_cst
  let main_v2 : IVec S33280x512 1 := cmpf .olt main_v0 main_v1
  let main_v3 : FVec F S2x33280x64 .f32 := (extf .f32 · bitsLt_bf16_f32) main_arg1
  let main_v4 : FVec F S2x33280x64 .f32 := Host.absf main_v3
  let main_cst_0 : FVec F S_ .f32 := constant S_ .f32 0x7F800000#32
  let main_v5 : FVec F S2x33280x64 .f32 := broadcastInDim S2x33280x64 ![] bcast_S_S2x33280x64 main_cst_0
  let main_v6 : IVec S2x33280x64 1 := cmpf .olt main_v4 main_v5
  let main_v7 : FVec F S2x64x33280 .f32 := Host.absf main_arg2
  let main_cst_1 : FVec F S_ .f32 := constant S_ .f32 0x7F800000#32
  let main_v8 : FVec F S2x64x33280 .f32 := broadcastInDim S2x64x33280 ![] bcast_S_S2x64x33280 main_cst_1
  let main_v9 : IVec S2x64x33280 1 := cmpf .olt main_v7 main_v8
  (main_v2, main_v6, main_v9)
-- ==== Pre_next_experts_in_range.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S_ : Shape := ⟨0, ![]⟩

class Facts : Prop where
  bcast_S_S46 : S_.BroadcastsInDim S46 (![] : Fin 0 → Fin S46.rank)

variable [Facts]

def fn {F : FTy → Type} [FloatOps F] (main_arg0 : FVec F S23552x1024 .bf16) (main_arg1 : IVec S46 32) (main_arg2 : IVec S46 32) (main_arg3 : FVec F S2x8x1024x7168 .bf16) (main_arg4 : FVec F S2x8x3584x1024 .bf16) (main_arg5 : FVec F S70656x1024 .bf16) : IVec S46 1 :=
  let main_c : IVec S_ 32 := constantI S_ 32 0#32
  let main_v0 : IVec S46 32 := broadcastInDim S46 ![] bcast_S_S46 main_c
  let main_v1 : IVec S46 1 := cmpi .sge main_arg1 main_v0
  let main_c_0 : IVec S_ 32 := constantI S_ 32 8#32
  let main_v2 : IVec S46 32 := broadcastInDim S46 ![] bcast_S_S46 main_c_0
  let main_v3 : IVec S46 1 := cmpi .slt main_arg1 main_v2
  let main_v4 : IVec S46 1 := andi main_v1 main_v3
  main_v4
-- ==== Pre_real_inputs.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x1280 : Shape := ⟨2, ![1024, 1280]⟩
abbrev S128x256 : Shape := ⟨2, ![128, 256]⟩
abbrev S64 : Shape := ⟨1, ![64]⟩
abbrev S16384x32 : Shape := ⟨2, ![16384, 32]⟩
abbrev S_ : Shape := ⟨0, ![]⟩

class Facts : Prop where
  bcast_S_S33280x1024 : S_.BroadcastsInDim S33280x1024 (![] : Fin 0 → Fin S33280x1024.rank)
  bcast_S_S1x1024 : S_.BroadcastsInDim S1x1024 (![] : Fin 0 → Fin S1x1024.rank)
  bcast_S_S6x8x1x1024 : S_.BroadcastsInDim S6x8x1x1024 (![] : Fin 0 → Fin S6x8x1x1024.rank)
  bcast_S_S1024x1280 : S_.BroadcastsInDim S1024x1280 (![] : Fin 0 → Fin S1024x1280.rank)
  bcast_S_S128x256 : S_.BroadcastsInDim S128x256 (![] : Fin 0 → Fin S128x256.rank)
  bcast_S_S64 : S_.BroadcastsInDim S64 (![] : Fin 0 → Fin S64.rank)
  bcast_S_S16384x32 : S_.BroadcastsInDim S16384x32 (![] : Fin 0 → Fin S16384x32.rank)

variable [Facts]

def fn_part1 {F : FTy → Type} [FloatOps F] (main_arg6 : FVec F S64 .f32) (main_arg7 : FVec F S16384x32 .f32) (main_arg8 : FVec F S16384x32 .f32) (main_v2 : IVec S33280x1024 1) (main_v5 : IVec S1x1024 1) (main_v8 : IVec S6x8x1x1024 1) (main_v11 : IVec S1024x1280 1) (main_v14 : IVec S128x256 1) (main_v17 : IVec S64 1) : IVec S33280x1024 1 × IVec S1x1024 1 × IVec S6x8x1x1024 1 × IVec S1024x1280 1 × IVec S128x256 1 × IVec S64 1 × IVec S64 1 × IVec S16384x32 1 × IVec S16384x32 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S16384x32 .f32 := Host.absf main_arg7
  let main_cst_6 : FVec F S_ .f32 := constant S_ .f32 0x7F800000#32
  let main_v22 : FVec F S16384x32 .f32 := broadcastInDim S16384x32 ![] bcast_S_S16384x32 main_cst_6
  let main_v23 : IVec S16384x32 1 := cmpf .olt main_v21 main_v22
  let main_v24 : FVec F S16384x32 .f32 := Host.absf main_arg8
  let main_cst_7 : FVec F S_ .f32 := constant S_ .f32 0x7F800000#32
  let main_v25 : FVec F S16384x32 .f32 := broadcastInDim S16384x32 ![] bcast_S_S16384x32 main_cst_7
  let main_v26 : IVec S16384x32 1 := cmpf .olt main_v24 main_v25
  (main_v2, main_v5, main_v8, main_v11, main_v14, main_v17, main_v20, main_v23, main_v26)

def fn {F : FTy → Type} [FloatOps F] (main_arg0 : FVec F S33280x1024 .f32) (main_arg1 : FVec F S1x1024 .f32) (main_arg2 : FVec F S6x8x1x1024 .f32) (main_arg3 : FVec F S1024x1280 .f32) (main_arg4 : FVec F S128x256 .f32) (main_arg5 : FVec F S64 .f32) (main_arg6 : FVec F S64 .f32) (main_arg7 : FVec F S16384x32 .f32) (main_arg8 : FVec F S16384x32 .f32) : IVec S33280x1024 1 × IVec S1x1024 1 × IVec S6x8x1x1024 1 × IVec S1024x1280 1 × IVec S128x256 1 × IVec S64 1 × IVec S64 1 × IVec S16384x32 1 × IVec S16384x32 1 :=
  let main_v0 : FVec F S33280x1024 .f32 := Host.absf main_arg0
  let main_cst : FVec F S_ .f32 := constant S_ .f32 0x7F800000#32
  let main_v1 : FVec F S33280x1024 .f32 := broadcastInDim S33280x1024 ![] bcast_S_S33280x1024 main_cst
  let main_v2 : IVec S33280x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S6x8x1x1024 .f32 := Host.absf main_arg2
  let main_cst_1 : FVec F S_ .f32 := constant S_ .f32 0x7F800000#32
  let main_v7 : FVec F S6x8x1x1024 .f32 := broadcastInDim S6x8x1x1024 ![] bcast_S_S6x8x1x1024 main_cst_1
  let main_v8 : IVec S6x8x1x1024 1 := cmpf .olt main_v6 main_v7
  let main_v9 : FVec F S1024x1280 .f32 := Host.absf main_arg3
  let main_cst_2 : FVec F S_ .f32 := constant S_ .f32 0x7F800000#32
  let main_v10 : FVec F S1024x1280 .f32 := broadcastInDim S1024x1280 ![] bcast_S_S1024x1280 main_cst_2
  let main_v11 : IVec S1024x1280 1 := cmpf .olt main_v9 main_v10
  let main_v12 : FVec F S128x256 .f32 := Host.absf main_arg4
  let main_cst_3 : FVec F S_ .f32 := constant S_ .f32 0x7F800000#32
  let main_v13 : FVec F S128x256 .f32 := broadcastInDim S128x256 ![] bcast_S_S128x256 main_cst_3
  let main_v14 : IVec S128x256 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Attn.lean ====
abbrev S33280x512 : Shape := ⟨2, ![33280, 512]⟩
abbrev S2x33280x64 : Shape := ⟨3, ![2, 33280, 64]⟩
abbrev S2x64x33280 : Shape := ⟨3, ![2, 64, 33280]⟩
abbrev S2x16x33280 : Shape := ⟨3, ![2, 16, 33280]⟩
abbrev S_ : Shape := ⟨0, ![]⟩
abbrev S2x80x33280 : Shape := ⟨3, ![2, 80, 33280]⟩
abbrev S256x256 : Shape := ⟨2, ![256, 256]⟩
abbrev S1x256x64 : Shape := ⟨3, ![1, 256, 64]⟩
abbrev S1x80x256 : Shape := ⟨3, ![1, 80, 256]⟩
abbrev S1x16384x64 : Shape := ⟨3, ![1, 16384, 64]⟩
abbrev S1x80x16384 : Shape := ⟨3, ![1, 80, 16384]⟩
abbrev S80x1024 : Shape := ⟨2, ![80, 1024]⟩
abbrev S256x64 : Shape := ⟨2, ![256, 64]⟩
abbrev S1024x64 : Shape := ⟨2, ![1024, 64]⟩
abbrev S256x1024 : Shape := ⟨2, ![256, 1024]⟩
abbrev S80x256 : Shape := ⟨2, ![80, 256]⟩
abbrev S1x4096x64 : Shape := ⟨3, ![1, 4096, 64]⟩
abbrev S4096x64 : Shape := ⟨2, ![4096, 64]⟩
abbrev S4096x1024 : Shape := ⟨2, ![4096, 1024]⟩
abbrev S1x80x4096 : Shape := ⟨3, ![1, 80, 4096]⟩
abbrev S80x4096 : Shape := ⟨2, ![80, 4096]⟩
abbrev S64x1024 : Shape := ⟨2, ![64, 1024]⟩
abbrev S1x1024 : Shape := ⟨2, ![1, 1024]⟩
abbrev S64x256 : Shape := ⟨2, ![64, 256]⟩

abbrev nBuf : Space → Nat
  | .hbm => 16
  | .vmem => 13
  | .smem => 0
  | _ => 0

abbrev bufTy : (tb : Table) → Fin (tcTables nBuf tb) → BufTy
  | .hbm, ⟨0, _⟩ => ⟨S33280x512, .f32⟩
  | .hbm, ⟨1, _⟩ => ⟨S2x33280x64, .bf16⟩
  | .hbm, ⟨2, _⟩ => ⟨S2x64x33280, .f32⟩
  | .hbm, ⟨3, _⟩ => ⟨S2x16x33280, .i32⟩
  | .hbm, ⟨4, _⟩ => ⟨S_, .i32⟩
  | .hbm, ⟨5, _⟩ => ⟨S2x16x33280, .i32⟩
  | .hbm, ⟨6, _⟩ => ⟨S2x16x33280, .i1⟩
  | .hbm, ⟨7, _⟩ => ⟨S_, .f32⟩
  | .hbm, ⟨8, _⟩ => ⟨S_, .f32⟩
  | .hbm, ⟨9, _⟩ => ⟨S2x16x33280, .f32⟩
  | .hbm, ⟨10, _⟩ => ⟨S2x16x33280, .f32⟩
  | .hbm, ⟨11, _⟩ => ⟨S2x16x33280, .f32⟩
  | .hbm, ⟨12, _⟩ => ⟨S2x16x33280, .f32⟩
  | .hbm, ⟨13, _⟩ => ⟨S2x80x33280, .f32⟩
  | .hbm, ⟨14, _⟩ => ⟨S2x80x33280, .bf16⟩
  | .hbm, ⟨15, _⟩ => ⟨S33280x512, .bf16⟩
  | .local _ .vmem, ⟨0, _⟩ => ⟨S256x256, .f32⟩
  | .local _ .vmem, ⟨1, _⟩ => ⟨S256x256, .f32⟩
  | .local _ .vmem, ⟨2, _⟩ => ⟨S1x256x64, .bf16⟩
  | .local _ .vmem, ⟨3, _⟩ => ⟨S1x256x64, .bf16⟩
  | .local _ .vmem, ⟨4, _⟩ => ⟨S1x80x256, .bf16⟩
  | .local _ .vmem, ⟨5, _⟩ => ⟨S1x80x256, .bf16⟩
  | .local _ .vmem, ⟨6, _⟩ => ⟨S1x16384x64, .bf16⟩
  | .local _ .vmem, ⟨7, _⟩ => ⟨S1x16384x64, .bf16⟩
  | .local _ .vmem, ⟨8, _⟩ => ⟨S1x80x16384, .bf16⟩
  | .local _ .vmem, ⟨9, _⟩ => ⟨S1x80x16384, .bf16⟩
  | .local _ .vmem, ⟨10, _⟩ => ⟨S256x256, .bf16⟩
  | .local _ .vmem, ⟨11, _⟩ => ⟨S256x256, .bf16⟩
  | .local _ .vmem, ⟨12, _⟩ => ⟨S80x1024, .f32⟩
  | _, _ => ⟨S33280x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 64], ![false, false, false]⟩

@[reducible] def k0_t1_loop : Scf.Loop 32 :=
  let c0_i32 : BitVec 32 := 0#32
  let c4_i32 : BitVec 32 := 4#32
  let v26 : BitVec 32 := Scalar.addi c0_i32 c4_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4096_i32 : BitVec 32 := 4096#32
  let v43 : BitVec 32 := Scalar.muli arg10 c4096_i32
  v43
def k0_off1 (k0_t1 : Fin k0_t1_loop.trips) : Fin 3 → Nat :=
  let c0_21 : Index := 0#32
  let c0_i32 : BitVec 32 := 0#32
  let c1_i32 : BitVec 32 := 1#32
  let arg10 : BitVec 32 := Scf.iv c0_i32 c1_i32 k0_t1
  let c4096_i32 : BitVec 32 := 4096#32
  let v43 : BitVec 32 := Scalar.muli arg10 c4096_i32
  let v44 : BitVec 32 := v43
  let v45 : Index := Scalar.indexCast v44
  let c0_22 : Index := 0#32
  ![0, v45.toNat, 0]
def k0_off2 (k0_t1 : Fin k0_t1_loop.trips) : Fin 3 → Nat :=
  let c0_26 : Index := 0#32
  let c0_27 : Index := 0#32
  let c0_i32 : BitVec 32 := 0#32
  let c1_i32 : BitVec 32 := 1#32
  let arg10 : BitVec 32 := Scf.iv c0_i32 c1_i32 k0_t1
  let c4096_i32 : BitVec 32 := 4096#32
  let v43 : BitVec 32 := Scalar.muli arg10 c4096_i32
  let v44 : BitVec 32 := v43
  let v50 : Index := Scalar.indexCast v44
  ![0, 0, v50.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x80x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "scale" => some (((1 / 8) * (Real.log 2)⁻¹ : ℝ) : EReal)
  | _ => none
-- ==== AttnRefIdeal.lean ====
abbrev S33280x512 : Shape := ⟨2, ![33280, 512]⟩
abbrev S2x33280x64 : Shape := ⟨3, ![2, 33280, 64]⟩
abbrev S2x64x33280 : Shape := ⟨3, ![2, 64, 33280]⟩
abbrev S33280x2x64 : Shape := ⟨3, ![33280, 2, 64]⟩
abbrev S32768x2x64 : Shape := ⟨3, ![32768, 2, 64]⟩
abbrev S2x16384x2x64 : Shape := ⟨4, ![2, 16384, 2, 64]⟩
abbrev S512x2x64 : Shape := ⟨3, ![512, 2, 64]⟩
abbrev S2x256x2x64 : Shape := ⟨4, ![2, 256, 2, 64]⟩
abbrev S2x16640x2x64 : Shape := ⟨4, ![2, 16640, 2, 64]⟩
abbrev S32768x512 : Shape := ⟨2, ![32768, 512]⟩
abbrev S2x16384x2x4x64 : Shape := ⟨5, ![2, 16384, 2, 4, 64]⟩
abbrev S2x2x16640x16384x4 : Shape := ⟨5, ![2, 2, 16640, 16384, 4]⟩
abbrev S2x2x4x16384x16640 : Shape := ⟨5, ![2, 2, 4, 16384, 16640]⟩
abbrev S_ : Shape := ⟨0, ![]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S512x512 : Shape := ⟨2, ![512, 512]⟩

abbrev nBuf : Space → Nat
  | .hbm => 44
  | .vmem => 0
  | .smem => 0
  | _ => 0

abbrev bufTy : (tb : Table) → Fin (tcTables nBuf tb) → BufTy
  | .hbm, ⟨0, _⟩ => ⟨S33280x512, .f32⟩
  | .hbm, ⟨1, _⟩ => ⟨S2x33280x64, .bf16⟩
  | .hbm, ⟨2, _⟩ => ⟨S2x64x33280, .f32⟩
  | .hbm, ⟨3, _⟩ => ⟨S2x33280x64, .f32⟩
  | .hbm, ⟨4, _⟩ => ⟨S33280x2x64, .f32⟩
  | .hbm, ⟨5, _⟩ => ⟨S33280x2x64, .f32⟩
  | .hbm, ⟨6, _⟩ => ⟨S32768x2x64, .f32⟩
  | .hbm, ⟨7, _⟩ => ⟨S2x16384x2x64, .f32⟩
  | .hbm, ⟨8, _⟩ => ⟨S32768x2x64, .f32⟩
  | .hbm, ⟨9, _⟩ => ⟨S2x16384x2x64, .f32⟩
  | .hbm, ⟨10, _⟩ => ⟨S512x2x64, .f32⟩
  | .hbm, ⟨11, _⟩ => ⟨S2x256x2x64, .f32⟩
  | .hbm, ⟨12, _⟩ => ⟨S512x2x64, .f32⟩
  | .hbm, ⟨13, _⟩ => ⟨S2x256x2x64, .f32⟩
  | .hbm, ⟨14, _⟩ => ⟨S2x16640x2x64, .f32⟩
  | .hbm, ⟨15, _⟩ => ⟨S2x16640x2x64, .f32⟩
  | .hbm, ⟨16, _⟩ => ⟨S32768x512, .f32⟩
  | .hbm, ⟨17, _⟩ => ⟨S2x16384x2x4x64, .f32⟩
  | .hbm, ⟨18, _⟩ => ⟨S2x2x16640x16384x4, .f32⟩
  | .hbm, ⟨19, _⟩ => ⟨S2x2x4x16384x16640, .f32⟩
  | .hbm, ⟨20, _⟩ => ⟨S_, .f32⟩
  | .hbm, ⟨21, _⟩ => ⟨S2x2x4x16384x16640, .f32⟩
  | .hbm, ⟨22, _⟩ => ⟨S2x2x4x16384x16640, .f32⟩
  | .hbm, ⟨23, _⟩ => ⟨S_, .f32⟩
  | .hbm, ⟨24, _⟩ => ⟨S2x2x4x16384, .f32⟩
  | .hbm, ⟨25, _⟩ => ⟨S_, .f32⟩
  | .hbm, ⟨26, _⟩ => ⟨S2x2x4x16384, .f32⟩
  | .hbm, ⟨27, _⟩ => ⟨S2x2x4x16384, .f32⟩
  | .hbm, ⟨28, _⟩ => ⟨S2x2x4x16384x1, .f32⟩
  | .hbm, ⟨29, _⟩ => ⟨S2x2x4x16384x16640, .f32⟩
  | .hbm, ⟨30, _⟩ => ⟨S2x2x4x16384x16640, .f32⟩
  | .hbm, ⟨31, _⟩ => ⟨S2x2x4x16384x16640, .f32⟩
  | .hbm, ⟨32, _⟩ => ⟨S_, .f32⟩
  | .hbm, ⟨33, _⟩ => ⟨S2x2x4x16384, .f32⟩
  | .hbm, ⟨34, _⟩ => ⟨S2x2x4x16384x1, .f32⟩
  | .hbm, ⟨35, _⟩ => ⟨S2x2x4x16384x16640, .f32⟩
  | .hbm, ⟨36, _⟩ => ⟨S2x2x4x16384x16640, .f32⟩
  | .hbm, ⟨37, _⟩ => ⟨S2x2x64x4x16384, .f32⟩
  | .hbm, ⟨38, _⟩ => ⟨S2x16384x2x4x64, .f32⟩
  | .hbm, ⟨39, _⟩ => ⟨S32768x512, .f32⟩
  | .hbm, ⟨40, _⟩ => ⟨S_, .f32⟩
  | .hbm, ⟨41, _⟩ => ⟨S512x512, .f32⟩
  | .hbm, ⟨42, _⟩ => ⟨S33280x512, .f32⟩
  | .hbm, ⟨43, _⟩ => ⟨S33280x512, .bf16⟩
  | _, _ => ⟨S33280x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Moe.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S512x1024 : Shape := ⟨2, ![512, 1024]⟩
abbrev S1x1x1024x1792 : Shape := ⟨4, ![1, 1, 1024, 1792]⟩
abbrev S1 : Shape := ⟨1, ![1]⟩
abbrev S1x1x1792x1024 : Shape := ⟨4, ![1, 1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 4
  | .vmem => 11
  | .smem => 2
  | _ => 0

abbrev bufTy : (tb : Table) → Fin (tcTables nBuf tb) → BufTy
  | .hbm, ⟨0, _⟩ => ⟨S23552x1024, .bf16⟩
  | .hbm, ⟨1, _⟩ => ⟨S2x8x1024x7168, .bf16⟩
  | .hbm, ⟨2, _⟩ => ⟨S2x8x3584x1024, .bf16⟩
  | .hbm, ⟨3, _⟩ => ⟨S70656x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S46, .i32⟩
  | .local _ .smem, ⟨1, _⟩ => ⟨S46, .i32⟩
  | _, _ => ⟨S23552x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![46, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c2_i32 : BitVec 32 := 2#32
  let v6 : BitVec 32 := Scalar.addi c2_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S1x8x1024x7168 : Shape := ⟨4, ![1, 8, 1024, 7168]⟩
abbrev S8x1024x7168 : Shape := ⟨3, ![8, 1024, 7168]⟩
abbrev S23552x8x7168 : Shape := ⟨3, ![23552, 8, 7168]⟩
abbrev S23552x8x3584 : Shape := ⟨3, ![23552, 8, 3584]⟩
abbrev S_ : Shape := ⟨0, ![]⟩
abbrev S1x8x3584x1024 : Shape := ⟨4, ![1, 8, 3584, 1024]⟩
abbrev S8x3584x1024 : Shape := ⟨3, ![8, 3584, 1024]⟩
abbrev S8x1024x23552 : Shape := ⟨3, ![8, 1024, 23552]⟩
abbrev S23552x8x1024 : Shape := ⟨3, ![23552, 8, 1024]⟩
abbrev S46x512 : Shape := ⟨2, ![46, 512]⟩
abbrev S23552 : Shape := ⟨1, ![23552]⟩
abbrev S23552x1 : Shape := ⟨2, ![23552, 1]⟩
abbrev S1x8 : Shape := ⟨2, ![1, 8]⟩
abbrev S23552x8 : Shape := ⟨2, ![23552, 8]⟩
abbrev S23552x8x1 : Shape := ⟨3, ![23552, 8, 1]⟩
abbrev S70656x1024 : Shape := ⟨2, ![70656, 1024]⟩

abbrev nBuf : Space → Nat
  | .hbm => 55
  | .vmem => 0
  | .smem => 0
  | _ => 0

abbrev bufTy : (tb : Table) → Fin (tcTables nBuf tb) → BufTy
  | .hbm, ⟨0, _⟩ => ⟨S23552x1024, .bf16⟩
  | .hbm, ⟨1, _⟩ => ⟨S46, .i32⟩
  | .hbm, ⟨2, _⟩ => ⟨S46, .i32⟩
  | .hbm, ⟨3, _⟩ => ⟨S2x8x1024x7168, .bf16⟩
  | .hbm, ⟨4, _⟩ => ⟨S2x8x3584x1024, .bf16⟩
  | .hbm, ⟨5, _⟩ => ⟨S23552x1024, .f32⟩
  | .hbm, ⟨6, _⟩ => ⟨S1x8x1024x7168, .bf16⟩
  | .hbm, ⟨7, _⟩ => ⟨S8x1024x7168, .bf16⟩
  | .hbm, ⟨8, _⟩ => ⟨S8x1024x7168, .f32⟩
  | .hbm, ⟨9, _⟩ => ⟨S23552x8x7168, .f32⟩
  | .hbm, ⟨10, _⟩ => ⟨S23552x8x3584, .f32⟩
  | .hbm, ⟨11, _⟩ => ⟨S23552x8x3584, .f32⟩
  | .hbm, ⟨12, _⟩ => ⟨S23552x8x3584, .f32⟩
  | .hbm, ⟨13, _⟩ => ⟨S_, .f32⟩
  | .hbm, ⟨14, _⟩ => ⟨S23552x8x3584, .f32⟩
  | .hbm, ⟨15, _⟩ => ⟨S23552x8x3584, .f32⟩
  | .hbm, ⟨16, _⟩ => ⟨S_, .f32⟩
  | .hbm, ⟨17, _⟩ => ⟨S23552x8x3584, .f32⟩
  | .hbm, ⟨18, _⟩ => ⟨S23552x8x3584, .f32⟩
  | .hbm, ⟨19, _⟩ => ⟨S23552x8x3584, .f32⟩
  | .hbm, ⟨20, _⟩ => ⟨S23552x8x3584, .f32⟩
  | .hbm, ⟨21, _⟩ => ⟨S23552x8x3584, .f32⟩
  | .hbm, ⟨22, _⟩ => ⟨S1x8x3584x1024, .bf16⟩
  | .hbm, ⟨23, _⟩ => ⟨S8x3584x1024, .bf16⟩
  | .hbm, ⟨24, _⟩ => ⟨S8x3584x1024, .f32⟩
  | .hbm, ⟨25, _⟩ => ⟨S8x1024x23552, .f32⟩
  | .hbm, ⟨26, _⟩ => ⟨S23552x8x1024, .f32⟩
  | .hbm, ⟨27, _⟩ => ⟨S46x512, .i32⟩
  | .hbm, ⟨28, _⟩ => ⟨S23552, .i32⟩
  | .hbm, ⟨29, _⟩ => ⟨S23552x1, .i32⟩
  | .hbm, ⟨30, _⟩ => ⟨S1x8, .i32⟩
  | .hbm, ⟨31, _⟩ => ⟨S23552x8, .i32⟩
  | .hbm, ⟨32, _⟩ => ⟨S23552x8, .i32⟩
  | .hbm, ⟨33, _⟩ => ⟨S23552x8, .i1⟩
  | .hbm, ⟨34, _⟩ => ⟨S23552x8, .f32⟩
  | .hbm, ⟨35, _⟩ => ⟨S46x512, .i32⟩
  | .hbm, ⟨36, _⟩ => ⟨S23552, .i32⟩
  | .hbm, ⟨37, _⟩ => ⟨S23552x1, .i32⟩
  | .hbm, ⟨38, _⟩ => ⟨S_, .i32⟩
  | .hbm, ⟨39, _⟩ => ⟨S23552x1, .i32⟩
  | .hbm, ⟨40, _⟩ => ⟨S23552x1, .i1⟩
  | .hbm, ⟨41, _⟩ => ⟨S_, .f32⟩
  | .hbm, ⟨42, _⟩ => ⟨S_, .f32⟩
  | .hbm, ⟨43, _⟩ => ⟨S23552x8, .i1⟩
  | .hbm, ⟨44, _⟩ => ⟨S23552x8, .f32⟩
  | .hbm, ⟨45, _⟩ => ⟨S23552x8, .f32⟩
  | .hbm, ⟨46, _⟩ => ⟨S23552x8x1, .f32⟩
  | .hbm, ⟨47, _⟩ => ⟨S23552x8x1024, .f32⟩
  | .hbm, ⟨48, _⟩ => ⟨S23552x8x1024, .f32⟩
  | .hbm, ⟨49, _⟩ => ⟨S_, .f32⟩
  | .hbm, ⟨50, _⟩ => ⟨S23552x1024, .f32⟩
  | .hbm, ⟨51, _⟩ => ⟨S_, .i32⟩
  | .hbm, ⟨52, _⟩ => ⟨S_, .f32⟩
  | .hbm, ⟨53, _⟩ => ⟨S70656x1024, .f32⟩
  | .hbm, ⟨54, _⟩ => ⟨S70656x1024, .bf16⟩
  | _, _ => ⟨S23552x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_c_1 : Ref sig .tc := ⟨.hbm, 51, rfl⟩
abbrev main_call3_v0 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== MoeSecond.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S512x1024 : Shape := ⟨2, ![512, 1024]⟩
abbrev S1x1x1024x1792 : Shape := ⟨4, ![1, 1, 1024, 1792]⟩
abbrev S1 : Shape := ⟨1, ![1]⟩
abbrev S1x1x1792x1024 : Shape := ⟨4, ![1, 1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 11
  | .smem => 2
  | _ => 0

abbrev bufTy : (tb : Table) → Fin (tcTables nBuf tb) → BufTy
  | .hbm, ⟨0, _⟩ => ⟨S23552x1024, .bf16⟩
  | .hbm, ⟨1, _⟩ => ⟨S2x8x1024x7168, .bf16⟩
  | .hbm, ⟨2, _⟩ => ⟨S2x8x3584x1024, .bf16⟩
  | .hbm, ⟨3, _⟩ => ⟨S70656x1024, .bf16⟩
  | .hbm, ⟨4, _⟩ => ⟨S70656x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S46, .i32⟩
  | .local _ .smem, ⟨1, _⟩ => ⟨S46, .i32⟩
  | _, _ => ⟨S23552x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![46, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c2_i32 : BitVec 32 := 2#32
  let v6 : BitVec 32 := Scalar.addi c2_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeSecondRefIdeal.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S1x8x1024x7168 : Shape := ⟨4, ![1, 8, 1024, 7168]⟩
abbrev S8x1024x7168 : Shape := ⟨3, ![8, 1024, 7168]⟩
abbrev S23552x8x7168 : Shape := ⟨3, ![23552, 8, 7168]⟩
abbrev S23552x8x3584 : Shape := ⟨3, ![23552, 8, 3584]⟩
abbrev S_ : Shape := ⟨0, ![]⟩
abbrev S1x8x3584x1024 : Shape := ⟨4, ![1, 8, 3584, 1024]⟩
abbrev S8x3584x1024 : Shape := ⟨3, ![8, 3584, 1024]⟩
abbrev S8x1024x23552 : Shape := ⟨3, ![8, 1024, 23552]⟩
abbrev S23552x8x1024 : Shape := ⟨3, ![23552, 8, 1024]⟩
abbrev S46x512 : Shape := ⟨2, ![46, 512]⟩
abbrev S23552 : Shape := ⟨1, ![23552]⟩
abbrev S23552x1 : Shape := ⟨2, ![23552, 1]⟩
abbrev S1x8 : Shape := ⟨2, ![1, 8]⟩
abbrev S23552x8 : Shape := ⟨2, ![23552, 8]⟩
abbrev S23552x8x1 : Shape := ⟨3, ![23552, 8, 1]⟩

abbrev nBuf : Space → Nat
  | .hbm => 58
  | .vmem => 0
  | .smem => 0
  | _ => 0

abbrev bufTy : (tb : Table) → Fin (tcTables nBuf tb) → BufTy
  | .hbm, ⟨0, _⟩ => ⟨S23552x1024, .bf16⟩
  | .hbm, ⟨1, _⟩ => ⟨S46, .i32⟩
  | .hbm, ⟨2, _⟩ => ⟨S46, .i32⟩
  | .hbm, ⟨3, _⟩ => ⟨S2x8x1024x7168, .bf16⟩
  | .hbm, ⟨4, _⟩ => ⟨S2x8x3584x1024, .bf16⟩
  | .hbm, ⟨5, _⟩ => ⟨S70656x1024, .bf16⟩
  | .hbm, ⟨6, _⟩ => ⟨S23552x1024, .f32⟩
  | .hbm, ⟨7, _⟩ => ⟨S1x8x1024x7168, .bf16⟩
  | .hbm, ⟨8, _⟩ => ⟨S8x1024x7168, .bf16⟩
  | .hbm, ⟨9, _⟩ => ⟨S8x1024x7168, .f32⟩
  | .hbm, ⟨10, _⟩ => ⟨S23552x8x7168, .f32⟩
  | .hbm, ⟨11, _⟩ => ⟨S23552x8x3584, .f32⟩
  | .hbm, ⟨12, _⟩ => ⟨S23552x8x3584, .f32⟩
  | .hbm, ⟨13, _⟩ => ⟨S23552x8x3584, .f32⟩
  | .hbm, ⟨14, _⟩ => ⟨S_, .f32⟩
  | .hbm, ⟨15, _⟩ => ⟨S23552x8x3584, .f32⟩
  | .hbm, ⟨16, _⟩ => ⟨S23552x8x3584, .f32⟩
  | .hbm, ⟨17, _⟩ => ⟨S_, .f32⟩
  | .hbm, ⟨18, _⟩ => ⟨S23552x8x3584, .f32⟩
  | .hbm, ⟨19, _⟩ => ⟨S23552x8x3584, .f32⟩
  | .hbm, ⟨20, _⟩ => ⟨S23552x8x3584, .f32⟩
  | .hbm, ⟨21, _⟩ => ⟨S23552x8x3584, .f32⟩
  | .hbm, ⟨22, _⟩ => ⟨S23552x8x3584, .f32⟩
  | .hbm, ⟨23, _⟩ => ⟨S1x8x3584x1024, .bf16⟩
  | .hbm, ⟨24, _⟩ => ⟨S8x3584x1024, .bf16⟩
  | .hbm, ⟨25, _⟩ => ⟨S8x3584x1024, .f32⟩
  | .hbm, ⟨26, _⟩ => ⟨S8x1024x23552, .f32⟩
  | .hbm, ⟨27, _⟩ => ⟨S23552x8x1024, .f32⟩
  | .hbm, ⟨28, _⟩ => ⟨S46x512, .i32⟩
  | .hbm, ⟨29, _⟩ => ⟨S23552, .i32⟩
  | .hbm, ⟨30, _⟩ => ⟨S23552x1, .i32⟩
  | .hbm, ⟨31, _⟩ => ⟨S1x8, .i32⟩
  | .hbm, ⟨32, _⟩ => ⟨S23552x8, .i32⟩
  | .hbm, ⟨33, _⟩ => ⟨S23552x8, .i32⟩
  | .hbm, ⟨34, _⟩ => ⟨S23552x8, .i1⟩
  | .hbm, ⟨35, _⟩ => ⟨S23552x8, .f32⟩
  | .hbm, ⟨36, _⟩ => ⟨S46x512, .i32⟩
  | .hbm, ⟨37, _⟩ => ⟨S23552, .i32⟩
  | .hbm, ⟨38, _⟩ => ⟨S23552x1, .i32⟩
  | .hbm, ⟨39, _⟩ => ⟨S_, .i32⟩
  | .hbm, ⟨40, _⟩ => ⟨S23552x1, .i32⟩
  | .hbm, ⟨41, _⟩ => ⟨S23552x1, .i1⟩
  | .hbm, ⟨42, _⟩ => ⟨S_, .f32⟩
  | .hbm, ⟨43, _⟩ => ⟨S_, .f32⟩
  | .hbm, ⟨44, _⟩ => ⟨S23552x8, .i1⟩
  | .hbm, ⟨45, _⟩ => ⟨S23552x8, .f32⟩
  | .hbm, ⟨46, _⟩ => ⟨S23552x8, .f32⟩
  | .hbm, ⟨47, _⟩ => ⟨S23552x8x1, .f32⟩
  | .hbm, ⟨48, _⟩ => ⟨S23552x8x1024, .f32⟩
  | .hbm, ⟨49, _⟩ => ⟨S23552x8x1024, .f32⟩
  | .hbm, ⟨50, _⟩ => ⟨S_, .f32⟩
  | .hbm, ⟨51, _⟩ => ⟨S23552x1024, .f32⟩
  | .hbm, ⟨52, _⟩ => ⟨S23552x1024, .bf16⟩
  | .hbm, ⟨53, _⟩ => ⟨S23552x1024, .f32⟩
  | .hbm, ⟨54, _⟩ => ⟨S23552x1024, .bf16⟩
  | .hbm, ⟨55, _⟩ => ⟨S23552x1024, .f32⟩
  | .hbm, ⟨56, _⟩ => ⟨S70656x1024, .f32⟩
  | .hbm, ⟨57, _⟩ => ⟨S70656x1024, .bf16⟩
  | _, _ => ⟨S23552x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== MoeThird.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S512x1024 : Shape := ⟨2, ![512, 1024]⟩
abbrev S1x1x1024x1792 : Shape := ⟨4, ![1, 1, 1024, 1792]⟩
abbrev S1 : Shape := ⟨1, ![1]⟩
abbrev S1x1x1792x1024 : Shape := ⟨4, ![1, 1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 11
  | .smem => 2
  | _ => 0

abbrev bufTy : (tb : Table) → Fin (tcTables nBuf tb) → BufTy
  | .hbm, ⟨0, _⟩ => ⟨S23552x1024, .bf16⟩
  | .hbm, ⟨1, _⟩ => ⟨S2x8x1024x7168, .bf16⟩
  | .hbm, ⟨2, _⟩ => ⟨S2x8x3584x1024, .bf16⟩
  | .hbm, ⟨3, _⟩ => ⟨S70656x1024, .bf16⟩
  | .hbm, ⟨4, _⟩ => ⟨S70656x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1x1024x1792, .bf16⟩
  | .local _ .vmem, ⟨3, _⟩ => ⟨S1x1x1024x1792, .bf16⟩
  | .local _ .vmem, ⟨4, _⟩ => ⟨S1x1x1024x1792, .bf16⟩
  | .local _ .vmem, ⟨5, _⟩ => ⟨S1x1x1024x1792, .bf16⟩
  | .local _ .vmem, ⟨6, _⟩ => ⟨S1x1x1792x1024, .bf16⟩
  | .local _ .vmem, ⟨7, _⟩ => ⟨S1x1x1792x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S46, .i32⟩
  | .local _ .smem, ⟨1, _⟩ => ⟨S46, .i32⟩
  | _, _ => ⟨S23552x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![46, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c2_i32 : BitVec 32 := 2#32
  let v6 : BitVec 32 := Scalar.addi c2_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S46.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S46) ![v0.toNat] S1.size (k0_off1_inb i)) numel1_S1
  let v2 : Index := Scalar.indexCast arg0
  let v3 : BitVec 32 := pf.at 1 (Rect.unit (s := S46) ![v2.toNat] S1.size (k0_off1_inb i)) numel1_S1
  let c0_i32 : BitVec 32 := 0#32
  let v4 : BitVec 1 := Scalar.cmpi .sgt v3 c0_i32
  let c1_i32 : BitVec 32 := 1#32
  let v5 : BitVec 32 := Scalar.select v4 arg1 c1_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_5 (i : grid0.Coords) : Fin 2 → Nat :=
  let arg0 : BitVec 32 := BitVec.ofNat 32 (i 0).val
  let arg1 : BitVec 32 := BitVec.ofNat 32 (i 1).val
  let c92_i32 : BitVec 32 := 92#32
  let v0 : BitVec 32 := Scalar.addi c92_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeThirdRefIdeal.lean ====
abbrev S23552x1024 : Shape := ⟨2, ![23552, 1024]⟩
abbrev S46 : Shape := ⟨1, ![46]⟩
abbrev S2x8x1024x7168 : Shape := ⟨4, ![2, 8, 1024, 7168]⟩
abbrev S2x8x3584x1024 : Shape := ⟨4, ![2, 8, 3584, 1024]⟩
abbrev S70656x1024 : Shape := ⟨2, ![70656, 1024]⟩
abbrev S1x8x1024x7168 : Shape := ⟨4, ![1, 8, 1024, 7168]⟩
abbrev S8x1024x7168 : Shape := ⟨3, ![8, 1024, 7168]⟩
abbrev S23552x8x7168 : Shape := ⟨3, ![23552, 8, 7168]⟩
abbrev S23552x8x3584 : Shape := ⟨3, ![23552, 8, 3584]⟩
abbrev S_ : Shape := ⟨0, ![]⟩
abbrev S1x8x3584x1024 : Shape := ⟨4, ![1, 8, 3584, 1024]⟩
abbrev S8x3584x1024 : Shape := ⟨3, ![8, 3584, 1024]⟩
abbrev S8x1024x23552 : Shape := ⟨3, ![8, 1024, 23552]⟩
abbrev S23552x8x1024 : Shape := ⟨3, ![23552, 8, 1024]⟩
abbrev S46x512 : Shape := ⟨2, ![46, 512]⟩
abbrev S23552 : Shape := ⟨1, ![23552]⟩
abbrev S23552x1 : Shape := ⟨2, ![23552, 1]⟩
abbrev S1x8 : Shape := ⟨2, ![1, 8]⟩
abbrev S23552x8 : Shape := ⟨2, ![23552, 8]⟩
abbrev S23552x8x1 : Shape := ⟨3, ![23552, 8, 1]⟩
abbrev S47104x1024 : Shape := ⟨2, ![47104, 1024]⟩

abbrev nBuf : Space → Nat
  | .hbm => 56
  | .vmem => 0
  | .smem => 0
  | _ => 0

abbrev bufTy : (tb : Table) → Fin (tcTables nBuf tb) → BufTy
  | .hbm, ⟨0, _⟩ => ⟨S23552x1024, .bf16⟩
  | .hbm, ⟨1, _⟩ => ⟨S46, .i32⟩
  | .hbm, ⟨2, _⟩ => ⟨S46, .i32⟩
  | .hbm, ⟨3, _⟩ => ⟨S2x8x1024x7168, .bf16⟩
  | .hbm, ⟨4, _⟩ => ⟨S2x8x3584x1024, .bf16⟩
  | .hbm, ⟨5, _⟩ => ⟨S70656x1024, .bf16⟩
  | .hbm, ⟨6, _⟩ => ⟨S23552x1024, .f32⟩
  | .hbm, ⟨7, _⟩ => ⟨S1x8x1024x7168, .bf16⟩
  | .hbm, ⟨8, _⟩ => ⟨S8x1024x7168, .bf16⟩
  | .hbm, ⟨9, _⟩ => ⟨S8x1024x7168, .f32⟩
  | .hbm, ⟨10, _⟩ => ⟨S23552x8x7168, .f32⟩
  | .hbm, ⟨11, _⟩ => ⟨S23552x8x3584, .f32⟩
  | .hbm, ⟨12, _⟩ => ⟨S23552x8x3584, .f32⟩
  | .hbm, ⟨13, _⟩ => ⟨S23552x8x3584, .f32⟩
  | .hbm, ⟨14, _⟩ => ⟨S_, .f32⟩
  | .hbm, ⟨15, _⟩ => ⟨S23552x8x3584, .f32⟩
  | .hbm, ⟨16, _⟩ => ⟨S23552x8x3584, .f32⟩
  | .hbm, ⟨17, _⟩ => ⟨S_, .f32⟩
  | .hbm, ⟨18, _⟩ => ⟨S23552x8x3584, .f32⟩
  | .hbm, ⟨19, _⟩ => ⟨S23552x8x3584, .f32⟩
  | .hbm, ⟨20, _⟩ => ⟨S23552x8x3584, .f32⟩
  | .hbm, ⟨21, _⟩ => ⟨S23552x8x3584, .f32⟩
  | .hbm, ⟨22, _⟩ => ⟨S23552x8x3584, .f32⟩
  | .hbm, ⟨23, _⟩ => ⟨S1x8x3584x1024, .bf16⟩
  | .hbm, ⟨24, _⟩ => ⟨S8x3584x1024, .bf16⟩
  | .hbm, ⟨25, _⟩ => ⟨S8x3584x1024, .f32⟩
  | .hbm, ⟨26, _⟩ => ⟨S8x1024x23552, .f32⟩
  | .hbm, ⟨27, _⟩ => ⟨S23552x8x1024, .f32⟩
  | .hbm, ⟨28, _⟩ => ⟨S46x512, .i32⟩
  | .hbm, ⟨29, _⟩ => ⟨S23552, .i32⟩
  | .hbm, ⟨30, _⟩ => ⟨S23552x1, .i32⟩
  | .hbm, ⟨31, _⟩ => ⟨S1x8, .i32⟩
  | .hbm, ⟨32, _⟩ => ⟨S23552x8, .i32⟩
  | .hbm, ⟨33, _⟩ => ⟨S23552x8, .i32⟩
  | .hbm, ⟨34, _⟩ => ⟨S23552x8, .i1⟩
  | .hbm, ⟨35, _⟩ => ⟨S23552x8, .f32⟩
  | .hbm, ⟨36, _⟩ => ⟨S46x512, .i32⟩
  | .hbm, ⟨37, _⟩ => ⟨S23552, .i32⟩
  | .hbm, ⟨38, _⟩ => ⟨S23552x1, .i32⟩
  | .hbm, ⟨39, _⟩ => ⟨S_, .i32⟩
  | .hbm, ⟨40, _⟩ => ⟨S23552x1, .i32⟩
  | .hbm, ⟨41, _⟩ => ⟨S23552x1, .i1⟩
  | .hbm, ⟨42, _⟩ => ⟨S_, .f32⟩
  | .hbm, ⟨43, _⟩ => ⟨S_, .f32⟩
  | .hbm, ⟨44, _⟩ => ⟨S23552x8, .i1⟩
  | .hbm, ⟨45, _⟩ => ⟨S23552x8, .f32⟩
  | .hbm, ⟨46, _⟩ => ⟨S23552x8, .f32⟩
  | .hbm, ⟨47, _⟩ => ⟨S23552x8x1, .f32⟩
  | .hbm, ⟨48, _⟩ => ⟨S23552x8x1024, .f32⟩
  | .hbm, ⟨49, _⟩ => ⟨S23552x8x1024, .f32⟩
  | .hbm, ⟨50, _⟩ => ⟨S_, .f32⟩
  | .hbm, ⟨51, _⟩ => ⟨S23552x1024, .f32⟩
  | .hbm, ⟨52, _⟩ => ⟨S47104x1024, .bf16⟩
  | .hbm, ⟨53, _⟩ => ⟨S47104x1024, .f32⟩
  | .hbm, ⟨54, _⟩ => ⟨S70656x1024, .f32⟩
  | .hbm, ⟨55, _⟩ => ⟨S70656x1024, .bf16⟩
  | _, _ => ⟨S23552x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩

abbrev nD : Nat := 1
abbrev τ : Topo := Topo.v7x

variable {F : FTy → Type} [FloatOps F]
-- ==== Ffn.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x5632 : Shape := ⟨2, ![1024, 5632]⟩
abbrev S2816x1024 : Shape := ⟨2, ![2816, 1024]⟩
abbrev S512x1024 : Shape := ⟨2, ![512, 1024]⟩
abbrev S1x1x1x1024 : Shape := ⟨4, ![1, 1, 1, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 7
  | .vmem => 15
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S1x1024, .f32⟩
  | .hbm, ⟨3, _⟩ => ⟨S6x8x1x1024, .f32⟩
  | .hbm, ⟨4, _⟩ => ⟨S1024x5632, .bf16⟩
  | .hbm, ⟨5, _⟩ => ⟨S2816x1024, .bf16⟩
  | .hbm, ⟨6, _⟩ => ⟨S33280x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S512x1024, .f32⟩
  | .local _ .vmem, ⟨14, _⟩ => ⟨S512x1024, .f32⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c3_i32 : BitVec 32 := 3#32
  let c0_i32_4 : BitVec 32 := 0#32
  let c0_i32_5 : BitVec 32 := 0#32
  let c0_i32_6 : BitVec 32 := 0#32
  ![c3_i32.toNat, v17.toNat, c0_i32_4.toNat, c0_i32_5.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c4_i32 : BitVec 32 := 4#32
  let c0_i32_4 : BitVec 32 := 0#32
  let c0_i32_5 : BitVec 32 := 0#32
  let c0_i32_6 : BitVec 32 := 0#32
  ![c4_i32.toNat, v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c5_i32 : BitVec 32 := 5#32
  let c0_i32_4 : BitVec 32 := 0#32
  let c0_i32_5 : BitVec 32 := 0#32
  let c0_i32_6 : BitVec 32 := 0#32
  ![c5_i32.toNat, v17.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x5632 : Shape := ⟨2, ![1024, 5632]⟩
abbrev S2816x1024 : Shape := ⟨2, ![2816, 1024]⟩
abbrev S_ : Shape := ⟨0, ![]⟩
abbrev S33280 : Shape := ⟨1, ![33280]⟩
abbrev S33280x1 : Shape := ⟨2, ![33280, 1]⟩
abbrev S1x1x1x1024 : Shape := ⟨4, ![1, 1, 1, 1024]⟩
abbrev S16384x1024 : Shape := ⟨2, ![16384, 1024]⟩
abbrev S512x1024 : Shape := ⟨2, ![512, 1024]⟩
abbrev S33280x5632 : Shape := ⟨2, ![33280, 5632]⟩
abbrev S33280x2816 : Shape := ⟨2, ![33280, 2816]⟩

abbrev nBuf : Space → Nat
  | .hbm => 89
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S1x1024, .f32⟩
  | .hbm, ⟨3, _⟩ => ⟨S6x8x1x1024, .f32⟩
  | .hbm, ⟨4, _⟩ => ⟨S1024x5632, .bf16⟩
  | .hbm, ⟨5, _⟩ => ⟨S2816x1024, .bf16⟩
  | .hbm, ⟨6, _⟩ => ⟨S33280x1024, .f32⟩
  | .hbm, ⟨7, _⟩ => ⟨S_, .f32⟩
  | .hbm, ⟨8, _⟩ => ⟨S33280, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S_, .f32⟩
  | .hbm, ⟨14, _⟩ => ⟨S33280x1, .f32⟩
  | .hbm, ⟨15, _⟩ => ⟨S33280x1, .f32⟩
  | .hbm, ⟨16, _⟩ => ⟨S33280x1, .f32⟩
  | .hbm, ⟨17, _⟩ => ⟨S33280x1024, .f32⟩
  | .hbm, ⟨18, _⟩ => ⟨S33280x1024, .f32⟩
  | .hbm, ⟨19, _⟩ => ⟨S33280x1024, .f32⟩
  | .hbm, ⟨20, _⟩ => ⟨S33280x1024, .f32⟩
  | .hbm, ⟨21, _⟩ => ⟨S1x1x1x1024, .f32⟩
  | .hbm, ⟨22, _⟩ => ⟨S1x1024, .f32⟩
  | .hbm, ⟨23, _⟩ => ⟨S16384x1024, .f32⟩
  | .hbm, ⟨24, _⟩ => ⟨S1x1x1x1024, .f32⟩
  | .hbm, ⟨25, _⟩ => ⟨S1x1024, .f32⟩
  | .hbm, ⟨26, _⟩ => ⟨S16384x1024, .f32⟩
  | .hbm, ⟨27, _⟩ => ⟨S1x1x1x1024, .f32⟩
  | .hbm, ⟨28, _⟩ => ⟨S1x1024, .f32⟩
  | .hbm, ⟨29, _⟩ => ⟨S512x1024, .f32⟩
  | .hbm, ⟨30, _⟩ => ⟨S33280x1024, .f32⟩
  | .hbm, ⟨31, _⟩ => ⟨S1x1x1x1024, .f32⟩
  | .hbm, ⟨32, _⟩ => ⟨S1x1024, .f32⟩
  | .hbm, ⟨33, _⟩ => ⟨S16384x1024, .f32⟩
  | .hbm, ⟨34, _⟩ => ⟨S1x1x1x1024, .f32⟩
  | .hbm, ⟨35, _⟩ => ⟨S1x1024, .f32⟩
  | .hbm, ⟨36, _⟩ => ⟨S16384x1024, .f32⟩
  | .hbm, ⟨37, _⟩ => ⟨S1x1x1x1024, .f32⟩
  | .hbm, ⟨38, _⟩ => ⟨S1x1024, .f32⟩
  | .hbm, ⟨39, _⟩ => ⟨S512x1024, .f32⟩
  | .hbm, ⟨40, _⟩ => ⟨S33280x1024, .f32⟩
  | .hbm, ⟨41, _⟩ => ⟨S_, .f32⟩
  | .hbm, ⟨42, _⟩ => ⟨S33280x1024, .f32⟩
  | .hbm, ⟨43, _⟩ => ⟨S33280x1024, .f32⟩
  | .hbm, ⟨44, _⟩ => ⟨S33280x1024, .f32⟩
  | .hbm, ⟨45, _⟩ => ⟨S33280x1024, .f32⟩
  | .hbm, ⟨46, _⟩ => ⟨S1024x5632, .f32⟩
  | .hbm, ⟨47, _⟩ => ⟨S2816x1024, .f32⟩
  | .hbm, ⟨48, _⟩ => ⟨S33280x5632, .f32⟩
  | .hbm, ⟨49, _⟩ => ⟨S33280x2816, .f32⟩
  | .hbm, ⟨50, _⟩ => ⟨S33280x2816, .f32⟩
  | .hbm, ⟨51, _⟩ => ⟨S33280x2816, .f32⟩
  | .hbm, ⟨52, _⟩ => ⟨S_, .f32⟩
  | .hbm, ⟨53, _⟩ => ⟨S33280x2816, .f32⟩
  | .hbm, ⟨54, _⟩ => ⟨S33280x2816, .f32⟩
  | .hbm, ⟨55, _⟩ => ⟨S_, .f32⟩
  | .hbm, ⟨56, _⟩ => ⟨S33280x2816, .f32⟩
  | .hbm, ⟨57, _⟩ => ⟨S33280x2816, .f32⟩
  | .hbm, ⟨58, _⟩ => ⟨S33280x2816, .f32⟩
  | .hbm, ⟨59, _⟩ => ⟨S33280x2816, .f32⟩
  | .hbm, ⟨60, _⟩ => ⟨S33280x2816, .f32⟩
  | .hbm, ⟨61, _⟩ => ⟨S33280x1024, .f32⟩
  | .hbm, ⟨62, _⟩ => ⟨S1x1x1x1024, .f32⟩
  | .hbm, ⟨63, _⟩ => ⟨S1x1024, .f32⟩
  | .hbm, ⟨64, _⟩ => ⟨S16384x1024, .f32⟩
  | .hbm, ⟨65, _⟩ => ⟨S1x1x1x1024, .f32⟩
  | .hbm, ⟨66, _⟩ => ⟨S1x1024, .f32⟩
  | .hbm, ⟨67, _⟩ => ⟨S16384x1024, .f32⟩
  | .hbm, ⟨68, _⟩ => ⟨S1x1x1x1024, .f32⟩
  | .hbm, ⟨69, _⟩ => ⟨S1x1024, .f32⟩
  | .hbm, ⟨70, _⟩ => ⟨S512x1024, .f32⟩
  | .hbm, ⟨71, _⟩ => ⟨S33280x1024, .f32⟩
  | .hbm, ⟨72, _⟩ => ⟨S33280x1024, .f32⟩
  | .hbm, ⟨73, _⟩ => ⟨S_, .f32⟩
  | .hbm, ⟨74, _⟩ => ⟨S33280, .f32⟩
  | .hbm, ⟨75, _⟩ => ⟨S33280x1, .f32⟩
  | .hbm, ⟨76, _⟩ => ⟨S_, .f32⟩
  | .hbm, ⟨77, _⟩ => ⟨S33280x1, .f32⟩
  | .hbm, ⟨78, _⟩ => ⟨S33280x1, .f32⟩
  | .hbm, ⟨79, _⟩ => ⟨S_, .f32⟩
  | .hbm, ⟨80, _⟩ => ⟨S33280x1, .f32⟩
  | .hbm, ⟨81, _⟩ => ⟨S33280x1, .f32⟩
  | .hbm, ⟨82, _⟩ => ⟨S33280x1, .f32⟩
  | .hbm, ⟨83, _⟩ => ⟨S33280x1024, .f32⟩
  | .hbm, ⟨84, _⟩ => ⟨S33280x1024, .f32⟩
  | .hbm, ⟨85, _⟩ => ⟨S33280x1024, .f32⟩
  | .hbm, ⟨86, _⟩ => ⟨S33280x1024, .f32⟩
  | .hbm, ⟨87, _⟩ => ⟨S33280x1024, .f32⟩
  | .hbm, ⟨88, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_3 : Ref sig .tc := ⟨.hbm, 73, rfl⟩
abbrev main_v55 : Ref sig .tc := ⟨.hbm, 74, rfl⟩
abbrev main_v56 : Ref sig .tc := ⟨.hbm, 75, rfl⟩
abbrev main_cst_4 : Ref sig .tc := ⟨.hbm, 76, rfl⟩
abbrev main_v57 : Ref sig .tc := ⟨.hbm, 77, rfl⟩
abbrev main_v58 : Ref sig .tc := ⟨.hbm, 78, rfl⟩
abbrev main_cst_5 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== In.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x5120 : Shape := ⟨2, ![1024, 5120]⟩
abbrev S1024x128 : Shape := ⟨2, ![1024, 128]⟩
abbrev S33280x5120 : Shape := ⟨2, ![33280, 5120]⟩
abbrev S33280x128 : Shape := ⟨2, ![33280, 128]⟩
abbrev S512x1024 : Shape := ⟨2, ![512, 1024]⟩
abbrev S1x1x1x1024 : Shape := ⟨4, ![1, 1, 1, 1024]⟩
abbrev S1024x2560 : Shape := ⟨2, ![1024, 2560]⟩
abbrev S512x2560 : Shape := ⟨2, ![512, 2560]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 15
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S6x8x1x1024, .f32⟩
  | .hbm, ⟨3, _⟩ => ⟨S1024x5120, .bf16⟩
  | .hbm, ⟨4, _⟩ => ⟨S1024x128, .bf16⟩
  | .hbm, ⟨5, _⟩ => ⟨S33280x5120, .bf16⟩
  | .hbm, ⟨6, _⟩ => ⟨S33280x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x2560, .bf16⟩
  | .local _ .vmem, ⟨8, _⟩ => ⟨S1024x2560, .bf16⟩
  | .local _ .vmem, ⟨9, _⟩ => ⟨S1024x128, .bf16⟩
  | .local _ .vmem, ⟨10, _⟩ => ⟨S512x2560, .bf16⟩
  | .local _ .vmem, ⟨11, _⟩ => ⟨S512x2560, .bf16⟩
  | .local _ .vmem, ⟨12, _⟩ => ⟨S512x128, .f32⟩
  | .local _ .vmem, ⟨13, _⟩ => ⟨S512x128, .f32⟩
  | .local _ .vmem, ⟨14, _⟩ => ⟨S512x1024, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![65, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c1_i32_4 : BitVec 32 := 1#32
  let c0_i32_5 : BitVec 32 := 0#32
  let c0_i32_6 : BitVec 32 := 0#32
  let c0_i32_7 : BitVec 32 := 0#32
  ![c1_i32_4.toNat, v17.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== InRefIdeal.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x5120 : Shape := ⟨2, ![1024, 5120]⟩
abbrev S1024x128 : Shape := ⟨2, ![1024, 128]⟩
abbrev S_ : Shape := ⟨0, ![]⟩
abbrev S33280 : Shape := ⟨1, ![33280]⟩
abbrev S33280x1 : Shape := ⟨2, ![33280, 1]⟩
abbrev S1x1x1x1024 : Shape := ⟨4, ![1, 1, 1, 1024]⟩
abbrev S16384x1024 : Shape := ⟨2, ![16384, 1024]⟩
abbrev S512x1024 : Shape := ⟨2, ![512, 1024]⟩
abbrev S33280x5120 : Shape := ⟨2, ![33280, 5120]⟩
abbrev S33280x128 : Shape := ⟨2, ![33280, 128]⟩

abbrev nBuf : Space → Nat
  | .hbm => 50
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S6x8x1x1024, .f32⟩
  | .hbm, ⟨3, _⟩ => ⟨S1024x5120, .bf16⟩
  | .hbm, ⟨4, _⟩ => ⟨S1024x128, .bf16⟩
  | .hbm, ⟨5, _⟩ => ⟨S33280x1024, .f32⟩
  | .hbm, ⟨6, _⟩ => ⟨S_, .f32⟩
  | .hbm, ⟨7, _⟩ => ⟨S33280, .f32⟩
  | .hbm, ⟨8, _⟩ => ⟨S33280x1, .f32⟩
  | .hbm, ⟨9, _⟩ => ⟨S_, .f32⟩
  | .hbm, ⟨10, _⟩ => ⟨S33280x1, .f32⟩
  | .hbm, ⟨11, _⟩ => ⟨S33280x1, .f32⟩
  | .hbm, ⟨12, _⟩ => ⟨S_, .f32⟩
  | .hbm, ⟨13, _⟩ => ⟨S33280x1, .f32⟩
  | .hbm, ⟨14, _⟩ => ⟨S33280x1, .f32⟩
  | .hbm, ⟨15, _⟩ => ⟨S33280x1, .f32⟩
  | .hbm, ⟨16, _⟩ => ⟨S33280x1024, .f32⟩
  | .hbm, ⟨17, _⟩ => ⟨S33280x1024, .f32⟩
  | .hbm, ⟨18, _⟩ => ⟨S33280x1024, .f32⟩
  | .hbm, ⟨19, _⟩ => ⟨S33280x1024, .f32⟩
  | .hbm, ⟨20, _⟩ => ⟨S1x1x1x1024, .f32⟩
  | .hbm, ⟨21, _⟩ => ⟨S1x1024, .f32⟩
  | .hbm, ⟨22, _⟩ => ⟨S16384x1024, .f32⟩
  | .hbm, ⟨23, _⟩ => ⟨S1x1x1x1024, .f32⟩
  | .hbm, ⟨24, _⟩ => ⟨S1x1024, .f32⟩
  | .hbm, ⟨25, _⟩ => ⟨S16384x1024, .f32⟩
  | .hbm, ⟨26, _⟩ => ⟨S1x1x1x1024, .f32⟩
  | .hbm, ⟨27, _⟩ => ⟨S1x1024, .f32⟩
  | .hbm, ⟨28, _⟩ => ⟨S512x1024, .f32⟩
  | .hbm, ⟨29, _⟩ => ⟨S33280x1024, .f32⟩
  | .hbm, ⟨30, _⟩ => ⟨S1x1x1x1024, .f32⟩
  | .hbm, ⟨31, _⟩ => ⟨S1x1024, .f32⟩
  | .hbm, ⟨32, _⟩ => ⟨S16384x1024, .f32⟩
  | .hbm, ⟨33, _⟩ => ⟨S1x1x1x1024, .f32⟩
  | .hbm, ⟨34, _⟩ => ⟨S1x1024, .f32⟩
  | .hbm, ⟨35, _⟩ => ⟨S16384x1024, .f32⟩
  | .hbm, ⟨36, _⟩ => ⟨S1x1x1x1024, .f32⟩
  | .hbm, ⟨37, _⟩ => ⟨S1x1024, .f32⟩
  | .hbm, ⟨38, _⟩ => ⟨S512x1024, .f32⟩
  | .hbm, ⟨39, _⟩ => ⟨S33280x1024, .f32⟩
  | .hbm, ⟨40, _⟩ => ⟨S_, .f32⟩
  | .hbm, ⟨41, _⟩ => ⟨S33280x1024, .f32⟩
  | .hbm, ⟨42, _⟩ => ⟨S33280x1024, .f32⟩
  | .hbm, ⟨43, _⟩ => ⟨S33280x1024, .f32⟩
  | .hbm, ⟨44, _⟩ => ⟨S33280x1024, .f32⟩
  | .hbm, ⟨45, _⟩ => ⟨S1024x5120, .f32⟩
  | .hbm, ⟨46, _⟩ => ⟨S33280x5120, .f32⟩
  | .hbm, ⟨47, _⟩ => ⟨S33280x5120, .bf16⟩
  | .hbm, ⟨48, _⟩ => ⟨S1024x128, .f32⟩
  | .hbm, ⟨49, _⟩ => ⟨S33280x128, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩

abbrev nD : Nat := 1
abbrev τ : Topo := Topo.v7x

variable {F : FTy → Type} [FloatOps F]
-- ==== Even.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x1280 : Shape := ⟨2, ![1024, 1280]⟩
abbrev S128x256 : Shape := ⟨2, ![128, 256]⟩
abbrev S64 : Shape := ⟨1, ![64]⟩
abbrev S16384x32 : Shape := ⟨2, ![16384, 32]⟩
abbrev S2 : Shape := ⟨1, ![2]⟩
abbrev S8x64x8x64 : Shape := ⟨4, ![8, 64, 8, 64]⟩
abbrev S512x512 : Shape := ⟨2, ![512, 512]⟩
abbrev S2x64x2x64 : Shape := ⟨4, ![2, 64, 2, 64]⟩
abbrev S128x128 : Shape := ⟨2, ![128, 128]⟩
abbrev S_ : Shape := ⟨0, ![]⟩
abbrev S512x32 : Shape := ⟨2, ![512, 32]⟩
abbrev S16896x32 : Shape := ⟨2, ![16896, 32]⟩
abbrev S16896x32x2 : Shape := ⟨3, ![16896, 32, 2]⟩
abbrev S16896x64 : Shape := ⟨2, ![16896, 64]⟩
abbrev S1x2 : Shape := ⟨2, ![1, 2]⟩
abbrev S32x2 : Shape := ⟨2, ![32, 2]⟩
abbrev S1x64 : Shape := ⟨2, ![1, 64]⟩
abbrev S1x16896x1x64 : Shape := ⟨4, ![1, 16896, 1, 64]⟩
abbrev S1x16896x2x64 : Shape := ⟨4, ![1, 16896, 2, 64]⟩
abbrev S16896x128 : Shape := ⟨2, ![16896, 128]⟩
abbrev S1024x512 : Shape := ⟨2, ![1024, 512]⟩
abbrev S4096x128 : Shape := ⟨2, ![4096, 128]⟩
abbrev S4096x256 : Shape := ⟨2, ![4096, 256]⟩
abbrev S1024x4x2x128 : Shape := ⟨4, ![1024, 4, 2, 128]⟩
abbrev S1024x4x1x128 : Shape := ⟨4, ![1024, 4, 1, 128]⟩
abbrev S1024x4x128 : Shape := ⟨3, ![1024, 4, 128]⟩
abbrev S1024x128 : Shape := ⟨2, ![1024, 128]⟩
abbrev S1024x256x2 : Shape := ⟨3, ![1024, 256, 2]⟩
abbrev S1024x64x2 : Shape := ⟨3, ![1024, 64, 2]⟩
abbrev S1024x2432 : Shape := ⟨2, ![1024, 2432]⟩
abbrev S33280x512 : Shape := ⟨2, ![33280, 512]⟩
abbrev S2x33280x64 : Shape := ⟨3, ![2, 33280, 64]⟩
abbrev S2x80x33280 : Shape := ⟨3, ![2, 80, 33280]⟩
abbrev S512x1024 : Shape := ⟨2, ![512, 1024]⟩
abbrev S1x1x1x1024 : Shape := ⟨4, ![1, 1, 1, 1024]⟩
abbrev S512x128 : Shape := ⟨2, ![512, 128]⟩
abbrev S2x512x64 : Shape := ⟨3, ![2, 512, 64]⟩
abbrev S2x80x512 : Shape := ⟨3, ![2, 80, 512]⟩
abbrev S512 : Shape := ⟨1, ![512]⟩
abbrev S512x1 : Shape := ⟨2, ![512, 1]⟩
abbrev S512x2432 : Shape := ⟨2, ![512, 2432]⟩
abbrev S128x512 : Shape := ⟨2, ![128, 512]⟩
abbrev S16x512 : Shape := ⟨2, ![16, 512]⟩
abbrev S64x512 : Shape := ⟨2, ![64, 512]⟩
abbrev S1x64x512 : Shape := ⟨3, ![1, 64, 512]⟩
abbrev S1x16x512 : Shape := ⟨3, ![1, 16, 512]⟩
abbrev S512x64 : Shape := ⟨2, ![512, 64]⟩
abbrev S1x512x64 : Shape := ⟨3, ![1, 512, 64]⟩

abbrev nBuf : Space → Nat
  | .hbm => 91
  | .vmem => 26
  | .smem => 0
  | _ => 0

abbrev bufTy : (tb : Table) → Fin (tcTables nBuf tb) → BufTy
  | .hbm, ⟨0, _⟩ => ⟨S33280x1024, .f32⟩
  | .hbm, ⟨1, _⟩ => ⟨S1x1024, .f32⟩
  | .hbm, ⟨2, _⟩ => ⟨S6x8x1x1024, .f32⟩
  | .hbm, ⟨3, _⟩ => ⟨S1024x1280, .f32⟩
  | .hbm, ⟨4, _⟩ => ⟨S128x256, .f32⟩
  | .hbm, ⟨5, _⟩ => ⟨S64, .f32⟩
  | .hbm, ⟨6, _⟩ => ⟨S64, .f32⟩
  | .hbm, ⟨7, _⟩ => ⟨S16384x32, .f32⟩
  | .hbm, ⟨8, _⟩ => ⟨S16384x32, .f32⟩
  | .hbm, ⟨9, _⟩ => ⟨S2, .f32⟩
  | .hbm, ⟨10, _⟩ => ⟨S8x64x8x64, .i32⟩
  | .hbm, ⟨11, _⟩ => ⟨S8x64x8x64, .i32⟩
  | .hbm, ⟨12, _⟩ => ⟨S8x64x8x64, .i1⟩
  | .hbm, ⟨13, _⟩ => ⟨S8x64x8x64, .bf16⟩
  | .hbm, ⟨14, _⟩ => ⟨S512x512, .bf16⟩
  | .hbm, ⟨15, _⟩ => ⟨S2x64x2x64, .i32⟩
  | .hbm, ⟨16, _⟩ => ⟨S2x64x2x64, .i32⟩
  | .hbm, ⟨17, _⟩ => ⟨S2x64x2x64, .i1⟩
  | .hbm, ⟨18, _⟩ => ⟨S2x64x2x64, .bf16⟩
  | .hbm, ⟨19, _⟩ => ⟨S128x128, .bf16⟩
  | .hbm, ⟨20, _⟩ => ⟨S_, .f32⟩
  | .hbm, ⟨21, _⟩ => ⟨S512x32, .f32⟩
  | .hbm, ⟨22, _⟩ => ⟨S16896x32, .f32⟩
  | .hbm, ⟨23, _⟩ => ⟨S_, .f32⟩
  | .hbm, ⟨24, _⟩ => ⟨S512x32, .f32⟩
  | .hbm, ⟨25, _⟩ => ⟨S16896x32, .f32⟩
  | .hbm, ⟨26, _⟩ => ⟨S16896x32x2, .f32⟩
  | .hbm, ⟨27, _⟩ => ⟨S16896x64, .f32⟩
  | .hbm, ⟨28, _⟩ => ⟨S16896x32x2, .f32⟩
  | .hbm, ⟨29, _⟩ => ⟨S16896x64, .f32⟩
  | .hbm, ⟨30, _⟩ => ⟨S1x2, .f32⟩
  | .hbm, ⟨31, _⟩ => ⟨S32x2, .f32⟩
  | .hbm, ⟨32, _⟩ => ⟨S64, .f32⟩
  | .hbm, ⟨33, _⟩ => ⟨S1x64, .f32⟩
  | .hbm, ⟨34, _⟩ => ⟨S16896x64, .f32⟩
  | .hbm, ⟨35, _⟩ => ⟨S16896x64, .f32⟩
  | .hbm, ⟨36, _⟩ => ⟨S32x2, .f32⟩
  | .hbm, ⟨37, _⟩ => ⟨S32x2, .f32⟩
  | .hbm, ⟨38, _⟩ => ⟨S64, .f32⟩
  | .hbm, ⟨39, _⟩ => ⟨S1x64, .f32⟩
  | .hbm, ⟨40, _⟩ => ⟨S16896x64, .f32⟩
  | .hbm, ⟨41, _⟩ => ⟨S16896x64, .f32⟩
  | .hbm, ⟨42, _⟩ => ⟨S1x16896x1x64, .f32⟩
  | .hbm, ⟨43, _⟩ => ⟨S1x16896x2x64, .f32⟩
  | .hbm, ⟨44, _⟩ => ⟨S16896x128, .f32⟩
  | .hbm, ⟨45, _⟩ => ⟨S1x64, .f32⟩
  | .hbm, ⟨46, _⟩ => ⟨S16896x64, .f32⟩
  | .hbm, ⟨47, _⟩ => ⟨S16896x64, .f32⟩
  | .hbm, ⟨48, _⟩ => ⟨S1x16896x1x64, .f32⟩
  | .hbm, ⟨49, _⟩ => ⟨S1x16896x2x64, .f32⟩
  | .hbm, ⟨50, _⟩ => ⟨S16896x128, .f32⟩
  | .hbm, ⟨51, _⟩ => ⟨S32x2, .f32⟩
  | .hbm, ⟨52, _⟩ => ⟨S32x2, .f32⟩
  | .hbm, ⟨53, _⟩ => ⟨S64, .f32⟩
  | .hbm, ⟨54, _⟩ => ⟨S1x64, .f32⟩
  | .hbm, ⟨55, _⟩ => ⟨S16896x64, .f32⟩
  | .hbm, ⟨56, _⟩ => ⟨S16896x64, .f32⟩
  | .hbm, ⟨57, _⟩ => ⟨S1x16896x1x64, .f32⟩
  | .hbm, ⟨58, _⟩ => ⟨S1x16896x2x64, .f32⟩
  | .hbm, ⟨59, _⟩ => ⟨S16896x128, .f32⟩
  | .hbm, ⟨60, _⟩ => ⟨S1x64, .f32⟩
  | .hbm, ⟨61, _⟩ => ⟨S16896x64, .f32⟩
  | .hbm, ⟨62, _⟩ => ⟨S16896x64, .f32⟩
  | .hbm, ⟨63, _⟩ => ⟨S1x16896x1x64, .f32⟩
  | .hbm, ⟨64, _⟩ => ⟨S1x16896x2x64, .f32⟩
  | .hbm, ⟨65, _⟩ => ⟨S16896x128, .f32⟩
  | .hbm, ⟨66, _⟩ => ⟨S1024x512, .f32⟩
  | .hbm, ⟨67, _⟩ => ⟨S4096x128, .f32⟩
  | .hbm, ⟨68, _⟩ => ⟨S4096x256, .f32⟩
  | .hbm, ⟨69, _⟩ => ⟨S1024x4x2x128, .f32⟩
  | .hbm, ⟨70, _⟩ => ⟨S1024x4x1x128, .f32⟩
  | .hbm, ⟨71, _⟩ => ⟨S1024x4x128, .f32⟩
  | .hbm, ⟨72, _⟩ => ⟨S1024x512, .f32⟩
  | .hbm, ⟨73, _⟩ => ⟨S1024x4x1x128, .f32⟩
  | .hbm, ⟨74, _⟩ => ⟨S1024x4x128, .f32⟩
  | .hbm, ⟨75, _⟩ => ⟨S1024x512, .f32⟩
  | .hbm, ⟨76, _⟩ => ⟨S1024x512, .f32⟩
  | .hbm, ⟨77, _⟩ => ⟨S1024x128, .f32⟩
  | .hbm, ⟨78, _⟩ => ⟨S1024x128, .f32⟩
  | .hbm, ⟨79, _⟩ => ⟨S1024x256x2, .f32⟩
  | .hbm, ⟨80, _⟩ => ⟨S1024x256x2, .f32⟩
  | .hbm, ⟨81, _⟩ => ⟨S1024x512, .f32⟩
  | .hbm, ⟨82, _⟩ => ⟨S1024x64x2, .f32⟩
  | .hbm, ⟨83, _⟩ => ⟨S1024x64x2, .f32⟩
  | .hbm, ⟨84, _⟩ => ⟨S1024x128, .f32⟩
  | .hbm, ⟨85, _⟩ => ⟨S1024x2432, .f32⟩
  | .hbm, ⟨86, _⟩ => ⟨S1024x2432, .bf16⟩
  | .hbm, ⟨87, _⟩ => ⟨S33280x1024, .bf16⟩
  | .hbm, ⟨88, _⟩ => ⟨S33280x512, .bf16⟩
  | .hbm, ⟨89, _⟩ => ⟨S2x33280x64, .bf16⟩
  | .hbm, ⟨90, _⟩ => ⟨S2x80x33280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x2432, .bf16⟩
  | .local _ .vmem, ⟨8, _⟩ => ⟨S512x512, .bf16⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S2x512x64, .bf16⟩
  | .local _ .vmem, ⟨23, _⟩ => ⟨S2x512x64, .bf16⟩
  | .local _ .vmem, ⟨24, _⟩ => ⟨S2x80x512, .bf16⟩
  | .local _ .vmem, ⟨25, _⟩ => ⟨S2x80x512, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75_0 : Ref sig .tc := ⟨.hbm, 87, rfl⟩
abbrev main_v75_1 : Ref sig .tc := ⟨.hbm, 88, rfl⟩
abbrev main_v75_2 : Ref sig .tc := ⟨.hbm, 89, rfl⟩
abbrev main_v75_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c1_i32_4 : BitVec 32 := 1#32
  let c0_i32_5 : BitVec 32 := 0#32
  let c0_i32_6 : BitVec 32 := 0#32
  let c0_i32_7 : BitVec 32 := 0#32
  ![c1_i32_4.toNat, v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_8 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_9 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c64_i32 : BitVec 32 := 64#32
  let v0 : BitVec 1 := Scalar.cmpi .slt arg0 c64_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.select v0 v10 c32_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x80x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EvenRefIdeal.lean ====
abbrev S33280x1024 : Shape := ⟨2, ![33280, 1024]⟩
abbrev S1x1024 : Shape := ⟨2, ![1, 1024]⟩
abbrev S6x8x1x1024 : Shape := ⟨4, ![6, 8, 1, 1024]⟩
abbrev S1024x1280 : Shape := ⟨2, ![1024, 1280]⟩
abbrev S128x256 : Shape := ⟨2, ![128, 256]⟩
abbrev S64 : Shape := ⟨1, ![64]⟩
abbrev S16384x32 : Shape := ⟨2, ![16384, 32]⟩
abbrev S_ : Shape := ⟨0, ![]⟩
abbrev S33280 : Shape := ⟨1, ![33280]⟩
abbrev S33280x1 : Shape := ⟨2, ![33280, 1]⟩
abbrev S1x1x1x1024 : Shape := ⟨4, ![1, 1, 1, 1024]⟩
abbrev S16384x1024 : Shape := ⟨2, ![16384, 1024]⟩
abbrev S512x1024 : Shape := ⟨2, ![512, 1024]⟩
abbrev S33280x1280 : Shape := ⟨2, ![33280, 1280]⟩
abbrev S33280x512 : Shape := ⟨2, ![33280, 512]⟩
abbrev S33280x4x128 : Shape := ⟨3, ![33280, 4, 128]⟩
abbrev S128x128 : Shape := ⟨2, ![128, 128]⟩
abbrev S33280x8x64 : Shape := ⟨3, ![33280, 8, 64]⟩
abbrev S33280x8 : Shape := ⟨2, ![33280, 8]⟩
abbrev S33280x8x1 : Shape := ⟨3, ![33280, 8, 1]⟩
abbrev S1x1x64 : Shape := ⟨3, ![1, 1, 64]⟩
abbrev S33280x128 : Shape := ⟨2, ![33280, 128]⟩
abbrev S33280x2x64 : Shape := ⟨3, ![33280, 2, 64]⟩
abbrev S33280x2 : Shape := ⟨2, ![33280, 2]⟩
abbrev S33280x2x1 : Shape := ⟨3, ![33280, 2, 1]⟩
abbrev S32768x8x64 : Shape := ⟨3, ![32768, 8, 64]⟩
abbrev S2x16384x8x64 : Shape := ⟨4, ![2, 16384, 8, 64]⟩
abbrev S2x16384x8x32x2 : Shape := ⟨5, ![2, 16384, 8, 32, 2]⟩
abbrev S2x16384x8x32x1 : Shape := ⟨5, ![2, 16384, 8, 32, 1]⟩
abbrev S2x16384x8x32 : Shape := ⟨4, ![2, 16384, 8, 32]⟩
abbrev S1x16384x1x32 : Shape := ⟨4, ![1, 16384, 1, 32]⟩
abbrev S512x8x64 : Shape := ⟨3, ![512, 8, 64]⟩
abbrev S32768x2x64 : Shape := ⟨3, ![32768, 2, 64]⟩
abbrev S2x16384x2x64 : Shape := ⟨4, ![2, 16384, 2, 64]⟩
abbrev S2x16384x2x32x2 : Shape := ⟨5, ![2, 16384, 2, 32, 2]⟩
abbrev S2x16384x2x32x1 : Shape := ⟨5, ![2, 16384, 2, 32, 1]⟩
abbrev S2x16384x2x32 : Shape := ⟨4, ![2, 16384, 2, 32]⟩
abbrev S512x2x64 : Shape := ⟨3, ![512, 2, 64]⟩
abbrev S2x33280x64 : Shape := ⟨3, ![2, 33280, 64]⟩
abbrev S2x64x33280 : Shape := ⟨3, ![2, 64, 33280]⟩
abbrev S2x1x33280 : Shape := ⟨3, ![2, 1, 33280]⟩
abbrev S2x15x33280 : Shape := ⟨3, ![2, 15, 33280]⟩
abbrev S2x80x33280 : Shape := ⟨3, ![2, 80, 33280]⟩

abbrev nBuf : Space → Nat
  | .hbm => 161
  | .vmem => 0
  | .smem => 0
  | _ => 0

abbrev hbmTy0_0 (i : Nat) : BufTy := match i % 128 with
  | 0 => ⟨S33280x1024, .f32⟩
  | 1 => ⟨S1x1024, .f32⟩
  | 2 => ⟨S6x8x1x1024, .f32⟩
  | 3 => ⟨S1024x1280, .f32⟩
  | 4 => ⟨S128x256, .f32⟩
  | 5 => ⟨S64, .f32⟩
  | 6 => ⟨S64, .f32⟩
  | 7 => ⟨S16384x32, .f32⟩
  | 8 => ⟨S16384x32, .f32⟩
  | 9 => ⟨S33280x1024, .f32⟩
  | 10 => ⟨S_, .f32⟩
  | 11 => ⟨S33280, .f32⟩
  | 12 => ⟨S33280x1, .f32⟩
  | 13 => ⟨S_, .f32⟩
  | 14 => ⟨S33280x1, .f32⟩
  | 15 => ⟨S33280x1, .f32⟩
  | 16 => ⟨S_, .f32⟩
  | 17 => ⟨S33280x1, .f32⟩
  | 18 => ⟨S33280x1, .f32⟩
  | 19 => ⟨S33280x1, .f32⟩
  | 20 => ⟨S33280x1024, .f32⟩
  | 21 => ⟨S33280x1024, .f32⟩
  | 22 => ⟨S33280x1024, .f32⟩
  | 23 => ⟨S33280x1024, .f32⟩
  | 24 => ⟨S1x1x1x1024, .f32⟩
  | 25 => ⟨S1x1024, .f32⟩
  | 26 => ⟨S16384x1024, .f32⟩
  | 27 => ⟨S1x1x1x1024, .f32⟩
  | 28 => ⟨S1x1024, .f32⟩
  | 29 => ⟨S16384x1024, .f32⟩
  | 30 => ⟨S1x1x1x1024, .f32⟩
  | 31 => ⟨S1x1024, .f32⟩
  | 32 => ⟨S512x1024, .f32⟩
  | 33 => ⟨S33280x1024, .f32⟩
  | 34 => ⟨S1x1x1x1024, .f32⟩
  | 35 => ⟨S1x1024, .f32⟩
  | 36 => ⟨S16384x1024, .f32⟩
  | 37 => ⟨S1x1x1x1024, .f32⟩
  | 38 => ⟨S1x1024, .f32⟩
  | 39 => ⟨S16384x1024, .f32⟩
  | 40 => ⟨S1x1x1x1024, .f32⟩
  | 41 => ⟨S1x1024, .f32⟩
  | 42 => ⟨S512x1024, .f32⟩
  | 43 => ⟨S33280x1024, .f32⟩
  | 44 => ⟨S_, .f32⟩
  | 45 => ⟨S33280x1024, .f32⟩
  | 46 => ⟨S33280x1024, .f32⟩
  | 47 => ⟨S33280x1024, .f32⟩
  | 48 => ⟨S33280x1024, .f32⟩
  | 49 => ⟨S33280x1280, .f32⟩
  | 50 => ⟨S33280x512, .f32⟩
  | 51 => ⟨S33280x4x128, .f32⟩
  | 52 => ⟨S128x128, .f32⟩
  | 53 => ⟨S33280x4x128, .f32⟩
  | 54 => ⟨S33280x512, .f32⟩
  | 55 => ⟨S128x128, .f32⟩
  | 56 => ⟨S33280x4x128, .f32⟩
  | 57 => ⟨S33280x512, .f32⟩
  | 58 => ⟨S33280x1024, .f32⟩
  | 59 => ⟨S33280x512, .f32⟩
  | 60 => ⟨S33280x8x64, .f32⟩
  | 61 => ⟨S33280x8x64, .f32⟩
  | 62 => ⟨S_, .f32⟩
  | 63 => ⟨S33280x8, .f32⟩
  | 64 => ⟨S33280x8x1, .f32⟩
  | 65 => ⟨S_, .f32⟩
  | 66 => ⟨S33280x8x1, .f32⟩
  | 67 => ⟨S33280x8x1, .f32⟩
  | 68 => ⟨S_, .f32⟩
  | 69 => ⟨S33280x8x1, .f32⟩
  | 70 => ⟨S33280x8x1, .f32⟩
  | 71 => ⟨S33280x8x1, .f32⟩
  | 72 => ⟨S33280x8x64, .f32⟩
  | 73 => ⟨S33280x8x64, .f32⟩
  | 74 => ⟨S1x1x64, .f32⟩
  | 75 => ⟨S33280x8x64, .f32⟩
  | 76 => ⟨S33280x8x64, .f32⟩
  | 77 => ⟨S33280x128, .f32⟩
  | 78 => ⟨S33280x2x64, .f32⟩
  | 79 => ⟨S33280x2x64, .f32⟩
  | 80 => ⟨S_, .f32⟩
  | 81 => ⟨S33280x2, .f32⟩
  | 82 => ⟨S33280x2x1, .f32⟩
  | 83 => ⟨S_, .f32⟩
  | 84 => ⟨S33280x2x1, .f32⟩
  | 85 => ⟨S33280x2x1, .f32⟩
  | 86 => ⟨S_, .f32⟩
  | 87 => ⟨S33280x2x1, .f32⟩
  | 88 => ⟨S33280x2x1, .f32⟩
  | 89 => ⟨S33280x2x1, .f32⟩
  | 90 => ⟨S33280x2x64, .f32⟩
  | 91 => ⟨S33280x2x64, .f32⟩
  | 92 => ⟨S1x1x64, .f32⟩
  | 93 => ⟨S33280x2x64, .f32⟩
  | 94 => ⟨S33280x2x64, .f32⟩
  | 95 => ⟨S33280x128, .f32⟩
  | 96 => ⟨S33280x2x64, .f32⟩
  | 97 => ⟨S32768x8x64, .f32⟩
  | 98 => ⟨S2x16384x8x64, .f32⟩
  | 99 => ⟨S2x16384x8x32x2, .f32⟩
  | 100 => ⟨S2x16384x8x32x1, .f32⟩
  | 101 => ⟨S2x16384x8x32, .f32⟩
  | 102 => ⟨S2x16384x8x32x1, .f32⟩
  | 103 => ⟨S2x16384x8x32, .f32⟩
  | 104 => ⟨S1x16384x1x32, .f32⟩
  | 105 => ⟨S1x16384x1x32, .f32⟩
  | 106 => ⟨S2x16384x8x32, .f32⟩
  | 107 => ⟨S2x16384x8x32, .f32⟩
  | 108 => ⟨S2x16384x8x32, .f32⟩
  | 109 => ⟨S2x16384x8x32, .f32⟩
  | 110 => ⟨S2x16384x8x32, .f32⟩
  | 111 => ⟨S2x16384x8x32, .f32⟩
  | 112 => ⟨S2x16384x8x32, .f32⟩
  | 113 => ⟨S2x16384x8x32, .f32⟩
  | 114 => ⟨S2x16384x8x32, .f32⟩
  | 115 => ⟨S2x16384x8x32, .f32⟩
  | 116 => ⟨S2x16384x8x32x1, .f32⟩
  | 117 => ⟨S2x16384x8x32x1, .f32⟩
  | 118 => ⟨S2x16384x8x32x2, .f32⟩
  | 119 => ⟨S2x16384x8x64, .f32⟩
  | 120 => ⟨S32768x8x64, .f32⟩
  | 121 => ⟨S512x8x64, .f32⟩
  | 122 => ⟨S33280x8x64, .f32⟩
  | 123 => ⟨S33280x512, .f32⟩
  | 124 => ⟨S32768x2x64, .f32⟩
  | 125 => ⟨S2x16384x2x64, .f32⟩
  | 126 => ⟨S2x16384x2x32x2, .f32⟩
  | 127 => ⟨S2x16384x2x32x1, .f32⟩
  | _ => ⟨S33280x1024, .f32⟩

abbrev hbmTy0_1 (i : Nat) : BufTy := match i % 128 with
  | 0 => ⟨S2x16384x2x32, .f32⟩
  | 1 => ⟨S2x16384x2x32x1, .f32⟩
  | 2 => ⟨S2x16384x2x32, .f32⟩
  | 3 => ⟨S1x16384x1x32, .f32⟩
  | 4 => ⟨S1x16384x1x32, .f32⟩
  | 5 => ⟨S2x16384x2x32, .f32⟩
  | 6 => ⟨S2x16384x2x32, .f32⟩
  | 7 => ⟨S2x16384x2x32, .f32⟩
  | 8 => ⟨S2x16384x2x32, .f32⟩
  | 9 => ⟨S2x16384x2x32, .f32⟩
  | 10 => ⟨S2x16384x2x32, .f32⟩
  | 11 => ⟨S2x16384x2x32, .f32⟩
  | 12 => ⟨S2x16384x2x32, .f32⟩
  | 13 => ⟨S2x16384x2x32, .f32⟩
  | 14 => ⟨S2x16384x2x32, .f32⟩
  | 15 => ⟨S2x16384x2x32x1, .f32⟩
  | 16 => ⟨S2x16384x2x32x1, .f32⟩
  | 17 => ⟨S2x16384x2x32x2, .f32⟩
  | 18 => ⟨S2x16384x2x64, .f32⟩
  | 19 => ⟨S32768x2x64, .f32⟩
  | 20 => ⟨S512x2x64, .f32⟩
  | 21 => ⟨S33280x2x64, .f32⟩
  | 22 => ⟨S2x33280x64, .f32⟩
  | 23 => ⟨S2x64x33280, .f32⟩
  | 24 => ⟨S_, .f32⟩
  | 25 => ⟨S2x1x33280, .f32⟩
  | 26 => ⟨S_, .f32⟩
  | 27 => ⟨S2x15x33280, .f32⟩
  | 28 => ⟨S2x80x33280, .f32⟩
  | 29 => ⟨S33280x1024, .bf16⟩
  | 30 => ⟨S33280x512, .bf16⟩
  | 31 => ⟨S2x33280x64, .bf16⟩
  | 32 => ⟨S2x80x33280, .bf16⟩
  | _ => ⟨S33280x1024, .f32⟩

abbrev hbmTy (i : Nat) : BufTy := match i / 128 with
  | 0 => hbmTy0_0 i
  | 1 => hbmTy0_1 i
  | _ => ⟨S33280x1024, .f32⟩

abbrev bufTy : (tb : Table) → Fin (tcTables nBuf tb) → BufTy
  | .hbm, ⟨i, _⟩ => hbmTy i
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_cst_5 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_9 : Ref sig .tc := ⟨.hbm, 152, rfl⟩
abbrev main_v133 : Ref sig .tc := ⟨.hbm, 153, rfl⟩
abbrev main_cst_10 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩

abbrev nD : Nat := 1
abbrev τ : Topo := Topo.v7x

variable {F : FTy → Type} [FloatOps F]
-- ==== Out.lean ====
abbrev S33280x2048 : Shape := ⟨2, ![33280, 2048]⟩
abbrev S2048x1024 : Shape := ⟨2, ![2048, 1024]⟩
abbrev S33280x1024 : Shape := ⟨2, ![33280, 1024]⟩
abbrev S1x1024 : Shape := ⟨2, ![1, 1024]⟩
abbrev S6x8x1x1024 : Shape := ⟨4, ![6, 8, 1, 1024]⟩
abbrev S512x2048 : Shape := ⟨2, ![512, 2048]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S33280x2048, .bf16⟩
  | .hbm, ⟨1, _⟩ => ⟨S2048x1024, .bf16⟩
  | .hbm, ⟨2, _⟩ => ⟨S33280x1024, .f32⟩
  | .hbm, ⟨3, _⟩ => ⟨S1x1024, .f32⟩
  | .hbm, ⟨4, _⟩ => ⟨S6x8x1x1024, .f32⟩
  | .hbm, ⟨5, _⟩ => ⟨S33280x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S512x1024, .f32⟩
  | .local _ .vmem, ⟨9, _⟩ => ⟨S512x1024, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c2_i32_4 : BitVec 32 := 2#32
  let c0_i32_5 : BitVec 32 := 0#32
  let c0_i32_6 : BitVec 32 := 0#32
  let c0_i32_7 : BitVec 32 := 0#32
  ![c2_i32_4.toNat, v17.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S33280x2048 : Shape := ⟨2, ![33280, 2048]⟩
abbrev S2048x1024 : Shape := ⟨2, ![2048, 1024]⟩
abbrev S33280x1024 : Shape := ⟨2, ![33280, 1024]⟩
abbrev S1x1024 : Shape := ⟨2, ![1, 1024]⟩
abbrev S6x8x1x1024 : Shape := ⟨4, ![6, 8, 1, 1024]⟩
abbrev S1x1x1x1024 : Shape := ⟨4, ![1, 1, 1, 1024]⟩
abbrev S16384x1024 : Shape := ⟨2, ![16384, 1024]⟩
abbrev S512x1024 : Shape := ⟨2, ![512, 1024]⟩
abbrev S_ : Shape := ⟨0, ![]⟩
abbrev S33280 : Shape := ⟨1, ![33280]⟩
abbrev S33280x1 : Shape := ⟨2, ![33280, 1]⟩

abbrev nBuf : Space → Nat
  | .hbm => 35
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x1024, .bf16⟩
  | .hbm, ⟨2, _⟩ => ⟨S33280x1024, .f32⟩
  | .hbm, ⟨3, _⟩ => ⟨S1x1024, .f32⟩
  | .hbm, ⟨4, _⟩ => ⟨S6x8x1x1024, .f32⟩
  | .hbm, ⟨5, _⟩ => ⟨S33280x2048, .f32⟩
  | .hbm, ⟨6, _⟩ => ⟨S2048x1024, .f32⟩
  | .hbm, ⟨7, _⟩ => ⟨S33280x1024, .f32⟩
  | .hbm, ⟨8, _⟩ => ⟨S1x1x1x1024, .f32⟩
  | .hbm, ⟨9, _⟩ => ⟨S1x1024, .f32⟩
  | .hbm, ⟨10, _⟩ => ⟨S16384x1024, .f32⟩
  | .hbm, ⟨11, _⟩ => ⟨S1x1x1x1024, .f32⟩
  | .hbm, ⟨12, _⟩ => ⟨S1x1024, .f32⟩
  | .hbm, ⟨13, _⟩ => ⟨S16384x1024, .f32⟩
  | .hbm, ⟨14, _⟩ => ⟨S1x1x1x1024, .f32⟩
  | .hbm, ⟨15, _⟩ => ⟨S1x1024, .f32⟩
  | .hbm, ⟨16, _⟩ => ⟨S512x1024, .f32⟩
  | .hbm, ⟨17, _⟩ => ⟨S33280x1024, .f32⟩
  | .hbm, ⟨18, _⟩ => ⟨S33280x1024, .f32⟩
  | .hbm, ⟨19, _⟩ => ⟨S_, .f32⟩
  | .hbm, ⟨20, _⟩ => ⟨S33280, .f32⟩
  | .hbm, ⟨21, _⟩ => ⟨S33280x1, .f32⟩
  | .hbm, ⟨22, _⟩ => ⟨S_, .f32⟩
  | .hbm, ⟨23, _⟩ => ⟨S33280x1, .f32⟩
  | .hbm, ⟨24, _⟩ => ⟨S33280x1, .f32⟩
  | .hbm, ⟨25, _⟩ => ⟨S_, .f32⟩
  | .hbm, ⟨26, _⟩ => ⟨S33280x1, .f32⟩
  | .hbm, ⟨27, _⟩ => ⟨S33280x1, .f32⟩
  | .hbm, ⟨28, _⟩ => ⟨S33280x1, .f32⟩
  | .hbm, ⟨29, _⟩ => ⟨S33280x1024, .f32⟩
  | .hbm, ⟨30, _⟩ => ⟨S33280x1024, .f32⟩
  | .hbm, ⟨31, _⟩ => ⟨S33280x1024, .f32⟩
  | .hbm, ⟨32, _⟩ => ⟨S33280x1024, .f32⟩
  | .hbm, ⟨33, _⟩ => ⟨S33280x1024, .f32⟩
  | .hbm, ⟨34, _⟩ => ⟨S33280x1024, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== MixOut.lean ====
abbrev S33280x512 : Shape := ⟨2, ![33280, 512]⟩
abbrev S512x1024 : Shape := ⟨2, ![512, 1024]⟩
abbrev S33280x1024 : Shape := ⟨2, ![33280, 1024]⟩
abbrev S1x1024 : Shape := ⟨2, ![1, 1024]⟩
abbrev S6x8x1x1024 : Shape := ⟨4, ![6, 8, 1, 1024]⟩
abbrev S512x512 : Shape := ⟨2, ![512, 512]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S512x1024, .bf16⟩
  | .hbm, ⟨3, _⟩ => ⟨S512x1024, .bf16⟩
  | .hbm, ⟨4, _⟩ => ⟨S33280x1024, .f32⟩
  | .hbm, ⟨5, _⟩ => ⟨S1x1024, .f32⟩
  | .hbm, ⟨6, _⟩ => ⟨S6x8x1x1024, .f32⟩
  | .hbm, ⟨7, _⟩ => ⟨S33280x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S512x1024, .f32⟩
  | .local _ .vmem, ⟨12, _⟩ => ⟨S512x1024, .f32⟩
  | _, _ => ⟨S33280x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c2_i32_4 : BitVec 32 := 2#32
  let c0_i32_5 : BitVec 32 := 0#32
  let c0_i32_6 : BitVec 32 := 0#32
  let c0_i32_7 : BitVec 32 := 0#32
  ![c2_i32_4.toNat, v17.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixOutRefIdeal.lean ====
abbrev S33280x512 : Shape := ⟨2, ![33280, 512]⟩
abbrev S512x1024 : Shape := ⟨2, ![512, 1024]⟩
abbrev S33280x1024 : Shape := ⟨2, ![33280, 1024]⟩
abbrev S1x1024 : Shape := ⟨2, ![1, 1024]⟩
abbrev S6x8x1x1024 : Shape := ⟨4, ![6, 8, 1, 1024]⟩
abbrev S1024x1024 : Shape := ⟨2, ![1024, 1024]⟩
abbrev S1x1x1x1024 : Shape := ⟨4, ![1, 1, 1, 1024]⟩
abbrev S16384x1024 : Shape := ⟨2, ![16384, 1024]⟩
abbrev S_ : Shape := ⟨0, ![]⟩
abbrev S33280 : Shape := ⟨1, ![33280]⟩
abbrev S33280x1 : Shape := ⟨2, ![33280, 1]⟩

abbrev nBuf : Space → Nat
  | .hbm => 39
  | .vmem => 0
  | .smem => 0
  | _ => 0

abbrev bufTy : (tb : Table) → Fin (tcTables nBuf tb) → BufTy
  | .hbm, ⟨0, _⟩ => ⟨S33280x512, .bf16⟩
  | .hbm, ⟨1, _⟩ => ⟨S33280x512, .bf16⟩
  | .hbm, ⟨2, _⟩ => ⟨S512x1024, .bf16⟩
  | .hbm, ⟨3, _⟩ => ⟨S512x1024, .bf16⟩
  | .hbm, ⟨4, _⟩ => ⟨S33280x1024, .f32⟩
  | .hbm, ⟨5, _⟩ => ⟨S1x1024, .f32⟩
  | .hbm, ⟨6, _⟩ => ⟨S6x8x1x1024, .f32⟩
  | .hbm, ⟨7, _⟩ => ⟨S33280x1024, .bf16⟩
  | .hbm, ⟨8, _⟩ => ⟨S33280x1024, .f32⟩
  | .hbm, ⟨9, _⟩ => ⟨S1024x1024, .bf16⟩
  | .hbm, ⟨10, _⟩ => ⟨S1024x1024, .f32⟩
  | .hbm, ⟨11, _⟩ => ⟨S33280x1024, .f32⟩
  | .hbm, ⟨12, _⟩ => ⟨S1x1x1x1024, .f32⟩
  | .hbm, ⟨13, _⟩ => ⟨S1x1024, .f32⟩
  | .hbm, ⟨14, _⟩ => ⟨S16384x1024, .f32⟩
  | .hbm, ⟨15, _⟩ => ⟨S1x1x1x1024, .f32⟩
  | .hbm, ⟨16, _⟩ => ⟨S1x1024, .f32⟩
  | .hbm, ⟨17, _⟩ => ⟨S16384x1024, .f32⟩
  | .hbm, ⟨18, _⟩ => ⟨S1x1x1x1024, .f32⟩
  | .hbm, ⟨19, _⟩ => ⟨S1x1024, .f32⟩
  | .hbm, ⟨20, _⟩ => ⟨S512x1024, .f32⟩
  | .hbm, ⟨21, _⟩ => ⟨S33280x1024, .f32⟩
  | .hbm, ⟨22, _⟩ => ⟨S33280x1024, .f32⟩
  | .hbm, ⟨23, _⟩ => ⟨S_, .f32⟩
  | .hbm, ⟨24, _⟩ => ⟨S33280, .f32⟩
  | .hbm, ⟨25, _⟩ => ⟨S33280x1, .f32⟩
  | .hbm, ⟨26, _⟩ => ⟨S_, .f32⟩
  | .hbm, ⟨27, _⟩ => ⟨S33280x1, .f32⟩
  | .hbm, ⟨28, _⟩ => ⟨S33280x1, .f32⟩
  | .hbm, ⟨29, _⟩ => ⟨S_, .f32⟩
  | .hbm, ⟨30, _⟩ => ⟨S33280x1, .f32⟩
  | .hbm, ⟨31, _⟩ => ⟨S33280x1, .f32⟩
  | .hbm, ⟨32, _⟩ => ⟨S33280x1, .f32⟩
  | .hbm, ⟨33, _⟩ => ⟨S33280x1024, .f32⟩
  | .hbm, ⟨34, _⟩ => ⟨S33280x1024, .f32⟩
  | .hbm, ⟨35, _⟩ => ⟨S33280x1024, .f32⟩
  | .hbm, ⟨36, _⟩ => ⟨S33280x1024, .f32⟩
  | .hbm, ⟨37, _⟩ => ⟨S33280x1024, .f32⟩
  | .hbm, ⟨38, _⟩ => ⟨S33280x1024, .f32⟩
  | _, _ => ⟨S33280x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Proof.AttnMath.lean ====
/- The softmax over the extended reals: with real scores, the weights normalised after a shift by any real number give
   the weighted mean with the weights as they stand. -/
module

public import Idealize.ShloMosaic.PureOps.Ideal

@[expose] public section

noncomputable section

namespace Cert.AttnMath

open Idealize.ShloMosaic

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The quotient of two reals, the second not zero. -/
theorem div_real (x y : ℝ) (h : y ≠ 0) : Ideal.div (x : EReal) (y : EReal) = ((x / y : ℝ) : EReal) := by
  rw [Ideal.div_coe h, ← EReal.coe_mul, mul_one_div]

/-- The maximum of finitely many reals and minus infinity is a real when there is one of them. -/
theorem fold_max_real {n : Nat} (f : Fin (n + 1) → ℝ) :
    ∃ M : ℝ, Finset.univ.fold max (⊥ : EReal) (fun y => (f y : EReal)) = (M : EReal) := by
  have key : ∀ s : Finset (Fin (n + 1)), s.fold max (⊥ : EReal) (fun y => (f y : EReal)) = ⊥ ∧ s = ∅
      ∨ ∃ M : ℝ, s.fold max (⊥ : EReal) (fun y => (f y : EReal)) = (M : EReal) := by
    intro s
    classical
    induction s using Finset.induction_on with
    | empty => exact Or.inl ⟨rfl, rfl⟩
    | insert a s h ih =>
      right
      rw [Finset.fold_insert h]
      rcases ih with ⟨e, _⟩ | ⟨M, e⟩
      · exact ⟨f a, by rw [e, max_eq_left bot_le]⟩
      · exact ⟨max (f a) M, by rw [e]; exact (EReal.coe_strictMono.monotone.map_max).symm⟩
  rcases key Finset.univ with ⟨_, e⟩ | h
  · exact absurd e (Finset.univ_nonempty.ne_empty)
  · exact h

/-- The weighted sum with shifted, normalised weights is the quotient of the plain weighted sum by the plain sum of the
    weights. -/
theorem softmax_eq {n : Nat} (s v : Fin (n + 1) → ℝ) (M : ℝ) :
    (∑ y, (v y : EReal) * Ideal.div (Ideal.exp ((s y : EReal) - (M : EReal)))
        (0 + ∑ x, Ideal.exp ((s x : EReal) - (M : EReal))))
      = Ideal.div (∑ y, (v y : EReal) * ((Real.exp (s y) : ℝ) : EReal)) (∑ y, ((Real.exp (s y) : ℝ) : EReal)) := by
  have hZ : (0 : ℝ) < ∑ x, Real.exp (s x - M) := Finset.sum_pos (fun _ _ => Real.exp_pos _) Finset.univ_nonempty
  have hZ' : (0 : ℝ) < ∑ x, Real.exp (s x) := Finset.sum_pos (fun _ _ => Real.exp_pos _) Finset.univ_nonempty
  have he : ∀ y, Ideal.exp ((s y : EReal) - (M : EReal)) = ((Real.exp (s y - M) : ℝ) : EReal) := fun y => by
    rw [← EReal.coe_sub, Ideal.exp_coe]
  simp only [he, zero_add, ← coe_sum, div_real _ _ hZ.ne', ← EReal.coe_mul, div_real _ _ hZ'.ne']
  congr 1
  have hs : (∑ x, Real.exp (s x - M)) = (∑ x, Real.exp (s x)) / Real.exp M := by
    rw [Finset.sum_div Finset.univ (fun x => Real.exp (s x)) (Real.exp M)]
    exact Finset.sum_congr rfl fun x _ => Real.exp_sub _ _
  rw [hs, Finset.sum_div Finset.univ (fun y => v y * Real.exp (s y)) (∑ x, Real.exp (s x))]
  refine Finset.sum_congr rfl fun y _ => ?_
  rw [Real.exp_sub]
  have h1 := (Real.exp_pos M).ne'
  have h2 := hZ'.ne'
  field_simp

/-- Two to the power of `x * (c / log 2)` is the exponential of `x * c`. -/
theorem exp2_scaled (x c : ℝ) : Ideal.exp2 ((x * (c * (Real.log 2)⁻¹) : ℝ) : EReal) = ((Real.exp (x * c) : ℝ) : EReal) := by
  rw [Ideal.exp2_coe]
  congr 1
  show (2 : ℝ) ^ (x * (c * (Real.log 2)⁻¹)) = _
  rw [Real.rpow_def_of_pos (by norm_num)]
  congr 1
  have := (Real.log_pos (by norm_num : (1 : ℝ) < 2)).ne'
  field_simp

/-- A number whose absolute value is below plus infinity is real. -/
theorem real_of_lt (x : EReal) (h : max x (-x) < ⊤) : ∃ r : ℝ, x = (r : EReal) := by
  induction x with
  | bot => simp at h
  | top => simp at h
  | coe r => exact ⟨r, rfl⟩

end Cert.AttnMath
-- ==== Proof.AttnBlock.lean ====
/- What one grid point of the attention kernel leaves in its output block: the accumulator carried through the
   trips of the loop over the key chunks, and the quotient the last step takes of it. -/
module

public import proofs.«01_k».proof.Proof.Gen.AttnIdeal.Value

@[expose] public section

set_option maxRecDepth 16384

noncomputable section

namespace Cert.AttnIdeal.Block

open Idealize.ShloMosaic Idealize.ShloMosaic.TcCoe
open Idealize.ShloMosaic.Pipeline
open Cert.AttnIdeal.Gen

variable {F : FTy → Type} [FloatOps F] [Named F]

theorem z2 : (![0, 0] : Fin 2 → Nat) = fun _ => 0 := funext fun a => by fin_cases a <;> rfl

theorem z3 : (![0, 0, 0] : Fin 3 → Nat) = fun _ => 0 := funext fun a => by fin_cases a <;> rfl

/-- After a last store of the whole accumulator, it reads what was stored. -/
theorem read_whole (v : View sig .tc .vmem S80x1024 .f32) (f : v.ty.Contents (Elt F)) (w : Vec F S80x1024 .f32)
    (L : List (View.Piece (Elt F) S80x1024 .f32)) :
    v.read (Elt F) (v.writes (Elt F) f
      ((⟨Rect.unit ![0, 0] S80x1024.size inb_S80x1024_S80x1024_0_0, w⟩ : View.Piece (Elt F) S80x1024 .f32) :: L)) = w := by
  have hm : ∀ y : S80x1024.Idx, y ∈ (Rect.unit ![0, 0] S80x1024.size inb_S80x1024_S80x1024_0_0).set :=
    fun y => View.mem_set_unit_zero (S := S80x1024) z2 _ y
  generalize hp : (⟨Rect.unit ![0, 0] S80x1024.size inb_S80x1024_S80x1024_0_0, w⟩ :
    View.Piece (Elt F) S80x1024 .f32) = p
  have hm' : ∀ y : S80x1024.Idx, y ∈ p.1.set := by subst hp; exact hm
  rw [View.read_writes_eq_canon _ _ _ (fun y => ⟨p, List.mem_cons_self, hm' y⟩), ← hp,
    View.canon_cons_unit_zero (S := S80x1024) z2]

variable (𝒱 : Variants) (c : Dev nD) (bd : Option 𝒱.V) (i : grid0.Coords)
  (arg3 : Memref sig .tc .vmem S256x256 .f32) (harg3 : arg3.IsWhole)
  (arg4 : Memref sig .tc .vmem S1x256x64 .bf16) (harg4 : arg4.IsWhole)
  (arg5 : Memref sig .tc .vmem S1x80x256 .bf16) (harg5 : arg5.IsWhole)
  (arg6 : Memref sig .tc .vmem S1x16384x64 .bf16) (harg6 : arg6.IsWhole)
  (arg7 : Memref sig .tc .vmem S1x80x16384 .bf16) (harg7 : arg7.IsWhole)
  (arg8 : Memref sig .tc .vmem S256x256 .bf16) (harg8 : arg8.IsWhole)
  (arg9 : Memref sig .tc .vmem S80x1024 .f32) (harg9 : arg9.IsWhole)
  (v0 : Vec F S256x256 .f32)
  (X6 : BufTy.Contents (Elt F) arg6.view.ty) (X7 : BufTy.Contents (Elt F) arg7.view.ty)

/-- One trip of the loop stores one piece, the whole accumulator. -/
theorem trip_list (k : Fin k0_t1_loop.trips) (f : BufTy.Contents (Elt F) arg9.view.ty) :
    tripL_k0_t1 (F := F) 𝒱 c bd i arg3 harg3 arg4 harg4 arg5 harg5 arg6 harg6 arg7 harg7 arg8 harg8 arg9 harg9
      v0 X6 X7 k f
      = [⟨Rect.unit ![0, 0] S80x1024.size inb_S80x1024_S80x1024_0_0,
          k0_pay5 v0 (View.ld (arg6.view.read (Elt F) X6) (Rect.unit (k0_off1 k) S1x4096x64.size (k0_off1_inb k)))
            (arg9.view.read (Elt F) f)
            (View.ld (arg7.view.read (Elt F) X7) (Rect.unit (k0_off2 k) S1x80x4096.size (k0_off2_inb k)))⟩] := by
  unfold tripL_k0_t1 trip_k0_t1
  dsimp only
  have h : View.readAt (Elt F) arg9.view
      (Rect.unit ![0, 0] S80x1024.size inb_S80x1024_S80x1024_0_0).toLoadRect f = arg9.view.read (Elt F) f := by
    rw [View.readAt_eq_ld, View.ld_unit_zero (S := S80x1024) z2]
  exact congrArg (fun w => [(⟨Rect.unit ![0, 0] S80x1024.size inb_S80x1024_S80x1024_0_0,
    k0_pay5 v0 (View.ld (arg6.view.read (Elt F) X6) (Rect.unit (k0_off1 k) S1x4096x64.size (k0_off1_inb k)))
      w (View.ld (arg7.view.read (Elt F) X7) (Rect.unit (k0_off2 k) S1x80x4096.size (k0_off2_inb k)))⟩ :
      View.Piece (Elt F) S80x1024 .f32)]) h

/-- The accumulator after the first `k` chunks of latent keys, from what it held before them. -/
def chain (x0 : Vec F S256x256 .f32) (x3 : Vec F S1x16384x64 .bf16) (x4 : Vec F S1x80x16384 .bf16)
    (a : Vec F S80x1024 .f32) : Nat → Vec F S80x1024 .f32
  | 0 => a
  | k + 1 =>
    if h : k < k0_t1_loop.trips then
      k0_pay5 x0 (View.ld x3 (Rect.unit (k0_off1 ⟨k, h⟩) S1x4096x64.size (k0_off1_inb ⟨k, h⟩)))
        (chain x0 x3 x4 a k)
        (View.ld x4 (Rect.unit (k0_off2 ⟨k, h⟩) S1x80x4096.size (k0_off2_inb ⟨k, h⟩)))
    else chain x0 x3 x4 a k

/-- What the accumulator reads after the writes of the first `k` trips. -/
theorem read_trips (G : BufTy.Contents (Elt F) arg9.view.ty) (k : Nat) (hk : k ≤ k0_t1_loop.trips) :
    arg9.view.read (Elt F) (arg9.view.writes (Elt F) G
      (pb_k0_t1 (F := F) 𝒱 c bd i arg3 harg3 arg4 harg4 arg5 harg5 arg6 harg6 arg7 harg7 arg8 harg8 arg9 harg9
        v0 X6 X7 G k))
      = chain v0 (arg6.view.read (Elt F) X6) (arg7.view.read (Elt F) X7) (arg9.view.read (Elt F) G) k := by
  induction k with
  | zero => rfl
  | succ k ih =>
    have hs := pb_k0_t1_succ (F := F) 𝒱 c bd i arg3 harg3 arg4 harg4 arg5 harg5 arg6 harg6 arg7 harg7 arg8 harg8
      arg9 harg9 v0 X6 X7 G ⟨k, hk⟩
    rw [trip_list] at hs
    dsimp only at hs
    rw [hs, List.singleton_append, read_whole, ih (Nat.le_of_succ_le hk)]
    rw [chain, dif_pos (show k < k0_t1_loop.trips from hk)]

/-- The accumulator after all the keys a block reads: the context keys, then the four chunks of latent keys. -/
def acc (x0 : Vec F S256x256 .f32) (x1 : Vec F S1x256x64 .bf16) (x2 : Vec F S1x80x256 .bf16)
    (x3 : Vec F S1x16384x64 .bf16) (x4 : Vec F S1x80x16384 .bf16) : Vec F S80x1024 .f32 :=
  chain x0 x3 x4 (k0_pay4 x0 x1 k0_pay3 x2) k0_t1_loop.trips

/-- What one grid point leaves in its output block: the quotient of the accumulator's value rows by its row of
    sums. -/
theorem out_eq (x0 : Vec F S256x256 .f32) (x1 : Vec F S1x256x64 .bf16)
    (x2 : Vec F S1x80x256 .bf16) (x3 : Vec F S1x16384x64 .bf16) (x4 : Vec F S1x80x16384 .bf16) :
    out0_A_5 (F := F) c i arg3 harg3 arg4 harg4 arg5 harg5 arg6 harg6 arg7 harg7 arg8 harg8 arg9 harg9
      x0 x1 x2 x3 x4 = k0_pay1 (k0_pay6 (acc x0 x1 x2 x3 x4)) (k0_pay7 (acc x0 x1 x2 x3 x4)) := by
  unfold out0_A_5
  rw [View.read_writes_eq_canon _ _ _ (cover0_A_5 c i arg3 harg3 arg4 harg4 arg5 harg5 arg6 harg6 arg7 harg7 arg8 harg8 arg9 harg9 x0 x1 x2 x3 x4)]
  unfold kernelRun0_A
  dsimp only
  sl_unfold_words
  rw [View.canon_cons_unit_zero (S := S256x256) z2]
  simp only [View.readCov_unit_zero (S := S80x1024) _ z2, View.readAt_eq_ld, Memref.IsWhole.read_unread,
    View.ld_unit_zero (S := S256x256) z2, View.ld_unit_zero (S := S1x256x64) z3,
    View.ld_unit_zero (S := S1x80x256) z3]
  have h : ∀ (w : Vec F S80x1024 .f32),
      arg9.view.readCov
        (pb_k0_t1 (F := F) Variants.none c none i arg3 harg3 arg4 harg4 arg5 harg5 arg6 harg6 arg7 harg7 arg8 harg8
          arg9 harg9 x0 (harg6.unread x3) (harg7.unread x4)
          (arg9.view.writes (Elt F) arg9.view.junk
            [⟨Rect.unit ![0, 0] S80x1024.size inb_S80x1024_S80x1024_0_0, w⟩,
              ⟨Rect.unit ![0, 0] S80x1024.size inb_S80x1024_S80x1024_0_0, k0_pay3⟩])
          (Scf.trips k0_t1_loop.lb k0_t1_loop.ub k0_t1_loop.st) ++
          [⟨Rect.unit ![0, 0] S80x1024.size inb_S80x1024_S80x1024_0_0, w⟩,
              ⟨Rect.unit ![0, 0] S80x1024.size inb_S80x1024_S80x1024_0_0, k0_pay3⟩])
        (Rect.unit ![0, 0] S80x1024.size inb_S80x1024_S80x1024_0_0).toLoadRect
      = chain x0 x3 x4 w k0_t1_loop.trips := by
    intro w
    unfold View.readCov
    rw [View.writes_append, View.readAt_eq_ld, View.ld_unit_zero (S := S80x1024) z2]
    refine (read_trips Variants.none c none i arg3 harg3 arg4 harg4 arg5 harg5 arg6 harg6 arg7 harg7 arg8 harg8
      arg9 harg9 x0 (harg6.unread x3) (harg7.unread x4) _ k0_t1_loop.trips (le_refl _)).trans ?_
    rw [Memref.IsWhole.read_unread, Memref.IsWhole.read_unread, read_whole]
  rw [h]
  rfl

end Cert.AttnIdeal.Block
-- ==== Proof.AttnCell.lean ====
/- The attention kernel's payloads read at an index, over the extended reals: a block's accumulator is one sum
   over the keys the block reads, and its output the quotient of two entries of the accumulator. -/
module

public import proofs.«01_k».proof.Proof.AttnBlock
public import Idealize.ShloMosaic.Lib.Pointwise

@[expose] public section

set_option maxRecDepth 16384

noncomputable section

namespace Cert.AttnIdeal.Cell

open Idealize.ShloMosaic Idealize.ShloMosaic.TcCoe
open Cert.AttnIdeal.Gen Cert.AttnIdeal.Block

/-- The scale the kernel multiplies the queries by. -/
def scale : EReal := Named.named (F := Ideal) (φ := .f32) κ "scale" 0x3E38AA3B#32

/-- Column `q` of the stacked queries is query row `q % 256` of head `q / 256`: its entry `d`, scaled. -/
def qs (x0 : Vec Ideal S256x256 .f32) (q : Fin 1024) (d : Fin 64) : EReal :=
  x0 (ix2 ⟨q.val % 256, Nat.mod_lt _ (by decide)⟩ ⟨64 * (q.val / 256) + d.val, by omega⟩) * scale

/-- The stacked queries at an index. -/
theorem pay2_apply (x0 : Vec Ideal S256x256 .f32) (q : Fin 1024) (d : Fin 64) :
    k0_pay2 (F := Ideal) x0 (ix2 q d) = qs x0 q d := by
  pointwise [k0_pay2]
  unfold qs scale
  have hq := q.isLt
  split_ifs with h1 h2 h3 <;>
  · congr 3
    · exact Fin.ext (by dsimp only; omega)
    · exact Fin.ext (by dsimp only; omega)

/-- The weight a key `k` has for column `q`: two to the power of its score. -/
def wt (x0 : Vec Ideal S256x256 .f32) (q : Fin 1024) (k : Fin 64 → EReal) : EReal :=
  FloatOps.exp2 (F := Ideal) (φ := .f32) (∑ d : Fin 64, k d * qs x0 q d)

/-- One chunk of latent keys added to the accumulator, at an index. -/
theorem pay5_apply (x0 : Vec Ideal S256x256 .f32) (ks : Vec Ideal S1x4096x64 .bf16) (a : Vec Ideal S80x1024 .f32)
    (vs : Vec Ideal S1x80x4096 .bf16) (r : Fin 80) (q : Fin 1024) :
    k0_pay5 x0 ks a vs (ix2 r q)
      = a (ix2 r q) + ∑ x : Fin 4096, vs (ix3 0 r x) * wt x0 q (fun d => ks (ix3 0 x d)) := by
  pointwise [k0_pay5]
  simp only [pay2_apply]
  rfl

/-- The context keys added to the accumulator, at an index. -/
theorem pay4_apply (x0 : Vec Ideal S256x256 .f32) (ks : Vec Ideal S1x256x64 .bf16) (a : Vec Ideal S80x1024 .f32)
    (vs : Vec Ideal S1x80x256 .bf16) (r : Fin 80) (q : Fin 1024) :
    k0_pay4 x0 ks a vs (ix2 r q)
      = a (ix2 r q) + ∑ x : Fin 256, vs (ix3 0 r x) * wt x0 q (fun d => ks (ix3 0 x d)) := by
  pointwise [k0_pay4]
  simp only [pay2_apply]
  rfl

/-- The cleared accumulator is zero. -/
theorem pay3_apply (r : Fin 80) (q : Fin 1024) : k0_pay3 (F := Ideal) (ix2 r q) = 0 := by
  pointwise [k0_pay3]

/-- The output block at an index: the quotient of a value row by the row of sums. -/
theorem pay1_apply (u : Vec Ideal S80x1024 .f32) (r j : Fin 256) :
    k0_pay1 (F := Ideal) (k0_pay6 u) (k0_pay7 u) (ix2 r j)
      = Ideal.div (u (ix2 ⟨j.val % 64, by omega⟩ ⟨256 * (j.val / 64) + r.val, by omega⟩))
          (u (ix2 64 ⟨256 * (j.val / 64) + r.val, by omega⟩)) := by
  pointwise [k0_pay1, k0_pay6, k0_pay7]
  have hj := j.isLt
  split_ifs with h1 h2 h3 <;>
  · congr 2
    · congr 1
      · exact Fin.ext (by dsimp only; omega)
      · exact Fin.ext (by dsimp only; omega)
    · congr 1
      · exact Fin.ext (by dsimp only; omega)

/-- Key `y` of the latent keys' part of an entry of the accumulator. -/
def term (x0 : Vec Ideal S256x256 .f32) (x3 : Vec Ideal S1x16384x64 .bf16) (x4 : Vec Ideal S1x80x16384 .bf16)
    (r : Fin 80) (q : Fin 1024) (y : Nat) : EReal :=
  if h : y < 16384 then x4 (ix3 0 r ⟨y, h⟩) * wt x0 q (fun d => x3 (ix3 0 ⟨y, h⟩ d)) else 0

theorem trips_eq : k0_t1_loop.trips = 4 := by decide +kernel

/-- The accumulator after `k` chunks: what it held, and the terms of the first `4096 k` keys. -/
theorem chain_apply (x0 : Vec Ideal S256x256 .f32) (x3 : Vec Ideal S1x16384x64 .bf16)
    (x4 : Vec Ideal S1x80x16384 .bf16) (a : Vec Ideal S80x1024 .f32) (r : Fin 80) (q : Fin 1024) (k : Nat)
    (hk : k ≤ 4) :
    chain x0 x3 x4 a k (ix2 r q) = a (ix2 r q) + ∑ y ∈ Finset.range (4096 * k), term x0 x3 x4 r q y := by
  induction k with
  | zero => simp [chain]
  | succ k ih =>
    have hk' : k < k0_t1_loop.trips := by rw [trips_eq]; exact hk
    rw [chain, dif_pos hk', pay5_apply, ih (Nat.le_of_succ_le hk), add_assoc,
      show 4096 * (k + 1) = 4096 * k + 4096 from by omega, Finset.sum_range_add]
    congr 2
    rw [Finset.sum_range]
    refine Finset.sum_congr rfl fun x _ => ?_
    have hlt : 4096 * k + x.val < 16384 := by have := x.isLt; omega
    unfold term
    rw [dif_pos hlt]
    have e1 := k0_off1_eq ⟨k, hk'⟩
    have e2 := k0_off2_eq ⟨k, hk'⟩
    congr 1
    · refine congrArg x4 (funext fun b => Fin.ext ?_)
      show k0_off2 ⟨k, hk'⟩ b + 1 * ((ix3 0 r x : S1x80x4096.Idx) b).val = _
      rw [e2]
      fin_cases b <;> simp
    · refine congrArg (wt x0 q) (funext fun d => congrArg x3 (funext fun b => Fin.ext ?_))
      show k0_off1 ⟨k, hk'⟩ b + 1 * ((ix3 0 x d : S1x4096x64.Idx) b).val = _
      rw [e1]
      fin_cases b <;> simp

/-- The terms of all the latent keys. -/
theorem sum_term (x0 : Vec Ideal S256x256 .f32) (x3 : Vec Ideal S1x16384x64 .bf16)
    (x4 : Vec Ideal S1x80x16384 .bf16) (r : Fin 80) (q : Fin 1024) (n : Nat) (hn : n = 16384) :
    ∑ y ∈ Finset.range n, term x0 x3 x4 r q y
      = ∑ y : Fin 16384, x4 (ix3 0 r y) * wt x0 q (fun d => x3 (ix3 0 y d)) := by
  subst hn
  refine (Finset.sum_range _).trans (Finset.sum_congr rfl fun y _ => ?_)
  unfold term
  exact dif_pos y.isLt

/-- An entry of a block's accumulator: the sum over the context keys and over the latent keys. -/
theorem acc_apply (x0 : Vec Ideal S256x256 .f32) (x1 : Vec Ideal S1x256x64 .bf16) (x2 : Vec Ideal S1x80x256 .bf16)
    (x3 : Vec Ideal S1x16384x64 .bf16) (x4 : Vec Ideal S1x80x16384 .bf16) (r : Fin 80) (q : Fin 1024) :
    acc x0 x1 x2 x3 x4 (ix2 r q)
      = (∑ x : Fin 256, x2 (ix3 0 r x) * wt x0 q (fun d => x1 (ix3 0 x d)))
        + ∑ y : Fin 16384, x4 (ix3 0 r y) * wt x0 q (fun d => x3 (ix3 0 y d)) := by
  have h := chain_apply x0 x3 x4 (k0_pay4 x0 x1 (k0_pay3 (F := Ideal)) x2) r q 4 (Nat.le_refl 4)
  rw [pay4_apply, pay3_apply, zero_add, sum_term _ _ _ _ _ _ (by norm_num)] at h
  unfold acc
  rw [trips_eq]
  exact h

end Cert.AttnIdeal.Cell
-- ==== Proof.AttnArray.lean ====
/- The array the attention kernel leaves, over the extended reals, at the rows of the latents: each entry the
   quotient of a weighted sum of values by the sum of the weights. -/
module

public import proofs.«01_k».proof.Proof.AttnCell
public import Idealize.ShloMosaic.Lib.Pipeline.ValueKit
public import Idealize.ShloMosaic.Lib.Tactic

@[expose] public section

set_option maxRecDepth 16384

noncomputable section

namespace Cert.AttnIdeal.Array

open Idealize.ShloMosaic Idealize.ShloMosaic.TcCoe
open Idealize.ShloMosaic.Pipeline (Dat)
open Cert.AttnIdeal Cert.AttnIdeal.Gen Cert.AttnIdeal.Block Cert.AttnIdeal.Cell

variable (m : (ℓ : Loc nD τ sig) → Buf (Elt Ideal) ℓ)

/-- The values with the kernel's sixteen added rows: row 64 ones, the rows after it zeros. -/
def tail (v : Vec Ideal S2x64x33280 .f32) : Vec Ideal S2x80x33280 .bf16 := fun i =>
  if h : (i 1).val < 64 then v (ix3 (i 0) ⟨(i 1).val, h⟩ (i 2)) else if (i 1).val = 64 then 1 else 0

/-- What the kernel finds in the values' window. -/
theorem V_main_v6 (c : Dev nD) : V m c main_v6 = tail (m ((c : Thread nD τ).loc main_arg2)) := by
  unfold V
  simp only [hostOps0, hostOps0_1, hostOps0_2, List.flatten_cons, List.flatten_nil, List.append_nil, List.cons_append,
      List.nil_append]
  after_results
  funext i
  idx_vars i
  change concatenate S2x80x33280 1 [⟨S2x64x33280, m ((c : Thread nD τ).loc main_arg2)⟩,
    ⟨S2x16x33280, select (cmpi CmpIPredicate.eq (iotaInDim S2x16x33280 32 1)
      (broadcastInDim S2x16x33280 ![] bcast_S_S2x16x33280 (constantI S_ 32 0#32)))
      (broadcastInDim S2x16x33280 ![] bcast_S_S2x16x33280 (constant (F := Ideal) S_ .f32 1065353216#32))
      (broadcastInDim S2x16x33280 ![] bcast_S_S2x16x33280 (constant (F := Ideal) S_ .f32 0#32))⟩]
      concatenates_S2x64x33280_S2x16x33280_S2x80x33280_d1 (ix3 i0 i1 i2) = tail _ (ix3 i0 i1 i2)
  pointwise [tail]
  split
  · rfl
  · rename_i h
    have hi := i1.isLt
    obtain ⟨n, hn⟩ : ∃ n : Fin 16, i1.val - 64 = n.val := ⟨⟨i1.val - 64, by omega⟩, rfl⟩
    have h64 : (i1.val = 64) ↔ n = 0 := by
      rw [Fin.ext_iff]
      show i1.val = 64 ↔ n.val = 0
      omega
    rw [hn]
    simp only [h64]
    have hb : ∀ n : Fin 16, IntOp.cmpi .eq (BitVec.ofNat 32 n.val) 0#32 = if n = 0 then 1#1 else 0#1 := by
      decide +kernel
    rw [hb]
    by_cases h0 : n = 0
    · rw [if_pos h0, if_pos h0]; rfl
    · rw [if_neg h0, if_neg h0]; rfl

theorem idx0 : ∀ t : Fin cfg0.N, win0_0.index t = ![t.val / 128 * 64 + t.val % 64, t.val / 64 % 2] :=
  (by decide +kernel : ∀ t : Fin grid0.N, _)
theorem idx1 : ∀ t : Fin cfg0.N, win0_1.index t = ![t.val / 64 % 2, 128 + t.val / 128, 0] :=
  (by decide +kernel : ∀ t : Fin grid0.N, _)
theorem idx2 : ∀ t : Fin cfg0.N, win0_2.index t = ![t.val / 64 % 2, 0, 128 + t.val / 128] :=
  (by decide +kernel : ∀ t : Fin grid0.N, _)
theorem idx3 : ∀ t : Fin cfg0.N, win0_3.index t = ![t.val / 64 % 2, t.val / 128, 0] :=
  (by decide +kernel : ∀ t : Fin grid0.N, _)
theorem idx4 : ∀ t : Fin cfg0.N, win0_4.index t = ![t.val / 64 % 2, 0, t.val / 128] :=
  (by decide +kernel : ∀ t : Fin grid0.N, _)
theorem idx5 : ∀ t : Fin cfg0.N, win0_5.index t = ![t.val / 128 * 64 + t.val % 64, t.val / 64 % 2] :=
  (by decide +kernel : ∀ t : Fin grid0.N, _)

/-- The query block of window 0 at a point, at an index. -/
theorem blk0 (c : Dev nD) (t : Fin cfg0.N) (r j : Fin 256) (R : Fin 33280) (C : Fin 512)
    (hR : R.val = 256 * (t.val / 128 * 64 + t.val % 64) + r.val) (hC : C.val = 256 * (t.val / 64 % 2) + j.val) :
    iblk m c 0 t (ix2 r j) = m ((c : Thread nD τ).loc main_arg0) (ix2 R C) := by
  blk_simp [iblk]
  rw [V_main_arg0]
  refine congrArg (m ((c : Thread nD τ).loc main_arg0)) (funext fun b => Fin.ext ?_)
  blk_simp [idx0]
  fin_cases b <;> simp <;> omega

/-- The context keys' block of window 1 at a point, at an index. -/
theorem blk1 (c : Dev nD) (t : Fin cfg0.N) (x : Fin 256) (d : Fin 64) (g : Fin 2) (X : Fin 33280)
    (hg : g.val = t.val / 64 % 2) (hX : X.val = 256 * (128 + t.val / 128) + x.val) :
    iblk m c 1 t (ix3 0 x d) = m ((c : Thread nD τ).loc main_arg1) (ix3 g X d) := by
  blk_simp [iblk]
  rw [V_main_arg1]
  refine congrArg (m ((c : Thread nD τ).loc main_arg1)) (funext fun b => Fin.ext ?_)
  blk_simp [idx1]
  fin_cases b <;> simp <;> omega

/-- The context values' block of window 2 at a point, at an index. -/
theorem blk2 (c : Dev nD) (t : Fin cfg0.N) (r : Fin 80) (x : Fin 256) (g : Fin 2) (X : Fin 33280)
    (hg : g.val = t.val / 64 % 2) (hX : X.val = 256 * (128 + t.val / 128) + x.val) :
    iblk m c 2 t (ix3 0 r x) = tail (m ((c : Thread nD τ).loc main_arg2)) (ix3 g r X) := by
  blk_simp [iblk]
  rw [V_main_v6]
  refine congrArg (tail (m ((c : Thread nD τ).loc main_arg2))) (funext fun b => Fin.ext ?_)
  blk_simp [idx2]
  fin_cases b <;> simp <;> omega

/-- The latent keys' block of window 3 at a point, at an index. -/
theorem blk3 (c : Dev nD) (t : Fin cfg0.N) (x : Fin 16384) (d : Fin 64) (g : Fin 2) (X : Fin 33280)
    (hg : g.val = t.val / 64 % 2) (hX : X.val = 16384 * (t.val / 128) + x.val) :
    X0_3 m c t (ix3 0 x d) = m ((c : Thread nD τ).loc main_arg1) (ix3 g X d) := by
  unfold X0_3
  unfold Pipeline.Window.fill; rw [dif_pos (moved0_3 t _)]
  blk_simp [iblk]
  rw [V_main_arg1]
  refine congrArg (m ((c : Thread nD τ).loc main_arg1)) (funext fun b => Fin.ext ?_)
  blk_simp [idx3]
  fin_cases b <;> simp <;> omega

/-- The latent values' block of window 4 at a point, at an index. -/
theorem blk4 (c : Dev nD) (t : Fin cfg0.N) (r : Fin 80) (x : Fin 16384) (g : Fin 2) (X : Fin 33280)
    (hg : g.val = t.val / 64 % 2) (hX : X.val = 16384 * (t.val / 128) + x.val) :
    X0_4 m c t (ix3 0 r x) = tail (m ((c : Thread nD τ).loc main_arg2)) (ix3 g r X) := by
  unfold X0_4
  unfold Pipeline.Window.fill; rw [dif_pos (moved0_4 t _)]
  blk_simp [iblk]
  rw [V_main_v6]
  refine congrArg (tail (m ((c : Thread nD τ).loc main_arg2))) (funext fun b => Fin.ext ?_)
  blk_simp [idx4]
  fin_cases b <;> simp <;> omega

/-- The group of heads of an output column. -/
def grp (C : Fin 512) : Fin 2 := ⟨C.val / 256, by omega⟩

/-- Coordinate `d` of the scaled query that output entry `(R, C)` reads. -/
def qsc (q : Vec Ideal S33280x512 .f32) (R : Fin 33280) (C : Fin 512) (d : Fin 64) : EReal :=
  q (ix2 R ⟨64 * (C.val / 64) + d.val, by omega⟩) * scale

/-- The weight of key `X` for output row `R` and column `C`. -/
def kwt (q : Vec Ideal S33280x512 .f32) (k : Vec Ideal S2x33280x64 .bf16) (R : Fin 33280) (C : Fin 512)
    (X : Fin 33280) : EReal :=
  FloatOps.exp2 (F := Ideal) (φ := .f32)
    (∑ d : Fin 64, k (ix3 (grp C) X d) * qsc q R C d)

/-- Context key `x` of the batch entry of row `R`. -/
def ctxKey (R : Fin 33280) (x : Fin 256) : Fin 33280 := ⟨32768 + 256 * (R.val / 16384 % 2) + x.val, by omega⟩

/-- Latent key `x` of the batch entry of row `R`. -/
def latKey (R : Fin 33280) (x : Fin 16384) : Fin 33280 := ⟨16384 * (R.val / 16384 % 2) + x.val, by omega⟩

/-- The weighted sum of row `r` of the values over the keys of row `R`'s batch entry. -/
def wsum (q : Vec Ideal S33280x512 .f32) (k : Vec Ideal S2x33280x64 .bf16) (v : Vec Ideal S2x64x33280 .f32)
    (R : Fin 33280) (C : Fin 512) (r : Fin 80) : EReal :=
  (∑ x : Fin 256, tail v (ix3 (grp C) r (ctxKey R x)) * kwt q k R C (ctxKey R x))
    + ∑ x : Fin 16384, tail v (ix3 (grp C) r (latKey R x)) * kwt q k R C (latKey R x)

/-- What the kernel computes at output row `R` and column `C`. -/
def out (q : Vec Ideal S33280x512 .f32) (k : Vec Ideal S2x33280x64 .bf16) (v : Vec Ideal S2x64x33280 .f32)
    (R : Fin 33280) (C : Fin 512) : EReal :=
  Ideal.div (wsum q k v R C ⟨C.val % 64, by omega⟩) (wsum q k v R C 64)

/-- What a grid point computes for an index of its block is the array's entry at the block's index. -/
theorem cell_eq (c : Dev nD) (t : Fin cfg0.N) (r j : Fin 256) (R : Fin 33280) (C : Fin 512)
    (hR : R.val = 256 * (t.val / 128 * 64 + t.val % 64) + r.val) (hC : C.val = 256 * (t.val / 64 % 2) + j.val) :
    k0_pay1 (F := Ideal)
        (k0_pay6 (acc (iblk m c 0 t) (iblk m c 1 t) (iblk m c 2 t) (X0_3 m c t) (X0_4 m c t)))
        (k0_pay7 (acc (iblk m c 0 t) (iblk m c 1 t) (iblk m c 2 t) (X0_3 m c t) (X0_4 m c t))) (ix2 r j)
      = out (m ((c : Thread nD τ).loc main_arg0)) (m ((c : Thread nD τ).loc main_arg1))
          (m ((c : Thread nD τ).loc main_arg2)) R C := by
  have ht : t.val < 256 := t.isLt
  have hr := r.isLt
  have hj := j.isLt
  rw [pay1_apply]
  have hq : ∀ d : Fin 64, qs (iblk m c 0 t) ⟨256 * (j.val / 64) + r.val, by omega⟩ d
      = qsc (m ((c : Thread nD τ).loc main_arg0)) R C d := by
    intro d
    have hd := d.isLt
    unfold qs qsc
    exact congrArg (· * scale) (blk0 m c t _ _ R ⟨64 * (C.val / 64) + d.val, by omega⟩ (by dsimp only; omega)
      (by dsimp only; omega))
  have hg : (grp C).val = t.val / 64 % 2 := by unfold grp; dsimp only; omega
  have hs : ∀ (s s' : Fin 80), s = s' →
      acc (iblk m c 0 t) (iblk m c 1 t) (iblk m c 2 t) (X0_3 m c t) (X0_4 m c t)
        (ix2 s ⟨256 * (j.val / 64) + r.val, by omega⟩)
      = wsum (m ((c : Thread nD τ).loc main_arg0)) (m ((c : Thread nD τ).loc main_arg1))
          (m ((c : Thread nD τ).loc main_arg2)) R C s' := by
    rintro s _ rfl
    rw [acc_apply]
    unfold wsum
    refine congrArg₂ (· + ·) (Finset.sum_congr rfl fun x _ => ?_) (Finset.sum_congr rfl fun x _ => ?_)
    · have hx := x.isLt
      have hX : (ctxKey R x).val = 256 * (128 + t.val / 128) + x.val := by unfold ctxKey; dsimp only; omega
      rw [blk2 m c t s x (grp C) (ctxKey R x) hg hX]
      unfold wt kwt
      simp only [hq, blk1 m c t x _ (grp C) (ctxKey R x) hg hX]
    · have hx := x.isLt
      have hX : (latKey R x).val = 16384 * (t.val / 128) + x.val := by unfold latKey; dsimp only; omega
      rw [blk4 m c t s x (grp C) (latKey R x) hg hX]
      unfold wt kwt
      simp only [hq, blk3 m c t x _ (grp C) (latKey R x) hg hX]
  unfold out
  rw [hs _ ⟨C.val % 64, by omega⟩ (Fin.ext (by dsimp only; omega)), hs 64 64 rfl]

/-- The result array at the rows of the latents. -/
theorem final_apply (c : Dev nD) (R : Fin 33280) (C : Fin 512) (hR : R.val < 32768) :
    (dats m 0 c).arrAt 5 cfg0.N (ix2 R C)
      = out (m ((c : Thread nD τ).loc main_arg0)) (m ((c : Thread nD τ).loc main_arg1))
          (m ((c : Thread nD τ).loc main_arg2)) R C := by
  have hC := C.isLt
  have hN : cfg0.N = 256 := rfl
  have hlt : R.val / 16384 * 128 + C.val / 256 * 64 + R.val / 256 % 64 < cfg0.N := by rw [hN]; omega
  refine (dats m 0 c).arrAt_forall_of_flushed 5 (fun i v => v
      = out (m ((c : Thread nD τ).loc main_arg0)) (m ((c : Thread nD τ).loc main_arg1))
          (m ((c : Thread nD τ).loc main_arg2)) (i 0) (i 1)) (fun t _ y => ?_) cfg0.N
      ⟨R.val / 16384 * 128 + C.val / 256 * 64 + R.val / 256 % 64, hlt⟩ (ix2 R C) hlt (flush0_5 _) ?_
  · rw [Value.flushed5_A, out_eq]
    blk_simp
    have hy : (y : S256x256.Idx) = ix2 (y 0) (y 1) := eq_ix2 (y : S256x256.Idx)
    refine Eq.trans (congrArg (k0_pay1 (F := Ideal)
        (k0_pay6 (acc (iblk m c 0 t) (iblk m c 1 t) (iblk m c 2 t) (X0_3 m c t) (X0_4 m c t)))
        (k0_pay7 (acc (iblk m c 0 t) (iblk m c 1 t) (iblk m c 2 t) (X0_3 m c t) (X0_4 m c t)))) hy) ?_
    refine cell_eq m c t (y 0) (y 1) _ _ ?_ ?_
    · blk_simp [idx5]
      simp [Nat.mul_comm]
    · blk_simp [idx5]
      simp [Nat.mul_comm]
  · mem_blk [idx5]
    change ((((R.val / 16384 * 128 + C.val / 256 * 64 + R.val / 256 % 64) / 128 * 64
          + (R.val / 16384 * 128 + C.val / 256 * 64 + R.val / 256 % 64) % 64) * 256 ≤ R.val)
        ∧ R.val < ((R.val / 16384 * 128 + C.val / 256 * 64 + R.val / 256 % 64) / 128 * 64
          + (R.val / 16384 * 128 + C.val / 256 * 64 + R.val / 256 % 64) % 64) * 256 + 256)
      ∧ (R.val / 16384 * 128 + C.val / 256 * 64 + R.val / 256 % 64) / 64 % 2 * 256 ≤ C.val
        ∧ C.val < (R.val / 16384 * 128 + C.val / 256 * 64 + R.val / 256 % 64) / 64 % 2 * 256 + 256
    omega

end Cert.AttnIdeal.Array
-- ==== Proof.AttnRef.lean ====
/- The attention reference read at an index, over the extended reals: the softmax of the scaled scores of a query
   over its batch entry's context keys and latent keys, and the weighted sum of the values. -/
module

public import proofs.«01_k».proof.Proof.Gen.AttnRefIdeal.Read
public import Idealize.ShloMosaic.Lib.Pointwise
public import Idealize.ShloMosaic.Lib.Tactic.CleanTypes

@[expose] public section

set_option maxRecDepth 16384

noncomputable section

namespace Cert.AttnRefIdeal.Ref

open Idealize.ShloMosaic Idealize.ShloMosaic.TcCoe
open Cert.AttnRefIdeal Cert.AttnRefIdeal.Gen Cert.AttnRefIdeal.Read

/-- Key `y` of batch entry `b`: the context keys first, then the latent keys. -/
def key (b : Fin 2) (y : Fin 16640) : Fin 33280 :=
  if y.val < 256 then ⟨32768 + 256 * b.val + y.val % 256, by omega⟩ else ⟨16384 * b.val + (y.val - 256), by omega⟩

/-- The reference's keys at an index. -/
theorem keys_apply (k : Vec Ideal S2x33280x64 .bf16) (b : Fin 2) (y : Fin 16640) (g : Fin 2) (d : Fin 64) :
    val_main_v11 (F := Ideal) k (ix4 b y g d) = k (ix3 g (key b y) d) := by
  pointwise [val_main_v11, val_main_v8, val_main_v7, val_main_v4, val_main_v3, val_main_v1, val_main_v0]
  unfold key
  by_cases h : y.val < 256
  all_goals simp only [h, dite_true, if_true, dite_false, if_false]
  · exact congrArg (fun X => k (ix3 g X d)) (Fin.ext (by dsimp only; omega))
  · exact congrArg (fun X => k (ix3 g X d)) (Fin.ext (by dsimp only; omega))

/-- The reference's values at an index. -/
theorem vals_apply (v : Vec Ideal S2x64x33280 .f32) (b : Fin 2) (y : Fin 16640) (g : Fin 2) (d : Fin 64) :
    val_main_v12 (F := Ideal) v (ix4 b y g d) = v (ix3 g d (key b y)) := by
  pointwise [val_main_v12, val_main_v10, val_main_v9, val_main_v6, val_main_v5, val_main_v2]
  unfold key
  by_cases h : y.val < 256
  all_goals simp only [h, dite_true, if_true, dite_false, if_false]
  · exact congrArg (fun X => v (ix3 g d X)) (Fin.ext (by dsimp only; omega))
  · exact congrArg (fun X => v (ix3 g d X)) (Fin.ext (by dsimp only; omega))

/-- The score of query row `r` of batch entry `b`, head `h` of group `g`, against key `y`. -/
def score (q : Vec Ideal S33280x512 .f32) (k : Vec Ideal S2x33280x64 .bf16) (b g : Fin 2) (h : Fin 4) (r : Fin 16384)
    (y : Fin 16640) : EReal :=
  (∑ d : Fin 64, k (ix3 g (key b y) d)
      * q (ix2 ⟨b.val * 16384 + r.val, by omega⟩ ⟨g.val * 256 + h.val * 64 + d.val, by omega⟩))
    * Ideal.ofBits .f32 0x3E000000#32

/-- The reference's scaled scores at an index. -/
theorem scores_apply (q : Vec Ideal S33280x512 .f32) (k : Vec Ideal S2x33280x64 .bf16)
    (b g : Fin 2) (h : Fin 4) (r : Fin 16384) (y : Fin 16640) :
    val_main_v18 (F := Ideal) q k (ix5 b g h r y) = score q k b g h r y := by
  pointwise [val_main_v18, val_main_v17, val_main_v16, val_main_v15, val_main_v14, val_main_v13, val_main_cst]
  unfold score
  simp only [keys_apply]

/-- The maximum of an array over its last axis, from minus infinity, at an index. -/
theorem max_last (x : FVec Ideal S2x2x4x16384x16640 .f32) (b g : Fin 2) (h : Fin 4) (r : Fin 16384) :
    (Host.reduce FloatOps.maximumf x (constant S_ .f32 0xFF800000#32 : FVec Ideal S_ .f32)
        reducesTo_S2x2x4x16384x16640_S2x2x4x16384_d4 h_S_ : FVec Ideal S2x2x4x16384 .f32) (ix4 b g h r)
      = Finset.univ.fold max (Ideal.ofBits .f32 0xFF800000#32) fun y : Fin 16640 => x (ix5 b g h r y) := by
  pointwise

/-- The reference's maximum of the scores of a query. -/
theorem max_apply (q : Vec Ideal S33280x512 .f32) (k : Vec Ideal S2x33280x64 .bf16)
    (b g : Fin 2) (h : Fin 4) (r : Fin 16384) :
    val_main_v21 (F := Ideal) q k (ix4 b g h r)
      = max (Ideal.ofBits .f32 0xFF800000#32)
          (Finset.univ.fold max (Ideal.ofBits .f32 0xFF800000#32) fun y : Fin 16640 => score q k b g h r y) := by
  have e : val_main_v19 (F := Ideal) q k (ix4 b g h r)
      = Finset.univ.fold max (Ideal.ofBits .f32 0xFF800000#32) fun y : Fin 16640 => score q k b g h r y :=
    (max_last (val_main_v18 (F := Ideal) q k) b g h r).trans
      (congrArg (Finset.univ.fold max _) (funext fun y => scores_apply q k b g h r y))
  rw [val_main_v21_apply, e]
  rfl

/-- The reference's softmax at an index. -/
theorem probs_apply (q : Vec Ideal S33280x512 .f32) (k : Vec Ideal S2x33280x64 .bf16)
    (b g : Fin 2) (h : Fin 4) (r : Fin 16384) (y : Fin 16640) :
    val_main_v29 (F := Ideal) q k (ix5 b g h r y)
      = Ideal.div (Ideal.exp (score q k b g h r y - val_main_v21 (F := Ideal) q k (ix4 b g h r)))
          (val_main_cst_2 (F := Ideal) (Shape.Idx.first h_S_)
            + ∑ x, Ideal.exp (score q k b g h r x - val_main_v21 (F := Ideal) q k (ix4 b g h r))) := by
  pointwise [val_main_v29, val_main_v28, val_main_v27, val_main_v26, val_main_v25, val_main_v24, val_main_v23, val_main_v22]
  simp only [scores_apply]

/-- The reference's result at a row of the latents. -/
theorem out_apply (q : Vec Ideal S33280x512 .f32) (k : Vec Ideal S2x33280x64 .bf16) (v : Vec Ideal S2x64x33280 .f32)
    (R : Fin 33280) (C : Fin 512) (hR : R.val < 32768) :
    val_main_v35 (F := Ideal) q k v (ix2 R C)
      = ∑ y : Fin 16640, v (ix3 ⟨C.val / 256, by omega⟩ ⟨C.val % 64, by omega⟩ (key ⟨R.val / 16384, by omega⟩ y))
          * val_main_v29 (F := Ideal) q k (ix5 ⟨R.val / 16384, by omega⟩ ⟨C.val / 256, by omega⟩
              ⟨C.val / 64 % 4, by omega⟩ ⟨R.val % 16384, by omega⟩ y) := by
  pointwise [val_main_v35, val_main_v34, val_main_v33, val_main_v32, val_main_v31, val_main_v30]
  rw [dif_pos hR]
  simp only [vals_apply]

end Cert.AttnRefIdeal.Ref
-- ==== Proof.AttnEq.lean ====
/- The attention kernel's entries and the reference's are one extended real, where the queries, keys and values are
   real numbers. -/
module

public import proofs.«01_k».proof.Proof.AttnMath
public import proofs.«01_k».proof.Proof.AttnArray
public import proofs.«01_k».proof.Proof.AttnRef

@[expose] public section

set_option maxRecDepth 16384

noncomputable section

namespace Cert.AttnEq

open Idealize.ShloMosaic Idealize.ShloMosaic.TcCoe
open Cert.AttnIdeal (S33280x512 S2x33280x64 S2x64x33280)
open Cert.AttnIdeal.Array (grp qsc kwt ctxKey latKey wsum tail)
open Cert.AttnRefIdeal.Ref (key score)

/-- The kernel's factor on the queries is one eighth over the logarithm of two. -/
theorem scale_eq : Cert.AttnIdeal.Cell.scale = (((1 / 8) * (Real.log 2)⁻¹ : ℝ) : EReal) :=
  IdealRules.named_const.ideal_named_scalar _ _ _ _ rfl

/-- The reference's factor on the scores is one eighth. -/
theorem eighth : Ideal.ofBits .f32 0x3E000000#32 = (((1 / 8 : ℝ)) : EReal) := by
  simp [Ideal.ofBits, Ideal.ieee, -EReal.coe_mul]; norm_num

/-- The pattern the maxima start from is minus infinity. -/
theorem ninf : Ideal.ofBits .f32 0xFF800000#32 = (⊥ : EReal) := by
  simp [Ideal.ofBits, Ideal.ieee]

/-- A sum over the keys of a batch entry is the sum over its context keys and over its latent keys. -/
theorem sum_keys (R : Fin 33280) (hR : R.val < 32768) (f : Fin 33280 → EReal) :
    (∑ y : Fin 16640, f (key ⟨R.val / 16384, by omega⟩ y))
      = (∑ x : Fin 256, f (ctxKey R x)) + ∑ x : Fin 16384, f (latKey R x) := by
  have h := Fin.sum_univ_add (a := 256) (b := 16384) fun y : Fin (256 + 16384) => f (key ⟨R.val / 16384, by omega⟩ y)
  refine h.trans (congrArg₂ (· + ·) (Finset.sum_congr rfl fun x _ => congrArg f ?_)
    (Finset.sum_congr rfl fun x _ => congrArg f ?_))
  · have hx := x.isLt
    unfold key ctxKey
    rw [if_pos (by simp)]
    exact Fin.ext (by simp; omega)
  · have hx := x.isLt
    unfold key latKey
    rw [if_neg (by simp)]
    exact Fin.ext (by simp; omega)

variable (q : Vec Ideal S33280x512 .f32) (k : Vec Ideal S2x33280x64 .bf16) (v : Vec Ideal S2x64x33280 .f32)
variable (qr : Fin 33280 → Fin 512 → ℝ) (kr : Fin 2 → Fin 33280 → Fin 64 → ℝ) (vr : Fin 2 → Fin 64 → Fin 33280 → ℝ)

/-- The real score of output entry `(R, C)` against key `X`. -/
def sc (R : Fin 33280) (C : Fin 512) (X : Fin 33280) : ℝ :=
  (∑ d : Fin 64, kr (grp C) X d * qr R ⟨64 * (C.val / 64) + d.val, by omega⟩) * (1 / 8)

variable (hq : ∀ R C, q (ix2 R C) = (qr R C : EReal)) (hk : ∀ g X d, k (ix3 g X d) = (kr g X d : EReal))
variable (hv : ∀ g d X, v (ix3 g d X) = (vr g d X : EReal))

include hq hk in
/-- The kernel's weight of a key is the exponential of the score. -/
theorem kwt_eq (R : Fin 33280) (C : Fin 512) (X : Fin 33280) :
    kwt q k R C X = ((Real.exp (sc qr kr R C X) : ℝ) : EReal) := by
  unfold kwt
  refine Eq.trans (congrArg Ideal.exp2 ?_)
    (Cert.AttnMath.exp2_scaled (∑ d : Fin 64, kr (grp C) X d * qr R ⟨64 * (C.val / 64) + d.val, by omega⟩) (1 / 8))
  unfold qsc
  simp only [hq, hk, scale_eq, ← EReal.coe_mul, ← Cert.AttnMath.coe_sum, Finset.sum_mul]
  refine congrArg _ (Finset.sum_congr rfl fun d _ => ?_)
  ring

include hq hk in
/-- The reference's score is the real score. -/
theorem score_eq (R : Fin 33280) (C : Fin 512) (hR : R.val < 32768) (y : Fin 16640) :
    score q k ⟨R.val / 16384, by omega⟩ ⟨C.val / 256, by omega⟩ ⟨C.val / 64 % 4, by omega⟩ ⟨R.val % 16384, by omega⟩ y
      = ((sc qr kr R C (key ⟨R.val / 16384, by omega⟩ y) : ℝ) : EReal) := by
  unfold score sc
  simp only [hq, hk, eighth, ← EReal.coe_mul, ← Cert.AttnMath.coe_sum]
  refine congrArg (fun z : ℝ => ((z * (1 / 8) : ℝ) : EReal)) (Finset.sum_congr rfl fun d _ => ?_)
  have hd := d.isLt
  refine congrArg₂ (· * ·) rfl (congrArg₂ qr (Fin.ext ?_) (Fin.ext ?_))
  · dsimp only; omega
  · dsimp only; omega

include hv in
/-- A row of the values that the kernel was given. -/
theorem tail_val (g : Fin 2) (r : Fin 80) (hr : r.val < 64) (X : Fin 33280) :
    tail v (ix3 g r X) = (vr g ⟨r.val, hr⟩ X : EReal) := by
  rw [← hv]
  exact dif_pos hr

/-- The row of ones. -/
theorem tail_one (g : Fin 2) (X : Fin 33280) : tail v (ix3 g 64 X) = (1 : EReal) :=
  (dif_neg (show ¬ (64 : Nat) < 64 by decide)).trans (if_pos rfl)

include hq hk hv in
/-- What the kernel computes for an entry is what the reference computes. -/
theorem out_eq (R : Fin 33280) (C : Fin 512) (hR : R.val < 32768) :
    Cert.AttnIdeal.Array.out q k v R C = Cert.AttnRefIdeal.Read.val_main_v35 (F := Ideal) q k v (ix2 R C) := by
  have hb : R.val / 16384 < 2 := by omega
  obtain ⟨M, hM⟩ := Cert.AttnMath.fold_max_real (n := 16639) fun y => sc qr kr R C (key ⟨R.val / 16384, hb⟩ y)
  have hmax : Cert.AttnRefIdeal.Read.val_main_v21 (F := Ideal) q k (ix4 ⟨R.val / 16384, by omega⟩
      ⟨C.val / 256, by omega⟩ ⟨C.val / 64 % 4, by omega⟩ ⟨R.val % 16384, by omega⟩) = (M : EReal) := by
    rw [Cert.AttnRefIdeal.Ref.max_apply, ninf, ← hM, max_eq_right bot_le]
    exact congrArg (Finset.univ.fold max _) (funext fun y => score_eq q k qr kr hq hk R C hR y)
  rw [Cert.AttnRefIdeal.Ref.out_apply q k v R C hR]
  have hsum : ∀ r : Fin 80, wsum q k v R C r = ∑ y : Fin 16640, tail v (ix3 (grp C) r (key ⟨R.val / 16384, hb⟩ y))
      * ((Real.exp (sc qr kr R C (key ⟨R.val / 16384, hb⟩ y)) : ℝ) : EReal) := fun r => by
    rw [sum_keys R hR fun X => tail v (ix3 (grp C) r X) * ((Real.exp (sc qr kr R C X) : ℝ) : EReal)]
    unfold wsum
    simp only [kwt_eq q k qr kr hq hk]
  unfold Cert.AttnIdeal.Array.out
  rw [hsum, hsum]
  have h0 : Cert.AttnRefIdeal.Read.val_main_cst_2 (F := Ideal) (Shape.Idx.first Cert.AttnRefIdeal.Facts₀.h_S_) = (0 : EReal) :=
    Ideal.ofBits_zero .f32
  refine Eq.trans ?_ ((Cert.AttnMath.softmax_eq (n := 16639) (fun y => sc qr kr R C (key ⟨R.val / 16384, hb⟩ y))
    (fun y => vr (grp C) ⟨C.val % 64, by omega⟩ (key ⟨R.val / 16384, hb⟩ y)) M).symm.trans ?_)
  · refine congrArg₂ Ideal.div (Finset.sum_congr rfl fun y _ => ?_) (Finset.sum_congr rfl fun y _ => ?_)
    · rw [tail_val v vr hv]
    · rw [tail_one, one_mul]
  · refine Finset.sum_congr rfl fun y _ => ?_
    rw [Cert.AttnRefIdeal.Ref.probs_apply, hmax]
    simp only [score_eq q k qr kr hq hk R C hR, hv]
    refine congrArg₂ (· * ·) rfl (congrArg₂ Ideal.div rfl (congrArg (· + _) h0.symm))

end Cert.AttnEq
-- ==== Proof.AttnClaim.lean ====
/- The attention's claims: the runs, the named constant, and the equality with the reference at the rows of the
   latents. -/
module

public import proofs.«01_k».proof.Defs
public import proofs.«01_k».proof.Proof.AttnEq
public import proofs.«01_k».proof.Proof.Gen.Attn
public import proofs.«01_k».proof.Proof.Gen.Attn.Frame
public import proofs.«01_k».proof.Proof.Gen.AttnIdeal.Frame
public import proofs.«01_k».proof.Proof.Gen.AttnRefIdeal.Run
public import proofs.«01_k».proof.Proof.Gen.Pre_finite
public import proofs.«01_k».proof.Proof.Gen.On_latent_rows
public import Idealize.ShloMosaic.Lib.Quiescent

@[expose] public section

set_option maxRecDepth 16384

noncomputable section

namespace Cert.AttnClaim

open Idealize.ShloMosaic Idealize.ShloMosaic.TcCoe Idealize.SL.Sem

/-- The kernel runs, leaves its arguments as they were and ends with every counter at zero. -/
theorem frame_Attn : Cert.quiescent_Attn := fun m g _ => Cert.Attn.Gen.frame m g

/-- So does the kernel read over the extended reals. -/
theorem frame_AttnIdeal : Cert.quiescent_AttnIdeal := fun m g _ => Cert.AttnIdeal.Gen.frame m g

/-- The same from memories whose queries, keys and values are finite. -/
theorem frame_AttnIdeal_finite : Cert.quiescent_AttnIdeal_pre_finite := fun m g _ => Cert.AttnIdeal.Gen.frame m g

/-- The reference runs, leaves its arguments as they were and ends with every counter at zero. -/
theorem frame_AttnRefIdeal : Cert.quiescent_AttnRefIdeal := fun m g _ =>
  (θ_run _ _ _).mono (fun r h => ⟨fun c => (h c).2, sem_eq_zero_of_no_sems (by decide) r.2⟩)
    (Cert.AttnRefIdeal.Value.run m g)

/-- The same from memories whose queries, keys and values are finite. -/
theorem frame_AttnRefIdeal_finite : Cert.quiescent_AttnRefIdeal_pre_finite := fun m g _ => frame_AttnRefIdeal m g trivial

/-- The named factor is the number its name stands for. -/
theorem preserves : Cert.preserves_Attn_AttnIdeal :=
  IdealRules.named_const.statement Cert.AttnIdeal.κ "scale" .f32 0x3E38AA3B#32
    (((1 / 8) * (Real.log 2)⁻¹ : ℝ) : EReal) rfl

open Cert.Pre_finite in
/-- A number that the precondition admits is real. -/
theorem real_of_ofBool (x : EReal) (h : BitVec.ofBool (decide (FloatOps.absf (F := Ideal) (φ := .f32) x < Ideal.ofBits .f32 0x7F800000#32)) = 1#1) :
    ∃ r : ℝ, x = (r : EReal) := by
  have e : Ideal.ofBits .f32 0x7F800000#32 = (⊤ : EReal) := by simp [Ideal.ofBits, Ideal.ieee]
  rw [e] at h
  refine Cert.AttnMath.real_of_lt x ?_
  by_contra hn
  have : decide (FloatOps.absf (F := Ideal) (φ := .f32) x < (⊤ : EReal)) = false := decide_eq_false hn
  rw [this] at h
  exact absurd h (by decide)

section
open Cert.Pre_finite
variable (q : Vec Ideal S33280x512 .f32) (k : Vec Ideal S2x33280x64 .bf16) (v : Vec Ideal S2x64x33280 .f32)

/-- Queries that the precondition admits are real. -/
theorem real_q (h : (Cert.Pre_finite.fn (F := Ideal) q k v).1 = (fun _ => 1#1)) (i : Fin 33280) (j : Fin 512) :
    ∃ r : ℝ, q (ix2 i j) = (r : EReal) := by
  have h := congrFun h (ix2 i j)
  simp only [Cert.Pre_finite.fn] at h
  pointwise at h
  exact real_of_ofBool _ h

/-- Keys that the precondition admits are real. -/
theorem real_k (h : (Cert.Pre_finite.fn (F := Ideal) q k v).2.1 = (fun _ => 1#1)) (g : Fin 2) (i : Fin 33280)
    (j : Fin 64) : ∃ r : ℝ, k (ix3 g i j) = (r : EReal) := by
  have h := congrFun h (ix3 g i j)
  simp only [Cert.Pre_finite.fn] at h
  pointwise at h
  exact real_of_ofBool _ h

/-- Values that the precondition admits are real. -/
theorem real_v (h : (Cert.Pre_finite.fn (F := Ideal) q k v).2.2 = (fun _ => 1#1)) (g : Fin 2) (i : Fin 64)
    (j : Fin 33280) : ∃ r : ℝ, v (ix3 g i j) = (r : EReal) := by
  have h := congrFun h (ix3 g i j)
  simp only [Cert.Pre_finite.fn] at h
  pointwise at h
  exact real_of_ofBool _ h

end

section
open Cert.On_latent_rows
variable (q : Vec Ideal S33280x512 .f32) (k : Vec Ideal S2x33280x64 .bf16) (v : Vec Ideal S2x64x33280 .f32)

/-- The mask selects the rows of the latents. -/
theorem latent_row (R : Fin 33280) (C : Fin 512) (h : Cert.On_latent_rows.fn (F := Ideal) q k v (ix2 R C) = 1#1) :
    R.val < 32768 := by
  simp only [Cert.On_latent_rows.fn] at h
  pointwise at h
  have hR := R.isLt
  rw [IntOp.cmpi_slt, BitVec.toInt_eq_toNat_of_lt (by rw [BitVec.toNat_ofNat]; omega),
    BitVec.toNat_ofNat, Nat.mod_eq_of_lt (by omega)] at h
  have e : (32768#32 : BitVec 32).toInt = 32768 := by decide
  rw [e] at h
  exact_mod_cast h

end

/-- Kernel and reference agree at the rows of the latents. -/
theorem algebraic : Cert.algebraic_AttnIdeal_AttnRefIdeal_on_latent_rows_pre_finite := by
  intro m g m' g' hpre hagree
  have agree : ∀ (c : Dev Cert.AttnIdeal.nD) (R : Fin 33280) (C : Fin 512), R.val < 32768 →
      (Cert.AttnIdeal.Gen.dats m 0 c).arrAt 5 Cert.AttnIdeal.cfg0.N (ix2 R C)
        = Cert.AttnRefIdeal.Read.val_main_v35 (F := Ideal) (m ((c.tc : Thread _ _).loc Cert.AttnIdeal.main_arg0))
            (m ((c.tc : Thread _ _).loc Cert.AttnIdeal.main_arg1))
            (m ((c.tc : Thread _ _).loc Cert.AttnIdeal.main_arg2)) (ix2 R C) := by
    intro c R C hR
    obtain ⟨h0, h1, h2⟩ := hpre c
    choose qr hq using real_q _ _ _ h0
    choose kr hk using real_k _ _ _ h1
    choose vr hv using real_v _ _ _ h2
    exact (Cert.AttnIdeal.Array.final_apply m c R C hR).trans (Cert.AttnEq.out_eq _ _ _ qr kr vr hq hk hv R C hR)
  refine ⟨fun c => Cert.AttnRefIdeal.Read.val_main_v35 (F := Ideal) (m ((c.tc : Thread _ _).loc Cert.AttnIdeal.main_arg0))
            (m ((c.tc : Thread _ _).loc Cert.AttnIdeal.main_arg1))
            (m ((c.tc : Thread _ _).loc Cert.AttnIdeal.main_arg2)),
    (θ_run _ _ _).mono (fun r h c => ⟨fun i hi => ?_, (h c).2⟩) (Cert.AttnIdeal.Value.run_blocks m g),
    (θ_run _ _ _).mono (fun r h c => ⟨fun i hi => ?_, (h c).2⟩) (Cert.AttnRefIdeal.Value.run m' g')⟩
  · obtain ⟨R, C, rfl⟩ : ∃ R C, i = ix2 R C := ⟨_, _, eq_ix2 i⟩
    exact (congrFun (h c).1 _).trans (agree c R C (latent_row _ _ _ R C hi))
  · refine (congrFun (h c).1 i).trans ?_
    rw [Cert.AttnRefIdeal.Read.val_main_v35_eq, (hagree c).1, (hagree c).2.1, (hagree c).2.2]

end Cert.AttnClaim
-- ==== Proof.MoeBlock.lean ====
/- What one grid point of the expert kernel leaves in its accumulator and in its output block. -/
module

public import proofs.«01_k».proof.Proof.Gen.MoeIdeal.Frame
public import Idealize.ShloMosaic.Lib.Pipeline.Value
public import Idealize.ShloMosaic.Lib.Pipeline.ValueKit

@[expose] public section

set_option maxRecDepth 16384

noncomputable section

namespace Cert.MoeIdeal.Block

open Idealize.ShloMosaic Idealize.ShloMosaic.TcCoe
open Idealize.ShloMosaic.Pipeline
open Cert.MoeIdeal.Gen

variable {F : FTy → Type} [FloatOps F]

theorem z2 : (![0, 0] : Fin 2 → Nat) = fun _ => 0 := funext fun a => by fin_cases a <;> rfl

theorem z4 : (![0, 0, 0, 0] : Fin 4 → Nat) = fun _ => 0 := funext fun a => by fin_cases a <;> rfl

variable (c : Dev nD) (i : grid0.Coords)
  (arg4 : Memref sig .tc .vmem S512x1024 .bf16) (harg4 : arg4.IsWhole)
  (arg5 : Memref sig .tc .vmem S1x1x1024x1792 .bf16) (harg5 : arg5.IsWhole)
  (arg6 : Memref sig .tc .vmem S1x1x1024x1792 .bf16) (harg6 : arg6.IsWhole)
  (arg7 : Memref sig .tc .vmem S1x1x1792x1024 .bf16) (harg7 : arg7.IsWhole)
  (arg8 : Memref sig .tc .vmem S512x1024 .bf16) (harg8 : arg8.IsWhole)
  (arg9 : Memref sig .tc .vmem S512x1024 .f32) (harg9 : arg9.IsWhole)
  (x0 : Vec F S512x1024 .bf16) (x1 : Vec F S1x1x1024x1792 .bf16) (x2 : Vec F S1x1x1024x1792 .bf16)
  (x3 : Vec F S1x1x1792x1024 .bf16) (xt0 : TbBuf0 (F := F) c tbM0_0) (xt1 : TbBuf0 (F := F) c tbM0_1)
  (xs0 : Vec F S512x1024 .f32)

/-- The word of the second table at a grid point, as the body reads it. -/
abbrev word (i : grid0.Coords) (xt1 : TbBuf0 (F := F) c tbM0_1) : BitVec 32 :=
  tbM0_1.view.readAt (Elt F) (Rect.unit (s := S46) (k0_off1 i) S1.size (k0_off1_inb i)).toLoadRect xt1
    (Shape.Idx.first (numel1_S1.symm ▸ Nat.one_pos))

/-- The accumulator after the first half of the hidden units of a tile in use. -/
theorem first_valid (hc0 : cond0_0 i) (hc2 : ¬cond0_2 i) (hc1 : cond0_1 i (word c i xt1)) :
    sout0_A_0 c i arg4 harg4 arg5 harg5 arg6 harg6 arg7 harg7 arg8 harg8 arg9 harg9 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg8 harg8 arg9 harg9 hc0 hc2 x0 x1 x2 x3 xt0 xt1 hc1)]
  unfold kernelRun0_A
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The accumulator after the first point of a tile that is not in use. -/
theorem first_unused (hc0 : cond0_0 i) (hc2 : ¬cond0_2 i) (hc1 : ¬cond0_1 i (word c i xt1)) :
    sout0_B_0 c i arg4 harg4 arg5 harg5 arg6 harg6 arg7 harg7 arg8 harg8 arg9 harg9 hc0 hc2 x0 x1 x2 x3 xt0 xt1 hc1 = k0_pay1 := by
  unfold sout0_B_0
  rw [View.read_writes_eq_canon _ _ _ (scover0_B_0 c i arg4 harg4 arg5 harg5 arg6 harg6 arg7 harg7 arg8 harg8 arg9 harg9 hc0 hc2 x0 x1 x2 x3 xt0 xt1 hc1)]
  unfold kernelRun0_B
  dsimp only
  sl_unfold_words
  rw [View.canon_cons_unit_zero (S := S512x1024) z2]

/-- The output block of a tile in use: both halves of the hidden units. -/
theorem second_valid (hc0 : ¬cond0_0 i) (hc2 : cond0_2 i) (hc1 : cond0_1 i (word c i xt1)) :
    out0_C_4 c i arg4 harg4 arg5 harg5 arg6 harg6 arg7 harg7 arg8 harg8 arg9 harg9 hc0 hc2 x0 x1 x2 x3 xt0 xt1 xs0 hc1 = k0_pay3 (k0_pay2 x0 x1 x2 xs0 x3) := by
  unfold out0_C_4
  rw [View.read_writes_eq_canon _ _ _ (cover0_C_4 c i arg4 harg4 arg5 harg5 arg6 harg6 arg7 harg7 arg8 harg8 arg9 harg9 hc0 hc2 x0 x1 x2 x3 xt0 xt1 xs0 hc1)]
  unfold kernelRun0_C
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The output block of a tile that is not in use. -/
theorem second_unused (hc0 : ¬cond0_0 i) (hc2 : cond0_2 i) (hc1 : ¬cond0_1 i (word c i xt1)) :
    out0_D_4 c i arg4 harg4 arg5 harg5 arg6 harg6 arg7 harg7 arg8 harg8 arg9 harg9 hc0 hc2 x0 x1 x2 x3 xt0 xt1 xs0 hc1 = k0_pay3 xs0 := by
  unfold out0_D_4
  rw [View.read_writes_eq_canon _ _ _ (cover0_D_4 c i arg4 harg4 arg5 harg5 arg6 harg6 arg7 harg7 arg8 harg8 arg9 harg9 hc0 hc2 x0 x1 x2 x3 xt0 xt1 xs0 hc1)]
  unfold kernelRun0_D
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

end Cert.MoeIdeal.Block
-- ==== Proof.MoeIdealTables.lean ====
/- The expert kernel's blocks lie inside the weights when every tile names one of the eight experts: what the
   precondition asks is what the pipeline of `MoeIdeal` needs of its two tables. -/
module

public import proofs.«01_k».proof.Defs
public import proofs.«01_k».proof.Proof.Gen.MoeIdeal.Frame
public import proofs.«01_k».proof.Proof.Gen.Pre_experts_in_range
public import Idealize.ShloMosaic.Lib.Pointwise

@[expose] public section

set_option maxRecDepth 16384

noncomputable section

namespace Cert.MoeIdeal.Tables

open Idealize.ShloMosaic Idealize.ShloMosaic.TcCoe
open Cert.MoeIdeal Cert.MoeIdeal.Gen

variable {F : FTy → Type} [FloatOps F]

/-- The expert a row tile names. -/
def expert (pf : pre0.Contents (Elt F)) (k : Fin 46) : BitVec 32 := (show Vec F S46 .i32 from pf 0) (ix1 k)

/-- Whether a row tile is in use: it is when this word is positive. -/
def used (pf : pre0.Contents (Elt F)) (k : Fin 46) : BitVec 32 := (show Vec F S46 .i32 from pf 1) (ix1 k)

/-- The half of the hidden units whose weights a grid point fetches: its own in a tile in use, the second in any other. -/
def half (pf : pre0.Contents (Elt F)) (i : grid0.Coords) : Nat :=
  if 0 < (used pf (i 0)).toInt then (i 1).val else 1

theorem emb_eq (i : grid0.Coords) (h : ∀ a, (k0_off1 i) a + S1.size a ≤ S46.size a) (y : S1.Idx) :
    (Rect.unit (s := S46) (k0_off1 i) S1.size h).emb y = ix1 (i 0) := by
  funext a
  fin_cases a
  apply Fin.ext
  have h0 : (i 0).val < 46 := (i 0).isLt
  have hy : (y 0).val < 1 := (y 0).isLt
  change (BitVec.ofNat 32 (i 0).val).toNat + 1 * (y 0).val = (i 0).val
  rw [BitVec.toNat_ofNat, Nat.mod_eq_of_lt (by omega)]
  omega

/-- The load of the first table reads the tile's expert. -/
theorem at0 (pf : pre0.Contents (Elt F)) (i : grid0.Coords) (h : ∀ a, (k0_off1 i) a + S1.size a ≤ S46.size a)
    (h1 : S1.numel = 1) : pf.at 0 (Rect.unit (s := S46) (k0_off1 i) S1.size h) h1 = expert pf (i 0) :=
  congrArg (show Vec F S46 .i32 from pf 0) (emb_eq i h _)

/-- The load of the second table reads the tile's other word. -/
theorem at1 (pf : pre0.Contents (Elt F)) (i : grid0.Coords) (h : ∀ a, (k0_off1 i) a + S1.size a ≤ S46.size a)
    (h1 : S1.numel = 1) : pf.at 1 (Rect.unit (s := S46) (k0_off1 i) S1.size h) h1 = used pf (i 0) :=
  congrArg (show Vec F S46 .i32 from pf 1) (emb_eq i h _)

theorem sel_eq (w : BitVec 32) (n : Nat) (hn : n < 2) :
    (Scalar.select (Scalar.cmpi .sgt w 0#32) (BitVec.ofNat 32 n) (1#32 : BitVec 32)).toNat
      = if 0 < w.toInt then n else 1 := by
  have hc : Scalar.cmpi .sgt w 0#32 = 1#1 ↔ 0 < w.toInt := by
    have : Scalar.cmpi .sgt w 0#32 = BitVec.ofBool (decide (0 < w.toInt)) := by
      simp [Scalar.cmpi, IntOp.cmpi, BitVec.slt]
    rw [this]
    by_cases hw : 0 < w.toInt <;> simp [hw]
  by_cases hw : 0 < w.toInt
  · rw [if_pos hw]
    have := hc.2 hw
    rw [this]
    change (BitVec.ofNat 32 n).toNat = n
    rw [BitVec.toNat_ofNat, Nat.mod_eq_of_lt (by omega)]
  · rw [if_neg hw]
    have h0 : Scalar.cmpi .sgt w 0#32 = 0#1 := by
      have hne := fun h => hw (hc.1 h)
      revert hne
      generalize Scalar.cmpi .sgt w 0#32 = b
      revert b
      decide
    rw [h0]
    rfl

/-- The block of gate weights a grid point fetches. -/
theorem map1 (pf : pre0.Contents (Elt F)) (i : grid0.Coords) :
    cc0_transform_1 k0_off1_inb numel1_S1 pf i = ![0, (expert pf (i 0)).toNat, 0, half pf i] := by
  have h0 := at0 pf i (k0_off1_inb i) numel1_S1
  have h1 := at1 pf i (k0_off1_inb i) numel1_S1
  have hs := sel_eq (used pf (i 0)) (i 1).val (i 1).isLt
  funext a
  fin_cases a
  · rfl
  · exact congrArg BitVec.toNat h0
  · rfl
  · refine Eq.trans ?_ hs
    rw [← h1]
    rfl

/-- The block of up weights a grid point fetches. -/
theorem map2 (pf : pre0.Contents (Elt F)) (i : grid0.Coords) :
    cc0_transform_2 k0_off1_inb numel1_S1 pf i = ![0, (expert pf (i 0)).toNat, 0, 2 + half pf i] := by
  have h0 := at0 pf i (k0_off1_inb i) numel1_S1
  have h1 := at1 pf i (k0_off1_inb i) numel1_S1
  have hs := sel_eq (used pf (i 0)) (i 1).val (i 1).isLt
  have hl : half pf i ≤ 1 := by
    unfold half
    have := (i 1).isLt
    have h2 : (i 1).val < 2 := this
    split <;> omega
  funext a
  fin_cases a
  · rfl
  · exact congrArg BitVec.toNat h0
  · rfl
  · have h3 : cc0_transform_2 k0_off1_inb numel1_S1 pf i 3
        = (2#32 + Scalar.select (Scalar.cmpi .sgt (pf.at 1 (Rect.unit (s := S46) (k0_off1 i) S1.size (k0_off1_inb i)) numel1_S1) 0#32)
            (BitVec.ofNat 32 (i 1).val) (1#32 : BitVec 32)).toNat := rfl
    refine h3.trans ?_
    rw [h1, BitVec.toNat_add, hs]
    change (2 + half pf i) % 4294967296 = 2 + half pf i
    omega

/-- The block of down weights a grid point fetches. -/
theorem map3 (pf : pre0.Contents (Elt F)) (i : grid0.Coords) :
    cc0_transform_3 k0_off1_inb numel1_S1 pf i = ![0, (expert pf (i 0)).toNat, half pf i, 0] := by
  have h0 := at0 pf i (k0_off1_inb i) numel1_S1
  have h1 := at1 pf i (k0_off1_inb i) numel1_S1
  have hs := sel_eq (used pf (i 0)) (i 1).val (i 1).isLt
  funext a
  fin_cases a
  · rfl
  · exact congrArg BitVec.toNat h0
  · refine Eq.trans ?_ hs
    rw [← h1]
    rfl
  · rfl

/-- With every tile's expert among the eight, every block is inside its array. -/
theorem ok_of_lt (pf : pre0.Contents (Elt F)) (h : ∀ k, (expert pf k).toNat < 8) : ok0 pf := by
  have hh : ∀ i, half pf i ≤ 1 := fun i => by
    unfold half
    have h2 : (i 1).val < 2 := (i 1).isLt
    split <;> omega
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩
  · rw [map1]
    have he := h (i 0)
    have hl := hh i
    intro a
    fin_cases a
    · change (0 + 1) * 1 ≤ 2; omega
    · change ((expert pf (i 0)).toNat + 1) * 1 ≤ 8; omega
    · change (0 + 1) * 1024 ≤ 1024; omega
    · change (half pf i + 1) * 1792 ≤ 7168; omega
  · rw [map2]
    have he := h (i 0)
    have hl := hh i
    intro a
    fin_cases a
    · change (0 + 1) * 1 ≤ 2; omega
    · change ((expert pf (i 0)).toNat + 1) * 1 ≤ 8; omega
    · change (0 + 1) * 1024 ≤ 1024; omega
    · change (2 + half pf i + 1) * 1792 ≤ 7168; omega
  · rw [map3]
    have he := h (i 0)
    have hl := hh i
    intro a
    fin_cases a
    · change (0 + 1) * 1 ≤ 2; omega
    · change ((expert pf (i 0)).toNat + 1) * 1 ≤ 8; omega
    · change (half pf i + 1) * 1792 ≤ 3584; omega
    · change (0 + 1) * 1024 ≤ 1024; omega

theorem word_lt (w : BitVec 32)
    (h : IntOp.andi (IntOp.cmpi .sge w 0#32) (IntOp.cmpi .slt w 8#32) = 1#1) : w.toNat < 8 := by
  simp only [IntOp.andi, IntOp.cmpi] at h
  have h0 : (0#32 : BitVec 32).sle w = true ∧ w.slt 8#32 = true := by
    revert h
    cases (0#32 : BitVec 32).sle w <;> cases w.slt 8#32 <;> decide
  obtain ⟨h1, h2⟩ := h0
  simp only [BitVec.sle, BitVec.slt, decide_eq_true_eq] at h1 h2
  have e0 : (0#32 : BitVec 32).toInt = 0 := by decide
  have e8 : (8#32 : BitVec 32).toInt = 8 := by decide
  rw [e0] at h1
  rw [e8] at h2
  rw [BitVec.toInt_eq_toNat_cond] at h1 h2
  have := w.isLt
  split at h1 <;> omega

variable (m : (ℓ : Loc nD τ sig) → Buf (Elt Ideal) ℓ)

/-- Under the precondition every tile's expert is one of the eight. -/
theorem expert_lt (h : Cert.Pre_MoeIdeal m) (k : Fin 46) : (expert (tbl m) k).toNat < 8 := by
  have h1 := congrFun (h 0) (ix1 k)
  exact word_lt _ h1

/-- The precondition gives what the pipeline needs of its tables. -/
theorem ok_of_pre (h : Cert.Pre_MoeIdeal m) : Ok m := ok_of_lt (tbl m) (expert_lt m h)

end Cert.MoeIdeal.Tables
-- ==== Proof.MoeWindows.lean ====
/- The blocks of rows and of weights that a grid point of the expert kernel reads, as entries of their arrays. They
   depend on the two tables alone. -/
module

public import proofs.«01_k».proof.Proof.MoeIdealTables
public import Idealize.ShloMosaic.Lib.Pipeline.ValueKit
public import Idealize.ShloMosaic.Lib.Tactic

@[expose] public section

set_option maxRecDepth 16384

noncomputable section

namespace Cert.MoeIdeal.Windows

open Idealize.ShloMosaic Idealize.ShloMosaic.TcCoe
open Cert.MoeIdeal Cert.MoeIdeal.Gen Cert.MoeIdeal.Tables

/-- The row tile of a grid point: two points for each. -/
def tile (t : Fin 92) : Fin 46 := ⟨t.val / 2, by omega⟩

theorem coord0 (t : Fin 92) : grid0.coords t 0 = tile t := by
  apply Fin.ext
  have h := Pipeline.Grid.coords_val (G := grid0) t 0 (S := 2) (by decide) rfl
  refine h.trans ?_
  change t.val / 2 % 46 = t.val / 2
  omega

theorem coord1 (t : Fin 92) : (grid0.coords t 1).val = t.val % 2 := by
  have h := Pipeline.Grid.coords_val (G := grid0) t 1 (S := 1) (by decide) rfl
  refine h.trans ?_
  change t.val / 1 % 2 = t.val % 2
  omega

variable (a : (pcfg0 (F := Ideal)).Adm)

/-- The half of the hidden units fetched at a point. -/
def halfAt (t : Fin 92) : Nat := if 0 < (used a.1 (tile t)).toInt then t.val % 2 else 1

theorem half_eq (t : Fin 92) : half a.1 (grid0.coords t) = halfAt a t := by
  unfold half halfAt
  rw [coord0, coord1]

theorem idx0 (t : Fin 92) : ((cfg0 a).win 0).index t = ![t.val / 2, 0] := by
  have h : ((cfg0 a).win 0).index t = ![(BitVec.ofNat 32 (grid0.coords t 0).val).toNat, 0] := rfl
  rw [h, coord0, BitVec.toNat_ofNat]
  change ![t.val / 2 % 4294967296, 0] = ![t.val / 2, 0]
  rw [Nat.mod_eq_of_lt (by omega)]

theorem idx1 (t : Fin 92) :
    ((cfg0 a).win 1).index t = ![0, (expert a.1 (tile t)).toNat, 0, halfAt a t] := by
  have h : ((cfg0 a).win 1).index t = _ := map1 a.1 (grid0.coords t)
  rw [h, coord0, half_eq]

theorem idx2 (t : Fin 92) :
    ((cfg0 a).win 2).index t = ![0, (expert a.1 (tile t)).toNat, 0, 2 + halfAt a t] := by
  have h : ((cfg0 a).win 2).index t = _ := map2 a.1 (grid0.coords t)
  rw [h, coord0, half_eq]

theorem idx3 (t : Fin 92) :
    ((cfg0 a).win 3).index t = ![0, (expert a.1 (tile t)).toNat, halfAt a t, 0] := by
  have h : ((cfg0 a).win 3).index t = _ := map3 a.1 (grid0.coords t)
  rw [h, coord0, half_eq]

/-- The rows a point reads. -/
def rows (q : Vec Ideal S23552x1024 .bf16) (t : Fin 92) : Vec Ideal S512x1024 .bf16 :=
  (((cfg0 a).win 0).blk t).view.read (Elt Ideal) q

/-- The gate weights a point reads. -/
def gate (wg : Vec Ideal S2x8x1024x7168 .bf16) (t : Fin 92) : Vec Ideal S1x1x1024x1792 .bf16 :=
  (((cfg0 a).win 1).blk t).view.read (Elt Ideal) wg

/-- The up weights a point reads. -/
def up (wg : Vec Ideal S2x8x1024x7168 .bf16) (t : Fin 92) : Vec Ideal S1x1x1024x1792 .bf16 :=
  (((cfg0 a).win 2).blk t).view.read (Elt Ideal) wg

/-- The down weights a point reads. -/
def down (wd : Vec Ideal S2x8x3584x1024 .bf16) (t : Fin 92) : Vec Ideal S1x1x1792x1024 .bf16 :=
  (((cfg0 a).win 3).blk t).view.read (Elt Ideal) wd

theorem rows_at (q : Vec Ideal S23552x1024 .bf16) (t : Fin 92) (r : Fin 512) (k : Fin 1024) (R : Fin 23552)
    (hR : R.val = 512 * (t.val / 2) + r.val) : rows a q t (ix2 r k) = q (ix2 R k) := by
  unfold rows
  blk_simp
  refine congrArg q (funext fun b => Fin.ext ?_)
  have h := congrFun (idx0 a t) b
  blk_simp
  refine (congrArg₂ (· + ·) (congrArg (· * _) h) rfl).trans ?_
  fin_cases b <;> simp <;> omega

theorem gate_at (wg : Vec Ideal S2x8x1024x7168 .bf16) (t : Fin 92) (k : Fin 1024) (f : Fin 1792) (e : Fin 8)
    (f' : Fin 7168) (he : e.val = (expert a.1 (tile t)).toNat) (hf : f'.val = 1792 * halfAt a t + f.val) :
    gate a wg t (ix4 0 0 k f) = wg (ix4 0 e k f') := by
  unfold gate
  blk_simp
  refine congrArg wg (funext fun b => Fin.ext ?_)
  have h := congrFun (idx1 a t) b
  blk_simp
  refine (congrArg₂ (· + ·) (congrArg (· * _) h) rfl).trans ?_
  fin_cases b <;> simp <;> omega

theorem up_at (wg : Vec Ideal S2x8x1024x7168 .bf16) (t : Fin 92) (k : Fin 1024) (f : Fin 1792) (e : Fin 8)
    (f' : Fin 7168) (he : e.val = (expert a.1 (tile t)).toNat) (hf : f'.val = 1792 * (2 + halfAt a t) + f.val) :
    up a wg t (ix4 0 0 k f) = wg (ix4 0 e k f') := by
  unfold up
  blk_simp
  refine congrArg wg (funext fun b => Fin.ext ?_)
  have h := congrFun (idx2 a t) b
  blk_simp
  refine (congrArg₂ (· + ·) (congrArg (· * _) h) rfl).trans ?_
  fin_cases b <;> simp <;> omega

theorem down_at (wd : Vec Ideal S2x8x3584x1024 .bf16) (t : Fin 92) (f : Fin 1792) (d : Fin 1024) (e : Fin 8)
    (f' : Fin 3584) (he : e.val = (expert a.1 (tile t)).toNat) (hf : f'.val = 1792 * halfAt a t + f.val) :
    down a wd t (ix4 0 0 f d) = wd (ix4 0 e f' d) := by
  unfold down
  blk_simp
  refine congrArg wd (funext fun b => Fin.ext ?_)
  have h := congrFun (idx3 a t) b
  blk_simp
  refine (congrArg₂ (· + ·) (congrArg (· * _) h) rfl).trans ?_
  fin_cases b <;> simp <;> omega

end Cert.MoeIdeal.Windows
-- ==== Proof.MoeMath.lean ====
/- One row through one expert, in extended reals: what a hidden unit is, the sum over the hidden units in two halves,
   and a sum over experts in which one of them has weight one and the others weight zero. -/
module

public import Idealize.ShloMosaic.Lib.Pointwise
public import Idealize.ShloMosaic.PureOps.Ideal.Laws

@[expose] public section

set_option maxRecDepth 16384

noncomputable section

namespace Cert.MoeMath

open Idealize.ShloMosaic

/-- A gated hidden unit: the gate times its logistic, times the other projection. -/
def act (g u : EReal) : EReal := g * Ideal.logistic g * u

/-- The logistic is the reciprocal of one and the exponential of the negated argument. -/
theorem act_eq (g u : EReal) : g * Ideal.div 1 (1 + Ideal.exp (-g)) * u = act g u := rfl

/-- One entry of an expert's output on a row `h`: `g` and `u` are the expert's two input projections, `w` the column of
    its output projection. -/
def ffn (h : Fin 1024 → EReal) (g u : Fin 1024 → Fin 3584 → EReal) (w : Fin 3584 → EReal) : EReal :=
  ∑ f, act (∑ k, h k * g k f) (∑ k, h k * u k f) * w f

/-- The sum over all hidden units, from zero and one half after the other. -/
theorem sum_halves (a : Fin 3584 → EReal) :
    (0 + ∑ f : Fin 1792, a ⟨f.val, by omega⟩) + ∑ f : Fin 1792, a ⟨1792 + f.val, by omega⟩ = ∑ f, a f := by
  rw [zero_add]
  exact (Fin.sum_univ_add (a := 1792) (b := 1792) a).symm

/-- Of a sum over the experts in which only one has a weight, what remains. -/
theorem sum_one (e : Fin 8) (w y : Fin 8 → EReal) (h1 : w e = 1) (h0 : ∀ e', e' ≠ e → w e' = 0) :
    0 + ∑ e', w e' * y e' = y e := by
  rw [zero_add, Finset.sum_eq_single e (fun b _ hb => by rw [h0 b hb, zero_mul])
    (fun h => absurd (Finset.mem_univ e) h), h1, one_mul]

/-- A sum over the experts in which none has a weight. -/
theorem sum_none (w y : Fin 8 → EReal) (h0 : ∀ e', w e' = 0) : 0 + ∑ e', w e' * y e' = 0 := by
  rw [zero_add]
  exact Finset.sum_eq_zero fun b _ => by rw [h0 b, zero_mul]

end Cert.MoeMath
-- ==== Proof.MoeCell.lean ====
/- The expert kernel's arithmetic at one entry: the gated hidden units of a row, and their products with the down
   weights. -/
module

public import proofs.«01_k».proof.Proof.Gen.MoeIdeal.Frame
public import proofs.«01_k».proof.Proof.MoeMath
public import Idealize.ShloMosaic.Lib.Pointwise
public import Idealize.ShloMosaic.PureOps.Ideal.Laws

@[expose] public section

set_option maxRecDepth 16384

noncomputable section

namespace Cert.MoeIdeal.Cell

open Idealize.ShloMosaic Idealize.ShloMosaic.TcCoe
open Cert.MoeIdeal Cert.MoeIdeal.Gen Cert.MoeMath

/-- The accumulator starts at zero. -/
theorem pay1_at (r : Fin 512) (d : Fin 1024) : k0_pay1 (F := Ideal) (ix2 r d) = (0 : EReal) := by
  pointwise [k0_pay1]
  all_goals exact Ideal.ofBits_zero .f32

/-- The output block is the accumulator. -/
theorem pay3_at (a : Vec Ideal S512x1024 .f32) (r : Fin 512) (d : Fin 1024) :
    k0_pay3 a (ix2 r d) = a (ix2 r d) := by
  pointwise [k0_pay3]

/-- What one point adds: half of the hidden units of a row, each times its row of the down weights. -/
theorem pay2_at (h : Vec Ideal S512x1024 .bf16) (wg wu : Vec Ideal S1x1x1024x1792 .bf16)
    (a : Vec Ideal S512x1024 .f32) (wd : Vec Ideal S1x1x1792x1024 .bf16) (r : Fin 512) (d : Fin 1024) :
    k0_pay2 h wg wu a wd (ix2 r d)
      = (a (ix2 r d) : EReal) + ∑ f : Fin 1792,
          act (∑ k : Fin 1024, (h (ix2 r k) : EReal) * wg (ix4 0 0 k f))
            (∑ k : Fin 1024, (h (ix2 r k) : EReal) * wu (ix4 0 0 k f)) * wd (ix4 0 0 f d) := by
  pointwise [k0_pay2]
  rfl

end Cert.MoeIdeal.Cell
-- ==== Proof.MoeTile.lean ====
/- What the two grid points of a row tile leave in the output block: the named expert's output on the tile's rows where
   the tile is in use, zero where it is not. It is stated of the two tables and the three arrays alone, so that it holds
   of each of the calls. -/
module

public import proofs.«01_k».proof.Proof.MoeWindows
public import proofs.«01_k».proof.Proof.MoeCell

@[expose] public section

set_option maxRecDepth 16384

noncomputable section

namespace Cert.MoeIdeal.Tile

open Idealize.ShloMosaic Idealize.ShloMosaic.TcCoe
open Cert.MoeIdeal Cert.MoeIdeal.Gen Cert.MoeIdeal.Tables Cert.MoeIdeal.Windows Cert.MoeIdeal.Cell Cert.MoeMath

variable (a : (pcfg0 (F := Ideal)).Adm) (q : Vec Ideal S23552x1024 .bf16) (wg : Vec Ideal S2x8x1024x7168 .bf16)
  (wd : Vec Ideal S2x8x3584x1024 .bf16)

/-- The body branches on whether the tile is in use. -/
theorem cond_iff (i : grid0.Coords) (w : BitVec 32) : cond0_1 i w ↔ 0 < w.toInt := by
  have hc : Scalar.cmpi .sgt w 0#32 = BitVec.ofBool (decide (0 < w.toInt)) := by
    simp [Scalar.cmpi, IntOp.cmpi, BitVec.slt]
  have hb : ∀ b : BitVec 1, Scalar.cmpi .ne (Scalar.extui b : BitVec 32) 0#32 = 1#1 ↔ b = 1#1 := by decide
  unfold cond0_1
  rw [hb, hc]
  by_cases h : 0 < w.toInt <;> simp [h]

/-- The tile's word as the body loads it. -/
theorem word_eq (t : Fin 92) :
    a.1.at 1 (Rect.unit (s := S46) (k0_off1 (grid0.coords t)) S1.size (k0_off1_inb _)) numel1_S1 = used a.1 (tile t) := by
  have h := at1 a.1 (grid0.coords t) (k0_off1_inb _) numel1_S1
  rw [coord0] at h
  exact h

/-- One entry of expert `e`'s output on row `n`. -/
def entry (n : Fin 23552) (e : Fin 8) (d : Fin 1024) : EReal :=
  ffn (fun k => q (ix2 n k)) (fun k f => wg (ix4 0 e k ⟨f.val, by omega⟩))
    (fun k f => wg (ix4 0 e k ⟨3584 + f.val, by omega⟩)) (fun f => wd (ix4 0 e f d))

/-- One term of that sum. -/
def term (n : Fin 23552) (e : Fin 8) (d : Fin 1024) (f : Fin 3584) : EReal :=
  act (∑ k : Fin 1024, (q (ix2 n k) : EReal) * wg (ix4 0 e k ⟨f.val, by omega⟩))
    (∑ k : Fin 1024, (q (ix2 n k) : EReal) * wg (ix4 0 e k ⟨3584 + f.val, by omega⟩)) * wd (ix4 0 e f d)

/-- The accumulator after a point of a tile in use that found it at `acc`. -/
def step (t : Fin 92) (acc : Vec Ideal S512x1024 .f32) : Vec Ideal S512x1024 .f32 :=
  k0_pay2 (rows a q t) (gate a wg t) (up a wg t) acc (down a wd t)

/-- What one point of a tile in use adds to the accumulator. -/
theorem step_at (t : Fin 92) (hu : 0 < (used a.1 (tile t)).toInt) (acc : Vec Ideal S512x1024 .f32) (r : Fin 512)
    (d : Fin 1024) (R : Fin 23552) (hR : R.val = 512 * (t.val / 2) + r.val) (e : Fin 8)
    (he : e.val = (expert a.1 (tile t)).toNat) :
    step a q wg wd t acc (ix2 r d)
      = (acc (ix2 r d) : EReal) + ∑ f : Fin 1792, term q wg wd R e d ⟨1792 * (t.val % 2) + f.val, by omega⟩ := by
  have hh : halfAt a t = t.val % 2 := if_pos hu
  refine (pay2_at (rows a q t) (gate a wg t) (up a wg t) acc (down a wd t) r d).trans ?_
  refine congrArg (fun x => (acc (ix2 r d) : EReal) + x) (Finset.sum_congr rfl fun f _ => ?_)
  unfold term
  refine congrArg₂ (· * ·) (congrArg₂ act (Finset.sum_congr rfl fun k _ => ?_) (Finset.sum_congr rfl fun k _ => ?_)) ?_
  · exact congrArg₂ (· * ·) (rows_at a q t r k R hR) (gate_at a wg t k f e _ he (by rw [hh]))
  · refine congrArg₂ (· * ·) (rows_at a q t r k R hR) (up_at a wg t k f e _ he ?_)
    rw [hh]
    change 3584 + (1792 * (t.val % 2) + f.val) = 1792 * (2 + t.val % 2) + f.val
    omega
  · exact down_at a wd t f d e _ he (by rw [hh])

/-- The value of an output entry. -/
def value (k : Fin 46) (n : Fin 23552) (e : Fin 8) (d : Fin 1024) : EReal :=
  if 0 < (used a.1 k).toInt then entry q wg wd n e d else 0

/-- The output block after a tile's two points `s` and `t`, the accumulator between them being `acc`. -/
theorem block_at (s t : Fin 92) (hs : s.val + 1 = t.val) (ht : t.val % 2 = 1) (acc : Vec Ideal S512x1024 .f32)
    (out : Vec Ideal S512x1024 .bf16)
    (hA : 0 < (used a.1 (tile s)).toInt → acc = step a q wg wd s (k0_pay1 (F := Ideal)))
    (hB : ¬ 0 < (used a.1 (tile s)).toInt → acc = k0_pay1 (F := Ideal))
    (hC : 0 < (used a.1 (tile t)).toInt → out = k0_pay3 (step a q wg wd t acc))
    (hD : ¬ 0 < (used a.1 (tile t)).toInt → out = k0_pay3 acc)
    (r : Fin 512) (d : Fin 1024) (R : Fin 23552) (hR : R.val = 512 * (t.val / 2) + r.val) (e : Fin 8)
    (he : e.val = (expert a.1 (tile t)).toNat) :
    out (ix2 r d) = value a q wg wd (tile t) R e d := by
  have htile : tile s = tile t := Fin.ext (by
    change s.val / 2 = t.val / 2
    omega)
  rw [htile] at hA hB
  unfold value
  by_cases hu : 0 < (used a.1 (tile t)).toInt
  · rw [if_pos hu]
    refine (congrFun (hC hu) (ix2 r d)).trans ((pay3_at _ r d).trans ((step_at a q wg wd t hu _ r d R hR e he).trans ?_))
    have hs' := (congrFun (hA hu) (ix2 r d)).trans (step_at a q wg wd s (by rw [htile]; exact hu) _ r d R (by omega) e
      (by rw [htile]; exact he))
    rw [pay1_at] at hs'
    refine (congrArg (fun x : EReal => x + _) hs').trans ?_
    refine Eq.trans ?_ (sum_halves (term q wg wd R e d))
    refine congrArg₂ (fun x y : EReal => 0 + x + y) (Finset.sum_congr rfl fun f _ => ?_) (Finset.sum_congr rfl fun f _ => ?_)
    · exact congrArg _ (Fin.ext (by
        change 1792 * (s.val % 2) + f.val = f.val
        omega))
    · exact congrArg _ (Fin.ext (by
        change 1792 * (t.val % 2) + f.val = 1792 + f.val
        omega))
  · rw [if_neg hu]
    exact (congrFun (hD hu) (ix2 r d)).trans ((pay3_at _ r d).trans ((congrFun (hB hu) (ix2 r d)).trans (pay1_at r d)))

end Cert.MoeIdeal.Tile
-- ==== Proof.MoeArray.lean ====
/- The array the first call of the expert kernel leaves, over the extended reals, at the rows of the first part: the named
   expert's output on each row of a tile in use, and zero on the rows of any other tile. -/
module

public import proofs.«01_k».proof.Proof.MoeBlock
public import proofs.«01_k».proof.Proof.MoeTile

@[expose] public section

set_option maxRecDepth 16384

noncomputable section

namespace Cert.MoeIdeal.Array

open Idealize.ShloMosaic Idealize.ShloMosaic.TcCoe
open Idealize.ShloMosaic.Pipeline (Dat)
open Cert.MoeIdeal Cert.MoeIdeal.Gen Cert.MoeIdeal.Block Cert.MoeIdeal.Tables Cert.MoeIdeal.Windows Cert.MoeIdeal.Tile

variable (m : (ℓ : Loc nD τ sig) → Buf (Elt Ideal) ℓ) (hO : Ok m) (c : Dev nD)

/-- An output entry, with the arrays the call was given. -/
abbrev valueAt := value (adm m hO) (V m c main_arg0) (V m c main_arg3) (V m c main_arg4)

theorem lt_N (t : Fin (cfgM m hO).N) : t.val < 92 := t.isLt

include hO in
theorem cond_used (t : Fin (cfgM m hO).N) :
    cond0_1 (grid0.coords t) (word c (grid0.coords t) (tbl m 1)) ↔ 0 < (used (tbl m) (tile t)).toInt := by
  have hw : word (F := Ideal) c (grid0.coords t) (tbl m 1) = used (tbl m) (tile t) := word_eq (adm m hO) t
  rw [hw]
  exact cond_iff (grid0.coords t) _

/-- The output block a tile's second point leaves. -/
theorem after_at (t : Fin (cfgM m hO).N) (ht : t.val % 2 = 1) (r : Fin 512) (d : Fin 1024) (R : Fin 23552)
    (hR : R.val = 512 * (t.val / 2) + r.val) (e : Fin 8) (he : e.val = (expert (tbl m) (tile t)).toNat) :
    (outsAt0 m hO c t.val t.isLt).1 (ix2 r d) = valueAt m hO c (tile t) R e d := by
  have hlt : t.val - 1 < (cfgM m hO).N := by have := t.isLt; omega
  have h0 : ¬ t.val % 2 = 0 := by omega
  have hp0 : (⟨t.val - 1, hlt⟩ : Fin (cfgM m hO).N).val % 2 = 0 := by
    change (t.val - 1) % 2 = 0
    omega
  have hp1 : ¬ (⟨t.val - 1, hlt⟩ : Fin (cfgM m hO).N).val % 2 = 1 := by omega
  refine block_at (adm m hO) (V m c main_arg0) (V m c main_arg3) (V m c main_arg4) ⟨t.val - 1, hlt⟩ t
    (by change t.val - 1 + 1 = t.val; omega) ht (outsAt0 m hO c (t.val - 1) hlt).2 _
    (fun hu => ?_) (fun hu => ?_) (fun hu => ?_) (fun hu => ?_) r d R hR e he
  · refine (congrArg Prod.snd (outsAt0_A m hO c ⟨t.val - 1, hlt⟩ hp0 ((cond_used m hO c _).2 hu) hp1)).trans ?_
    dsimp only
    exact first_valid ..
  · refine (congrArg Prod.snd (outsAt0_B m hO c ⟨t.val - 1, hlt⟩ hp0 (fun h => hu ((cond_used m hO c _).1 h)) hp1)).trans ?_
    dsimp only
    exact first_unused ..
  · refine (congrArg Prod.fst (outsAt0_C m hO c t h0 ((cond_used m hO c _).2 hu) ht)).trans ?_
    dsimp only
    exact second_valid ..
  · refine (congrArg Prod.fst (outsAt0_D m hO c t h0 (fun h => hu ((cond_used m hO c _).1 h)) ht)).trans ?_
    dsimp only
    exact second_unused ..

theorem idx4 (t : Fin (cfgM m hO).N) : ((cfgM m hO).win 4).index t = ![t.val / 2, 0] := by
  have h : ((cfgM m hO).win 4).index t = ![(0#32 + BitVec.ofNat 32 (grid0.coords t 0).val).toNat, 0] := rfl
  have hc : (grid0.coords t 0).val = t.val / 2 := congrArg Fin.val (coord0 t)
  have := lt_N m hO t
  refine h.trans (funext fun a => ?_)
  change Fin 2 at a
  fin_cases a
  · change (0#32 + BitVec.ofNat 32 (grid0.coords t 0).val).toNat = t.val / 2
    rw [hc, BitVec.toNat_add, BitVec.toNat_ofNat]
    change (0 + t.val / 2 % 4294967296) % 4294967296 = t.val / 2
    omega
  · rfl

/-- What a tile's second point writes back, at an index of the block. -/
theorem flushed_at (t : Fin (cfgM m hO).N) (ht : t.val % 2 = 1) (y : S512x1024.Idx) (n : Fin 70656) (d : Fin 1024)
    (k : Fin 46) (R : Fin 23552) (hk : k.val = R.val / 512) (hn : n.val = R.val) (e : Fin 8)
    (hi : (((cfgM m hO).win 4).blk t).view.emb
      (show (((cfgM m hO).win 4).xblock ((cfgM m hO).grid.coords t)).Idx from y) = ix2 n d)
    (he : e.val = (expert (tbl m) k).toNat) :
    (dats m hO 0 c).flushed 4 t (show (((cfgM m hO).win 4).xblock ((cfgM m hO).grid.coords t)).Idx from y)
      = valueAt m hO c k R e d := by
  have e0 : ((((cfgM m hO).win 4).blk t).view.emb
      (show (((cfgM m hO).win 4).xblock ((cfgM m hO).grid.coords t)).Idx from y) (0 : Fin 2)).val
      = 512 * (t.val / 2) + (y 0).val := by
    have h := congrFun (idx4 m hO t) (0 : Fin 2)
    blk_simp
    refine (congrArg (fun x => x * 512 + (y 0).val) h).trans ?_
    change t.val / 2 * 512 + (y 0).val = _
    omega
  have e1 : ((((cfgM m hO).win 4).blk t).view.emb
      (show (((cfgM m hO).win 4).xblock ((cfgM m hO).grid.coords t)).Idx from y) (1 : Fin 2)).val
      = (y 1).val := by
    have h := congrFun (idx4 m hO t) (1 : Fin 2)
    blk_simp
    refine (congrArg (fun x => x * 1024 + (y 1).val) h).trans ?_
    change 0 * 1024 + (y 1).val = _
    omega
  have hr : (y 0).val < 512 := (y 0).isLt
  have hn0 : n.val = 512 * (t.val / 2) + (y 0).val := (congrArg Fin.val (congrFun hi (0 : Fin 2))).symm.trans e0
  have hd0 : d = y 1 := Fin.ext ((congrArg Fin.val (congrFun hi (1 : Fin 2))).symm.trans e1)
  have ht0 : k = tile t := Fin.ext (by
    change k.val = t.val / 2
    omega)
  rw [ht0] at he ⊢
  have hy : y = ix2 (y 0) d := by rw [hd0]; exact eq_ix2 y
  refine Eq.trans ?_ (after_at m hO c t ht (y 0) d R (by omega) e he)
  exact congrArg (outsAt0 m hO c t.val t.isLt).1 hy

/-- The array after the run, at a row of the part. -/
theorem array_at (n : Fin 70656) (d : Fin 1024) (k : Fin 46) (R : Fin 23552) (hk : k.val = R.val / 512)
    (hn : n.val = R.val) (e : Fin 8) (he : e.val = (expert (tbl m) k).toNat) :
    (dats m hO 0 c).arrAt 4 (cfgM m hO).N (ix2 n d) = valueAt m hO c k R e d := by
  have hN : (cfgM m hO).N = 92 := N_0
  have hd := d.isLt
  have hlt : R.val / 512 * 2 + 1 < (cfgM m hO).N := by rw [hN]; omega
  refine (dats m hO 0 c).arrAt_forall_of_flushed 4 (fun i v => ∀ (n : Fin 70656) (d : Fin 1024) (k : Fin 46)
      (R : Fin 23552) (_ : k.val = R.val / 512) (_ : n.val = R.val) (e : Fin 8),
      i = ix2 n d → e.val = (expert (tbl m) k).toNat → v = valueAt m hO c k R e d)
    (fun t hf y n d k R hk hn e hi he => ?_) (cfgM m hO).N
      ⟨R.val / 512 * 2 + 1, hlt⟩ (ix2 n d) hlt ((flush0_4 (adm m hO) _).2 ?_) ?_ n d k R hk hn e rfl he
  · exact flushed_at m hO c t ((flush0_4 (adm m hO) t).1 hf) y n d k R hk hn e hi he
  · change (R.val / 512 * 2 + 1) % 2 = 1
    omega
  · refine (Pipeline.Window.emb_mem_blk_iff ((cfgM m hO).win 4) ⟨R.val / 512 * 2 + 1, hlt⟩ (ix2 n d)).2 (fun a => ?_)
    change Fin 2 at a
    have h := idx4 m hO ⟨R.val / 512 * 2 + 1, hlt⟩
    fin_cases a
    · have h0 := congrFun h (0 : Fin 2)
      change _ = (R.val / 512 * 2 + 1) / 2 at h0
      change ((cfgM m hO).win 4).index _ (0 : Fin 2) * 512 ≤ n.val
        ∧ n.val < ((cfgM m hO).win 4).index _ (0 : Fin 2) * 512 + 512
      rw [h0]
      omega
    · have h1 := congrFun h (1 : Fin 2)
      change _ = 0 at h1
      change ((cfgM m hO).win 4).index _ (1 : Fin 2) * 1024 ≤ d.val
        ∧ d.val < ((cfgM m hO).win 4).index _ (1 : Fin 2) * 1024 + 1024
      rw [h1]
      change 0 * 1024 ≤ d.val ∧ d.val < 0 * 1024 + 1024
      omega

end Cert.MoeIdeal.Array
-- ==== Proof.MoeRef.lean ====
/- The reference of the expert layer at one entry: a row through every expert, each weighed by whether the row's tile
   names it. -/
module

public import proofs.«01_k».proof.Proof.Gen.MoeRefIdeal.Read
public import proofs.«01_k».proof.Proof.MoeMath
public import Idealize.ShloMosaic.Lib.Pointwise
public import Idealize.ShloMosaic.PureOps.Ideal.Laws

@[expose] public section

set_option maxRecDepth 16384

noncomputable section

namespace Cert.MoeRefIdeal.Entry

open Idealize.ShloMosaic Idealize.ShloMosaic.TcCoe
open Cert.MoeRefIdeal Cert.MoeRefIdeal.Gen Cert.MoeRefIdeal.Read Cert.MoeMath

variable (x0 : Vec Ideal S23552x1024 .bf16) (x1 x2 : Vec Ideal S46 .i32)
  (x3 : Vec Ideal S2x8x1024x7168 .bf16) (x4 : Vec Ideal S2x8x3584x1024 .bf16)

/-- Both input projections of a row by an expert. -/
theorem proj_at (n : Fin 23552) (e : Fin 8) (f : Fin 7168) :
    val_main_v4 (F := Ideal) x0 x3 (ix3 n e f)
      = ∑ k : Fin 1024, (x0 (ix2 n k) : EReal) * x3 (ix4 0 e k f) := by
  pointwise [val_main_v4, val_main_v3, val_main_v2, val_main_v1, val_main_v0]

/-- A hidden unit of an expert on a row. -/
theorem hidden_at (n : Fin 23552) (e : Fin 8) (f : Fin 3584) :
    val_main_v8 (F := Ideal) x0 x3 (ix3 n e f)
      = act (∑ k : Fin 1024, (x0 (ix2 n k) : EReal) * x3 (ix4 0 e k ⟨f.val, by omega⟩))
          (∑ k : Fin 1024, (x0 (ix2 n k) : EReal) * x3 (ix4 0 e k ⟨3584 + f.val, by omega⟩)) := by
  pointwise [val_main_v8, val_main_v7, val_main_v6, val_main_v5, val_main_call0_v5, val_main_call0_v4,
    val_main_call0_v3, val_main_call0_v2, val_main_call0_v1, val_main_call0_v0, val_main_call0_cst,
    val_main_call0_cst_0, proj_at]
  exact act_eq _ _

/-- One entry of expert `e`'s output on row `n`. -/
def expertOut (n : Fin 23552) (e : Fin 8) (d : Fin 1024) : EReal :=
  ffn (fun k => x0 (ix2 n k)) (fun k f => x3 (ix4 0 e k ⟨f.val, by omega⟩))
    (fun k f => x3 (ix4 0 e k ⟨3584 + f.val, by omega⟩)) (fun f => x4 (ix4 0 e f d))

/-- Every expert's output on every row. -/
theorem y_at (n : Fin 23552) (e : Fin 8) (d : Fin 1024) :
    val_main_v13 (F := Ideal) x0 x3 x4 (ix3 n e d) = expertOut x0 x3 x4 n e d := by
  pointwise [val_main_v13, val_main_v12, val_main_v11, val_main_v10, val_main_v9]
  unfold expertOut ffn
  exact Finset.sum_congr rfl fun f _ => by rw [hidden_at]; exact mul_comm _ _

/-- An expert's weight on a row: one where the row's tile is in use and names the expert, else zero. -/
theorem weight_at (n : Fin 23552) (e : Fin 8) (d : Fin 1024) :
    val_main_v24 (F := Ideal) x1 x2 (ix3 n e d)
      = if 0 < (x2 (ix1 ⟨n.val / 512, by omega⟩) : BitVec 32).toInt
          ∧ (x1 (ix1 ⟨n.val / 512, by omega⟩) : BitVec 32) = BitVec.ofNat 32 e.val then (1 : EReal) else 0 := by
  pointwise [val_main_v24, val_main_v23, val_main_v22, val_main_v21, val_main_v20, val_main_v19, val_main_v18, val_main_v17,
    val_main_v16, val_main_v15, val_main_v14, val_main_call1_v0, val_main_call1_v1, val_main_call1_v2,
    val_main_call1_v3, val_main_call1_v4, val_main_c, val_main_cst, val_main_call2_v0, val_main_call2_v1, val_main_call2_v2]
  have hz : id (constant (F := Ideal) S_ FTy.f32 0#32) ix0 = (0 : EReal) := Ideal.ofBits_zero .f32
  rw [hz]
  generalize (x2 (ix1 ⟨n.val / 512, _⟩) : BitVec 32) = v
  generalize (x1 (ix1 ⟨n.val / 512, _⟩) : BitVec 32) = w
  have hv : IntOp.cmpi .sgt v 0#32 = BitVec.ofBool (decide (0 < v.toInt)) := by
    simp [IntOp.cmpi, BitVec.slt]
  have hw : IntOp.cmpi .eq w (BitVec.ofNat 32 e.val) = BitVec.ofBool (decide (w = BitVec.ofNat 32 e.val)) := by
    simp [IntOp.cmpi]
    rfl
  have h1 : (FloatOps.uitofp (F := Ideal) FTy.f32 (1#1) : EReal) = 1 := by
    simp [FloatOps.uitofp]
  have h0 : (FloatOps.uitofp (F := Ideal) FTy.f32 (0#1) : EReal) = 0 := by
    simp [FloatOps.uitofp]
  rw [hv, hw]
  by_cases a : 0 < v.toInt
  · by_cases b : w = BitVec.ofNat 32 e.val
    · rw [if_pos ⟨a, b⟩, decide_eq_true a, decide_eq_true b]
      exact h1
    · rw [if_neg (fun h => b h.2), decide_eq_true a, decide_eq_false b]
      exact h0
  · rw [if_neg (fun h => a h.1), decide_eq_false a]
    rfl

/-- A row's sum over the experts: the named expert's output where the row's tile is in use, else zero. -/
theorem sum_at (n : Fin 23552) (d : Fin 1024) (e : Fin 8)
    (he : (x1 (ix1 ⟨n.val / 512, by omega⟩) : BitVec 32).toNat = e.val) :
    val_main_v26 (F := Ideal) x0 x1 x2 x3 x4 (ix2 n d)
      = if 0 < (x2 (ix1 ⟨n.val / 512, by omega⟩) : BitVec 32).toInt then expertOut x0 x3 x4 n e d
        else (0 : EReal) := by
  pointwise [val_main_v26, val_main_v25]
  have hz : val_main_cst_0 (F := Ideal) (Shape.Idx.first h_S_) = (0 : EReal) := Ideal.ofBits_zero .f32
  rw [hz]
  by_cases hu : 0 < (x2 (ix1 ⟨n.val / 512, by omega⟩) : BitVec 32).toInt
  · rw [if_pos hu, ← y_at]
    refine sum_one e (fun e' => val_main_v24 (F := Ideal) x1 x2 (ix3 n e' d))
      (fun e' => val_main_v13 (F := Ideal) x0 x3 x4 (ix3 n e' d)) ?_ (fun e' hne => ?_)
    · change val_main_v24 (F := Ideal) x1 x2 (ix3 n e d) = 1
      rw [weight_at, if_pos]
      refine ⟨hu, BitVec.eq_of_toNat_eq ?_⟩
      rw [BitVec.toNat_ofNat, Nat.mod_eq_of_lt (by omega)]
      exact he
    · change val_main_v24 (F := Ideal) x1 x2 (ix3 n e' d) = 0
      rw [weight_at, if_neg]
      rintro ⟨-, h⟩
      have h' := congrArg BitVec.toNat h
      rw [BitVec.toNat_ofNat, Nat.mod_eq_of_lt (by omega)] at h'
      exact hne (Fin.ext (h'.symm.trans he))
  · rw [if_neg hu]
    refine sum_none (fun e' => val_main_v24 (F := Ideal) x1 x2 (ix3 n e' d))
      (fun e' => val_main_v13 (F := Ideal) x0 x3 x4 (ix3 n e' d)) (fun e' => ?_)
    change val_main_v24 (F := Ideal) x1 x2 (ix3 n e' d) = 0
    rw [weight_at, if_neg (fun h => hu h.1)]

/-- The reference at a row of the first part. -/
theorem out_at (n : Fin 70656) (hn : n.val < 23552) (d : Fin 1024) :
    val_main_v28 (F := Ideal) x0 x1 x2 x3 x4 (ix2 n d)
      = val_main_v26 (F := Ideal) x0 x1 x2 x3 x4 (ix2 ⟨n.val, hn⟩ d) := by
  pointwise [val_main_v28, val_main_v27]
  rw [dif_pos hn]

end Cert.MoeRefIdeal.Entry
-- ==== Proof.MoeTables.lean ====
/- The other calls of the expert kernel carry the two tables of the first over the extended reals, and fetch by them as
   it does: each of their runs has what its pipeline needs where every tile names one of the eight experts. -/
module

public import proofs.«01_k».proof.Defs
public import proofs.«01_k».proof.Proof.MoeIdealTables
public import proofs.«01_k».proof.Proof.Gen.Moe.Frame
public import proofs.«01_k».proof.Proof.Gen.MoeSecond.Frame
public import proofs.«01_k».proof.Proof.Gen.MoeSecondIdeal.Frame
public import proofs.«01_k».proof.Proof.Gen.MoeThird.Frame
public import proofs.«01_k».proof.Proof.Gen.MoeThirdIdeal.Frame
public import proofs.«01_k».proof.Proof.Gen.Pre_experts_in_range
public import proofs.«01_k».proof.Proof.Gen.Pre_next_experts_in_range
public import Idealize.ShloMosaic.Lib.Pointwise

@[expose] public section

set_option maxRecDepth 16384

noncomputable section

namespace Cert

open Idealize.ShloMosaic Idealize.ShloMosaic.TcCoe
open Cert.MoeIdeal.Tables (expert ok_of_lt word_lt)

variable {F : FTy → Type} [FloatOps F]

namespace Moe.Tables

/-- The two tables, as the first call over the extended reals types them. -/
def ret (pf : Cert.Moe.pre0.Contents (Elt F)) : Cert.MoeIdeal.pre0.Contents (Elt F) := fun | 0 => pf 0 | 1 => pf 1

/-- Under the precondition the first call's run over machine numbers has what its pipeline needs. -/
theorem ok_of_pre (m : (ℓ : Loc Cert.Moe.nD Cert.Moe.τ Cert.Moe.sig) → Buf (Elt Bits) ℓ) (h : Cert.Pre_Moe m) :
    Cert.Moe.Gen.Ok m :=
  ok_of_lt (ret (Cert.Moe.Gen.tbl m)) fun k => word_lt _ (congrFun (h 0) (ix1 k))

end Moe.Tables

namespace MoeSecond.Tables

def ret (pf : Cert.MoeSecond.pre0.Contents (Elt F)) : Cert.MoeIdeal.pre0.Contents (Elt F) := fun | 0 => pf 0 | 1 => pf 1

theorem ok_of_pre (m : (ℓ : Loc Cert.MoeSecond.nD Cert.MoeSecond.τ Cert.MoeSecond.sig) → Buf (Elt Bits) ℓ)
    (h : Cert.Pre_MoeSecond m) : Cert.MoeSecond.Gen.Ok m :=
  ok_of_lt (ret (Cert.MoeSecond.Gen.tbl m)) fun k => by
    have e : expert (ret (Cert.MoeSecond.Gen.tbl m)) k = m (((0 : Dev _).tc : Thread _ _).loc Cert.MoeSecond.main_arg1) (ix1 k) :=
      congrFun (Cert.MoeSecond.Gen.V_main_arg1 m 0) (ix1 k)
    rw [e]
    exact word_lt _ (congrFun (h 0) (ix1 k))

end MoeSecond.Tables

namespace MoeThird.Tables

def ret (pf : Cert.MoeThird.pre0.Contents (Elt F)) : Cert.MoeIdeal.pre0.Contents (Elt F) := fun | 0 => pf 0 | 1 => pf 1

theorem ok_of_pre (m : (ℓ : Loc Cert.MoeThird.nD Cert.MoeThird.τ Cert.MoeThird.sig) → Buf (Elt Bits) ℓ)
    (h : Cert.Pre_MoeThird m) : Cert.MoeThird.Gen.Ok m :=
  ok_of_lt (ret (Cert.MoeThird.Gen.tbl m)) fun k => by
    have e : expert (ret (Cert.MoeThird.Gen.tbl m)) k = m (((0 : Dev _).tc : Thread _ _).loc Cert.MoeThird.main_arg1) (ix1 k) :=
      congrFun (Cert.MoeThird.Gen.V_main_arg1 m 0) (ix1 k)
    rw [e]
    exact word_lt _ (congrFun (h 0) (ix1 k))

end MoeThird.Tables

namespace MoeSecondIdeal.Tables

open Cert.MoeSecondIdeal Cert.MoeSecondIdeal.Gen

variable (m : (ℓ : Loc nD τ sig) → Buf (Elt Ideal) ℓ)

def ret (pf : pre0.Contents (Elt F)) : Cert.MoeIdeal.pre0.Contents (Elt F) := fun | 0 => pf 0 | 1 => pf 1

theorem expert_eq (k : Fin 46) : expert (ret (tbl m)) k = m (((0 : Dev nD).tc : Thread nD τ).loc main_arg1) (ix1 k) :=
  congrFun (V_main_arg1 m 0) (ix1 k)

theorem used_eq (k : Fin 46) :
    Cert.MoeIdeal.Tables.used (ret (tbl m)) k = m (((0 : Dev nD).tc : Thread nD τ).loc main_arg2) (ix1 k) :=
  congrFun (V_main_arg2 m 0) (ix1 k)

theorem expert_lt (h : Cert.Pre_MoeSecondIdeal m) (k : Fin 46) : (expert (ret (tbl m)) k).toNat < 8 := by
  rw [expert_eq]
  exact word_lt _ (congrFun (h 0) (ix1 k))

theorem ok_of_pre (h : Cert.Pre_MoeSecondIdeal m) : Ok m := ok_of_lt (ret (tbl m)) (expert_lt m h)

end MoeSecondIdeal.Tables

namespace MoeThirdIdeal.Tables

open Cert.MoeThirdIdeal Cert.MoeThirdIdeal.Gen

variable (m : (ℓ : Loc nD τ sig) → Buf (Elt Ideal) ℓ)

def ret (pf : pre0.Contents (Elt F)) : Cert.MoeIdeal.pre0.Contents (Elt F) := fun | 0 => pf 0 | 1 => pf 1

theorem expert_eq (k : Fin 46) : expert (ret (tbl m)) k = m (((0 : Dev nD).tc : Thread nD τ).loc main_arg1) (ix1 k) :=
  congrFun (V_main_arg1 m 0) (ix1 k)

theorem used_eq (k : Fin 46) :
    Cert.MoeIdeal.Tables.used (ret (tbl m)) k = m (((0 : Dev nD).tc : Thread nD τ).loc main_arg2) (ix1 k) :=
  congrFun (V_main_arg2 m 0) (ix1 k)

theorem expert_lt (h : Cert.Pre_MoeThirdIdeal m) (k : Fin 46) : (expert (ret (tbl m)) k).toNat < 8 := by
  rw [expert_eq]
  exact word_lt _ (congrFun (h 0) (ix1 k))

theorem ok_of_pre (h : Cert.Pre_MoeThirdIdeal m) : Ok m := ok_of_lt (ret (tbl m)) (expert_lt m h)

end MoeThirdIdeal.Tables

end Cert
-- ==== Proof.MoeClaim.lean ====
/- The experts' claims: the runs, and the equality with the reference at the rows of the first part. -/
module

public import proofs.«01_k».proof.Defs
public import proofs.«01_k».proof.Proof.MoeArray
public import proofs.«01_k».proof.Proof.MoeRef
public import proofs.«01_k».proof.Proof.MoeTables
public import proofs.«01_k».proof.Proof.MoeIdealTables
public import proofs.«01_k».proof.Proof.Gen.Moe
public import proofs.«01_k».proof.Proof.Gen.Moe.Frame
public import proofs.«01_k».proof.Proof.Gen.MoeIdeal.Frame
public import proofs.«01_k».proof.Proof.Gen.MoeRefIdeal.Run
public import proofs.«01_k».proof.Proof.Gen.Pre_experts_in_range
public import proofs.«01_k».proof.Proof.Gen.On_first_part
public import Idealize.ShloMosaic.Lib.Quiescent
public import Idealize.ShloMosaic.Lib.Pointwise

@[expose] public section

set_option maxRecDepth 16384

noncomputable section

namespace Cert.MoeClaim

open Idealize.ShloMosaic Idealize.ShloMosaic.TcCoe Idealize.SL.Sem

/-- With its experts in range the kernel runs, leaves its arguments as they were and ends with every counter at
    zero. -/
theorem frame_Moe : Cert.quiescent_Moe := fun m g h => Cert.Moe.Gen.frame m g (Cert.Moe.Tables.ok_of_pre m h)

/-- So does the kernel read over the extended reals. -/
theorem frame_MoeIdeal : Cert.quiescent_MoeIdeal :=
  fun m g h => Cert.MoeIdeal.Gen.frame m g (Cert.MoeIdeal.Tables.ok_of_pre m h)

/-- The reference runs and leaves its arguments as they were, whatever they are. -/
theorem frame_MoeRefIdeal : Cert.quiescent_MoeRefIdeal := fun m g _ =>
  (θ_run _ _ _).mono (fun r h => ⟨fun c => (h c).2, sem_eq_zero_of_no_sems (by decide) r.2⟩)
    (Cert.MoeRefIdeal.Value.run m g)

/-- So it does where the experts are in range. -/
theorem frame_MoeRefIdeal_range : Cert.quiescent_MoeRefIdeal_pre_experts_in_range := fun m g _ =>
  frame_MoeRefIdeal m g trivial

/-- The kernel has no named constant. -/
theorem preserves : Cert.preserves_Moe_MoeIdeal := trivial

section Mask

open Cert.On_first_part

variable (x0 : Vec Ideal S23552x1024 .bf16) (x1 x2 : Vec Ideal S46 .i32) (x3 : Vec Ideal S2x8x1024x7168 .bf16)
  (x4 : Vec Ideal S2x8x3584x1024 .bf16)

/-- A row the mask marks is one of the first part's 23552. -/
theorem first_part_row (n : Fin 70656) (d : Fin 1024)
    (h : Cert.On_first_part.fn (F := Ideal) x0 x1 x2 x3 x4 (ix2 n d) = 1#1) : n.val < 23552 := by
  simp only [Cert.On_first_part.fn] at h
  pointwise at h
  have hn := n.isLt
  rw [IntOp.cmpi_slt, BitVec.toInt_eq_toNat_of_lt (by rw [BitVec.toNat_ofNat]; omega),
    BitVec.toNat_ofNat, Nat.mod_eq_of_lt (by omega)] at h
  have e : (23552#32 : BitVec 32).toInt = 23552 := by decide
  rw [e] at h
  exact_mod_cast h

end Mask

open Cert.MoeIdeal Cert.MoeIdeal.Gen Cert.MoeIdeal.Tables in
/-- At a row of the first part the array the kernel leaves and the reference's value are one number. -/
theorem agree (m : (ℓ : Loc nD τ sig) → Buf (Elt Ideal) ℓ) (h : Cert.Pre_MoeIdeal m) (c : Dev nD)
    (n : Fin 70656) (d : Fin 1024) (hn : n.val < 23552) :
    (dats m (ok_of_pre m h) 0 c).arrAt 4 (cfgM m (ok_of_pre m h)).N (ix2 n d)
      = Cert.MoeRefIdeal.Read.val_main_v28 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (ix2 n d) := by
  obtain rfl : c = 0 := Subsingleton.elim _ _
  have hk : n.val / 512 < 46 := by omega
  have he := expert_lt m h ⟨n.val / 512, hk⟩
  exact (Cert.MoeIdeal.Array.array_at m (ok_of_pre m h) 0 n d ⟨n.val / 512, hk⟩ ⟨n.val, hn⟩ rfl rfl ⟨_, he⟩ rfl).trans
    ((Cert.MoeRefIdeal.Entry.out_at _ _ _ _ _ n hn d).trans
      (Cert.MoeRefIdeal.Entry.sum_at _ _ _ _ _ ⟨n.val, hn⟩ d ⟨_, he⟩ rfl)).symm

/-- From equal arguments, the experts in range, kernel and reference end with one array at the rows of the first part,
    and their arguments as they were. -/
theorem algebraic : Cert.algebraic_MoeIdeal_MoeRefIdeal_on_first_part := by
  intro m g m' g' hpre hagree
  have hO := Cert.MoeIdeal.Tables.ok_of_pre m hpre
  refine ⟨fun c => Cert.MoeRefIdeal.Read.val_main_v28 (F := Ideal)
      (m ((c.tc : Thread _ _).loc Cert.MoeIdeal.main_arg0)) (m ((c.tc : Thread _ _).loc Cert.MoeIdeal.main_arg1))
      (m ((c.tc : Thread _ _).loc Cert.MoeIdeal.main_arg2)) (m ((c.tc : Thread _ _).loc Cert.MoeIdeal.main_arg3))
      (m ((c.tc : Thread _ _).loc Cert.MoeIdeal.main_arg4)),
    (θ_run _ _ _).mono (fun r h c => ⟨fun i hi => ?_, (h.2 c)⟩)
      (θ_run_and (Cert.MoeIdeal.Gen.run_main m g hO) (Cert.MoeIdeal.Gen.unchanged m g hO)),
    (θ_run _ _ _).mono (fun r h c => ⟨fun i hi => ?_, (h c).2⟩) (Cert.MoeRefIdeal.Value.run m' g')⟩
  · obtain ⟨n, d, rfl⟩ : ∃ n d, i = ix2 n d := ⟨_, _, eq_ix2 i⟩
    exact (congrFun ((h.1 c).1 4) _).trans (agree m hpre c n d (first_part_row _ _ _ _ _ n d hi))
  · refine (congrFun (h c).1 i).trans ?_
    rw [Cert.MoeRefIdeal.Read.val_main_v28_eq, (hagree c).1, (hagree c).2.1, (hagree c).2.2.1, (hagree c).2.2.2.1,
      (hagree c).2.2.2.2]

end Cert.MoeClaim
-- ==== Proof.MoeSecondBlock.lean ====
/- What one grid point of the expert kernel's second call leaves in its accumulator and in its output block. -/
module

public import proofs.«01_k».proof.Proof.Gen.MoeSecondIdeal.Frame
public import proofs.«01_k».proof.Proof.MoeBlock
public import Idealize.ShloMosaic.Lib.Pipeline.Value
public import Idealize.ShloMosaic.Lib.Pipeline.ValueKit

@[expose] public section

set_option maxRecDepth 16384

noncomputable section

namespace Cert.MoeSecondIdeal.Block

open Idealize.ShloMosaic Idealize.ShloMosaic.TcCoe
open Idealize.ShloMosaic.Pipeline
open Cert.MoeSecondIdeal.Gen
open Cert.MoeIdeal.Block (z2 z4)

variable {F : FTy → Type} [FloatOps F]

variable (c : Dev nD) (i : grid0.Coords)
  (arg4 : Memref sig .tc .vmem S512x1024 .bf16) (harg4 : arg4.IsWhole)
  (arg5 : Memref sig .tc .vmem S1x1x1024x1792 .bf16) (harg5 : arg5.IsWhole)
  (arg6 : Memref sig .tc .vmem S1x1x1024x1792 .bf16) (harg6 : arg6.IsWhole)
  (arg7 : Memref sig .tc .vmem S1x1x1792x1024 .bf16) (harg7 : arg7.IsWhole)
  (arg9 : Memref sig .tc .vmem S512x1024 .bf16) (harg9 : arg9.IsWhole)
  (arg10 : Memref sig .tc .vmem S512x1024 .f32) (harg10 : arg10.IsWhole)
  (x0 : Vec F S512x1024 .bf16) (x1 : Vec F S1x1x1024x1792 .bf16) (x2 : Vec F S1x1x1024x1792 .bf16)
  (x3 : Vec F S1x1x1792x1024 .bf16) (xt0 : TbBuf0 (F := F) c tbM0_0) (xt1 : TbBuf0 (F := F) c tbM0_1)
  (xs0 : Vec F S512x1024 .f32)

/-- The word of the second table at a grid point, as the body reads it. -/
abbrev word (i : grid0.Coords) (xt1 : TbBuf0 (F := F) c tbM0_1) : BitVec 32 :=
  tbM0_1.view.readAt (Elt F) (Rect.unit (s := S46) (k0_off1 i) S1.size (k0_off1_inb i)).toLoadRect xt1
    (Shape.Idx.first (numel1_S1.symm ▸ Nat.one_pos))

/-- The accumulator after the first half of the hidden units of a tile in use. -/
theorem first_valid (hc0 : cond0_0 i) (hc2 : ¬cond0_2 i) (hc1 : cond0_1 i (word c i xt1)) :
    sout0_A_0 c i arg4 harg4 arg5 harg5 arg6 harg6 arg7 harg7 arg9 harg9 arg10 harg10 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg9 harg9 arg10 harg10 hc0 hc2 x0 x1 x2 x3 xt0 xt1 hc1)]
  unfold kernelRun0_A
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The accumulator after the first point of a tile that is not in use. -/
theorem first_unused (hc0 : cond0_0 i) (hc2 : ¬cond0_2 i) (hc1 : ¬cond0_1 i (word c i xt1)) :
    sout0_B_0 c i arg4 harg4 arg5 harg5 arg6 harg6 arg7 harg7 arg9 harg9 arg10 harg10 hc0 hc2 x0 x1 x2 x3 xt0 xt1 hc1 = k0_pay1 := by
  unfold sout0_B_0
  rw [View.read_writes_eq_canon _ _ _ (scover0_B_0 c i arg4 harg4 arg5 harg5 arg6 harg6 arg7 harg7 arg9 harg9 arg10 harg10 hc0 hc2 x0 x1 x2 x3 xt0 xt1 hc1)]
  unfold kernelRun0_B
  dsimp only
  sl_unfold_words
  rw [View.canon_cons_unit_zero (S := S512x1024) z2]

/-- The output block of a tile in use: both halves of the hidden units. -/
theorem second_valid (hc0 : ¬cond0_0 i) (hc2 : cond0_2 i) (hc1 : cond0_1 i (word c i xt1)) :
    out0_C_4 c i arg4 harg4 arg5 harg5 arg6 harg6 arg7 harg7 arg9 harg9 arg10 harg10 hc0 hc2 x0 x1 x2 x3 xt0 xt1 xs0 hc1 = k0_pay3 (k0_pay2 x0 x1 x2 xs0 x3) := by
  unfold out0_C_4
  rw [View.read_writes_eq_canon _ _ _ (cover0_C_4 c i arg4 harg4 arg5 harg5 arg6 harg6 arg7 harg7 arg9 harg9 arg10 harg10 hc0 hc2 x0 x1 x2 x3 xt0 xt1 xs0 hc1)]
  unfold kernelRun0_C
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The output block of a tile that is not in use. -/
theorem second_unused (hc0 : ¬cond0_0 i) (hc2 : cond0_2 i) (hc1 : ¬cond0_1 i (word c i xt1)) :
    out0_D_4 c i arg4 harg4 arg5 harg5 arg6 harg6 arg7 harg7 arg9 harg9 arg10 harg10 hc0 hc2 x0 x1 x2 x3 xt0 xt1 xs0 hc1 = k0_pay3 xs0 := by
  unfold out0_D_4
  rw [View.read_writes_eq_canon _ _ _ (cover0_D_4 c i arg4 harg4 arg5 harg5 arg6 harg6 arg7 harg7 arg9 harg9 arg10 harg10 hc0 hc2 x0 x1 x2 x3 xt0 xt1 xs0 hc1)]
  unfold kernelRun0_D
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

end Cert.MoeSecondIdeal.Block
-- ==== Proof.MoeSecondArray.lean ====
/- The array the second call of the expert kernel leaves, over the extended reals: at the rows of the second part the named
   expert's output on each row of a tile in use, and zero on the rows of any other tile; at every other row what the array
   held before. -/
module

public import proofs.«01_k».proof.Proof.MoeSecondBlock
public import proofs.«01_k».proof.Proof.MoeTile
public import proofs.«01_k».proof.Proof.MoeTables

@[expose] public section

set_option maxRecDepth 16384

noncomputable section

namespace Cert.MoeSecondIdeal.Array

open Idealize.ShloMosaic Idealize.ShloMosaic.TcCoe
open Idealize.ShloMosaic.Pipeline (Dat)
open Cert.MoeSecondIdeal Cert.MoeSecondIdeal.Gen Cert.MoeSecondIdeal.Block Cert.MoeSecondIdeal.Tables
open Cert.MoeIdeal.Tables (expert used)
open Cert.MoeIdeal.Windows (tile coord0)
open Cert.MoeIdeal.Tile (value word_eq cond_iff block_at)

variable (m : (ℓ : Loc nD τ sig) → Buf (Elt Ideal) ℓ) (hO : Ok m) (c : Dev nD)

/-- This call's tables, as the first call's pipeline takes them. -/
abbrev base : (Cert.MoeIdeal.pcfg0 (F := Ideal)).Adm := ⟨ret (tbl m), hO⟩

/-- An output entry, with the arrays the call was given. -/
abbrev valueAt := value (base m hO) (V m c main_arg0) (V m c main_arg3) (V m c main_arg4)

theorem lt_N (t : Fin (cfgM m hO).N) : t.val < 92 := t.isLt

include hO in
theorem cond_used (t : Fin (cfgM m hO).N) :
    cond0_1 (grid0.coords t) (word c (grid0.coords t) (tbl m 1)) ↔ 0 < (used (ret (tbl m)) (tile t)).toInt := by
  have hw : word (F := Ideal) c (grid0.coords t) (tbl m 1) = used (ret (tbl m)) (tile t) := word_eq (base m hO) t
  rw [hw]
  exact cond_iff (grid0.coords t) _

/-- The output block a tile's second point leaves. -/
theorem after_at (t : Fin (cfgM m hO).N) (ht : t.val % 2 = 1) (r : Fin 512) (d : Fin 1024) (R : Fin 23552)
    (hR : R.val = 512 * (t.val / 2) + r.val) (e : Fin 8) (he : e.val = (expert (ret (tbl m)) (tile t)).toNat) :
    (outsAt0 m hO c t.val t.isLt).1 (ix2 r d) = valueAt m hO c (tile t) R e d := by
  have hlt : t.val - 1 < (cfgM m hO).N := by have := t.isLt; omega
  have h0 : ¬ t.val % 2 = 0 := by omega
  have hp0 : (⟨t.val - 1, hlt⟩ : Fin (cfgM m hO).N).val % 2 = 0 := by
    change (t.val - 1) % 2 = 0
    omega
  have hp1 : ¬ (⟨t.val - 1, hlt⟩ : Fin (cfgM m hO).N).val % 2 = 1 := by omega
  refine block_at (base m hO) (V m c main_arg0) (V m c main_arg3) (V m c main_arg4) ⟨t.val - 1, hlt⟩ t
    (by change t.val - 1 + 1 = t.val; omega) ht (outsAt0 m hO c (t.val - 1) hlt).2 _
    (fun hu => ?_) (fun hu => ?_) (fun hu => ?_) (fun hu => ?_) r d R hR e he
  · refine (congrArg Prod.snd (outsAt0_A m hO c ⟨t.val - 1, hlt⟩ hp0 ((cond_used m hO c _).2 hu) hp1)).trans ?_
    dsimp only
    exact first_valid ..
  · refine (congrArg Prod.snd (outsAt0_B m hO c ⟨t.val - 1, hlt⟩ hp0 (fun h => hu ((cond_used m hO c _).1 h)) hp1)).trans ?_
    dsimp only
    exact first_unused ..
  · refine (congrArg Prod.fst (outsAt0_C m hO c t h0 ((cond_used m hO c _).2 hu) ht)).trans ?_
    dsimp only
    exact second_valid ..
  · refine (congrArg Prod.fst (outsAt0_D m hO c t h0 (fun h => hu ((cond_used m hO c _).1 h)) ht)).trans ?_
    dsimp only
    exact second_unused ..

theorem idx4 (t : Fin (cfgM m hO).N) : ((cfgM m hO).win 4).index t = ![46 + t.val / 2, 0] := by
  have h : ((cfgM m hO).win 4).index t = ![(46#32 + BitVec.ofNat 32 (grid0.coords t 0).val).toNat, 0] := rfl
  have hc : (grid0.coords t 0).val = t.val / 2 := congrArg Fin.val (coord0 t)
  have := lt_N m hO t
  refine h.trans (funext fun a => ?_)
  change Fin 2 at a
  fin_cases a
  · change (46#32 + BitVec.ofNat 32 (grid0.coords t 0).val).toNat = 46 + t.val / 2
    rw [hc, BitVec.toNat_add, BitVec.toNat_ofNat]
    change (46 + t.val / 2 % 4294967296) % 4294967296 = 46 + t.val / 2
    omega
  · rfl

/-- What a tile's second point writes back, at an index of the block. -/
theorem flushed_at (t : Fin (cfgM m hO).N) (ht : t.val % 2 = 1) (y : S512x1024.Idx) (n : Fin 70656) (d : Fin 1024)
    (k : Fin 46) (R : Fin 23552) (hk : k.val = R.val / 512) (hn : n.val = 23552 + R.val) (e : Fin 8)
    (hi : (((cfgM m hO).win 4).blk t).view.emb
      (show (((cfgM m hO).win 4).xblock ((cfgM m hO).grid.coords t)).Idx from y) = ix2 n d)
    (he : e.val = (expert (ret (tbl m)) k).toNat) :
    (dats m hO 0 c).flushed 4 t (show (((cfgM m hO).win 4).xblock ((cfgM m hO).grid.coords t)).Idx from y)
      = valueAt m hO c k R e d := by
  have e0 : ((((cfgM m hO).win 4).blk t).view.emb
      (show (((cfgM m hO).win 4).xblock ((cfgM m hO).grid.coords t)).Idx from y) (0 : Fin 2)).val
      = 512 * (46 + t.val / 2) + (y 0).val := by
    have h := congrFun (idx4 m hO t) (0 : Fin 2)
    blk_simp
    refine (congrArg (fun x => x * 512 + (y 0).val) h).trans ?_
    change (46 + t.val / 2) * 512 + (y 0).val = _
    omega
  have e1 : ((((cfgM m hO).win 4).blk t).view.emb
      (show (((cfgM m hO).win 4).xblock ((cfgM m hO).grid.coords t)).Idx from y) (1 : Fin 2)).val
      = (y 1).val := by
    have h := congrFun (idx4 m hO t) (1 : Fin 2)
    blk_simp
    refine (congrArg (fun x => x * 1024 + (y 1).val) h).trans ?_
    change 0 * 1024 + (y 1).val = _
    omega
  have hr : (y 0).val < 512 := (y 0).isLt
  have hn0 : n.val = 512 * (46 + t.val / 2) + (y 0).val := (congrArg Fin.val (congrFun hi (0 : Fin 2))).symm.trans e0
  have hd0 : d = y 1 := Fin.ext ((congrArg Fin.val (congrFun hi (1 : Fin 2))).symm.trans e1)
  have ht0 : k = tile t := Fin.ext (by
    change k.val = t.val / 2
    omega)
  rw [ht0] at he ⊢
  have hy : y = ix2 (y 0) d := by rw [hd0]; exact eq_ix2 y
  refine Eq.trans ?_ (after_at m hO c t ht (y 0) d R (by omega) e he)
  exact congrArg (outsAt0 m hO c t.val t.isLt).1 hy

/-- The array after the run, at a row of the part. -/
theorem array_at (n : Fin 70656) (d : Fin 1024) (k : Fin 46) (R : Fin 23552) (hk : k.val = R.val / 512)
    (hn : n.val = 23552 + R.val) (e : Fin 8) (he : e.val = (expert (ret (tbl m)) k).toNat) :
    (dats m hO 0 c).arrAt 4 (cfgM m hO).N (ix2 n d) = valueAt m hO c k R e d := by
  have hN : (cfgM m hO).N = 92 := N_0
  have hd := d.isLt
  have hlt : R.val / 512 * 2 + 1 < (cfgM m hO).N := by rw [hN]; omega
  refine (dats m hO 0 c).arrAt_forall_of_flushed 4 (fun i v => ∀ (n : Fin 70656) (d : Fin 1024) (k : Fin 46)
      (R : Fin 23552) (_ : k.val = R.val / 512) (_ : n.val = 23552 + R.val) (e : Fin 8),
      i = ix2 n d → e.val = (expert (ret (tbl m)) k).toNat → v = valueAt m hO c k R e d)
    (fun t hf y n d k R hk hn e hi he => ?_) (cfgM m hO).N
      ⟨R.val / 512 * 2 + 1, hlt⟩ (ix2 n d) hlt ((flush0_4 (adm m hO) _).2 ?_) ?_ n d k R hk hn e rfl he
  · exact flushed_at m hO c t ((flush0_4 (adm m hO) t).1 hf) y n d k R hk hn e hi he
  · change (R.val / 512 * 2 + 1) % 2 = 1
    omega
  · refine (Pipeline.Window.emb_mem_blk_iff ((cfgM m hO).win 4) ⟨R.val / 512 * 2 + 1, hlt⟩ (ix2 n d)).2 (fun a => ?_)
    change Fin 2 at a
    have h := idx4 m hO ⟨R.val / 512 * 2 + 1, hlt⟩
    fin_cases a
    · have h0 := congrFun h (0 : Fin 2)
      change _ = 46 + (R.val / 512 * 2 + 1) / 2 at h0
      change ((cfgM m hO).win 4).index _ (0 : Fin 2) * 512 ≤ n.val
        ∧ n.val < ((cfgM m hO).win 4).index _ (0 : Fin 2) * 512 + 512
      rw [h0]
      omega
    · have h1 := congrFun h (1 : Fin 2)
      change _ = 0 at h1
      change ((cfgM m hO).win 4).index _ (1 : Fin 2) * 1024 ≤ d.val
        ∧ d.val < ((cfgM m hO).win 4).index _ (1 : Fin 2) * 1024 + 1024
      rw [h1]
      change 0 * 1024 ≤ d.val ∧ d.val < 0 * 1024 + 1024
      omega

/-- What the output array holds before the grid: what the call was handed. -/
theorem V_main_v0 : V m c main_v0 = m ((c.tc : Thread nD τ).loc main_arg5) := by
  funext i
  entry_read
  rfl

/-- The array after the run, at any other row. -/
theorem rest_at (n : Fin 70656) (d : Fin 1024) (hn : n.val < 23552 ∨ 47104 ≤ n.val) :
    (dats m hO 0 c).arrAt 4 (cfgM m hO).N (ix2 n d) = m ((c.tc : Thread nD τ).loc main_arg5) (ix2 n d) := by
  refine ((dats m hO 0 c).arrAt_apply_of_forall_not_mem 4 _ (ix2 n d) (fun t _ _ hm => ?_)).trans
    ((congrFun (A_eq m hO c 4) _).trans (congrFun (V_main_v0 m c) _))
  have h := (Pipeline.Window.emb_mem_blk_iff ((cfgM m hO).win 4) t (ix2 n d)).1 hm (0 : Fin 2)
  have h0 := congrFun (idx4 m hO t) (0 : Fin 2)
  change _ = 46 + t.val / 2 at h0
  change ((cfgM m hO).win 4).index _ (0 : Fin 2) * 512 ≤ n.val
    ∧ n.val < ((cfgM m hO).win 4).index _ (0 : Fin 2) * 512 + 512 at h
  rw [h0] at h
  have := lt_N m hO t
  omega

end Cert.MoeSecondIdeal.Array
-- ==== Proof.MoeSecondRef.lean ====
/- The reference of the expert layer's second part at one entry: the experts' sum at a row of the part, and at any other row
   what the array held before. -/
module

public import proofs.«01_k».proof.Proof.Gen.MoeSecondRefIdeal.Read
public import proofs.«01_k».proof.Proof.MoeRef
public import Idealize.ShloMosaic.Lib.Pointwise

@[expose] public section

set_option maxRecDepth 16384

noncomputable section

namespace Cert.MoeSecondRefIdeal.Entry

open Idealize.ShloMosaic Idealize.ShloMosaic.TcCoe
open Cert.MoeSecondRefIdeal Cert.MoeSecondRefIdeal.Gen Cert.MoeSecondRefIdeal.Read
open Cert.MoeRefIdeal.Entry (expertOut)

variable (x0 : Vec Ideal S23552x1024 .bf16) (x1 x2 : Vec Ideal S46 .i32)
  (x3 : Vec Ideal S2x8x1024x7168 .bf16) (x4 : Vec Ideal S2x8x3584x1024 .bf16) (x5 : Vec Ideal S70656x1024 .bf16)

/-- The sum over the experts is the first part's, on this part's rows. -/
theorem sum_eq : val_main_v26 (F := Ideal) x0 x1 x2 x3 x4
    = Cert.MoeRefIdeal.Read.val_main_v26 (F := Ideal) x0 x1 x2 x3 x4 := rfl

/-- The reference at a row of this part: the named expert's output where the row's tile is in use, else zero. -/
theorem out_at (n : Fin 70656) (d : Fin 1024) (R : Fin 23552) (hn : n.val = 23552 + R.val) (e : Fin 8)
    (he : (x1 (ix1 ⟨R.val / 512, by omega⟩) : BitVec 32).toNat = e.val) :
    val_main_v32 (F := Ideal) x0 x1 x2 x3 x4 x5 (ix2 n d)
      = if 0 < (x2 (ix1 ⟨R.val / 512, by omega⟩) : BitVec 32).toInt then expertOut x0 x3 x4 R e d else (0 : EReal) := by
  rw [← Cert.MoeRefIdeal.Entry.sum_at x0 x1 x2 x3 x4 R d e he, ← sum_eq]
  pointwise [val_main_v32, val_main_v31, val_main_v30, val_main_v29, val_main_v28, val_main_v27]
  have hr : (⟨n.val - 23552, by omega⟩ : Fin 23552) = R := Fin.ext (by change n.val - 23552 = R.val; omega)
  rw [dif_neg (by omega), dif_pos (by omega), hr]

/-- The reference at any other row. -/
theorem rest_at (n : Fin 70656) (d : Fin 1024) (hn : n.val < 23552 ∨ 47104 ≤ n.val) :
    val_main_v32 (F := Ideal) x0 x1 x2 x3 x4 x5 (ix2 n d) = x5 (ix2 n d) := by
  pointwise [val_main_v32, val_main_v31, val_main_v30, val_main_v29, val_main_v28, val_main_v27]
  rcases hn with hn | hn
  · rw [dif_pos hn]
  · have hr : (⟨47104 + (n.val - 23552 - 23552), by omega⟩ : Fin 70656) = n := Fin.ext (by
      change 47104 + (n.val - 23552 - 23552) = n.val
      omega)
    rw [dif_neg (by omega), dif_neg (by omega), hr]

end Cert.MoeSecondRefIdeal.Entry
-- ==== Proof.MoeSecondClaim.lean ====
/- The claims of the experts' second call: the runs, and the equality with the reference at every entry. -/
module

public import proofs.«01_k».proof.Defs
public import proofs.«01_k».proof.Proof.MoeSecondArray
public import proofs.«01_k».proof.Proof.MoeSecondRef
public import proofs.«01_k».proof.Proof.MoeTables
public import proofs.«01_k».proof.Proof.Gen.MoeSecond
public import proofs.«01_k».proof.Proof.Gen.MoeSecond.Frame
public import proofs.«01_k».proof.Proof.Gen.MoeSecondIdeal.Frame
public import proofs.«01_k».proof.Proof.Gen.MoeSecondRefIdeal.Run
public import proofs.«01_k».proof.Proof.Gen.Pre_next_experts_in_range
public import Idealize.ShloMosaic.Lib.Quiescent
public import Idealize.ShloMosaic.Lib.Pointwise

@[expose] public section

set_option maxRecDepth 16384

noncomputable section

namespace Cert.MoeSecondClaim

open Idealize.ShloMosaic Idealize.ShloMosaic.TcCoe Idealize.SL.Sem

/-- With its experts in range the kernel runs, leaves its arguments as they were and ends with every counter at
    zero. -/
theorem frame_MoeSecond : Cert.quiescent_MoeSecond :=
  fun m g h => Cert.MoeSecond.Gen.frame m g (Cert.MoeSecond.Tables.ok_of_pre m h)

/-- So does the kernel read over the extended reals. -/
theorem frame_MoeSecondIdeal : Cert.quiescent_MoeSecondIdeal :=
  fun m g h => Cert.MoeSecondIdeal.Gen.frame m g (Cert.MoeSecondIdeal.Tables.ok_of_pre m h)

/-- The reference runs and leaves its arguments as they were, whatever they are. -/
theorem frame_MoeSecondRefIdeal : Cert.quiescent_MoeSecondRefIdeal := fun m g _ =>
  (θ_run _ _ _).mono (fun r h => ⟨fun c => (h c).2, sem_eq_zero_of_no_sems (by decide) r.2⟩)
    (Cert.MoeSecondRefIdeal.Value.run m g)

/-- So it does where the experts are in range. -/
theorem frame_MoeSecondRefIdeal_range : Cert.quiescent_MoeSecondRefIdeal_pre_next_experts_in_range := fun m g _ =>
  frame_MoeSecondRefIdeal m g trivial

/-- The kernel has no named constant. -/
theorem preserves : Cert.preserves_MoeSecond_MoeSecondIdeal := trivial

open Cert.MoeSecondIdeal Cert.MoeSecondIdeal.Gen Cert.MoeSecondIdeal.Tables in
/-- The array the kernel leaves and the reference's value are one. -/
theorem agree (m : (ℓ : Loc nD τ sig) → Buf (Elt Ideal) ℓ) (h : Cert.Pre_MoeSecondIdeal m) (c : Dev nD)
    (n : Fin 70656) (d : Fin 1024) :
    (dats m (ok_of_pre m h) 0 c).arrAt 4 (cfgM m (ok_of_pre m h)).N (ix2 n d)
      = Cert.MoeSecondRefIdeal.Read.val_main_v32 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (ix2 n d) := by
  obtain rfl : c = 0 := Subsingleton.elim _ _
  have hlt := n.isLt
  by_cases hn : n.val < 23552 ∨ 47104 ≤ n.val
  · exact (Cert.MoeSecondIdeal.Array.rest_at m (ok_of_pre m h) 0 n d hn).trans
      (Cert.MoeSecondRefIdeal.Entry.rest_at _ _ _ _ _ _ n d hn).symm
  · have hR : n.val - 23552 < 23552 := by omega
    have hk : (n.val - 23552) / 512 < 46 := by omega
    have hs : n.val = 23552 + (n.val - 23552) := by omega
    have he := expert_lt m h ⟨(n.val - 23552) / 512, hk⟩
    have a := Cert.MoeSecondIdeal.Array.array_at m (ok_of_pre m h) 0 n d ⟨(n.val - 23552) / 512, hk⟩ ⟨n.val - 23552, hR⟩
      rfl hs ⟨_, he⟩ rfl
    have r := Cert.MoeSecondRefIdeal.Entry.out_at (m (((0 : Dev nD).tc : Thread nD τ).loc main_arg0))
      (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4))
      (m (((0 : Dev nD).tc : Thread nD τ).loc main_arg5)) n d ⟨n.val - 23552, hR⟩ hs ⟨_, he⟩
      (congrArg BitVec.toNat (expert_eq m ⟨(n.val - 23552) / 512, hk⟩).symm)
    refine a.trans (Eq.trans ?_ r.symm)
    dsimp only [Cert.MoeSecondIdeal.Array.valueAt, Cert.MoeIdeal.Tile.value]
    rw [used_eq, V_main_arg0, V_main_arg3, V_main_arg4]
    rfl

/-- From equal arguments, the experts in range, kernel and reference end with one array, and their arguments as they
    were. -/
theorem algebraic : Cert.algebraic_MoeSecondIdeal_MoeSecondRefIdeal := by
  intro m g m' g' hpre hagree
  have hO := Cert.MoeSecondIdeal.Tables.ok_of_pre m hpre
  refine ⟨fun c => Cert.MoeSecondRefIdeal.Read.val_main_v32 (F := Ideal)
      (m ((c.tc : Thread _ _).loc Cert.MoeSecondIdeal.main_arg0)) (m ((c.tc : Thread _ _).loc Cert.MoeSecondIdeal.main_arg1))
      (m ((c.tc : Thread _ _).loc Cert.MoeSecondIdeal.main_arg2)) (m ((c.tc : Thread _ _).loc Cert.MoeSecondIdeal.main_arg3))
      (m ((c.tc : Thread _ _).loc Cert.MoeSecondIdeal.main_arg4)) (m ((c.tc : Thread _ _).loc Cert.MoeSecondIdeal.main_arg5)),
    (θ_run _ _ _).mono (fun r h c => ⟨funext fun i => ?_, (h.2 c)⟩)
      (θ_run_and (Cert.MoeSecondIdeal.Gen.run_main m g hO) (Cert.MoeSecondIdeal.Gen.unchanged m g hO)),
    (θ_run _ _ _).mono (fun r h c => ⟨(h c).1.trans ?_, (h c).2⟩) (Cert.MoeSecondRefIdeal.Value.run m' g')⟩
  · obtain ⟨n, d, rfl⟩ : ∃ n d, i = ix2 n d := ⟨_, _, eq_ix2 i⟩
    exact (congrFun ((h.1 c).1 4) _).trans (agree m hpre c n d)
  · rw [Cert.MoeSecondRefIdeal.Read.val_main_v32_eq, (hagree c).1, (hagree c).2.1, (hagree c).2.2.1, (hagree c).2.2.2.1,
      (hagree c).2.2.2.2.1, (hagree c).2.2.2.2.2]

end Cert.MoeSecondClaim
-- ==== Proof.MoeThirdBlock.lean ====
/- What one grid point of the expert kernel's third call leaves in its accumulator and in its output block. -/
module

public import proofs.«01_k».proof.Proof.Gen.MoeThirdIdeal.Frame
public import proofs.«01_k».proof.Proof.MoeBlock
public import Idealize.ShloMosaic.Lib.Pipeline.Value
public import Idealize.ShloMosaic.Lib.Pipeline.ValueKit

@[expose] public section

set_option maxRecDepth 16384

noncomputable section

namespace Cert.MoeThirdIdeal.Block

open Idealize.ShloMosaic Idealize.ShloMosaic.TcCoe
open Idealize.ShloMosaic.Pipeline
open Cert.MoeThirdIdeal.Gen
open Cert.MoeIdeal.Block (z2 z4)

variable {F : FTy → Type} [FloatOps F]

variable (c : Dev nD) (i : grid0.Coords)
  (arg4 : Memref sig .tc .vmem S512x1024 .bf16) (harg4 : arg4.IsWhole)
  (arg5 : Memref sig .tc .vmem S1x1x1024x1792 .bf16) (harg5 : arg5.IsWhole)
  (arg6 : Memref sig .tc .vmem S1x1x1024x1792 .bf16) (harg6 : arg6.IsWhole)
  (arg7 : Memref sig .tc .vmem S1x1x1792x1024 .bf16) (harg7 : arg7.IsWhole)
  (arg9 : Memref sig .tc .vmem S512x1024 .bf16) (harg9 : arg9.IsWhole)
  (arg10 : Memref sig .tc .vmem S512x1024 .f32) (harg10 : arg10.IsWhole)
  (x0 : Vec F S512x1024 .bf16) (x1 : Vec F S1x1x1024x1792 .bf16) (x2 : Vec F S1x1x1024x1792 .bf16)
  (x3 : Vec F S1x1x1792x1024 .bf16) (xt0 : TbBuf0 (F := F) c tbM0_0) (xt1 : TbBuf0 (F := F) c tbM0_1)
  (xs0 : Vec F S512x1024 .f32)

/-- The word of the second table at a grid point, as the body reads it. -/
abbrev word (i : grid0.Coords) (xt1 : TbBuf0 (F := F) c tbM0_1) : BitVec 32 :=
  tbM0_1.view.readAt (Elt F) (Rect.unit (s := S46) (k0_off1 i) S1.size (k0_off1_inb i)).toLoadRect xt1
    (Shape.Idx.first (numel1_S1.symm ▸ Nat.one_pos))

/-- The accumulator after the first half of the hidden units of a tile in use. -/
theorem first_valid (hc0 : cond0_0 i) (hc2 : ¬cond0_2 i) (hc1 : cond0_1 i (word c i xt1)) :
    sout0_A_0 c i arg4 harg4 arg5 harg5 arg6 harg6 arg7 harg7 arg9 harg9 arg10 harg10 hc0 hc2 x0 x1 x2 x3 xt0 xt1 hc1 = k0_pay2 x0 x1 x2 k0_pay1 x3 := by
  unfold sout0_A_0
  rw [View.read_writes_eq_canon _ _ _ (scover0_A_0 c i arg4 harg4 arg5 harg5 arg6 harg6 arg7 harg7 arg9 harg9 arg10 harg10 hc0 hc2 x0 x1 x2 x3 xt0 xt1 hc1)]
  unfold kernelRun0_A
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The accumulator after the first point of a tile that is not in use. -/
theorem first_unused (hc0 : cond0_0 i) (hc2 : ¬cond0_2 i) (hc1 : ¬cond0_1 i (word c i xt1)) :
    sout0_B_0 c i arg4 harg4 arg5 harg5 arg6 harg6 arg7 harg7 arg9 harg9 arg10 harg10 hc0 hc2 x0 x1 x2 x3 xt0 xt1 hc1 = k0_pay1 := by
  unfold sout0_B_0
  rw [View.read_writes_eq_canon _ _ _ (scover0_B_0 c i arg4 harg4 arg5 harg5 arg6 harg6 arg7 harg7 arg9 harg9 arg10 harg10 hc0 hc2 x0 x1 x2 x3 xt0 xt1 hc1)]
  unfold kernelRun0_B
  dsimp only
  sl_unfold_words
  rw [View.canon_cons_unit_zero (S := S512x1024) z2]

/-- The output block of a tile in use: both halves of the hidden units. -/
theorem second_valid (hc0 : ¬cond0_0 i) (hc2 : cond0_2 i) (hc1 : cond0_1 i (word c i xt1)) :
    out0_C_4 c i arg4 harg4 arg5 harg5 arg6 harg6 arg7 harg7 arg9 harg9 arg10 harg10 hc0 hc2 x0 x1 x2 x3 xt0 xt1 xs0 hc1 = k0_pay3 (k0_pay2 x0 x1 x2 xs0 x3) := by
  unfold out0_C_4
  rw [View.read_writes_eq_canon _ _ _ (cover0_C_4 c i arg4 harg4 arg5 harg5 arg6 harg6 arg7 harg7 arg9 harg9 arg10 harg10 hc0 hc2 x0 x1 x2 x3 xt0 xt1 xs0 hc1)]
  unfold kernelRun0_C
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

/-- The output block of a tile that is not in use. -/
theorem second_unused (hc0 : ¬cond0_0 i) (hc2 : cond0_2 i) (hc1 : ¬cond0_1 i (word c i xt1)) :
    out0_D_4 c i arg4 harg4 arg5 harg5 arg6 harg6 arg7 harg7 arg9 harg9 arg10 harg10 hc0 hc2 x0 x1 x2 x3 xt0 xt1 xs0 hc1 = k0_pay3 xs0 := by
  unfold out0_D_4
  rw [View.read_writes_eq_canon _ _ _ (cover0_D_4 c i arg4 harg4 arg5 harg5 arg6 harg6 arg7 harg7 arg9 harg9 arg10 harg10 hc0 hc2 x0 x1 x2 x3 xt0 xt1 xs0 hc1)]
  unfold kernelRun0_D
  dsimp only
  sl_unfold_words
  rw [View.canon_cons_unit_zero (S := S512x1024) z2]
  simp only [View.readCov_unit_zero (S := S512x1024) _ z2, View.readAt_eq_ld, Memref.IsWhole.read_unread,
    View.ld_unit_zero (S := S512x1024) z2, View.ld_unit_zero (S := S1x1x1024x1792) z4,
    View.ld_unit_zero (S := S1x1x1792x1024) z4]

end Cert.MoeThirdIdeal.Block
-- ==== Proof.MoeThirdArray.lean ====
/- The array the third call of the expert kernel leaves, over the extended reals: at the rows of the third part the named
   expert's output on each row of a tile in use, and zero on the rows of any other tile; at every other row what the array
   held before. -/
module

public import proofs.«01_k».proof.Proof.MoeThirdBlock
public import proofs.«01_k».proof.Proof.MoeTile
public import proofs.«01_k».proof.Proof.MoeTables

@[expose] public section

set_option maxRecDepth 16384

noncomputable section

namespace Cert.MoeThirdIdeal.Array

open Idealize.ShloMosaic Idealize.ShloMosaic.TcCoe
open Idealize.ShloMosaic.Pipeline (Dat)
open Cert.MoeThirdIdeal Cert.MoeThirdIdeal.Gen Cert.MoeThirdIdeal.Block Cert.MoeThirdIdeal.Tables
open Cert.MoeIdeal.Tables (expert used)
open Cert.MoeIdeal.Windows (tile coord0)
open Cert.MoeIdeal.Tile (value word_eq cond_iff block_at)

variable (m : (ℓ : Loc nD τ sig) → Buf (Elt Ideal) ℓ) (hO : Ok m) (c : Dev nD)

/-- This call's tables, as the first call's pipeline takes them. -/
abbrev base : (Cert.MoeIdeal.pcfg0 (F := Ideal)).Adm := ⟨ret (tbl m), hO⟩

/-- An output entry, with the arrays the call was given. -/
abbrev valueAt := value (base m hO) (V m c main_arg0) (V m c main_arg3) (V m c main_arg4)

theorem lt_N (t : Fin (cfgM m hO).N) : t.val < 92 := t.isLt

include hO in
theorem cond_used (t : Fin (cfgM m hO).N) :
    cond0_1 (grid0.coords t) (word c (grid0.coords t) (tbl m 1)) ↔ 0 < (used (ret (tbl m)) (tile t)).toInt := by
  have hw : word (F := Ideal) c (grid0.coords t) (tbl m 1) = used (ret (tbl m)) (tile t) := word_eq (base m hO) t
  rw [hw]
  exact cond_iff (grid0.coords t) _

/-- The output block a tile's second point leaves. -/
theorem after_at (t : Fin (cfgM m hO).N) (ht : t.val % 2 = 1) (r : Fin 512) (d : Fin 1024) (R : Fin 23552)
    (hR : R.val = 512 * (t.val / 2) + r.val) (e : Fin 8) (he : e.val = (expert (ret (tbl m)) (tile t)).toNat) :
    (outsAt0 m hO c t.val t.isLt).1 (ix2 r d) = valueAt m hO c (tile t) R e d := by
  have hlt : t.val - 1 < (cfgM m hO).N := by have := t.isLt; omega
  have h0 : ¬ t.val % 2 = 0 := by omega
  have hp0 : (⟨t.val - 1, hlt⟩ : Fin (cfgM m hO).N).val % 2 = 0 := by
    change (t.val - 1) % 2 = 0
    omega
  have hp1 : ¬ (⟨t.val - 1, hlt⟩ : Fin (cfgM m hO).N).val % 2 = 1 := by omega
  refine block_at (base m hO) (V m c main_arg0) (V m c main_arg3) (V m c main_arg4) ⟨t.val - 1, hlt⟩ t
    (by change t.val - 1 + 1 = t.val; omega) ht (outsAt0 m hO c (t.val - 1) hlt).2 _
    (fun hu => ?_) (fun hu => ?_) (fun hu => ?_) (fun hu => ?_) r d R hR e he
  · refine (congrArg Prod.snd (outsAt0_A m hO c ⟨t.val - 1, hlt⟩ hp0 ((cond_used m hO c _).2 hu) hp1)).trans ?_
    dsimp only
    exact first_valid ..
  · refine (congrArg Prod.snd (outsAt0_B m hO c ⟨t.val - 1, hlt⟩ hp0 (fun h => hu ((cond_used m hO c _).1 h)) hp1)).trans ?_
    dsimp only
    exact first_unused ..
  · refine (congrArg Prod.fst (outsAt0_C m hO c t h0 ((cond_used m hO c _).2 hu) ht)).trans ?_
    dsimp only
    exact second_valid ..
  · refine (congrArg Prod.fst (outsAt0_D m hO c t h0 (fun h => hu ((cond_used m hO c _).1 h)) ht)).trans ?_
    dsimp only
    exact second_unused ..

theorem idx4 (t : Fin (cfgM m hO).N) : ((cfgM m hO).win 4).index t = ![92 + t.val / 2, 0] := by
  have h : ((cfgM m hO).win 4).index t = ![(92#32 + BitVec.ofNat 32 (grid0.coords t 0).val).toNat, 0] := rfl
  have hc : (grid0.coords t 0).val = t.val / 2 := congrArg Fin.val (coord0 t)
  have := lt_N m hO t
  refine h.trans (funext fun a => ?_)
  change Fin 2 at a
  fin_cases a
  · change (92#32 + BitVec.ofNat 32 (grid0.coords t 0).val).toNat = 92 + t.val / 2
    rw [hc, BitVec.toNat_add, BitVec.toNat_ofNat]
    change (92 + t.val / 2 % 4294967296) % 4294967296 = 92 + t.val / 2
    omega
  · rfl

/-- What a tile's second point writes back, at an index of the block. -/
theorem flushed_at (t : Fin (cfgM m hO).N) (ht : t.val % 2 = 1) (y : S512x1024.Idx) (n : Fin 70656) (d : Fin 1024)
    (k : Fin 46) (R : Fin 23552) (hk : k.val = R.val / 512) (hn : n.val = 47104 + R.val) (e : Fin 8)
    (hi : (((cfgM m hO).win 4).blk t).view.emb
      (show (((cfgM m hO).win 4).xblock ((cfgM m hO).grid.coords t)).Idx from y) = ix2 n d)
    (he : e.val = (expert (ret (tbl m)) k).toNat) :
    (dats m hO 0 c).flushed 4 t (show (((cfgM m hO).win 4).xblock ((cfgM m hO).grid.coords t)).Idx from y)
      = valueAt m hO c k R e d := by
  have e0 : ((((cfgM m hO).win 4).blk t).view.emb
      (show (((cfgM m hO).win 4).xblock ((cfgM m hO).grid.coords t)).Idx from y) (0 : Fin 2)).val
      = 512 * (92 + t.val / 2) + (y 0).val := by
    have h := congrFun (idx4 m hO t) (0 : Fin 2)
    blk_simp
    refine (congrArg (fun x => x * 512 + (y 0).val) h).trans ?_
    change (92 + t.val / 2) * 512 + (y 0).val = _
    omega
  have e1 : ((((cfgM m hO).win 4).blk t).view.emb
      (show (((cfgM m hO).win 4).xblock ((cfgM m hO).grid.coords t)).Idx from y) (1 : Fin 2)).val
      = (y 1).val := by
    have h := congrFun (idx4 m hO t) (1 : Fin 2)
    blk_simp
    refine (congrArg (fun x => x * 1024 + (y 1).val) h).trans ?_
    change 0 * 1024 + (y 1).val = _
    omega
  have hr : (y 0).val < 512 := (y 0).isLt
  have hn0 : n.val = 512 * (92 + t.val / 2) + (y 0).val := (congrArg Fin.val (congrFun hi (0 : Fin 2))).symm.trans e0
  have hd0 : d = y 1 := Fin.ext ((congrArg Fin.val (congrFun hi (1 : Fin 2))).symm.trans e1)
  have ht0 : k = tile t := Fin.ext (by
    change k.val = t.val / 2
    omega)
  rw [ht0] at he ⊢
  have hy : y = ix2 (y 0) d := by rw [hd0]; exact eq_ix2 y
  refine Eq.trans ?_ (after_at m hO c t ht (y 0) d R (by omega) e he)
  exact congrArg (outsAt0 m hO c t.val t.isLt).1 hy

/-- The array after the run, at a row of the part. -/
theorem array_at (n : Fin 70656) (d : Fin 1024) (k : Fin 46) (R : Fin 23552) (hk : k.val = R.val / 512)
    (hn : n.val = 47104 + R.val) (e : Fin 8) (he : e.val = (expert (ret (tbl m)) k).toNat) :
    (dats m hO 0 c).arrAt 4 (cfgM m hO).N (ix2 n d) = valueAt m hO c k R e d := by
  have hN : (cfgM m hO).N = 92 := N_0
  have hd := d.isLt
  have hlt : R.val / 512 * 2 + 1 < (cfgM m hO).N := by rw [hN]; omega
  refine (dats m hO 0 c).arrAt_forall_of_flushed 4 (fun i v => ∀ (n : Fin 70656) (d : Fin 1024) (k : Fin 46)
      (R : Fin 23552) (_ : k.val = R.val / 512) (_ : n.val = 47104 + R.val) (e : Fin 8),
      i = ix2 n d → e.val = (expert (ret (tbl m)) k).toNat → v = valueAt m hO c k R e d)
    (fun t hf y n d k R hk hn e hi he => ?_) (cfgM m hO).N
      ⟨R.val / 512 * 2 + 1, hlt⟩ (ix2 n d) hlt ((flush0_4 (adm m hO) _).2 ?_) ?_ n d k R hk hn e rfl he
  · exact flushed_at m hO c t ((flush0_4 (adm m hO) t).1 hf) y n d k R hk hn e hi he
  · change (R.val / 512 * 2 + 1) % 2 = 1
    omega
  · refine (Pipeline.Window.emb_mem_blk_iff ((cfgM m hO).win 4) ⟨R.val / 512 * 2 + 1, hlt⟩ (ix2 n d)).2 (fun a => ?_)
    change Fin 2 at a
    have h := idx4 m hO ⟨R.val / 512 * 2 + 1, hlt⟩
    fin_cases a
    · have h0 := congrFun h (0 : Fin 2)
      change _ = 92 + (R.val / 512 * 2 + 1) / 2 at h0
      change ((cfgM m hO).win 4).index _ (0 : Fin 2) * 512 ≤ n.val
        ∧ n.val < ((cfgM m hO).win 4).index _ (0 : Fin 2) * 512 + 512
      rw [h0]
      omega
    · have h1 := congrFun h (1 : Fin 2)
      change _ = 0 at h1
      change ((cfgM m hO).win 4).index _ (1 : Fin 2) * 1024 ≤ d.val
        ∧ d.val < ((cfgM m hO).win 4).index _ (1 : Fin 2) * 1024 + 1024
      rw [h1]
      change 0 * 1024 ≤ d.val ∧ d.val < 0 * 1024 + 1024
      omega

/-- What the output array holds before the grid: what the call was handed. -/
theorem V_main_v0 : V m c main_v0 = m ((c.tc : Thread nD τ).loc main_arg5) := by
  funext i
  entry_read
  rfl

/-- The array after the run, at any other row. -/
theorem rest_at (n : Fin 70656) (d : Fin 1024) (hn : n.val < 47104) :
    (dats m hO 0 c).arrAt 4 (cfgM m hO).N (ix2 n d) = m ((c.tc : Thread nD τ).loc main_arg5) (ix2 n d) := by
  refine ((dats m hO 0 c).arrAt_apply_of_forall_not_mem 4 _ (ix2 n d) (fun t _ _ hm => ?_)).trans
    ((congrFun (A_eq m hO c 4) _).trans (congrFun (V_main_v0 m c) _))
  have h := (Pipeline.Window.emb_mem_blk_iff ((cfgM m hO).win 4) t (ix2 n d)).1 hm (0 : Fin 2)
  have h0 := congrFun (idx4 m hO t) (0 : Fin 2)
  change _ = 92 + t.val / 2 at h0
  change ((cfgM m hO).win 4).index _ (0 : Fin 2) * 512 ≤ n.val
    ∧ n.val < ((cfgM m hO).win 4).index _ (0 : Fin 2) * 512 + 512 at h
  rw [h0] at h
  have := lt_N m hO t
  omega

end Cert.MoeThirdIdeal.Array
-- ==== Proof.MoeThirdRef.lean ====
/- The reference of the expert layer's third part at one entry: the experts' sum at a row of the part, and at any other row
   what the array held before. -/
module

public import proofs.«01_k».proof.Proof.Gen.MoeThirdRefIdeal.Read
public import proofs.«01_k».proof.Proof.MoeRef
public import Idealize.ShloMosaic.Lib.Pointwise

@[expose] public section

set_option maxRecDepth 16384

noncomputable section

namespace Cert.MoeThirdRefIdeal.Entry

open Idealize.ShloMosaic Idealize.ShloMosaic.TcCoe
open Cert.MoeThirdRefIdeal Cert.MoeThirdRefIdeal.Gen Cert.MoeThirdRefIdeal.Read
open Cert.MoeRefIdeal.Entry (expertOut)

variable (x0 : Vec Ideal S23552x1024 .bf16) (x1 x2 : Vec Ideal S46 .i32)
  (x3 : Vec Ideal S2x8x1024x7168 .bf16) (x4 : Vec Ideal S2x8x3584x1024 .bf16) (x5 : Vec Ideal S70656x1024 .bf16)

/-- The sum over the experts is the first part's, on this part's rows. -/
theorem sum_eq : val_main_v26 (F := Ideal) x0 x1 x2 x3 x4
    = Cert.MoeRefIdeal.Read.val_main_v26 (F := Ideal) x0 x1 x2 x3 x4 := rfl

/-- The reference at a row of this part: the named expert's output where the row's tile is in use, else zero. -/
theorem out_at (n : Fin 70656) (d : Fin 1024) (R : Fin 23552) (hn : n.val = 47104 + R.val) (e : Fin 8)
    (he : (x1 (ix1 ⟨R.val / 512, by omega⟩) : BitVec 32).toNat = e.val) :
    val_main_v30 (F := Ideal) x0 x1 x2 x3 x4 x5 (ix2 n d)
      = if 0 < (x2 (ix1 ⟨R.val / 512, by omega⟩) : BitVec 32).toInt then expertOut x0 x3 x4 R e d else (0 : EReal) := by
  rw [← Cert.MoeRefIdeal.Entry.sum_at x0 x1 x2 x3 x4 R d e he, ← sum_eq]
  pointwise [val_main_v30, val_main_v29, val_main_v28, val_main_v27]
  have hr : (⟨n.val - 47104, by omega⟩ : Fin 23552) = R := Fin.ext (by change n.val - 47104 = R.val; omega)
  rw [dif_neg (by omega), hr]

/-- The reference at any other row. -/
theorem rest_at (n : Fin 70656) (d : Fin 1024) (hn : n.val < 47104) :
    val_main_v30 (F := Ideal) x0 x1 x2 x3 x4 x5 (ix2 n d) = x5 (ix2 n d) := by
  pointwise [val_main_v30, val_main_v29, val_main_v28, val_main_v27]
  rw [dif_pos hn]

end Cert.MoeThirdRefIdeal.Entry
-- ==== Proof.MoeThirdClaim.lean ====
/- The claims of the experts' third call: the runs, and the equality with the reference at every entry. -/
module

public import proofs.«01_k».proof.Defs
public import proofs.«01_k».proof.Proof.MoeThirdArray
public import proofs.«01_k».proof.Proof.MoeThirdRef
public import proofs.«01_k».proof.Proof.MoeTables
public import proofs.«01_k».proof.Proof.Gen.MoeThird
public import proofs.«01_k».proof.Proof.Gen.MoeThird.Frame
public import proofs.«01_k».proof.Proof.Gen.MoeThirdIdeal.Frame
public import proofs.«01_k».proof.Proof.Gen.MoeThirdRefIdeal.Run
public import proofs.«01_k».proof.Proof.Gen.Pre_next_experts_in_range
public import Idealize.ShloMosaic.Lib.Quiescent
public import Idealize.ShloMosaic.Lib.Pointwise

@[expose] public section

set_option maxRecDepth 16384

noncomputable section

namespace Cert.MoeThirdClaim

open Idealize.ShloMosaic Idealize.ShloMosaic.TcCoe Idealize.SL.Sem

/-- With its experts in range the kernel runs, leaves its arguments as they were and ends with every counter at
    zero. -/
theorem frame_MoeThird : Cert.quiescent_MoeThird :=
  fun m g h => Cert.MoeThird.Gen.frame m g (Cert.MoeThird.Tables.ok_of_pre m h)

/-- So does the kernel read over the extended reals. -/
theorem frame_MoeThirdIdeal : Cert.quiescent_MoeThirdIdeal :=
  fun m g h => Cert.MoeThirdIdeal.Gen.frame m g (Cert.MoeThirdIdeal.Tables.ok_of_pre m h)

/-- The reference runs and leaves its arguments as they were, whatever they are. -/
theorem frame_MoeThirdRefIdeal : Cert.quiescent_MoeThirdRefIdeal := fun m g _ =>
  (θ_run _ _ _).mono (fun r h => ⟨fun c => (h c).2, sem_eq_zero_of_no_sems (by decide) r.2⟩)
    (Cert.MoeThirdRefIdeal.Value.run m g)

/-- So it does where the experts are in range. -/
theorem frame_MoeThirdRefIdeal_range : Cert.quiescent_MoeThirdRefIdeal_pre_next_experts_in_range := fun m g _ =>
  frame_MoeThirdRefIdeal m g trivial

/-- The kernel has no named constant. -/
theorem preserves : Cert.preserves_MoeThird_MoeThirdIdeal := trivial

open Cert.MoeThirdIdeal Cert.MoeThirdIdeal.Gen Cert.MoeThirdIdeal.Tables in
/-- The array the kernel leaves and the reference's value are one. -/
theorem agree (m : (ℓ : Loc nD τ sig) → Buf (Elt Ideal) ℓ) (h : Cert.Pre_MoeThirdIdeal m) (c : Dev nD)
    (n : Fin 70656) (d : Fin 1024) :
    (dats m (ok_of_pre m h) 0 c).arrAt 4 (cfgM m (ok_of_pre m h)).N (ix2 n d)
      = Cert.MoeThirdRefIdeal.Read.val_main_v30 (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) (ix2 n d) := by
  obtain rfl : c = 0 := Subsingleton.elim _ _
  have hlt := n.isLt
  by_cases hn : n.val < 47104
  · exact (Cert.MoeThirdIdeal.Array.rest_at m (ok_of_pre m h) 0 n d hn).trans
      (Cert.MoeThirdRefIdeal.Entry.rest_at _ _ _ _ _ _ n d hn).symm
  · have hR : n.val - 47104 < 23552 := by omega
    have hk : (n.val - 47104) / 512 < 46 := by omega
    have hs : n.val = 47104 + (n.val - 47104) := by omega
    have he := expert_lt m h ⟨(n.val - 47104) / 512, hk⟩
    have a := Cert.MoeThirdIdeal.Array.array_at m (ok_of_pre m h) 0 n d ⟨(n.val - 47104) / 512, hk⟩ ⟨n.val - 47104, hR⟩
      rfl hs ⟨_, he⟩ rfl
    have r := Cert.MoeThirdRefIdeal.Entry.out_at (m (((0 : Dev nD).tc : Thread nD τ).loc main_arg0))
      (m (((0 : Dev nD).tc : Thread nD τ).loc main_arg1)) (m (((0 : Dev nD).tc : Thread nD τ).loc main_arg2))
      (m (((0 : Dev nD).tc : Thread nD τ).loc main_arg3)) (m (((0 : Dev nD).tc : Thread nD τ).loc main_arg4))
      (m (((0 : Dev nD).tc : Thread nD τ).loc main_arg5)) n d ⟨n.val - 47104, hR⟩ hs ⟨_, he⟩
      (congrArg BitVec.toNat (expert_eq m ⟨(n.val - 47104) / 512, hk⟩).symm)
    refine a.trans (Eq.trans ?_ r.symm)
    dsimp only [Cert.MoeThirdIdeal.Array.valueAt, Cert.MoeIdeal.Tile.value]
    rw [used_eq, V_main_arg0, V_main_arg3, V_main_arg4]
    rfl

/-- From equal arguments, the experts in range, kernel and reference end with one array, and their arguments as they
    were. -/
theorem algebraic : Cert.algebraic_MoeThirdIdeal_MoeThirdRefIdeal := by
  intro m g m' g' hpre hagree
  have hO := Cert.MoeThirdIdeal.Tables.ok_of_pre m hpre
  refine ⟨fun c => Cert.MoeThirdRefIdeal.Read.val_main_v30 (F := Ideal)
      (m ((c.tc : Thread _ _).loc Cert.MoeThirdIdeal.main_arg0)) (m ((c.tc : Thread _ _).loc Cert.MoeThirdIdeal.main_arg1))
      (m ((c.tc : Thread _ _).loc Cert.MoeThirdIdeal.main_arg2)) (m ((c.tc : Thread _ _).loc Cert.MoeThirdIdeal.main_arg3))
      (m ((c.tc : Thread _ _).loc Cert.MoeThirdIdeal.main_arg4)) (m ((c.tc : Thread _ _).loc Cert.MoeThirdIdeal.main_arg5)),
    (θ_run _ _ _).mono (fun r h c => ⟨funext fun i => ?_, (h.2 c)⟩)
      (θ_run_and (Cert.MoeThirdIdeal.Gen.run_main m g hO) (Cert.MoeThirdIdeal.Gen.unchanged m g hO)),
    (θ_run _ _ _).mono (fun r h c => ⟨(h c).1.trans ?_, (h c).2⟩) (Cert.MoeThirdRefIdeal.Value.run m' g')⟩
  · obtain ⟨n, d, rfl⟩ : ∃ n d, i = ix2 n d := ⟨_, _, eq_ix2 i⟩
    exact (congrFun ((h.1 c).1 4) _).trans (agree m hpre c n d)
  · rw [Cert.MoeThirdRefIdeal.Read.val_main_v30_eq, (hagree c).1, (hagree c).2.1, (hagree c).2.2.1, (hagree c).2.2.2.1,
      (hagree c).2.2.2.2.1, (hagree c).2.2.2.2.2]

end Cert.MoeThirdClaim
-- ==== Proof.DenseMath.lean ====
/- One row through the dense parts of a block, in extended reals: the root mean square norm, the modulation, the gated
   residual, and the feed-forward's hidden units. -/
module

public import proofs.«01_k».proof.Proof.MoeMath

@[expose] public section

set_option maxRecDepth 16384

noncomputable section

namespace Cert.DenseMath

open Idealize.ShloMosaic

/-- A row divided by its root mean square and scaled by `w`. -/
def rms (y w : Fin 1024 → EReal) (d : Fin 1024) : EReal :=
  y d * Ideal.rsqrt (Ideal.div (∑ k, y k * y k) (Ideal.ofBits .f32 1149239296#32) + Ideal.ofBits .f32 897988541#32)
    * w d

/-- The normed row, scaled by one and `b` and shifted by `a`. -/
def modulated (x w a b : Fin 1024 → EReal) (d : Fin 1024) : EReal := rms x w d * (1 + b d) + a d

/-- The row and the gated norm of what was computed from it. -/
def residual (x g w y : Fin 1024 → EReal) (d : Fin 1024) : EReal := x d + g d * rms y w d

/-- One entry of the dense feed-forward on a row `h`: `g` and `u` are the two input projections, `w` the column of the
    output projection. -/
def ffn (h : Fin 1024 → EReal) (g u : Fin 1024 → Fin 2816 → EReal) (w : Fin 2816 → EReal) : EReal :=
  ∑ f, MoeMath.act (∑ k, h k * g k f) (∑ k, h k * u k f) * w f

/-- The group of rows that row `n` belongs to: the two batch entries' latents, and the context. -/
def group (n : Fin 33280) : Fin 8 := ⟨min (n.val / 16384) 2, by omega⟩

/-- A choice between the three groups' values is the value at the row's group. -/
theorem group_ite {α : Type} (f : Fin 8 → α) (n : Fin 33280) :
    (if _h : n.val < 16384 then f 0 else if _h : n.val - 16384 < 16384 then f 1 else f 2) = f (group n) := by
  have hn := n.isLt
  split_ifs with h1 h2
  all_goals exact congrArg f (Fin.ext (by simp only [group]; simp; omega))

end Cert.DenseMath
-- ==== Proof.FfnArray.lean ====
/- The array the dense feed-forward leaves, over the extended reals: each row is what the layer makes of that row of
   the input and of the modulation of the row's group. -/
module

public import proofs.«01_k».proof.Proof.Gen.FfnIdeal.Value
public import proofs.«01_k».proof.Proof.DenseMath
public import Idealize.ShloMosaic.Lib.Pipeline.ValueKit
public import Idealize.ShloMosaic.Lib.Tactic

@[expose] public section

set_option maxRecDepth 16384

noncomputable section

namespace Cert.FfnIdeal.Array

open Idealize.ShloMosaic Idealize.ShloMosaic.TcCoe
open Idealize.ShloMosaic.Pipeline (Dat)
open Cert.FfnIdeal Cert.FfnIdeal.Gen Cert.DenseMath

theorem z2 : (![0, 0] : Fin 2 → Nat) = fun _ => 0 := funext fun a => by fin_cases a <;> rfl
theorem z4 : (![0, 0, 0, 0] : Fin 4 → Nat) = fun _ => 0 := funext fun a => by fin_cases a <;> rfl

/-- The hidden units of a block at an index. -/
theorem pay2_apply (x : Vec Ideal S512x1024 .f32) (w : Vec Ideal S1x1024 .f32) (a b : Vec Ideal S1x1x1x1024 .f32)
    (g u : Vec Ideal S1024x2816 .bf16) (r : Fin 512) (f : Fin 2816) :
    k0_pay2 x w a b g u (ix2 r f)
      = MoeMath.act
          (∑ k, modulated (fun d => x (ix2 r d)) (fun d => w (ix2 0 d)) (fun d => a (ix4 0 0 0 d))
            (fun d => b (ix4 0 0 0 d)) k * g (ix2 k f))
          (∑ k, modulated (fun d => x (ix2 r d)) (fun d => w (ix2 0 d)) (fun d => a (ix4 0 0 0 d))
            (fun d => b (ix4 0 0 0 d)) k * u (ix2 k f)) := by
  pointwise [k0_pay2]
  rfl

/-- The output block at an index, from the hidden units. -/
theorem pay1_apply (x : Vec Ideal S512x1024 .f32) (h : FVec Ideal S512x2816 .bf16) (a : Vec Ideal S1x1x1x1024 .f32)
    (wd : Vec Ideal S2816x1024 .bf16) (w : Vec Ideal S1x1024 .f32) (r : Fin 512) (d : Fin 1024) :
    k0_pay1 x h a wd w (ix2 r d)
      = residual (fun d => x (ix2 r d)) (fun d => a (ix4 0 0 0 d)) (fun d => w (ix2 0 d))
          (fun d => ∑ f, h (ix2 r f) * wd (ix2 f d)) d := by
  pointwise [k0_pay1]
  rfl

/-- The layer on a row: input `x`, norm weights `w`, `w2`, shift `a`, scale `b`, gate `c`, and the projections. -/
def row (x w w2 a b c : Fin 1024 → EReal) (g u : Fin 1024 → Fin 2816 → EReal) (wd : Fin 2816 → Fin 1024 → EReal)
    (d : Fin 1024) : EReal :=
  residual x c w2 (fun d => ffn (modulated x w a b) g u (fun f => wd f d)) d

/-- What a grid point leaves in its block, at an index. -/
theorem out_apply (x0 : Vec Ideal S512x1024 .f32) (x1 : Vec Ideal S1x1024 .f32) (x2 x3 : Vec Ideal S1x1x1x1024 .f32)
    (x4 x5 : Vec Ideal S1024x2816 .bf16) (x6 : Vec Ideal S2816x1024 .bf16) (x7 : Vec Ideal S1x1024 .f32)
    (x8 : Vec Ideal S1x1x1x1024 .f32) (r : Fin 512) (d : Fin 1024) :
    out0_9 x0 x1 x2 x3 x4 x5 x6 x7 x8 (ix2 r d)
      = row (fun d => x0 (ix2 r d)) (fun d => x1 (ix2 0 d)) (fun d => x7 (ix2 0 d)) (fun d => x2 (ix4 0 0 0 d))
          (fun d => x3 (ix4 0 0 0 d)) (fun d => x8 (ix4 0 0 0 d)) (fun k f => x4 (ix2 k f)) (fun k f => x5 (ix2 k f))
          (fun f d => x6 (ix2 f d)) d := by
  unfold out0_9
  rw [View.canon_cons_unit_zero (S := S512x1024) z2]
  simp only [View.ld_unit_zero (S := S512x1024) z2, View.ld_unit_zero (S := S1x1024) z2,
    View.ld_unit_zero (S := S1x1x1x1024) z4, View.ld_unit_zero (S := S1024x2816) z2,
    View.ld_unit_zero (S := S2816x1024) z2]
  rw [pay1_apply]
  simp only [pay2_apply]
  rfl

variable (m : (ℓ : Loc nD τ sig) → Buf (Elt Ideal) ℓ)

/-- The group of the rows of grid point `t`. -/
def tgroup (t : Fin cfg0.N) : Fin 8 := ⟨min (t.val / 32) 2, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![3, min (t.val / 32) 2, 0, 0] :=
  (by decide +kernel : ∀ t : Fin grid0.N, _)
theorem idx3 : ∀ t : Fin cfg0.N, win0_3.index t = ![4, min (t.val / 32) 2, 0, 0] :=
  (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 1] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![5, min (t.val / 32) 2, 0, 0] :=
  (by decide +kernel : ∀ t : Fin grid0.N, _)
theorem idx9 : ∀ t : Fin cfg0.N, win0_9.index t = ![t.val, 0] := (by decide +kernel : ∀ t : Fin grid0.N, _)

/-- The rows of window 0 at a point, at an index. -/
theorem blk0 (c : Dev nD) (t : Fin cfg0.N) (r : Fin 512) (d : Fin 1024) (n : Fin 33280)
    (hn : n.val = 512 * t.val + r.val) :
    iblk m c 0 t (ix2 r d) = m ((c : Thread nD τ).loc main_arg0) (ix2 n d) := by
  blk_simp [iblk]
  rw [V_main_arg0]
  refine congrArg (m ((c : Thread nD τ).loc main_arg0)) (funext fun b => Fin.ext ?_)
  blk_simp [idx0]
  fin_cases b <;> simp <;> omega

/-- The first norm's weights. -/
theorem blk1 (c : Dev nD) (t : Fin cfg0.N) (d : Fin 1024) :
    iblk m c 1 t (ix2 0 d) = m ((c : Thread nD τ).loc main_arg1) (ix2 0 d) := by
  blk_simp [iblk]
  rw [V_main_arg1]
  refine congrArg (m ((c : Thread nD τ).loc main_arg1)) (funext fun b => Fin.ext ?_)
  blk_simp [idx1]
  fin_cases b <;> simp

/-- The shift of the rows' group. -/
theorem blk2 (c : Dev nD) (t : Fin cfg0.N) (d : Fin 1024) :
    iblk m c 2 t (ix4 0 0 0 d) = m ((c : Thread nD τ).loc main_arg3) (ix4 3 (tgroup t) 0 d) := by
  blk_simp [iblk]
  rw [V_main_arg3]
  refine congrArg (m ((c : Thread nD τ).loc main_arg3)) (funext fun b => Fin.ext ?_)
  blk_simp [idx2, tgroup]
  fin_cases b <;> simp

/-- The scale of the rows' group. -/
theorem blk3 (c : Dev nD) (t : Fin cfg0.N) (d : Fin 1024) :
    iblk m c 3 t (ix4 0 0 0 d) = m ((c : Thread nD τ).loc main_arg3) (ix4 4 (tgroup t) 0 d) := by
  blk_simp [iblk]
  rw [V_main_arg3]
  refine congrArg (m ((c : Thread nD τ).loc main_arg3)) (funext fun b => Fin.ext ?_)
  blk_simp [idx3, tgroup]
  fin_cases b <;> simp

/-- The gate projection: the first half of the columns. -/
theorem blk4 (c : Dev nD) (t : Fin cfg0.N) (k : Fin 1024) (f : Fin 2816) :
    iblk m c 4 t (ix2 k f) = m ((c : Thread nD τ).loc main_arg4) (ix2 k ⟨f.val, by omega⟩) := by
  blk_simp [iblk]
  rw [V_main_arg4]
  refine congrArg (m ((c : Thread nD τ).loc main_arg4)) (funext fun b => Fin.ext ?_)
  blk_simp [idx4]
  fin_cases b <;> simp

/-- The other projection: the second half of the columns. -/
theorem blk5 (c : Dev nD) (t : Fin cfg0.N) (k : Fin 1024) (f : Fin 2816) :
    iblk m c 5 t (ix2 k f) = m ((c : Thread nD τ).loc main_arg4) (ix2 k ⟨2816 + f.val, by omega⟩) := by
  blk_simp [iblk]
  rw [V_main_arg4]
  refine congrArg (m ((c : Thread nD τ).loc main_arg4)) (funext fun b => Fin.ext ?_)
  blk_simp [idx5]
  fin_cases b <;> simp

/-- The output projection. -/
theorem blk6 (c : Dev nD) (t : Fin cfg0.N) (f : Fin 2816) (d : Fin 1024) :
    iblk m c 6 t (ix2 f d) = m ((c : Thread nD τ).loc main_arg5) (ix2 f d) := by
  blk_simp [iblk]
  rw [V_main_arg5]
  refine congrArg (m ((c : Thread nD τ).loc main_arg5)) (funext fun b => Fin.ext ?_)
  blk_simp [idx6]
  fin_cases b <;> simp

/-- The second norm's weights. -/
theorem blk7 (c : Dev nD) (t : Fin cfg0.N) (d : Fin 1024) :
    iblk m c 7 t (ix2 0 d) = m ((c : Thread nD τ).loc main_arg2) (ix2 0 d) := by
  blk_simp [iblk]
  rw [V_main_arg2]
  refine congrArg (m ((c : Thread nD τ).loc main_arg2)) (funext fun b => Fin.ext ?_)
  blk_simp [idx7]
  fin_cases b <;> simp

/-- The gate of the rows' group. -/
theorem blk8 (c : Dev nD) (t : Fin cfg0.N) (d : Fin 1024) :
    iblk m c 8 t (ix4 0 0 0 d) = m ((c : Thread nD τ).loc main_arg3) (ix4 5 (tgroup t) 0 d) := by
  blk_simp [iblk]
  rw [V_main_arg3]
  refine congrArg (m ((c : Thread nD τ).loc main_arg3)) (funext fun b => Fin.ext ?_)
  blk_simp [idx8, tgroup]
  fin_cases b <;> simp

/-- What the layer computes at row `n` and column `d`. -/
def out (x : Vec Ideal S33280x1024 .f32) (w w2 : Vec Ideal S1x1024 .f32) (mods : Vec Ideal S6x8x1x1024 .f32)
    (gu : Vec Ideal S1024x5632 .bf16) (wd : Vec Ideal S2816x1024 .bf16) (n : Fin 33280) (d : Fin 1024) : EReal :=
  row (fun d => x (ix2 n d)) (fun d => w (ix2 0 d)) (fun d => w2 (ix2 0 d)) (fun d => mods (ix4 3 (group n) 0 d))
    (fun d => mods (ix4 4 (group n) 0 d)) (fun d => mods (ix4 5 (group n) 0 d))
    (fun k f => gu (ix2 k ⟨f.val, by omega⟩)) (fun k f => gu (ix2 k ⟨2816 + f.val, by omega⟩))
    (fun f d => wd (ix2 f d)) d

/-- What a grid point computes for an index of its block is the array's entry at the block's index. -/
theorem cell_eq (c : Dev nD) (t : Fin cfg0.N) (r : Fin 512) (d : Fin 1024) (n : Fin 33280) (e : Fin 1024)
    (hn : n.val = 512 * t.val + r.val) (he : e = d) :
    out0_9 (iblk m c 0 t) (iblk m c 1 t) (iblk m c 2 t) (iblk m c 3 t) (iblk m c 4 t) (iblk m c 5 t) (iblk m c 6 t)
        (iblk m c 7 t) (iblk m c 8 t) (ix2 r d)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) n e := by
  subst he
  have hg : tgroup t = group n := Fin.ext (by
    have hr := r.isLt
    simp only [tgroup, group]
    omega)
  refine (out_apply _ _ _ _ _ _ _ _ _ r e).trans ?_
  unfold out
  simp only [blk0 m c t r _ n hn, blk1, blk2, blk3, blk4, blk5, blk6, blk7, blk8, hg]

/-- The result array. -/
theorem final_apply (c : Dev nD) (n : Fin 33280) (d : Fin 1024) :
    (dats m 0 c).arrAt 9 cfg0.N (ix2 n d)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) n d := by
  have hd := d.isLt
  have hN : cfg0.N = 65 := rfl
  have hlt : n.val / 512 < cfg0.N := by rw [hN]; omega
  refine (dats m 0 c).arrAt_forall_of_flushed 9 (fun i v => v
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (i 0) (i 1))
      (fun t _ y => ?_) cfg0.N ⟨n.val / 512, hlt⟩ (ix2 n d) hlt (flush0_9 _) ?_
  · rw [Value.flushed9]
    blk_simp
    have hy : (y : S512x1024.Idx) = ix2 (y 0) (y 1) := eq_ix2 (y : S512x1024.Idx)
    refine Eq.trans (congrArg (out0_9 (iblk m c 0 t) (iblk m c 1 t) (iblk m c 2 t) (iblk m c 3 t) (iblk m c 4 t)
      (iblk m c 5 t) (iblk m c 6 t) (iblk m c 7 t) (iblk m c 8 t)) hy) ?_
    refine cell_eq m c t (y 0) (y 1) _ _ ?_ (Fin.ext ?_)
    · blk_simp [idx9]
      simp [Nat.mul_comm]
    · blk_simp [idx9]
  · mem_blk [idx9]
    change (n.val / 512 * 512 ≤ n.val ∧ n.val < n.val / 512 * 512 + 512)
      ∧ 0 * 1024 ≤ d.val ∧ d.val < 0 * 1024 + 1024
    omega

end Cert.FfnIdeal.Array
-- ==== Proof.FfnRef.lean ====
/- The dense feed-forward's reference read at an index, over the extended reals. -/
module

public import proofs.«01_k».proof.Proof.Gen.FfnRefIdeal.Read
public import proofs.«01_k».proof.Proof.DenseMath
public import Idealize.ShloMosaic.Lib.Tactic.CleanTypes

@[expose] public section

set_option maxRecDepth 16384

noncomputable section

namespace Cert.FfnRefIdeal.Ref

open Idealize.ShloMosaic Idealize.ShloMosaic.TcCoe
open Cert.FfnRefIdeal Cert.FfnRefIdeal.Gen Cert.FfnRefIdeal.Read Cert.DenseMath

/-- The shift of each row. -/
theorem shift_apply (x3 : Vec Ideal S6x8x1x1024 .f32) (n : Fin 33280) (d : Fin 1024) :
    val_main_v21 (F := Ideal) x3 (ix2 n d) = x3 (ix4 3 (group n) 0 d) := by
  refine Eq.trans ?_ (group_ite (fun g => x3 (ix4 3 g 0 d)) n)
  pointwise [val_main_v21, val_main_v20, val_main_v19, val_main_v18, val_main_v17, val_main_v16, val_main_v15,
    val_main_v14, val_main_v13, val_main_v12]

/-- The scale of each row. -/
theorem scale_apply (x3 : Vec Ideal S6x8x1x1024 .f32) (n : Fin 33280) (d : Fin 1024) :
    val_main_v31 (F := Ideal) x3 (ix2 n d) = x3 (ix4 4 (group n) 0 d) := by
  refine Eq.trans ?_ (group_ite (fun g => x3 (ix4 4 g 0 d)) n)
  pointwise [val_main_v31, val_main_v30, val_main_v29, val_main_v28, val_main_v27, val_main_v26, val_main_v25,
    val_main_v24, val_main_v23, val_main_v22]

/-- The gate of each row. -/
theorem gate_apply (x3 : Vec Ideal S6x8x1x1024 .f32) (n : Fin 33280) (d : Fin 1024) :
    val_main_v53 (F := Ideal) x3 (ix2 n d) = x3 (ix4 5 (group n) 0 d) := by
  refine Eq.trans ?_ (group_ite (fun g => x3 (ix4 5 g 0 d)) n)
  pointwise [val_main_v53, val_main_v52, val_main_v51, val_main_v50, val_main_v49, val_main_v48, val_main_v47,
    val_main_v46, val_main_v45, val_main_v44]

/-- The normed rows. -/
theorem norm_apply (x0 : Vec Ideal S33280x1024 .f32) (x1 : Vec Ideal S1x1024 .f32) (n : Fin 33280) (d : Fin 1024) :
    val_main_v11 (F := Ideal) x0 x1 (ix2 n d) = rms (fun d => x0 (ix2 n d)) (fun d => x1 (ix2 0 d)) d := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

variable (x0 : Vec Ideal S33280x1024 .f32) (x1 x2 : Vec Ideal S1x1024 .f32) (x3 : Vec Ideal S6x8x1x1024 .f32)
  (x4 : Vec Ideal S1024x5632 .bf16) (x5 : Vec Ideal S2816x1024 .bf16)

/-- The feed-forward of each row. -/
theorem ffn_apply (n : Fin 33280) (d : Fin 1024) :
    val_main_v43 (F := Ideal) x0 x1 x3 x4 x5 (ix2 n d)
      = ffn (modulated (fun d => x0 (ix2 n d)) (fun d => x1 (ix2 0 d)) (fun d => x3 (ix4 3 (group n) 0 d))
            (fun d => x3 (ix4 4 (group n) 0 d)))
          (fun k f => x4 (ix2 k ⟨f.val, by omega⟩)) (fun k f => x4 (ix2 k ⟨2816 + f.val, by omega⟩))
          (fun f => x5 (ix2 f d)) := by
  pointwise [val_main_v43, val_main_v42, val_main_v41, val_main_v40, val_main_call0_v0, val_main_call0_v1,
    val_main_call0_v2, val_main_call0_v3, val_main_call0_v4, val_main_call0_v5, val_main_call0_cst,
    val_main_call0_cst_0, val_main_v39, val_main_v38, val_main_v37, val_main_v36, val_main_v35, val_main_v34,
    val_main_v33, val_main_v32, val_main_cst_2]
  simp only [MoeMath.act_eq, norm_apply, shift_apply, scale_apply]
  rfl

/-- The reference's result at an index. -/
theorem out_apply (n : Fin 33280) (d : Fin 1024) :
    val_main_v67 (F := Ideal) x0 x1 x2 x3 x4 x5 (ix2 n d)
      = residual (fun d => x0 (ix2 n d)) (fun d => x3 (ix4 5 (group n) 0 d)) (fun d => x2 (ix2 0 d))
          (fun d => ffn (modulated (fun d => x0 (ix2 n d)) (fun d => x1 (ix2 0 d))
              (fun d => x3 (ix4 3 (group n) 0 d)) (fun d => x3 (ix4 4 (group n) 0 d)))
            (fun k f => x4 (ix2 k ⟨f.val, by omega⟩)) (fun k f => x4 (ix2 k ⟨2816 + f.val, by omega⟩))
            (fun f => x5 (ix2 f d))) d := by
  pointwise [val_main_v67, val_main_v66, val_main_v65, val_main_v64, val_main_v63, val_main_v62, val_main_v61,
    val_main_v60, val_main_v59, val_main_v58, val_main_v57, val_main_v56, val_main_v55, val_main_v54, val_main_cst_3,
    val_main_cst_4, val_main_cst_5]
  simp only [gate_apply, ffn_apply]
  rfl

end Cert.FfnRefIdeal.Ref
-- ==== Proof.FfnClaim.lean ====
/- The dense feed-forward's claims: the runs, and the equality with the reference. -/
module

public import proofs.«01_k».proof.Defs
public import proofs.«01_k».proof.Proof.FfnArray
public import proofs.«01_k».proof.Proof.FfnRef
public import proofs.«01_k».proof.Proof.Gen.Ffn
public import proofs.«01_k».proof.Proof.Gen.Ffn.Frame
public import proofs.«01_k».proof.Proof.Gen.FfnIdeal.Frame
public import proofs.«01_k».proof.Proof.Gen.FfnRefIdeal.Run
public import Idealize.ShloMosaic.Lib.Quiescent

@[expose] public section

set_option maxRecDepth 16384

noncomputable section

namespace Cert.FfnClaim

open Idealize.ShloMosaic Idealize.ShloMosaic.TcCoe Idealize.SL.Sem

/-- The kernel runs, leaves its arguments as they were and ends with every counter at zero. -/
theorem frame_Ffn : Cert.quiescent_Ffn := fun m g _ => Cert.Ffn.Gen.frame m g

/-- So does the kernel read over the extended reals. -/
theorem frame_FfnIdeal : Cert.quiescent_FfnIdeal := fun m g _ => Cert.FfnIdeal.Gen.frame m g

/-- The reference runs, leaves its arguments as they were and ends with every counter at zero. -/
theorem frame_FfnRefIdeal : Cert.quiescent_FfnRefIdeal := fun m g _ =>
  (θ_run _ _ _).mono (fun r h => ⟨fun c => (h c).2, sem_eq_zero_of_no_sems (by decide) r.2⟩)
    (Cert.FfnRefIdeal.Value.run m g)

/-- No constant is named. -/
theorem preserves : Cert.preserves_Ffn_FfnIdeal := trivial

/-- Kernel and reference agree. -/
theorem algebraic : Cert.algebraic_FfnIdeal_FfnRefIdeal := by
  intro m g m' g' hpre hagree
  refine ⟨fun c => Cert.FfnRefIdeal.Read.val_main_v67 (F := Ideal)
            (m ((c.tc : Thread _ _).loc Cert.FfnIdeal.main_arg0))
            (m ((c.tc : Thread _ _).loc Cert.FfnIdeal.main_arg1))
            (m ((c.tc : Thread _ _).loc Cert.FfnIdeal.main_arg2))
            (m ((c.tc : Thread _ _).loc Cert.FfnIdeal.main_arg3))
            (m ((c.tc : Thread _ _).loc Cert.FfnIdeal.main_arg4))
            (m ((c.tc : Thread _ _).loc Cert.FfnIdeal.main_arg5)),
    (θ_run _ _ _).mono (fun r h c => ⟨(h c).1.trans (funext fun i => ?_), (h c).2⟩)
      (Cert.FfnIdeal.Value.run_blocks m g),
    (θ_run _ _ _).mono (fun r h c => ⟨(h c).1.trans ?_, (h c).2⟩) (Cert.FfnRefIdeal.Value.run m' g')⟩
  · obtain ⟨n, d, rfl⟩ : ∃ n d, i = ix2 n d := ⟨_, _, eq_ix2 i⟩
    exact (Cert.FfnIdeal.Array.final_apply m c n d).trans (Cert.FfnRefIdeal.Ref.out_apply _ _ _ _ _ _ n d).symm
  · rw [Cert.FfnRefIdeal.Read.val_main_v67_eq, (hagree c).1, (hagree c).2.1, (hagree c).2.2.1, (hagree c).2.2.2.1,
      (hagree c).2.2.2.2.1, (hagree c).2.2.2.2.2]

end Cert.FfnClaim
-- ==== Proof.InFrame.lean ====
/- The odd layers' mixer input projection runs and leaves its arguments as they were: the frame of the program over
   bits. Nothing is said of what the two results hold, so they and the scratch are held at some contents. -/
module

public import proofs.«01_k».proof.Defs
public import proofs.«01_k».proof.Proof.Gen.In.Frame
public import proofs.«01_k».proof.Proof.Gen.In.Skeleton
public import Idealize.ShloMosaic.Lib.Pipeline.FrameBody
public import Idealize.ShloMosaic.Lib.Tactic

@[expose] public section

set_option maxRecDepth 16384

noncomputable section

namespace Cert.In.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.In Cert.In.Gen

variable {F : FTy → Type} [FloatOps F]

/-- The scratch that carries the normalized rows. -/
abbrev scratch : Memref sig .tc .vmem S512x1024 .bf16 := Memref.whole cc0_scratch0

/-- A buffer held at some contents through a memref is that memref owned at what it reads. -/
theorem owns_some {S : Shape} {e : EltTy} (c : Dev nD) (a : Memref sig .tc .vmem S e)
    (f : Buf (Elt F) (a.view.loc (c : Thread nD τ))) :
    (a.view.loc (c : Thread nD τ) ↦[a.view.set]{fullShare} f : sProp (MT nD τ sig Unit (Elt F) ℕ (UR sig nD τ) ℕ)) ⊢ iprop(∃ d, owns (c : Thread nD τ) a fullShare d) := by
  unfold owns
  iintro H
  iexists _; iexists f
  isplitr
  · ipureintro; rfl
  iexact H

/-- A whole memref's buffer at the contents that read as given is held at contents that read so. -/
theorem owns_unread {S : Shape} {e : EltTy} (c : Dev nD) (a : Memref sig .tc .vmem S e) (h : a.IsWhole) (x : Vec F S e) :
    (a.view.loc (c : Thread nD τ) ↦[a.view.set]{fullShare} h.unread x : sProp (MT nD τ sig Unit (Elt F) ℕ (UR sig nD τ) ℕ))
      ⊢ iprop(∃ f, ⌜a.view.read (Elt F) f = x⌝ ∗ (a.view.loc (c : Thread nD τ) ↦[a.view.set]{fullShare} f)) := by
  iintro H
  iexists _
  isplitr
  · ipureintro; exact h.read_unread x
  iexact H

section Triple

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1x1x1024 .f32) (h4 : a4.IsWhole)
  (a5 : Memref sig .tc .vmem S1x1x1x1024 .f32) (h5 : a5.IsWhole)
  (a6 : Memref sig .tc .vmem S1024x2560 .bf16) (h6 : a6.IsWhole) (a7 : Memref sig .tc .vmem S1024x128 .bf16) (h7 : a7.IsWhole)
  (a8 : Memref sig .tc .vmem S512x2560 .bf16) (h8 : a8.IsWhole) (a9 : Memref sig .tc .vmem S512x128 .f32) (h9 : a9.IsWhole)
  (a10 : Memref sig .tc .vmem S512x1024 .bf16) (h10 : a10.IsWhole)

/-- What the body is handed and gives back: the inputs at their contents, the results and the scratch at some. -/
def held (x2 : Vec F S512x1024 .f32) (x3 : Vec F S1x1024 .f32) (x4 x5 : Vec F S1x1x1x1024 .f32)
    (x6 : Vec F S1024x2560 .bf16) (x7 : Vec F S1024x128 .bf16) : sProp (MT nD τ sig Unit (Elt F) ℕ (UR sig nD τ) ℕ) :=
  iprop(owns (c : Thread nD τ) a2 fullShare x2 ∗ owns (c : Thread nD τ) a3 fullShare x3
    ∗ owns (c : Thread nD τ) a4 fullShare x4 ∗ owns (c : Thread nD τ) a5 fullShare x5
    ∗ owns (c : Thread nD τ) a6 fullShare x6 ∗ owns (c : Thread nD τ) a7 fullShare x7
    ∗ (∃ d, owns (c : Thread nD τ) a8 fullShare d) ∗ (∃ d, owns (c : Thread nD τ) a9 fullShare d)
    ∗ (∃ d, owns (c : Thread nD τ) a10 fullShare d))

/-- The body runs at any point and gives everything back. -/
theorem runs (x2 : Vec F S512x1024 .f32) (x3 : Vec F S1x1024 .f32) (x4 x5 : Vec F S1x1x1x1024 .f32)
    (x6 : Vec F S1024x2560 .bf16) (x7 : Vec F S1024x128 .bf16) (K : PUnit → sProp (MT nD τ sig Unit (Elt F) ℕ (UR sig nD τ) ℕ)) :
    iprop(held c a2 a3 a4 a5 a6 a7 a8 a9 a10 x2 x3 x4 x5 x6 x7
        ∗ (held c a2 a3 a4 a5 a6 a7 a8 a9 a10 x2 x3 x4 x5 x6 x7 -∗ K ⟨⟩))
      ⊢ wp frame (wpE (defs₀ (F := F)) Variants.none c none) Set.univ
          (cc0_proj_ssm i a2 h2 a3 h3 a4 h4 a5 h5 a6 h6 a7 h7 a8 h8 a9 h9 a10 h10) K := by
  simp only [cc0_proj_ssm_eq_skeleton]; unfold cc0_proj_ssm_skel
  rw [held]; unfold owns
  iintro ⟨⟨⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩⟩, Hk⟩
  obtain rfl := h2.eq_unread e2; obtain rfl := h3.eq_unread e3; obtain rfl := h4.eq_unread e4
  obtain rfl := h5.eq_unread e5; obtain rfl := h6.eq_unread e6; obtain rfl := h7.eq_unread e7
  by_cases hc : k0_cond1 i = 1#1
  all_goals
    sl_exec (disch := sl_exact hc)
    sl_step
    iapply Hk
    isplitl [H2]; · iapply (owns_unread c a2 h2 x2); iexact H2
    isplitl [H3]; · iapply (owns_unread c a3 h3 x3); iexact H3
    isplitl [H4]; · iapply (owns_unread c a4 h4 x4); iexact H4
    isplitl [H5]; · iapply (owns_unread c a5 h5 x5); iexact H5
    isplitl [H6]; · iapply (owns_unread c a6 h6 x6); iexact H6
    isplitl [H7]; · iapply (owns_unread c a7 h7 x7); iexact H7
    isplitl [H8]; · iapply (owns_some c a8 _); iexact H8
    isplitl [H9]; · iapply (owns_some c a9 _); iexact H9
    iapply (owns_some c a10 _); iexact H10

end Triple

variable (m : (ℓ : Loc nD τ sig) → Buf (Elt F) ℓ) (ρ : Dev nD → PrngReg)

/-- The two results are the windows of which nothing is said. -/
abbrev forgotten (w : Fin cfg0.W) : Bool := decide (6 ≤ w.val)

/-- The proof data: every input's buffer holds its block after the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (k0_pay1 (iblk m c 0 t) (iblk m c 1 t) (iblk m c 2 t) (iblk m c 3 t)) (iblk m c 4 t)
    | ⟨7, _⟩ => k0_pay3 (iblk m c 0 t) (iblk m c 1 t) (iblk m c 2 t) (iblk m c 3 t) (iblk m c 5 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- The launch's invariant is the scratch at some contents beside the generator register. -/
theorem inv_eq (c : Dev nD) :
    (Pipeline.ΦA spec0 c : sProp (MT nD τ sig Unit (Elt F) ℕ (UR sig nD τ) ℕ))
      = iprop((∃ d, owns (c : Thread nD τ) scratch fullShare d) ∗ (∃ r, prngReg c r)) := by
  unfold Pipeline.ΦA; rw [scopedRest0_eq]; simp only [scratch, owns_whole]; try rfl

/-- The body at a point, on the staging buffers the pipeline hands it. -/
theorem at_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare d)
        ∗ (∃ d, owns (c : Thread nD τ) (st0_7 t) fullShare d))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (iblk m c 4 t) ∗ owns (c : Thread nD τ) (st0_5 t) fullShare (iblk m c 5 t)
          ∗ (∃ d, owns (c : Thread nD τ) (st0_6 t) fullShare d)
          ∗ (∃ d, owns (c : Thread nD τ) (st0_7 t) fullShare d)) := by
  unfold bodyAt0
  simp only [before_0, before_1, before_2, before_3, before_4, before_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    inv_eq]
  iintro ⟨⟨HS, Hg⟩, Ho, ⟨%d0, H0⟩, ⟨%d1, H1⟩, ⟨%d2, H2⟩, ⟨%d3, H3⟩, ⟨%d4, H4⟩, ⟨%d5, H5⟩, H6, H7⟩
  iapply (runs c (grid0.coords t) _ _ _ _ _ _ _ _ _ _ _ _ _ _ _ _ scratch _ (iblk m c 0 t) (iblk m c 1 t) (iblk m c 2 t)
    (iblk m c 3 t) (iblk m c 4 t) (iblk m c 5 t) _)
  unfold held
  isplitl [H0 H1 H2 H3 H4 H5 H6 H7 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at a point's slots is the body at the point. -/
theorem row_eq (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (dats (F := F) m 0 c) (defs₀ (F := F)) Variants.none () Set.univ forgotten :=
  fun t => by
    rw [bigSep_W0, bigSep_W0, row_eq]
    exact triple_restated (at_point m c t) rfl .rfl fun _ => .rfl

set_option backward.isDefEq.respectTransparency.types false in
/-- The launch: the inputs' arrays end as they began, and every counter is at zero. -/
theorem launched : θ_run defs (onTc (τ := τ) (main (F := F))) (s₀ m ρ) (fun r =>
    Pipeline.RDat.FramePost cfg0 (fun c => (dats m 0 c).toRForget forgotten) (V m) r ∧ r.2.sem = fun _ => 0) :=
  Pipeline.θ_run_frame_forget_shared (Q' := _) cfgs (dats m) (0 : Fin 1) launch₀0 defs₀ Variants.none forgotten m ρ main
    (hbody := fun c => (obligation m c).loose) (hq := fun _ _ _ => rfl) (howed := fun _ _ => rfl) (V := V m)
    (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨h.1.arr_in c 0 rfl, h.1.arr_in c 1 rfl, h.1.arr_in c 2 rfl, h.1.arr_in c 4 rfl,
    h.1.arr_in c 5 rfl⟩, h.2⟩) (launched m ρ)

end Cert.In.Body
-- ==== Proof.InBody.lean ====
/- The odd layers' mixer input projection over any values, point by point. The first point of a row block normalizes its
   rows into the scratch and stores the block of the second result; the second point finds both there. So the scratch
   and the second result's buffer hold, after either point, what the row block's first point put there. -/
module

public import proofs.«01_k».proof.Defs
public import proofs.«01_k».proof.Proof.Gen.InIdeal.Frame
public import proofs.«01_k».proof.Proof.Gen.InIdeal.Skeleton
public import Idealize.ShloMosaic.Lib.Pipeline.FrameBody
public import Idealize.ShloMosaic.Lib.Pipeline.Value
public import Idealize.ShloMosaic.Lib.Tactic

@[expose] public section

set_option maxRecDepth 16384

noncomputable section

namespace Cert.InIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InIdeal Cert.InIdeal.Gen

variable {F : FTy → Type} [FloatOps F]

/-- The scratch that carries the normalized rows. -/
abbrev scratch : Memref sig .tc .vmem S512x1024 .bf16 := Memref.whole cc0_scratch0

/-- A whole memref's buffer at the contents that read as given is held at contents that read so. -/
theorem owns_unread {S : Shape} {e : EltTy} (c : Dev nD) (a : Memref sig .tc .vmem S e) (h : a.IsWhole) (x : Vec F S e) :
    (a.view.loc (c : Thread nD τ) ↦[a.view.set]{fullShare} h.unread x : sProp (MT nD τ sig Unit (Elt F) ℕ (UR sig nD τ) ℕ))
      ⊢ iprop(∃ f, ⌜a.view.read (Elt F) f = x⌝ ∗ (a.view.loc (c : Thread nD τ) ↦[a.view.set]{fullShare} f)) := by
  iintro H
  iexists _
  isplitr
  · ipureintro; exact h.read_unread x
  iexact H

private theorem z2 : (![0, 0] : Fin 2 → Nat) = fun _ => 0 := by funext a; fin_cases a <;> rfl
private theorem z4 : (![0, 0, 0, 0] : Fin 4 → Nat) = fun _ => 0 := by funext a; fin_cases a <;> rfl

/-- A buffer stored whole reads as what was stored. -/
theorem read_filled {S : Shape} {e : EltTy} (a : Memref sig .tc .vmem S e) {off : Fin S.rank → Nat} (h : off = fun _ => 0)
    (inb : ∀ b, off b + S.size b ≤ S.size b) (f : a.view.ty.Contents (Elt F)) (x : Vec F S e) :
    a.view.read (Elt F) (a.view.writes (Elt F) f [⟨Rect.unit off S.size inb, x⟩]) = x := by
  rw [View.read_writes_eq_canon _ _ _ (fun y => ⟨_, List.mem_singleton_self _, View.mem_set_unit_zero h inb y⟩), View.canon_cons_unit_zero h]

/-- The rows normalized from whole loads of the blocks. -/
theorem normal_loaded (x0 : Vec F S512x1024 .f32) (x1 : Vec F S1x1024 .f32) (x2 x3 : Vec F S1x1x1x1024 .f32) (i0 i1 i2) :
    k0_pay2 (View.ld x0 (Rect.unit ![0, 0] S512x1024.size i0)) (View.ld x1 (Rect.unit ![0, 0] S1x1024.size i1))
        (View.ld x2 (Rect.unit ![0, 0, 0, 0] S1x1x1x1024.size i2)) (View.ld x3 (Rect.unit ![0, 0, 0, 0] S1x1x1x1024.size i2))
      = k0_pay2 x0 x1 x2 x3 := by
  rw [View.ld_unit_zero (S := S512x1024) z2, View.ld_unit_zero (S := S1x1024) z2, View.ld_unit_zero (S := S1x1x1x1024) z4,
    View.ld_unit_zero (S := S1x1x1x1024) z4]

/-- The block of the second result from whole loads of the blocks. -/
theorem second_loaded (x0 : Vec F S512x1024 .f32) (x1 : Vec F S1x1024 .f32) (x2 x3 : Vec F S1x1x1x1024 .f32)
    (x5 : Vec F S1024x128 .bf16) (i0 i1 i2 i5) :
    k0_pay3 (View.ld x0 (Rect.unit ![0, 0] S512x1024.size i0)) (View.ld x1 (Rect.unit ![0, 0] S1x1024.size i1))
        (View.ld x2 (Rect.unit ![0, 0, 0, 0] S1x1x1x1024.size i2)) (View.ld x3 (Rect.unit ![0, 0, 0, 0] S1x1x1x1024.size i2))
        (View.ld x5 (Rect.unit ![0, 0] S1024x128.size i5))
      = k0_pay3 x0 x1 x2 x3 x5 := by
  rw [View.ld_unit_zero (S := S512x1024) z2, View.ld_unit_zero (S := S1x1024) z2, View.ld_unit_zero (S := S1x1x1x1024) z4,
    View.ld_unit_zero (S := S1x1x1x1024) z4, View.ld_unit_zero (S := S1024x128) z2]

section Triple

variable (c : Dev nD) (i : grid0.Coords)
  (a2 : Memref sig .tc .vmem S512x1024 .f32) (h2 : a2.IsWhole) (a3 : Memref sig .tc .vmem S1x1024 .f32) (h3 : a3.IsWhole)
  (a4 : Memref sig .tc .vmem S1x1x1x1024 .f32) (h4 : a4.IsWhole)
  (a5 : Memref sig .tc .vmem S1x1x1x1024 .f32) (h5 : a5.IsWhole)
  (a6 : Memref sig .tc .vmem S1024x2560 .bf16) (h6 : a6.IsWhole) (a7 : Memref sig .tc .vmem S1024x128 .bf16) (h7 : a7.IsWhole)
  (a8 : Memref sig .tc .vmem S512x2560 .bf16) (h8 : a8.IsWhole) (a9 : Memref sig .tc .vmem S512x128 .f32) (h9 : a9.IsWhole)
  (a10 : Memref sig .tc .vmem S512x1024 .bf16) (h10 : a10.IsWhole)

/-- What one point leaves: the inputs as they were, the second result at `z`, the scratch at `h`, and the first result at
    the scratch's product with the weights. -/
def leaves (x2 : Vec F S512x1024 .f32) (x3 : Vec F S1x1024 .f32) (x4 x5 : Vec F S1x1x1x1024 .f32)
    (x6 : Vec F S1024x2560 .bf16) (x7 : Vec F S1024x128 .bf16) (h : Vec F S512x1024 .bf16) (z : Vec F S512x128 .f32) : sProp (MT nD τ sig Unit (Elt F) ℕ (UR sig nD τ) ℕ) :=
  iprop(owns (c : Thread nD τ) a2 fullShare x2 ∗ owns (c : Thread nD τ) a3 fullShare x3
    ∗ owns (c : Thread nD τ) a4 fullShare x4 ∗ owns (c : Thread nD τ) a5 fullShare x5
    ∗ owns (c : Thread nD τ) a6 fullShare x6 ∗ owns (c : Thread nD τ) a7 fullShare x7
    ∗ owns (c : Thread nD τ) a8 fullShare (k0_pay4 h x6) ∗ owns (c : Thread nD τ) a9 fullShare z
    ∗ owns (c : Thread nD τ) a10 fullShare h)

variable (x2 : Vec F S512x1024 .f32) (x3 : Vec F S1x1024 .f32) (x4 x5 : Vec F S1x1x1x1024 .f32)
    (x6 : Vec F S1024x2560 .bf16) (x7 : Vec F S1024x128 .bf16) (K : PUnit → sProp (MT nD τ sig Unit (Elt F) ℕ (UR sig nD τ) ℕ))

/-- The first point of a row block. -/
theorem first_point (hc : k0_cond1 i = 1#1) :
    iprop(owns (c : Thread nD τ) a2 fullShare x2 ∗ owns (c : Thread nD τ) a3 fullShare x3
        ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ (∃ d, owns (c : Thread nD τ) a9 fullShare d) ∗ (∃ d, owns (c : Thread nD τ) a10 fullShare d)
        ∗ (leaves c a2 a3 a4 a5 a6 a7 a8 a9 a10 x2 x3 x4 x5 x6 x7 (k0_pay2 x2 x3 x4 x5) (k0_pay3 x2 x3 x4 x5 x7) -∗ K ⟨⟩))
      ⊢ wp frame (wpE (defs₀ (F := F)) Variants.none c none) Set.univ
          (cc0_proj_ssm i a2 h2 a3 h3 a4 h4 a5 h5 a6 h6 a7 h7 a8 h8 a9 h9 a10 h10) K := by
  simp only [cc0_proj_ssm_eq_skeleton]; unfold cc0_proj_ssm_skel
  unfold leaves owns
  iintro ⟨⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%d10, %f10, -, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  sl_exec (disch := sl_exact hc)
  sl_step
  sl_unfold_words
  iapply Hk
  isplitl [H2]; · iapply (owns_unread c a2 h2 x2); iexact H2
  isplitl [H3]; · iapply (owns_unread c a3 h3 x3); iexact H3
  isplitl [H4]; · iapply (owns_unread c a4 h4 x4); iexact H4
  isplitl [H5]; · iapply (owns_unread c a5 h5 x5); iexact H5
  isplitl [H6]; · iapply (owns_unread c a6 h6 x6); iexact H6
  isplitl [H7]; · iapply (owns_unread c a7 h7 x7); iexact H7
  isplitl [H8]
  · iexists _; isplitr
    swap; · iexact H8
    ipureintro
    refine (read_filled _ z2 _ _ _).trans ?_
    simp only [View.readAt_eq_ld, Memref.IsWhole.read_unread]
    exact congrArg₂ k0_pay4 ((View.readCov_unit_zero (S := S512x1024) _ z2 _ _).trans (normal_loaded _ _ _ _ _ _ _))
      (View.ld_unit_zero (S := S1024x2560) z2 _ x6)
  isplitl [H9]
  · iexists _; isplitr
    swap; · iexact H9
    ipureintro
    refine (read_filled _ z2 _ _ _).trans ?_
    simp only [View.readAt_eq_ld, Memref.IsWhole.read_unread]
    exact second_loaded _ _ _ _ _ _ _ _ _
  iexists _; isplitr
  swap; · iexact H10
  ipureintro
  refine (read_filled _ z2 _ _ _).trans ?_
  simp only [View.readAt_eq_ld, Memref.IsWhole.read_unread]
  exact normal_loaded _ _ _ _ _ _ _

/-- The second point of a row block. -/
theorem later_point (hc : ¬k0_cond1 i = 1#1) (h : Vec F S512x1024 .bf16) (z : Vec F S512x128 .f32) :
    iprop(owns (c : Thread nD τ) a2 fullShare x2 ∗ owns (c : Thread nD τ) a3 fullShare x3
        ∗ owns (c : Thread nD τ) a4 fullShare x4 ∗ owns (c : Thread nD τ) a5 fullShare x5
        ∗ owns (c : Thread nD τ) a6 fullShare x6 ∗ owns (c : Thread nD τ) a7 fullShare x7
        ∗ (∃ d, owns (c : Thread nD τ) a8 fullShare d) ∗ owns (c : Thread nD τ) a9 fullShare z
        ∗ owns (c : Thread nD τ) a10 fullShare h
        ∗ (leaves c a2 a3 a4 a5 a6 a7 a8 a9 a10 x2 x3 x4 x5 x6 x7 h z -∗ K ⟨⟩))
      ⊢ wp frame (wpE (defs₀ (F := F)) Variants.none c none) Set.univ
          (cc0_proj_ssm i a2 h2 a3 h3 a4 h4 a5 h5 a6 h6 a7 h7 a8 h8 a9 h9 a10 h10) K := by
  simp only [cc0_proj_ssm_eq_skeleton]; unfold cc0_proj_ssm_skel
  unfold leaves owns
  iintro ⟨⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%f9, %e9, H9⟩, ⟨%f10, %e10, H10⟩, Hk⟩
  obtain rfl := h2.eq_unread e2; obtain rfl := h3.eq_unread e3; obtain rfl := h4.eq_unread e4
  obtain rfl := h5.eq_unread e5; obtain rfl := h6.eq_unread e6; obtain rfl := h7.eq_unread e7
  obtain rfl := h9.eq_unread e9; obtain rfl := h10.eq_unread e10
  sl_exec (disch := sl_exact hc)
  sl_step
  sl_unfold_words
  iapply Hk
  isplitl [H2]; · iapply (owns_unread c a2 h2 x2); iexact H2
  isplitl [H3]; · iapply (owns_unread c a3 h3 x3); iexact H3
  isplitl [H4]; · iapply (owns_unread c a4 h4 x4); iexact H4
  isplitl [H5]; · iapply (owns_unread c a5 h5 x5); iexact H5
  isplitl [H6]; · iapply (owns_unread c a6 h6 x6); iexact H6
  isplitl [H7]; · iapply (owns_unread c a7 h7 x7); iexact H7
  isplitl [H8]
  · iexists _; isplitr
    swap; · iexact H8
    ipureintro
    refine (read_filled _ z2 _ _ _).trans ?_
    simp only [View.readAt_eq_ld, Memref.IsWhole.read_unread]
    exact congrArg₂ k0_pay4 (View.ld_unit_zero (S := S512x1024) z2 _ h) (View.ld_unit_zero (S := S1024x2560) z2 _ x6)
  isplitl [H9]; · iapply (owns_unread c a9 h9 z); iexact H9
  iapply (owns_unread c a10 h10 h); iexact H10

end Triple

end Cert.InIdeal.Body
-- ==== Proof.InRun.lean ====
/- The odd layers' mixer input projection over any values: what the scratch and every buffer hold after each point, the
   run, and the final arrays it leaves. -/
module

public import proofs.«01_k».proof.Proof.InBody
public import Idealize.ShloMosaic.Lib.Claim

@[expose] public section

set_option maxRecDepth 16384

noncomputable section

namespace Cert.InIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.InIdeal Cert.InIdeal.Gen

variable {F : FTy → Type} [FloatOps F]

variable (m : (ℓ : Loc nD τ sig) → Buf (Elt F) ℓ) (ρ : Dev nD → PrngReg)

/-- The first point of a point's row block. -/
def first (t : Fin cfg0.N) : Fin cfg0.N := ⟨t.val - t.val % 2, Nat.lt_of_le_of_lt (Nat.sub_le _ _) t.isLt⟩

/-- The point before. -/
def prior (t : Fin cfg0.N) : Fin cfg0.N := ⟨t.val - 1, Nat.lt_of_le_of_lt (Nat.sub_le _ _) t.isLt⟩

/-- The normalized rows of a point's row block. -/
def rows (c : Dev nD) (t : Fin cfg0.N) : Vec F S512x1024 .bf16 :=
  k0_pay2 (iblk m c 0 (first t)) (iblk m c 1 (first t)) (iblk m c 2 (first t)) (iblk m c 3 (first t))

/-- The block of the second result of a point's row block. -/
def second (c : Dev nD) (t : Fin cfg0.N) : Vec F S512x128 .f32 :=
  k0_pay3 (iblk m c 0 (first t)) (iblk m c 1 (first t)) (iblk m c 2 (first t)) (iblk m c 3 (first t)) (iblk m c 5 (first t))

theorem first_of_even (t : Fin cfg0.N) (h : t.val % 2 = 0) : first t = t := Fin.ext (by simp only [first]; omega)

theorem first_prior (t : Fin cfg0.N) (h : t.val % 2 = 1) : first (prior t) = first t :=
  Fin.ext (by simp only [first, prior]; omega)

theorem rows_prior (c : Dev nD) (t : Fin cfg0.N) (h : t.val % 2 = 1) : rows m c (prior t) = rows m c t := by
  unfold rows; rw [first_prior t h]

theorem second_prior (c : Dev nD) (t : Fin cfg0.N) (h : t.val % 2 = 1) : second m c (prior t) = second m c t := by
  unfold second; rw [first_prior t h]

theorem rows_of_even (c : Dev nD) (t : Fin cfg0.N) (h : t.val % 2 = 0) :
    rows m c t = k0_pay2 (iblk m c 0 t) (iblk m c 1 t) (iblk m c 2 t) (iblk m c 3 t) := by
  unfold rows; rw [first_of_even t h]

theorem second_of_even (c : Dev nD) (t : Fin cfg0.N) (h : t.val % 2 = 0) :
    second m c t = k0_pay3 (iblk m c 0 t) (iblk m c 1 t) (iblk m c 2 t) (iblk m c 3 t) (iblk m c 5 t) := by
  unfold second; rw [first_of_even t h]

/-- The invariant before a position: the launch's before the first point, then the scratch at the rows of the point
    before. -/
def inv (c : Dev nD) : (n : Nat) → n ≤ cfg0.N → sProp (MT nD τ sig Unit (Elt F) ℕ (UR sig nD τ) ℕ)
  | 0, _ => Pipeline.ΦA spec0 c
  | n + 1, h => iprop(owns (c : Thread nD τ) scratch fullShare (rows m c ⟨n, h⟩) ∗ (∃ r, prngReg c r))

theorem inv_pos (c : Dev nD) (n : Nat) (h : n ≤ cfg0.N) (hn : n ≠ 0) :
    inv m c n h = iprop(owns (c : Thread nD τ) scratch fullShare
      (rows m c ⟨n - 1, Nat.lt_of_lt_of_le (Nat.sub_lt (Nat.pos_of_ne_zero hn) Nat.one_pos) h⟩) ∗ (∃ r, prngReg c r)) := by
  cases n with
  | zero => exact absurd rfl hn
  | succ n => rfl

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (rows m c t) (iblk m c 4 t)
    | ⟨7, _⟩ => second m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after_6 (c : Dev nD) (t : Fin cfg0.N) : (dats m 0 c).after 6 t = k0_pay4 (rows m c t) (iblk m c 4 t) := by
  dsimp only [dats]; try rfl
theorem after_7 (c : Dev nD) (t : Fin cfg0.N) : (dats m 0 c).after 7 t = second m c t := by dsimp only [dats]; try rfl

theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d

/-- The launch's invariant is the scratch at some contents beside the generator register. -/
theorem inv_eq (c : Dev nD) :
    (Pipeline.ΦA spec0 c : sProp (MT nD τ sig Unit (Elt F) ℕ (UR sig nD τ) ℕ))
      = iprop((∃ d, owns (c : Thread nD τ) scratch fullShare d) ∗ (∃ r, prngReg c r)) := by
  unfold Pipeline.ΦA; rw [scopedRest0_eq]; simp only [scratch, owns_whole]; try rfl

/-- Before any position the scratch holds something. -/
theorem inv_any (c : Dev nD) (n : Nat) (h : n ≤ cfg0.N) :
    inv m c n h ⊢ iprop((∃ d, owns (c : Thread nD τ) scratch fullShare d) ∗ (∃ r, prngReg c r)) := by
  cases n with
  | zero => exact Entails.of_eq (inv_eq c)
  | succ n =>
    unfold inv
    iintro ⟨HS, Hg⟩
    isplitl [HS]
    · iexists _; iexact HS
    iexact Hg

theorem inv_castSucc (c : Dev nD) (t : Fin cfg0.N) :
    (dats m 0 c).Φ t.castSucc = inv m c t.val (Nat.le_of_lt t.isLt) := by
  dsimp only [dats]; exact Pipeline.Dat.Φ_castSucc (inv m c) t

/-- The body's condition, from the point's number. -/
theorem cond_iff : ∀ t : Fin grid0.N, k0_cond1 (grid0.coords t) = 1#1 ↔ t.val % 2 = 0 := by decide +kernel

theorem not_idle (t : Fin cfg0.N) (h : t.val % 2 = 0) : cfg0.idle 7 (cfg0.grid.coords t) = false := by
  show (!(k0_cond1 (grid0.coords t) == 1#1)) = false
  rw [(cond_iff t).mpr h]; rfl

/-- The second point of a row block finds the second result as the first point left it. -/
theorem found_7 (c : Dev nD) (t : Fin cfg0.N) (h : t.val % 2 = 1) (d) : (dats m 0 c).before 7 t d = second m c t := by
  have hp : (prior t).val % 2 = 0 := by simp only [prior]; omega
  have hf : (cfg0.win 7).flush (prior t) = false := by
    rw [← Bool.not_eq_true, flush0_7]; omega
  rw [(dats m 0 c).before_of_pos 7 t (by omega) ((cfg0.win 7).fetch_out rfl t)]
  rw [show (⟨t.val - 1, Nat.lt_of_le_of_lt (Nat.sub_le _ _) t.isLt⟩ : Fin cfg0.N) = prior t from rfl, hf, if_neg Bool.false_ne_true]
  unfold Dat.left
  rw [not_idle (prior t) hp]
  show (dats m 0 c).kept 7 (prior t) d = _
  unfold Dat.kept
  rw [Pipeline.fill_of_clip_none (cfg := cfg0) 7 _ (fun _ => rfl) d ((dats m 0 c).after 7 (prior t)), Window.fill_cut, after_7,
    second_prior m c t h]

/-- Either point leaves the second result's buffer at its contents after the point. -/
theorem leaves_7 (c : Dev nD) (t : Fin cfg0.N) :
    (dats m 0 c).leavesExact 7 t = owns (c : Thread nD τ) (st0_7 t) fullShare (second m c t) := by
  unfold Dat.leavesExact
  by_cases h : t.val % 2 = 0
  · rw [not_idle t h]; dsimp only; rw [after_7]
  · cases cfg0.idle 7 (cfg0.grid.coords t)
    · dsimp only; rw [after_7]
    · dsimp only; rw [(flush0_7 t).mpr (by omega)]; dsimp only; rw [after_7]

/-- The body at a point, on the staging buffers the pipeline hands it. -/
theorem at_point (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d))
        ∗ (∃ d, owns (c : Thread nD τ) (st0_7 t) fullShare ((dats m 0 c).before 7 t d)))
      ⊢ wp frame (wpE (defs₀ (F := F)) Variants.none c none) Set.univ (bodyAt0 t) fun _ =>
        iprop((dats m 0 c).Φ t.succ ∗ (dats m 0 c).owesAt () t.succ
          ∗ owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (iblk m c 4 t) ∗ owns (c : Thread nD τ) (st0_5 t) fullShare (iblk m c 5 t)
          ∗ owns (c : Thread nD τ) (st0_6 t) fullShare (k0_pay4 (rows m c t) (iblk m c 4 t))
          ∗ owns (c : Thread nD τ) (st0_7 t) fullShare (second m c t)) := by
  unfold bodyAt0
  simp only [before_0, before_1, before_2, before_3, before_4, before_5]
  rw [show (dats m 0 c).owesAt () t.succ = (dats m 0 c).owesAt () t.castSucc from rfl,
    show (dats m 0 c).Φ t.succ = iprop(owns (c : Thread nD τ) scratch fullShare (rows m c t) ∗ (∃ r, prngReg c r)) from rfl,
    inv_castSucc]
  by_cases h : t.val % 2 = 0
  · refine (sep_mono (inv_any m c t.val _) .rfl).trans ?_
    rw [rows_of_even m c t h, second_of_even m c t h]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (first_point c (grid0.coords t) _ _ _ _ _ _ _ _ _ _ _ _ _ _ _ _ scratch _ (iblk m c 0 t) (iblk m c 1 t)
      (iblk m c 2 t) (iblk m c 3 t) (iblk m c 4 t) (iblk m c 5 t) _ ((cond_iff t).mpr h))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    unfold leaves
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h1 : t.val % 2 = 1 := by omega
    rw [inv_pos m c t.val _ (by omega)]
    rw [show rows m c ⟨t.val - 1, _⟩ = rows m c t from rows_prior m c t h1]
    simp only [found_7 m c t h1]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (later_point c (grid0.coords t) _ _ _ _ _ _ _ _ _ _ _ _ _ _ _ _ scratch _ (iblk m c 0 t) (iblk m c 1 t)
      (iblk m c 2 t) (iblk m c 3 t) (iblk m c 4 t) (iblk m c 5 t) _ (fun hc => h ((cond_iff t).mp hc)) (rows m c t) (second m c t))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    unfold leaves
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point's slots is the body at the point. -/
theorem row_eq (t : Fin cfg0.N) : defs₀ (F := F) .tc cfg0.body (cfg0.bodyArgs t (cfg0.slots t)) = bodyAt0 t := by
  unfold defs₀; rw [Defs.onTc_tc]

/-- The pipeline's obligation of the body. -/
theorem obligation (c : Dev nD) : BodyObligation (dats (F := F) m 0 c) (defs₀ (F := F)) Variants.none () Set.univ :=
  fun t => by
    rw [bigSep_W0, bigSep_W0, row_eq]
    refine triple_restated (at_point m c t) rfl .rfl fun _ => ?_
    show _ ⊢ iprop((dats m 0 c).Φ t.succ ∗ (dats m 0 c).owesAt () t.succ
      ∗ (dats m 0 c).leavesExact 0 t ∗ (dats m 0 c).leavesExact 1 t ∗ (dats m 0 c).leavesExact 2 t
      ∗ (dats m 0 c).leavesExact 3 t ∗ (dats m 0 c).leavesExact 4 t ∗ (dats m 0 c).leavesExact 5 t
      ∗ (dats m 0 c).leavesExact 6 t ∗ (dats m 0 c).leavesExact 7 t)
    rw [leaves_7]
    exact .rfl

theorem hin (c : Dev nD) : Pipeline.ΦA spec0 c ⊢ (dats m 0 c).Φ 0 := Entails.of_eq rfl

theorem hout (c : Dev nD) : (dats m 0 c).Φ (Fin.last cfg0.N) ⊢ Pipeline.ΦA spec0 c := by
  rw [inv_eq]
  exact inv_any m c cfg0.N (Nat.le_refl _)

set_option backward.isDefEq.respectTransparency.types false in
/-- The launch: every array ends as the points' write-backs leave it, and every counter is at zero. -/
theorem launched : θ_run defs (onTc (τ := τ) (main (F := F))) (s₀ m ρ) (fun r =>
    Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := hin m) (hout := hout m)

/-- The run, without the counters. -/
theorem run_main : θ_run defs (onTc (τ := τ) (main (F := F))) (s₀ m ρ) (Pipeline.FramePost cfgs (dats m) 0 (V m)) :=
  (θ_run defs _ _).mono (fun _ h => h.1) (launched m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (launched m ρ))

end Cert.InIdeal.Body
-- ==== Proof.InArray.lean ====
/- The two arrays the odd layers' mixer input projection leaves, over the extended reals: each row's two products with the
   weights, of the row normed and modulated with its group's shift and scale. -/
module

public import proofs.«01_k».proof.Proof.InRun
public import proofs.«01_k».proof.Proof.DenseMath
public import Idealize.ShloMosaic.Lib.Pipeline.ValueKit
public import Idealize.ShloMosaic.Lib.Tactic

@[expose] public section

set_option maxRecDepth 16384

noncomputable section

namespace Cert.InIdeal.Array

open Idealize.ShloMosaic Idealize.ShloMosaic.TcCoe
open Idealize.ShloMosaic.Pipeline (Dat)
open Cert.InIdeal Cert.InIdeal.Gen Cert.InIdeal.Body Cert.DenseMath

section Block

variable (x : Vec Ideal S512x1024 .f32) (w : Vec Ideal S1x1024 .f32) (a b : Vec Ideal S1x1x1x1024 .f32)

/-- The modulated rows of a block at an index. -/
theorem pay1_apply (r : Fin 512) (d : Fin 1024) :
    k0_pay1 x w a b (ix2 r d)
      = modulated (fun d => x (ix2 r d)) (fun d => w (ix2 0 d)) (fun d => a (ix4 0 0 0 d)) (fun d => b (ix4 0 0 0 d)) d := by
  pointwise [k0_pay1]
  rfl

/-- What the scratch holds of them. -/
theorem pay2_apply (r : Fin 512) (d : Fin 1024) :
    k0_pay2 x w a b (ix2 r d)
      = modulated (fun d => x (ix2 r d)) (fun d => w (ix2 0 d)) (fun d => a (ix4 0 0 0 d)) (fun d => b (ix4 0 0 0 d)) d := by
  refine Eq.trans ?_ (pay1_apply x w a b r d)
  pointwise [k0_pay2]

/-- The block of the second result at an index. -/
theorem pay3_apply (u : Vec Ideal S1024x128 .bf16) (r : Fin 512) (f : Fin 128) :
    k0_pay3 x w a b u (ix2 r f)
      = ∑ k, modulated (fun d => x (ix2 r d)) (fun d => w (ix2 0 d)) (fun d => a (ix4 0 0 0 d))
          (fun d => b (ix4 0 0 0 d)) k * u (ix2 k f) := by
  pointwise [k0_pay3]
  simp only [pay1_apply]

/-- The block of the first result at an index. -/
theorem pay4_apply (h : Vec Ideal S512x1024 .bf16) (u : Vec Ideal S1024x2560 .bf16) (r : Fin 512) (f : Fin 2560) :
    k0_pay4 h u (ix2 r f) = ∑ k, h (ix2 r k) * u (ix2 k f) := by
  pointwise [k0_pay4]

end Block

variable (m : (ℓ : Loc nD τ sig) → Buf (Elt Ideal) ℓ)

/-- The group of the rows of grid point `t`. -/
def tgroup (t : Fin cfg0.N) : Fin 8 := ⟨min (t.val / 64) 2, by omega⟩

theorem idx0 : ∀ t : Fin cfg0.N, win0_0.index t = ![t.val / 2, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, min (t.val / 64) 2, 0, 0] :=
  (by decide +kernel : ∀ t : Fin grid0.N, _)
theorem idx3 : ∀ t : Fin cfg0.N, win0_3.index t = ![1, min (t.val / 64) 2, 0, 0] :=
  (by decide +kernel : ∀ t : Fin grid0.N, _)
theorem idx4 : ∀ t : Fin cfg0.N, win0_4.index t = ![0, t.val % 2] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val / 2, t.val % 2] := (by decide +kernel : ∀ t : Fin grid0.N, _)
theorem idx7 : ∀ t : Fin cfg0.N, win0_7.index t = ![t.val / 2, 0] := (by decide +kernel : ∀ t : Fin grid0.N, _)

/-- The rows of window 0 at a point, at an index. -/
theorem blk0 (c : Dev nD) (t : Fin cfg0.N) (r : Fin 512) (d : Fin 1024) (n : Fin 33280)
    (hn : n.val = 512 * (t.val / 2) + r.val) :
    iblk m c 0 t (ix2 r d) = m ((c : Thread nD τ).loc main_arg0) (ix2 n d) := by
  blk_simp [iblk]
  rw [V_main_arg0]
  refine congrArg (m ((c : Thread nD τ).loc main_arg0)) (funext fun b => Fin.ext ?_)
  blk_simp [idx0]
  fin_cases b <;> simp <;> omega

/-- The norm's weights. -/
theorem blk1 (c : Dev nD) (t : Fin cfg0.N) (d : Fin 1024) :
    iblk m c 1 t (ix2 0 d) = m ((c : Thread nD τ).loc main_arg1) (ix2 0 d) := by
  blk_simp [iblk]
  rw [V_main_arg1]
  refine congrArg (m ((c : Thread nD τ).loc main_arg1)) (funext fun b => Fin.ext ?_)
  blk_simp [idx1]
  fin_cases b <;> simp

/-- The shift of the rows' group. -/
theorem blk2 (c : Dev nD) (t : Fin cfg0.N) (d : Fin 1024) :
    iblk m c 2 t (ix4 0 0 0 d) = m ((c : Thread nD τ).loc main_arg2) (ix4 0 (tgroup t) 0 d) := by
  blk_simp [iblk]
  rw [V_main_arg2]
  refine congrArg (m ((c : Thread nD τ).loc main_arg2)) (funext fun b => Fin.ext ?_)
  blk_simp [idx2, tgroup]
  fin_cases b <;> simp

/-- The scale of the rows' group. -/
theorem blk3 (c : Dev nD) (t : Fin cfg0.N) (d : Fin 1024) :
    iblk m c 3 t (ix4 0 0 0 d) = m ((c : Thread nD τ).loc main_arg2) (ix4 1 (tgroup t) 0 d) := by
  blk_simp [iblk]
  rw [V_main_arg2]
  refine congrArg (m ((c : Thread nD τ).loc main_arg2)) (funext fun b => Fin.ext ?_)
  blk_simp [idx3, tgroup]
  fin_cases b <;> simp

/-- The weights of the first result: half of the columns. -/
theorem blk4 (c : Dev nD) (t : Fin cfg0.N) (k : Fin 1024) (f : Fin 2560) (e : Fin 5120)
    (he : e.val = 2560 * (t.val % 2) + f.val) :
    iblk m c 4 t (ix2 k f) = m ((c : Thread nD τ).loc main_arg3) (ix2 k e) := by
  blk_simp [iblk]
  rw [V_main_arg3]
  refine congrArg (m ((c : Thread nD τ).loc main_arg3)) (funext fun b => Fin.ext ?_)
  blk_simp [idx4]
  fin_cases b <;> simp <;> omega

/-- The weights of the second result. -/
theorem blk5 (c : Dev nD) (t : Fin cfg0.N) (k : Fin 1024) (f : Fin 128) :
    iblk m c 5 t (ix2 k f) = m ((c : Thread nD τ).loc main_arg4) (ix2 k f) := by
  blk_simp [iblk]
  rw [V_main_arg4]
  refine congrArg (m ((c : Thread nD τ).loc main_arg4)) (funext fun b => Fin.ext ?_)
  blk_simp [idx5]
  fin_cases b <;> simp

/-- Row `n` normed and modulated, at column `k`. -/
def normal (x : Vec Ideal S33280x1024 .f32) (w : Vec Ideal S1x1024 .f32) (mods : Vec Ideal S6x8x1x1024 .f32)
    (n : Fin 33280) (k : Fin 1024) : EReal :=
  modulated (fun d => x (ix2 n d)) (fun d => w (ix2 0 d)) (fun d => mods (ix4 0 (group n) 0 d))
    (fun d => mods (ix4 1 (group n) 0 d)) k

/-- The row of the arguments a run was given. -/
abbrev normalAt (c : Dev nD) : Fin 33280 → Fin 1024 → EReal :=
  normal (m ((c : Thread nD τ).loc main_arg0)) (m ((c : Thread nD τ).loc main_arg1)) (m ((c : Thread nD τ).loc main_arg2))

/-- The first result's entry, and the second's. -/
abbrev mainAt (c : Dev nD) (n : Fin 33280) (d : Fin 5120) : EReal :=
  ∑ k, normalAt m c n k * m ((c : Thread nD τ).loc main_arg3) (ix2 k d)
abbrev secondAt (c : Dev nD) (n : Fin 33280) (d : Fin 128) : EReal :=
  ∑ k, normalAt m c n k * m ((c : Thread nD τ).loc main_arg4) (ix2 k d)

theorem half_first (t : Fin cfg0.N) : (first t).val / 2 = t.val / 2 := by simp only [first]; omega

theorem group_first (t : Fin cfg0.N) (n : Fin 33280) (r : Fin 512) (hn : n.val = 512 * (t.val / 2) + r.val) :
    tgroup (first t) = group n := Fin.ext (by
  have hr := r.isLt
  simp only [tgroup, group, first]
  omega)

/-- The scratch at a point. -/
theorem rows_at (c : Dev nD) (t : Fin cfg0.N) (r : Fin 512) (k : Fin 1024) (n : Fin 33280)
    (hn : n.val = 512 * (t.val / 2) + r.val) : rows m c t (ix2 r k) = normalAt m c n k := by
  have h := group_first t n r hn
  refine (pay2_apply _ _ _ _ r k).trans ?_
  unfold normalAt normal
  simp only [blk0 m c (first t) r _ n (by rw [half_first]; exact hn), blk1, blk2, blk3, h]

/-- The first result's block at a point. -/
theorem main_at (c : Dev nD) (t : Fin cfg0.N) (r : Fin 512) (f : Fin 2560) (n : Fin 33280) (e : Fin 5120)
    (hn : n.val = 512 * (t.val / 2) + r.val) (he : e.val = 2560 * (t.val % 2) + f.val) :
    k0_pay4 (rows m c t) (iblk m c 4 t) (ix2 r f) = mainAt m c n e := by
  refine (pay4_apply _ _ r f).trans ?_
  simp only [rows_at m c t r _ n hn, blk4 m c t _ f e he]

/-- The second result's block at a point. -/
theorem second_at (c : Dev nD) (t : Fin cfg0.N) (r : Fin 512) (f e : Fin 128) (n : Fin 33280)
    (hn : n.val = 512 * (t.val / 2) + r.val) (he : e = f) : second m c t (ix2 r f) = secondAt m c n e := by
  subst he
  have h := group_first t n r hn
  refine (pay3_apply _ _ _ _ _ r e).trans ?_
  unfold secondAt normalAt normal
  simp only [blk0 m c (first t) r _ n (by rw [half_first]; exact hn), blk1, blk2, blk3, blk5, h]

/-- The first result array. -/
theorem final_main (c : Dev nD) (n : Fin 33280) (d : Fin 5120) :
    (dats m 0 c).arrAt 6 cfg0.N (ix2 n d) = mainAt m c n d := by
  have hd := d.isLt
  have hN : cfg0.N = 130 := rfl
  have hlt : n.val / 512 * 2 + d.val / 2560 < cfg0.N := by rw [hN]; omega
  refine (dats m 0 c).arrAt_forall_of_flushed 6 (fun i v => v = mainAt m c (i 0) (i 1))
      (fun t _ y => ?_) cfg0.N ⟨n.val / 512 * 2 + d.val / 2560, hlt⟩ (ix2 n d) hlt (flush0_6 _) ?_
  · rw [show (dats m 0 c).flushed 6 t = (cfg0.win 6).cut (grid0.coords t) ((dats m 0 c).after 6 t) from rfl, after_6]
    blk_simp
    have hy : (y : S512x2560.Idx) = ix2 (y 0) (y 1) := eq_ix2 (y : S512x2560.Idx)
    refine Eq.trans (congrArg (k0_pay4 (rows m c t) (iblk m c 4 t)) hy) ?_
    refine main_at m c t (y 0) (y 1) _ _ ?_ ?_
    · blk_simp [idx6]
      simp [Nat.mul_comm]
    · blk_simp [idx6]
      simp [Nat.mul_comm]
  · mem_blk [idx6]
    change ((n.val / 512 * 2 + d.val / 2560) / 2 * 512 ≤ n.val
        ∧ n.val < (n.val / 512 * 2 + d.val / 2560) / 2 * 512 + 512)
      ∧ (n.val / 512 * 2 + d.val / 2560) % 2 * 2560 ≤ d.val
        ∧ d.val < (n.val / 512 * 2 + d.val / 2560) % 2 * 2560 + 2560
    omega

/-- The second result array. -/
theorem final_second (c : Dev nD) (n : Fin 33280) (d : Fin 128) :
    (dats m 0 c).arrAt 7 cfg0.N (ix2 n d) = secondAt m c n d := by
  have hd := d.isLt
  have hN : cfg0.N = 130 := rfl
  have hlt : n.val / 512 * 2 + 1 < cfg0.N := by rw [hN]; omega
  refine (dats m 0 c).arrAt_forall_of_flushed 7 (fun i v => v = secondAt m c (i 0) (i 1))
      (fun t _ y => ?_) cfg0.N ⟨n.val / 512 * 2 + 1, hlt⟩ (ix2 n d) hlt ((flush0_7 _).2 (by
        change (n.val / 512 * 2 + 1) % 2 = 1; omega)) ?_
  · rw [show (dats m 0 c).flushed 7 t = (cfg0.win 7).cut (grid0.coords t) ((dats m 0 c).after 7 t) from rfl, after_7]
    blk_simp
    have hy : (y : S512x128.Idx) = ix2 (y 0) (y 1) := eq_ix2 (y : S512x128.Idx)
    refine Eq.trans (congrArg (second m c t) hy) ?_
    refine second_at m c t (y 0) (y 1) _ _ ?_ (Fin.ext ?_)
    · blk_simp [idx7]
      simp [Nat.mul_comm]
    · blk_simp [idx7]
  · mem_blk [idx7]
    change ((n.val / 512 * 2 + 1) / 2 * 512 ≤ n.val ∧ n.val < (n.val / 512 * 2 + 1) / 2 * 512 + 512)
      ∧ 0 * 128 ≤ d.val ∧ d.val < 0 * 128 + 128
    omega

end Cert.InIdeal.Array
-- ==== Proof.InRef.lean ====
/- The reference of the odd layers' mixer input projection read at an index, over the extended reals. -/
module

public import proofs.«01_k».proof.Proof.Gen.InRefIdeal.Read
public import proofs.«01_k».proof.Proof.DenseMath
public import Idealize.ShloMosaic.Lib.Tactic.CleanTypes

@[expose] public section

set_option maxRecDepth 16384

noncomputable section

namespace Cert.InRefIdeal.Ref

open Idealize.ShloMosaic Idealize.ShloMosaic.TcCoe
open Cert.InRefIdeal Cert.InRefIdeal.Gen Cert.InRefIdeal.Read Cert.DenseMath

variable (x0 : Vec Ideal S33280x1024 .f32) (x1 : Vec Ideal S1x1024 .f32) (x2 : Vec Ideal S6x8x1x1024 .f32)
  (x3 : Vec Ideal S1024x5120 .bf16) (x4 : Vec Ideal S1024x128 .bf16)

/-- The shift of each row. -/
theorem shift_apply (n : Fin 33280) (d : Fin 1024) :
    val_main_v21 (F := Ideal) x2 (ix2 n d) = x2 (ix4 0 (group n) 0 d) := by
  refine Eq.trans ?_ (group_ite (fun g => x2 (ix4 0 g 0 d)) n)
  pointwise [val_main_v21, val_main_v20, val_main_v19, val_main_v18, val_main_v17, val_main_v16, val_main_v15,
    val_main_v14, val_main_v13, val_main_v12]

/-- The scale of each row. -/
theorem scale_apply (n : Fin 33280) (d : Fin 1024) :
    val_main_v31 (F := Ideal) x2 (ix2 n d) = x2 (ix4 1 (group n) 0 d) := by
  refine Eq.trans ?_ (group_ite (fun g => x2 (ix4 1 g 0 d)) n)
  pointwise [val_main_v31, val_main_v30, val_main_v29, val_main_v28, val_main_v27, val_main_v26, val_main_v25,
    val_main_v24, val_main_v23, val_main_v22]

/-- The normed rows. -/
theorem norm_apply (n : Fin 33280) (d : Fin 1024) :
    val_main_v11 (F := Ideal) x0 x1 (ix2 n d) = rms (fun d => x0 (ix2 n d)) (fun d => x1 (ix2 0 d)) d := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The modulated rows. -/
theorem modulated_apply (n : Fin 33280) (d : Fin 1024) :
    val_main_v35 (F := Ideal) x0 x1 x2 (ix2 n d)
      = modulated (fun d => x0 (ix2 n d)) (fun d => x1 (ix2 0 d)) (fun d => x2 (ix4 0 (group n) 0 d))
          (fun d => x2 (ix4 1 (group n) 0 d)) d := by
  pointwise [val_main_v35, val_main_v34, val_main_v33, val_main_v32, val_main_cst_2]
  simp only [norm_apply, shift_apply, scale_apply]
  rfl

/-- The reference's first result at an index. -/
theorem main_apply (n : Fin 33280) (d : Fin 5120) :
    val_main_v38 (F := Ideal) x0 x1 x2 x3 (ix2 n d)
      = ∑ k, modulated (fun d => x0 (ix2 n d)) (fun d => x1 (ix2 0 d)) (fun d => x2 (ix4 0 (group n) 0 d))
          (fun d => x2 (ix4 1 (group n) 0 d)) k * x3 (ix2 k d) := by
  pointwise [val_main_v38, val_main_v37, val_main_v36]
  simp only [modulated_apply]

/-- The reference's second result at an index. -/
theorem second_apply (n : Fin 33280) (d : Fin 128) :
    val_main_v40 (F := Ideal) x0 x1 x2 x4 (ix2 n d)
      = ∑ k, modulated (fun d => x0 (ix2 n d)) (fun d => x1 (ix2 0 d)) (fun d => x2 (ix4 0 (group n) 0 d))
          (fun d => x2 (ix4 1 (group n) 0 d)) k * x4 (ix2 k d) := by
  pointwise [val_main_v40, val_main_v39]
  simp only [modulated_apply]

end Cert.InRefIdeal.Ref
-- ==== Proof.InClaim.lean ====
/- The claims of the odd layers' mixer input projection: the runs, and the equality of both results with the reference's. -/
module

public import proofs.«01_k».proof.Defs
public import proofs.«01_k».proof.Proof.InFrame
public import proofs.«01_k».proof.Proof.InArray
public import proofs.«01_k».proof.Proof.InRef
public import proofs.«01_k».proof.Proof.Gen.In
public import proofs.«01_k».proof.Proof.Gen.InRefIdeal.Run
public import Idealize.ShloMosaic.Lib.Quiescent

@[expose] public section

set_option maxRecDepth 16384

noncomputable section

namespace Cert.InClaim

open Idealize.ShloMosaic Idealize.ShloMosaic.TcCoe Idealize.SL.Sem

/-- The kernel runs, leaves its arguments as they were and ends with every counter at zero. -/
theorem frame_In : Cert.quiescent_In := fun m g _ => Cert.In.Body.frame m g

/-- So does the kernel read over the extended reals. -/
theorem frame_InIdeal : Cert.quiescent_InIdeal := fun m g _ => Cert.InIdeal.Body.frame m g

/-- The reference runs, leaves its arguments as they were and ends with every counter at zero. -/
theorem frame_InRefIdeal : Cert.quiescent_InRefIdeal := fun m g _ =>
  (θ_run _ _ _).mono (fun r h => ⟨fun c => (h c).2.2, sem_eq_zero_of_no_sems (by decide) r.2⟩)
    (Cert.InRefIdeal.Value.run m g)

/-- No constant is named. -/
theorem preserves : Cert.preserves_In_InIdeal := trivial

/-- Kernel and reference agree on both results. -/
theorem algebraic : Cert.algebraic_InIdeal_InRefIdeal := by
  intro m g m' g' hpre hagree
  refine ⟨fun c => Cert.InRefIdeal.Read.val_main_v38 (F := Ideal)
            (m ((c.tc : Thread _ _).loc Cert.InIdeal.main_arg0)) (m ((c.tc : Thread _ _).loc Cert.InIdeal.main_arg1))
            (m ((c.tc : Thread _ _).loc Cert.InIdeal.main_arg2)) (m ((c.tc : Thread _ _).loc Cert.InIdeal.main_arg3)),
    fun c => Cert.InRefIdeal.Read.val_main_v40 (F := Ideal)
            (m ((c.tc : Thread _ _).loc Cert.InIdeal.main_arg0)) (m ((c.tc : Thread _ _).loc Cert.InIdeal.main_arg1))
            (m ((c.tc : Thread _ _).loc Cert.InIdeal.main_arg2)) (m ((c.tc : Thread _ _).loc Cert.InIdeal.main_arg4)),
    (θ_run _ _ _).mono (fun r h c => ⟨((h.1 c).1 6).trans (funext fun i => ?_), ((h.1 c).1 7).trans (funext fun i => ?_),
        (h.2.1 c)⟩)
      (θ_run_and (Cert.InIdeal.Body.run_main m g) (Cert.InIdeal.Body.frame m g)),
    (θ_run _ _ _).mono (fun r h c => ⟨(h c).1.trans ?_, (h c).2.1.trans ?_, (h c).2.2⟩) (Cert.InRefIdeal.Value.run m' g')⟩
  · obtain ⟨n, d, rfl⟩ : ∃ n d, i = ix2 n d := ⟨_, _, eq_ix2 i⟩
    exact (Cert.InIdeal.Array.final_main m c n d).trans (Cert.InRefIdeal.Ref.main_apply _ _ _ _ n d).symm
  · obtain ⟨n, d, rfl⟩ : ∃ n d, i = ix2 n d := ⟨_, _, eq_ix2 i⟩
    exact (Cert.InIdeal.Array.final_second m c n d).trans (Cert.InRefIdeal.Ref.second_apply _ _ _ _ n d).symm
  · rw [Cert.InRefIdeal.Read.val_main_v38_eq, (hagree c).1, (hagree c).2.1, (hagree c).2.2.1, (hagree c).2.2.2.1]
  · rw [Cert.InRefIdeal.Read.val_main_v40_eq, (hagree c).1, (hagree c).2.1, (hagree c).2.2.1, (hagree c).2.2.2.2]

end Cert.InClaim
-- ==== Proof.EvenBlock.lean ====
/- What one grid point of the even layers' mixer input projection leaves in its four output blocks. -/
module

public import proofs.«01_k».proof.Proof.Gen.EvenIdeal.Frame
public import Idealize.ShloMosaic.Lib.Pipeline.Value
public import Idealize.ShloMosaic.Lib.Pipeline.ValueKit
public import Idealize.ShloMosaic.Lib.Tactic

@[expose] public section

set_option maxRecDepth 16384

noncomputable section

namespace Cert.EvenIdeal.Block

open Idealize.ShloMosaic Idealize.ShloMosaic.TcCoe
open Idealize.ShloMosaic.Pipeline
open Cert.EvenIdeal.Gen

theorem z2 : (![0, 0] : Fin 2 → Nat) = fun _ => 0 := funext fun a => by fin_cases a <;> rfl
theorem z4 : (![0, 0, 0, 0] : Fin 4 → Nat) = fun _ => 0 := funext fun a => by fin_cases a <;> rfl

variable (c : Dev nD) (i : grid0.Coords)
  (arg1 : Memref sig .tc .vmem S512x1024 .f32) (harg1 : arg1.IsWhole)
  (arg2 : Memref sig .tc .vmem S1x1024 .f32) (harg2 : arg2.IsWhole)
  (arg3 : Memref sig .tc .vmem S1x1x1x1024 .f32) (harg3 : arg3.IsWhole)
  (arg4 : Memref sig .tc .vmem S1x1x1x1024 .f32) (harg4 : arg4.IsWhole)
  (arg5 : Memref sig .tc .vmem S1024x2432 .bf16) (harg5 : arg5.IsWhole)
  (arg6 : Memref sig .tc .vmem S512x512 .bf16) (harg6 : arg6.IsWhole)
  (arg7 : Memref sig .tc .vmem S128x128 .bf16) (harg7 : arg7.IsWhole)
  (arg8 : Memref sig .tc .vmem S512x128 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S512x128 .f32) (harg11 : arg11.IsWhole)
  (arg12 : Memref sig .tc .vmem S512x1024 .bf16) (harg12 : arg12.IsWhole)
  (arg13 : Memref sig .tc .vmem S512x512 .bf16) (harg13 : arg13.IsWhole)
  (arg14 : Memref sig .tc .vmem S2x512x64 .bf16) (harg14 : arg14.IsWhole)
  (arg15 : Memref sig .tc .vmem S2x80x512 .bf16) (harg15 : arg15.IsWhole)

section
variable {F : FTy → Type} [FloatOps F] [Named F]
  (x0 : Vec F S512x1024 .f32) (x1 : Vec F S1x1024 .f32) (x2 x3 : Vec F S1x1x1x1024 .f32)
  (x4 : Vec F S1024x2432 .bf16) (x5 : Vec F S512x512 .bf16) (x6 : Vec F S128x128 .bf16)
  (x7 x8 x9 x10 : Vec F S512x128 .f32)

/-- The block of the Fourier mixer's columns. -/
theorem out11_eq :
    out0_A_11 c i arg1 harg1 arg2 harg2 arg3 harg3 arg4 harg4 arg5 harg5 arg6 harg6 arg7 harg7 arg8 harg8 arg9 harg9
      arg10 harg10 arg11 harg11 arg12 harg12 arg13 harg13 arg14 harg14 arg15 harg15 x0 x1 x2 x3 x4 x5 x6 x7 x8 x9 x10
      = k0_pay4 x0 x1 x2 x3 x4 := by
  unfold out0_A_11
  rw [View.read_writes_eq_canon _ _ _ (cover0_A_11 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10)]
  unfold kernelRun0_A
  dsimp only
  sl_unfold_words
  rw [View.canon_cons_unit_zero (S := S512x1024) z2]
  simp only [View.readAt_eq_ld, Memref.IsWhole.read_unread, View.ld_unit_zero (S := S512x1024) z2,
    View.ld_unit_zero (S := S1x1024) z2, View.ld_unit_zero (S := S1x1x1x1024) z4,
    View.ld_unit_zero (S := S1024x2432) z2]

/-- The block of the queries. -/
theorem out12_eq :
    out0_A_12 c i arg1 harg1 arg2 harg2 arg3 harg3 arg4 harg4 arg5 harg5 arg6 harg6 arg7 harg7 arg8 harg8 arg9 harg9
      arg10 harg10 arg11 harg11 arg12 harg12 arg13 harg13 arg14 harg14 arg15 harg15 x0 x1 x2 x3 x4 x5 x6 x7 x8 x9 x10
      = k0_pay16 (k0_pay5 x0 x1 x2 x3 x4) (k0_pay6 x0 x1 x2 x3 x4) (k0_pay15 (k0_pay5 x0 x1 x2 x3 x4) x5)
          (Scalar.ofBits .f32 0x358637BD#32) x7 x8 := by
  unfold out0_A_12
  rw [View.read_writes_eq_canon _ _ _ (cover0_A_12 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10)]
  unfold kernelRun0_A
  dsimp only
  sl_unfold_words
  rw [View.canon_cons_unit_zero (S := S512x512) z2]
  simp only [View.readAt_eq_ld, Memref.IsWhole.read_unread, View.ld_unit_zero (S := S512x1024) z2,
    View.ld_unit_zero (S := S1x1024) z2, View.ld_unit_zero (S := S1x1x1x1024) z4,
    View.ld_unit_zero (S := S1024x2432) z2, View.ld_unit_zero (S := S512x512) z2,
    View.ld_unit_zero (S := S512x128) z2]

/-- The keys of a block. -/
abbrev keys : Vec F S512x128 .bf16 :=
  k0_pay17 (k0_pay7 x0 x1 x2 x3 x4) (k0_pay8 x0 x1 x2 x3 x4) x6 x9 x10

/-- The block of the keys, head by head. -/
theorem out13_eq :
    out0_A_13 c i arg1 harg1 arg2 harg2 arg3 harg3 arg4 harg4 arg5 harg5 arg6 harg6 arg7 harg7 arg8 harg8 arg9 harg9
      arg10 harg10 arg11 harg11 arg12 harg12 arg13 harg13 arg14 harg14 arg15 harg15 x0 x1 x2 x3 x4 x5 x6 x7 x8 x9 x10
      = fun y => keys x0 x1 x2 x3 x4 x6 x9 x10 (ix2 (y 1) ⟨64 * (y 0).val + (y 2).val,
          by have h0 : (y 0).val < 2 := (y 0).isLt; have h2 : (y 2).val < 64 := (y 2).isLt; omega⟩) := by
  unfold out0_A_13
  rw [View.read_writes_eq_canon _ _ _ (cover0_A_13 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10)]
  have hc := cover0_A_13 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10
  funext y
  refine View.canon_apply_of_pieces (fun y : S2x512x64.Idx => keys x0 x1 x2 x3 x4 x6 x9 x10 (ix2 (y 1)
    ⟨64 * (y 0).val + (y 2).val,
      by have h0 : (y 0).val < 2 := (y 0).isLt; have h2 : (y 2).val < 64 := (y 2).isLt; omega⟩)) _ ?_ y (hc y)
  clear hc
  unfold kernelRun0_A
  dsimp only
  sl_unfold_words
  simp only [View.readAt_eq_ld, Memref.IsWhole.read_unread, View.ld_unit_zero (S := S512x1024) z2,
    View.ld_unit_zero (S := S1x1024) z2, View.ld_unit_zero (S := S1x1x1x1024) z4,
    View.ld_unit_zero (S := S1024x2432) z2, View.ld_unit_zero (S := S128x128) z2,
    View.ld_unit_zero (S := S512x128) z2, List.forall_mem_cons]
  refine ⟨fun z => ?_, fun z => ?_, fun p hp => absurd hp List.not_mem_nil⟩
  · idx_vars z
    pointwise [k0_pay2]
    refine congrArg (keys x0 x1 x2 x3 x4 x6 x9 x10) (congrArg₂ ix2 (Fin.ext ?_) (Fin.ext ?_))
    · simp
    · simp
  · idx_vars z
    pointwise [k0_pay1, k0_pay18]
    refine congrArg (keys x0 x1 x2 x3 x4 x6 x9 x10) (congrArg₂ ix2 (Fin.ext ?_) (Fin.ext ?_))
    · simp
    · simp

/-- The block of the values at an index: the values' rows, a row of ones, and rows of zeros. -/
def vals (g : Fin 2) (e : Fin 80) (r : Fin 512) : F .bf16 :=
  if h : e.val < 64 then
    FloatOps.truncf .bf16 bitsLt_bf16_f32 (k0_pay3 x0 x1 x2 x3 x4 (ix2 r ⟨2304 + 64 * g.val + e.val, by omega⟩))
  else k0_pay10 (F := F) (ix2 ⟨e.val - 64, by omega⟩ r)

/-- An entry of a value's row. -/
theorem vals_lo {g : Fin 2} {e : Fin 80} {r r' : Fin 512} {j : Fin 2432} (he : e.val < 64) (hr : r.val = r'.val)
    (hj : j.val = 2304 + 64 * g.val + e.val) :
    FloatOps.truncf .bf16 bitsLt_bf16_f32 (k0_pay3 x0 x1 x2 x3 x4 (ix2 r j)) = vals x0 x1 x2 x3 x4 g e r' := by
  unfold vals
  have hj' : j = ⟨2304 + 64 * g.val + e.val, by omega⟩ := Fin.ext hj
  rw [dif_pos he, hj', Fin.ext hr]

/-- An entry of an added row. -/
theorem vals_hi {g : Fin 2} {e : Fin 80} {r r' : Fin 512} {a : Fin 16} (he : ¬e.val < 64) (hr : r.val = r'.val)
    (ha : a.val = e.val - 64) :
    k0_pay10 (F := F) (ix2 a r) = vals x0 x1 x2 x3 x4 g e r' := by
  unfold vals
  have ha' : a = ⟨e.val - 64, by omega⟩ := Fin.ext ha
  rw [dif_neg he, ha', Fin.ext hr]

/-- The block of the values, head by head. -/
theorem out14_eq :
    out0_A_14 c i arg1 harg1 arg2 harg2 arg3 harg3 arg4 harg4 arg5 harg5 arg6 harg6 arg7 harg7 arg8 harg8 arg9 harg9
      arg10 harg10 arg11 harg11 arg12 harg12 arg13 harg13 arg14 harg14 arg15 harg15 x0 x1 x2 x3 x4 x5 x6 x7 x8 x9 x10
      = fun y => vals x0 x1 x2 x3 x4 (y 0) (y 1) (y 2) := by
  unfold out0_A_14
  rw [View.read_writes_eq_canon _ _ _ (cover0_A_14 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10)]
  have hc := cover0_A_14 c i arg1 harg1 arg2 harg2 arg3 harg3 arg4 harg4 arg5 harg5 arg6
    harg6 arg7 harg7 arg8 harg8 arg9 harg9 arg10 harg10 arg11 harg11 arg12 harg12 arg13 harg13 arg14 harg14 arg15
    harg15 x0 x1 x2 x3 x4 x5 x6 x7 x8 x9 x10
  funext y
  refine View.canon_apply_of_pieces (fun y : S2x80x512.Idx => vals x0 x1 x2 x3 x4 (y 0) (y 1) (y 2)) _ ?_ y (hc y)
  clear hc
  unfold kernelRun0_A
  dsimp only
  sl_unfold_words
  simp only [View.readAt_eq_ld, Memref.IsWhole.read_unread, View.ld_unit_zero (S := S512x1024) z2,
    View.ld_unit_zero (S := S1x1024) z2, View.ld_unit_zero (S := S1x1x1x1024) z4,
    View.ld_unit_zero (S := S1024x2432) z2, List.forall_mem_cons]
  refine ⟨fun z => ?_, fun z => ?_, fun z => ?_, fun z => ?_, fun p hp => absurd hp List.not_mem_nil⟩
  · idx_vars z
    pointwise [k0_pay14]
    refine vals_hi x0 x1 x2 x3 x4 ?_ ?_ ?_ <;> simp
  · idx_vars z
    pointwise [k0_pay13, k0_pay9]
    refine vals_lo x0 x1 x2 x3 x4 ?_ ?_ ?_ <;> (simp; try omega)
  · idx_vars z
    pointwise [k0_pay12]
    refine vals_hi x0 x1 x2 x3 x4 ?_ ?_ ?_ <;> simp
  · idx_vars z
    pointwise [k0_pay11, k0_pay9]
    refine vals_lo x0 x1 x2 x3 x4 ?_ ?_ ?_ <;> simp

end

end Cert.EvenIdeal.Block
-- ==== Proof.EvenMath.lean ====
/- One row of the even layers' mixer input projection, in extended reals: the Fourier mixer's columns, and the heads'
   norm and rotation. -/
module

public import proofs.«01_k».proof.Proof.DenseMath

@[expose] public section

set_option maxRecDepth 16384

noncomputable section

namespace Cert.EvenMath

open Idealize.ShloMosaic

/-- The other entry of a pair. -/
def other (e : Fin 64) : Fin 64 := ⟨e.val / 2 * 2 + (1 - e.val % 2), by omega⟩

/-- The pair of an entry. -/
def pair (e : Fin 64) : Fin 32 := ⟨e.val / 2, by omega⟩

/-- The sign of the sine in an entry of a pair. -/
def sign (e : Fin 64) : EReal := if e.val % 2 = 0 then -1 else 1

/-- The reciprocal of a head's root mean square. -/
def scale (p : Fin 64 → EReal) : EReal :=
  Ideal.rsqrt (Ideal.div (∑ k, p k * p k) (Ideal.ofBits .f32 1115684864#32) + Ideal.ofBits .f32 897988541#32)

/-- A head divided by its root mean square and scaled by `w`. -/
def normed (p w : Fin 64 → EReal) (e : Fin 64) : EReal := p e * scale p * w e

/-- A head's pairs turned by their angles. -/
def turned (x : Fin 64 → EReal) (c s : Fin 32 → EReal) (e : Fin 64) : EReal :=
  if e.val % 2 = 0 then x e * c (pair e) - x (other e) * s (pair e) else x (other e) * s (pair e) + x e * c (pair e)

/-- The head `p` of row `n`: normed, and turned where the row has a position. -/
def head (n : Fin 33280) (p w : Fin 64 → EReal) (c s : Fin 16384 → Fin 32 → EReal) (e : Fin 64) : EReal :=
  if n.val < 32768 then turned (normed p w) (c ⟨n.val % 16384, by omega⟩) (s ⟨n.val % 16384, by omega⟩) e
  else normed p w e

/-- The Fourier mixer's columns of a row: each group's columns transformed along the channels. -/
def channels (P : Fin 1280 → EReal) (ch : Fin 128 → Fin 256 → EReal) (j : Fin 1024) : EReal :=
  ∑ c : Fin 128, P ⟨128 * (j.val % 512 / 128) + c.val, by omega⟩ * ch c ⟨128 * (j.val / 512) + j.val % 128, by omega⟩

/-- The values of a row with the added entries: a one and zeros. -/
def values (P : Fin 1280 → EReal) (g : Fin 2) (e : Fin 80) : EReal :=
  if h : e.val < 64 then P ⟨1152 + 64 * g.val + e.val, by omega⟩ else if e.val = 64 then 1 else 0

/-- The query head `h` of a row. -/
def qhead (P : Fin 1280 → EReal) (h : Fin 8) (e : Fin 64) : EReal := P ⟨512 + 64 * h.val + e.val, by omega⟩

/-- The key head `g` of a row. -/
def khead (P : Fin 1280 → EReal) (g : Fin 2) (e : Fin 64) : EReal := P ⟨1024 + 64 * g.val + e.val, by omega⟩

end Cert.EvenMath
-- ==== Proof.EvenEq.lean ====
/- Why the even layers' mixer input projection computes its reference's entries, over the reals: the channel transform is
   folded into the weights, the norms' sums are products with block diagonal ones, and the norm's weights are folded into
   the tables of the rotation. -/
module

public import proofs.«01_k».proof.Proof.AttnMath
public import proofs.«01_k».proof.Proof.EvenMath

@[expose] public section

set_option maxRecDepth 16384

noncomputable section

namespace Cert.EvenEq

open Idealize.ShloMosaic
open Cert.AttnMath Cert.EvenMath Cert.DenseMath

/-- Being a real number. -/
def IsReal (x : EReal) : Prop := ∃ r : ℝ, x = (r : EReal)

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_add {x y : EReal} (hx : IsReal x) (hy : IsReal y) : IsReal (x + y) := by
  obtain ⟨a, rfl⟩ := hx
  obtain ⟨b, rfl⟩ := hy
  exact ⟨a + b, (EReal.coe_add a b).symm⟩

theorem real_sum {n : Nat} {f : Fin n → EReal} (hf : ∀ k, IsReal (f k)) : IsReal (∑ k, f k) := by
  choose g hg using hf
  exact ⟨∑ k, g k, by rw [coe_sum]; exact Finset.sum_congr rfl fun k _ => hg k⟩

/-- The number the norms add under the root is positive. -/
theorem small : ∃ e : ℝ, 0 < e ∧ Ideal.ofBits .f32 897988541#32 = (e : EReal) := by
  refine ⟨8796093 * (2 ^ 43)⁻¹, by positivity, ?_⟩
  simp [Ideal.ofBits, Ideal.ieee, -EReal.coe_mul]
  try norm_num

theorem bits64 : Ideal.ofBits .f32 1115684864#32 = ((64 : ℝ) : EReal) := by
  simp [Ideal.ofBits, Ideal.ieee, -EReal.coe_mul]; norm_num

theorem bits64th : Ideal.ofBits .f32 0x3C800000#32 = ((1 / 64 : ℝ) : EReal) := by
  simp [Ideal.ofBits, Ideal.ieee, -EReal.coe_mul]; norm_num

theorem bits1024 : Ideal.ofBits .f32 1149239296#32 = ((1024 : ℝ) : EReal) := by
  simp [Ideal.ofBits, Ideal.ieee, -EReal.coe_mul]; norm_num

/-- The reciprocal root of a mean of squares is real. -/
theorem real_root {n : Nat} (p : Fin n → EReal) (hp : ∀ k, IsReal (p k)) (N : ℝ) (hN : 0 < N) :
    IsReal (Ideal.rsqrt (Ideal.div (∑ k, p k * p k) (N : EReal) + Ideal.ofBits .f32 897988541#32)) := by
  choose q hq using hp
  obtain ⟨e, he, h⟩ := small
  have hs : (∑ k, p k * p k) = ((∑ k, q k * q k : ℝ) : EReal) := by
    rw [coe_sum]
    exact Finset.sum_congr rfl fun k _ => by rw [hq k, EReal.coe_mul]
  have hpos : 0 < (∑ k, q k * q k) / N + e :=
    add_pos_of_nonneg_of_pos (div_nonneg (Finset.sum_nonneg fun k _ => mul_self_nonneg _) hN.le) he
  rw [hs, div_real _ _ hN.ne', h, ← EReal.coe_add]
  exact ⟨(Real.sqrt ((∑ k, q k * q k) / N + e))⁻¹, by rw [Ideal.rsqrt_coe, if_neg hpos.le.not_gt, if_neg hpos.ne']⟩

theorem real_scale (p : Fin 64 → EReal) (hp : ∀ k, IsReal (p k)) : IsReal (scale p) := by
  unfold scale
  rw [bits64]
  exact real_root p hp 64 (by norm_num)

theorem real_modulated (x w a b : Fin 1024 → EReal) (hx : ∀ k, IsReal (x k)) (hw : ∀ k, IsReal (w k))
    (ha : ∀ k, IsReal (a k)) (hb : ∀ k, IsReal (b k)) (d : Fin 1024) : IsReal (modulated x w a b d) := by
  unfold modulated rms
  rw [bits1024]
  exact real_add (real_mul (real_mul (real_mul (hx d) (real_root x hx 1024 (by norm_num))) (hw d))
    (real_add ⟨1, rfl⟩ (hb d))) (ha d)

/-- The channel transform of a row's products is the row's products with the transformed weights. -/
theorem channels_eq (h : Fin 1024 → EReal) (w : Fin 1024 → Fin 1280 → EReal) (ch : Fin 128 → Fin 256 → EReal)
    (hh : ∀ k, IsReal (h k)) (hw : ∀ k j, IsReal (w k j)) (hc : ∀ c d, IsReal (ch c d)) (j : Fin 1024) :
    ∑ k, h k * channels (w k) ch j = channels (fun j => ∑ k, h k * w k j) ch j := by
  choose h' hh using hh
  choose w' hw using hw
  choose c' hc using hc
  unfold channels
  simp only [hh, hw, hc, ← EReal.coe_mul, ← coe_sum]
  refine congrArg _ ?_
  simp only [Finset.mul_sum, Finset.sum_mul]
  rw [Finset.sum_comm]
  exact Finset.sum_congr rfl fun _ _ => Finset.sum_congr rfl fun _ _ => (mul_assoc _ _ _).symm

/-- A sum against a block of ones is the sum over the block. -/
theorem block_sum {W : Nat} (f : Fin W → EReal) (b : Nat) (hb : 64 * b + 64 ≤ W) :
    (∑ k : Fin W, f k * (if k.val / 64 = b then (1 : EReal) else 0)) = ∑ e : Fin 64, f ⟨64 * b + e.val, by omega⟩ := by
  simp only [mul_ite, mul_one, mul_zero]
  rw [← Finset.sum_filter]
  symm
  refine Finset.sum_bij (fun e _ => ⟨64 * b + e.val, by omega⟩) (fun e _ => ?_) (fun a _ c _ hac => ?_)
    (fun k hk => ?_) (fun e _ => rfl)
  · have := e.isLt
    simp only [Finset.mem_filter, Finset.mem_univ, true_and]
    omega
  · have := congrArg Fin.val hac
    exact Fin.ext (by simp only at this; omega)
  · have hk := (Finset.mem_filter.mp hk).2
    refine ⟨⟨k.val - 64 * b, by omega⟩, Finset.mem_univ _, Fin.ext ?_⟩
    simp only
    omega

/-- The kernel's reciprocal root of a head: its squares are split into a part and what the part leaves. -/
def root {W : Nat} (X : Fin W → EReal) (b : Nat) : EReal :=
  Ideal.rsqrt (((∑ k : Fin W, X k * X k * (if k.val / 64 = b then (1 : EReal) else 0))
      + ∑ k : Fin W, (X k * X k - X k * X k) * (if k.val / 64 = b then (1 : EReal) else 0))
    * Ideal.ofBits .f32 0x3C800000#32 + Ideal.ofBits .f32 897988541#32)

theorem root_eq {W : Nat} (X : Fin W → EReal) (hX : ∀ k, IsReal (X k)) (b : Nat) (hb : 64 * b + 64 ≤ W)
    (p : Fin 64 → EReal) (hp : ∀ e : Fin 64, X ⟨64 * b + e.val, by omega⟩ = p e) : root X b = scale p := by
  choose x hx using hX
  have h0 : (∑ k : Fin W, (X k * X k - X k * X k) * (if k.val / 64 = b then (1 : EReal) else 0)) = 0 :=
    Finset.sum_eq_zero fun k _ => by
      rw [hx k, ← EReal.coe_mul, ← EReal.coe_sub, sub_self, EReal.coe_zero, zero_mul]
  have hs : (∑ e, p e * p e) = ((∑ e : Fin 64, x ⟨64 * b + e.val, by omega⟩ * x ⟨64 * b + e.val, by omega⟩ : ℝ) : EReal) := by
    rw [coe_sum]
    exact Finset.sum_congr rfl fun e _ => by rw [← hp e, hx, EReal.coe_mul]
  unfold root scale
  rw [h0, add_zero, block_sum (fun k => X k * X k) b hb]
  simp only [hp]
  rw [hs, bits64, bits64th, div_real _ _ (by norm_num), ← EReal.coe_mul, mul_one_div]

/-- The cosine the table holds for row `n`. -/
def rowCos (n : Fin 33280) (c : Fin 16384 → Fin 32 → EReal) (i : Fin 32) : EReal :=
  if n.val < 32768 then c ⟨n.val % 16384, by omega⟩ i else 1

/-- The sine the table holds for row `n`. -/
def rowSin (n : Fin 33280) (s : Fin 16384 → Fin 32 → EReal) (i : Fin 32) : EReal :=
  if n.val < 32768 then s ⟨n.val % 16384, by omega⟩ i else 0

/-- The kernel's head: the norm's weights come with the tables, and the root last. -/
theorem head_eq (n : Fin 33280) (p w : Fin 64 → EReal) (c s : Fin 16384 → Fin 32 → EReal) (hp : ∀ e, IsReal (p e))
    (hw : ∀ e, IsReal (w e)) (hc : ∀ t i, IsReal (c t i)) (hs : ∀ t i, IsReal (s t i)) (e : Fin 64) :
    (p e * (rowCos n c (pair e) * w e) + p (other e) * (rowSin n s (pair e) * sign e * w (other e))) * scale p
      = head n p w c s e := by
  obtain ⟨z, hz⟩ := real_scale p hp
  choose p' hp using hp
  choose w' hw using hw
  choose c' hc using hc
  choose s' hs using hs
  unfold head rowCos rowSin turned normed sign
  rw [hz]
  simp only [hp, hw, hc, hs]
  split
  · split
    · rw [show (-1 : EReal) = ((-1 : ℝ) : EReal) from rfl]
      simp only [← EReal.coe_mul, ← EReal.coe_add, ← EReal.coe_sub]
      exact congrArg _ (by ring)
    · rw [show (1 : EReal) = ((1 : ℝ) : EReal) from rfl]
      simp only [← EReal.coe_mul, ← EReal.coe_add, ← EReal.coe_sub]
      exact congrArg _ (by ring)
  · simp only [one_mul, zero_mul, mul_zero, add_zero]
    rw [mul_right_comm]

end Cert.EvenEq
-- ==== Proof.EvenCat.lean ====
/- The weights the even layers' mixer input projection multiplies by. -/
module

public import proofs.«01_k».proof.Proof.Gen.EvenIdeal.Frame.Runs
public import Idealize.ShloMosaic.Lib.Pipeline.ValueKit
public import Idealize.ShloMosaic.Lib.Pipeline.FrameTail
public import Idealize.ShloMosaic.Lib.Tactic
public import Idealize.ShloMosaic.Lib.Tactic.CleanTypes

@[expose] public section

set_option maxRecDepth 16384

noncomputable section

namespace Cert.EvenIdeal.Cat

open Idealize.ShloMosaic Idealize.ShloMosaic.TcCoe
open Idealize.ShloMosaic.Pipeline (Dat)
open Cert.EvenIdeal Cert.EvenIdeal.Gen

variable {F : FTy → Type} [FloatOps F] [Named F]

/-- The Fourier mixer's weights of part `p`: each group's columns through the channel transform. -/
def folded (w : FVec F S1024x1280 FTy.f32) (ch : FVec F S128x256 FTy.f32) : FVec F S1024x4x2x128 FTy.f32 :=
  shapeCast S1024x4x2x128 (Host.dotGeneral (F := F) dot_S4096x128_S128x256_S4096x256_1_0_0_1_n_n (some .fp32)
    (shapeCast S4096x128 (extractStridedSlice S1024x512 ![0, 0] w slices_S1024x1280_S1024x512_0_0)
      shapeCasts_S1024x512_S4096x128) ch) shapeCasts_S4096x256_S1024x4x2x128

/-- The queries' weights. -/
def wq (w : FVec F S1024x1280 FTy.f32) : FVec F S1024x512 FTy.f32 :=
  extractStridedSlice S1024x512 ![0, 512] w slices_S1024x1280_S1024x512_0_512

/-- The keys' weights. -/
def wk (w : FVec F S1024x1280 FTy.f32) : FVec F S1024x128 FTy.f32 :=
  extractStridedSlice S1024x128 ![0, 1024] w slices_S1024x1280_S1024x128_0_1024

/-- All the weights the projection multiplies by, side by side. -/
def wcat (w : FVec F S1024x1280 FTy.f32) (ch : FVec F S128x256 FTy.f32) : FVec F S1024x2432 FTy.bf16 :=
  truncf (F := F) .bf16 (concatenate S1024x2432 1
    [⟨S1024x512, shapeCast S1024x512 (shapeCast S1024x4x128 (extractStridedSlice S1024x4x1x128 ![0, 0, 0, 0] (folded w ch)
        slices_S1024x4x2x128_S1024x4x1x128_0_0_0_0) shapeCasts_S1024x4x1x128_S1024x4x128)
        shapeCasts_S1024x4x128_S1024x512⟩,
      ⟨S1024x512, shapeCast S1024x512 (shapeCast S1024x4x128 (extractStridedSlice S1024x4x1x128 ![0, 0, 1, 0] (folded w ch)
        slices_S1024x4x2x128_S1024x4x1x128_0_0_1_0) shapeCasts_S1024x4x1x128_S1024x4x128)
        shapeCasts_S1024x4x128_S1024x512⟩,
      ⟨S1024x512, wq w⟩,
      ⟨S1024x512, shapeCast S1024x512 (Host.reverse [2] (shapeCast S1024x256x2 (wq w) shapeCasts_S1024x512_S1024x256x2))
        shapeCasts_S1024x256x2_S1024x512⟩,
      ⟨S1024x128, wk w⟩,
      ⟨S1024x128, shapeCast S1024x128 (Host.reverse [2] (shapeCast S1024x64x2 (wk w) shapeCasts_S1024x128_S1024x64x2))
        shapeCasts_S1024x64x2_S1024x128⟩,
      ⟨S1024x128, extractStridedSlice S1024x128 ![0, 1152] w slices_S1024x1280_S1024x128_0_1152⟩]
    concatenates_S1024x512_S1024x512_S1024x512_S1024x512_S1024x128_S1024x128_S1024x128_S1024x2432_d1) bitsLt_bf16_f32

variable (m : (ℓ : Loc nD τ sig) → Buf (Elt F) ℓ)

/-- The weights the kernel finds. -/
theorem V_main_v74 (c : Dev nD) :
    V m c main_v74 = wcat (m ((c : Thread nD τ).loc main_arg3)) (m ((c : Thread nD τ).loc main_arg4)) := by
  unfold V
  simp only [hostOps0, List.flatten_cons, List.flatten_nil, List.append_nil, List.cons_append, List.nil_append]
  after_results
  dsimp only [Matrix.cons_val]
  simp only [↓ StableHlo.readResult, ↓ StableHlo.readPieces, -eq_self]
  rfl

end Cert.EvenIdeal.Cat
-- ==== Proof.EvenHost.lean ====
/- What the even layers' mixer input projection finds in its weight and table windows, over the extended reals. -/
module

public import proofs.«01_k».proof.Proof.Gen.EvenIdeal.Frame.Runs
public import proofs.«01_k».proof.Proof.EvenCat
public import proofs.«01_k».proof.Proof.EvenMath
public import Idealize.ShloMosaic.Lib.Pipeline.ValueKit
public import Idealize.ShloMosaic.Lib.Pipeline.FrameTail
public import Idealize.ShloMosaic.Lib.Tactic
public import Idealize.ShloMosaic.Lib.Tactic.CleanTypes

@[expose] public section

set_option maxRecDepth 16384

noncomputable section

namespace Cert.EvenIdeal.Host

open Idealize.ShloMosaic Idealize.ShloMosaic.TcCoe
open Idealize.ShloMosaic.Pipeline (Dat)
open Cert.EvenIdeal Cert.EvenIdeal.Gen Cert.EvenIdeal.Cat Cert.EvenMath

variable (m : (ℓ : Loc nD τ sig) → Buf (Elt Ideal) ℓ)

variable (w : Vec Ideal S1024x1280 .f32) (ch : Vec Ideal S128x256 .f32) (k : Fin 1024)

/-- The columns of the Fourier mixer. -/
theorem wcat_xy (j : Fin 2432) (d : Fin 1024) (hj : j.val = d.val) :
    wcat (F := Ideal) w ch (ix2 k j) = channels (fun j => w (ix2 k j)) (fun c d => ch (ix2 c d)) d := by
  have hd := d.isLt
  pointwise [wcat, folded, wq, wk]
  unfold channels
  by_cases h : d.val < 512
  · rw [dif_pos (by omega)]
    refine Finset.sum_congr rfl fun x _ => ?_
    have hx := x.isLt
    refine congrArg₂ (· * ·) (congrArg w (congrArg₂ ix2 (Fin.ext ?_) (Fin.ext ?_)))
      (congrArg (fun d => ch (ix2 x d)) (Fin.ext ?_)) <;> simp only <;> omega
  · rw [dif_neg (by omega), dif_pos (by omega)]
    refine Finset.sum_congr rfl fun x _ => ?_
    have hx := x.isLt
    refine congrArg₂ (· * ·) (congrArg w (congrArg₂ ix2 (Fin.ext ?_) (Fin.ext ?_)))
      (congrArg (fun d => ch (ix2 x d)) (Fin.ext ?_)) <;> simp only <;> omega

/-- The queries' columns. -/
theorem wcat_q (j : Fin 2432) (d : Fin 512) (l : Fin 1280) (hj : j.val = 1024 + d.val)
    (hl : l.val = 512 + (d.val)) : wcat (F := Ideal) w ch (ix2 k j) = w (ix2 k l) := by
  have hd := d.isLt
  pointwise [wcat, folded, wq, wk]
  rw [dif_neg (by omega), dif_neg (by omega), dif_pos (by omega)]
  refine congrArg (fun l => w (ix2 k l)) (Fin.ext ?_)
  simp
  omega

/-- The queries' columns, each pair's two exchanged. -/
theorem wcat_qs (j : Fin 2432) (d : Fin 512) (l : Fin 1280) (hj : j.val = 1536 + d.val)
    (hl : l.val = 512 + (d.val / 2 * 2 + (1 - d.val % 2))) : wcat (F := Ideal) w ch (ix2 k j) = w (ix2 k l) := by
  have hd := d.isLt
  pointwise [wcat, folded, wq, wk]
  rw [dif_neg (by omega), dif_neg (by omega), dif_neg (by omega), dif_pos (by omega)]
  simp only [List.mem_cons, List.not_mem_nil, or_false, if_true, show (0 : Fin 3) ≠ 2 by decide,
    show (1 : Fin 3) ≠ 2 by decide, if_false]
  refine congrArg (fun l => w (ix2 k l)) (Fin.ext ?_)
  simp
  omega

/-- The keys' columns. -/
theorem wcat_k (j : Fin 2432) (d : Fin 128) (l : Fin 1280) (hj : j.val = 2048 + d.val)
    (hl : l.val = 1024 + (d.val)) : wcat (F := Ideal) w ch (ix2 k j) = w (ix2 k l) := by
  have hd := d.isLt
  pointwise [wcat, folded, wq, wk]
  rw [dif_neg (by omega), dif_neg (by omega), dif_neg (by omega), dif_neg (by omega), dif_pos (by omega)]
  refine congrArg (fun l => w (ix2 k l)) (Fin.ext ?_)
  simp
  omega

/-- The keys' columns, each pair's two exchanged. -/
theorem wcat_ks (j : Fin 2432) (d : Fin 128) (l : Fin 1280) (hj : j.val = 2176 + d.val)
    (hl : l.val = 1024 + (d.val / 2 * 2 + (1 - d.val % 2))) : wcat (F := Ideal) w ch (ix2 k j) = w (ix2 k l) := by
  have hd := d.isLt
  pointwise [wcat, folded, wq, wk]
  rw [dif_neg (by omega), dif_neg (by omega), dif_neg (by omega), dif_neg (by omega), dif_neg (by omega), dif_pos (by omega)]
  simp only [List.mem_cons, List.not_mem_nil, or_false, if_true, show (0 : Fin 3) ≠ 2 by decide,
    show (1 : Fin 3) ≠ 2 by decide, if_false]
  refine congrArg (fun l => w (ix2 k l)) (Fin.ext ?_)
  simp
  omega

/-- The values' columns. -/
theorem wcat_v (j : Fin 2432) (d : Fin 128) (l : Fin 1280) (hj : j.val = 2304 + d.val)
    (hl : l.val = 1152 + (d.val)) : wcat (F := Ideal) w ch (ix2 k j) = w (ix2 k l) := by
  have hd := d.isLt
  pointwise [wcat, folded, wq, wk]
  rw [dif_neg (by omega), dif_neg (by omega), dif_neg (by omega), dif_neg (by omega), dif_neg (by omega), dif_neg (by omega)]
  refine congrArg (fun l => w (ix2 k l)) (Fin.ext ?_)
  simp
  omega

/-- The comparison of two block numbers, as a number. -/
theorem ones_eq (a b : Fin 8) :
    (FloatOps.uitofp .bf16 (IntOp.cmpi .eq (BitVec.ofNat 32 a.val) (BitVec.ofNat 32 b.val)) : Ideal .bf16)
      = if a.val = b.val then (1 : EReal) else 0 := by
  have h : IntOp.cmpi .eq (BitVec.ofNat 32 a.val) (BitVec.ofNat 32 b.val) = if a.val = b.val then 1#1 else 0#1 := by
    revert a b; decide +kernel
  rw [h]
  split
  · simp [FloatOps.uitofp]
  · simp [FloatOps.uitofp]

/-- The block diagonal ones of the queries. -/
theorem bdq_apply (c : Dev nD) (i j : Fin 512) :
    (V m c main_v4 : Vec Ideal S512x512 .bf16) (ix2 i j) = if i.val / 64 = j.val / 64 then (1 : EReal) else 0 := by
  unfold V
  simp only [hostOps0, List.flatten_cons, List.flatten_nil, List.append_nil, List.cons_append, List.nil_append]
  after_results
  clean_types
  pointwise
  exact ones_eq ⟨i.val / 64, by omega⟩ ⟨j.val / 64, by omega⟩

/-- The block diagonal ones of the keys. -/
theorem bdk_apply (c : Dev nD) (i j : Fin 128) :
    (V m c main_v9 : Vec Ideal S128x128 .bf16) (ix2 i j) = if i.val / 64 = j.val / 64 then (1 : EReal) else 0 := by
  unfold V
  simp only [hostOps0, List.flatten_cons, List.flatten_nil, List.append_nil, List.cons_append, List.nil_append]
  after_results
  clean_types
  pointwise
  exact ones_eq ⟨i.val / 64, by omega⟩ ⟨j.val / 64, by omega⟩

/-- The cosine of a row's angle: one where the row has no position. -/
def cosAt (x : Vec Ideal S16384x32 .f32) (t : Fin 16896) (i : Fin 32) : EReal :=
  if h : t.val < 16384 then x (ix2 ⟨t.val, h⟩ i) else 1

/-- The sine of a row's angle: zero where the row has no position. -/
def sinAt (x : Vec Ideal S16384x32 .f32) (t : Fin 16896) (i : Fin 32) : EReal :=
  if h : t.val < 16384 then x (ix2 ⟨t.val, h⟩ i) else 0

/-- The printed signs. -/
theorem sign_eq (b : Fin 2) :
    (Ideal.ofBits .f32 (lit0 (S2.rowMajor (ix1 b))) : EReal) = if b.val = 0 then -1 else 1 := by
  fin_cases b
  · have h : lit0 (S2.rowMajor (ix1 (0 : Fin 2))) = 3212836864#32 := by decide +kernel
    show Ideal.ofBits .f32 (lit0 (S2.rowMajor (ix1 (0 : Fin 2)))) = _
    rw [h]
    simp [Ideal.ofBits, Ideal.ieee, -EReal.coe_mul]; norm_num
  · have h : lit0 (S2.rowMajor (ix1 (1 : Fin 2))) = 1065353216#32 := by decide +kernel
    show Ideal.ofBits .f32 (lit0 (S2.rowMajor (ix1 (1 : Fin 2)))) = _
    rw [h]
    simp [Ideal.ofBits, Ideal.ieee, -EReal.coe_mul]; norm_num

/-- The cosine table of the queries. -/
theorem tcq_apply (c : Dev nD) (t : Fin 16896) (j : Fin 128) (e : Fin 64) (he : e.val = j.val % 64) :
    (V m c main_v32 : Vec Ideal S16896x128 .f32) (ix2 t j)
      = cosAt (m ((c : Thread nD τ).loc main_arg7)) t (pair e) *
          (m ((c : Thread nD τ).loc main_arg5) : Vec Ideal S64 .f32) (ix1 e) := by
  unfold V
  simp only [hostOps0, List.flatten_cons, List.flatten_nil, List.append_nil, List.cons_append, List.nil_append]
  after_results
  clean_types
  pointwise
  have he' : e = ⟨j.val % 64, Nat.mod_lt _ (by norm_num)⟩ := Fin.ext he
  subst he'
  rfl

/-- The sine table of the queries. -/
theorem tsq_apply (c : Dev nD) (t : Fin 16896) (j : Fin 128) (e : Fin 64) (he : e.val = j.val % 64) :
    (V m c main_v38 : Vec Ideal S16896x128 .f32) (ix2 t j)
      = sinAt (m ((c : Thread nD τ).loc main_arg8)) t (pair e) * sign e *
          (m ((c : Thread nD τ).loc main_arg5) : Vec Ideal S64 .f32) (ix1 (other e)) := by
  unfold V
  simp only [hostOps0, List.flatten_cons, List.flatten_nil, List.append_nil, List.cons_append, List.nil_append]
  after_results
  clean_types
  pointwise
  have he' : e = ⟨j.val % 64, Nat.mod_lt _ (by norm_num)⟩ := Fin.ext he
  subst he'
  have hs : (Ideal.ofBits .f32 (lit0 (S2.rowMajor (ix1 ⟨j.val % 64 % 2, by omega⟩))) : EReal)
      = sign ⟨j.val % 64, Nat.mod_lt _ (by norm_num)⟩ := sign_eq _
  refine congrArg₂ (· * ·) (congrArg₂ (· * ·) rfl hs) (congrArg (fun e => (m (c, Proc.tc.devRef main_arg5) : Vec Ideal S64 .f32) (ix1 e)) (Fin.ext ?_))
  simp [other]

/-- The cosine table of the keys. -/
theorem tck_apply (c : Dev nD) (t : Fin 16896) (j : Fin 128) (e : Fin 64) (he : e.val = j.val % 64) :
    (V m c main_v47 : Vec Ideal S16896x128 .f32) (ix2 t j)
      = cosAt (m ((c : Thread nD τ).loc main_arg7)) t (pair e) *
          (m ((c : Thread nD τ).loc main_arg6) : Vec Ideal S64 .f32) (ix1 e) := by
  unfold V
  simp only [hostOps0, List.flatten_cons, List.flatten_nil, List.append_nil, List.cons_append, List.nil_append]
  after_results
  clean_types
  pointwise
  have he' : e = ⟨j.val % 64, Nat.mod_lt _ (by norm_num)⟩ := Fin.ext he
  subst he'
  rfl

/-- The sine table of the keys. -/
theorem tsk_apply (c : Dev nD) (t : Fin 16896) (j : Fin 128) (e : Fin 64) (he : e.val = j.val % 64) :
    (V m c main_v53 : Vec Ideal S16896x128 .f32) (ix2 t j)
      = sinAt (m ((c : Thread nD τ).loc main_arg8)) t (pair e) * sign e *
          (m ((c : Thread nD τ).loc main_arg6) : Vec Ideal S64 .f32) (ix1 (other e)) := by
  unfold V
  simp only [hostOps0, List.flatten_cons, List.flatten_nil, List.append_nil, List.cons_append, List.nil_append]
  after_results
  clean_types
  pointwise
  have he' : e = ⟨j.val % 64, Nat.mod_lt _ (by norm_num)⟩ := Fin.ext he
  subst he'
  have hs : (Ideal.ofBits .f32 (lit0 (S2.rowMajor (ix1 ⟨j.val % 64 % 2, by omega⟩))) : EReal)
      = sign ⟨j.val % 64, Nat.mod_lt _ (by norm_num)⟩ := sign_eq _
  refine congrArg₂ (· * ·) (congrArg₂ (· * ·) rfl hs) (congrArg (fun e => (m (c, Proc.tc.devRef main_arg6) : Vec Ideal S64 .f32) (ix1 e)) (Fin.ext ?_))
  simp [other]

end Cert.EvenIdeal.Host
-- ==== Proof.EvenArray.lean ====
/- What the even layers' mixer input projection computes in a block, at an index, and what its windows hold. -/
module

public import proofs.«01_k».proof.Proof.Gen.EvenIdeal.Value
public import proofs.«01_k».proof.Proof.EvenBlock
public import proofs.«01_k».proof.Proof.EvenEq
public import proofs.«01_k».proof.Proof.EvenHost
public import Idealize.ShloMosaic.Lib.Pipeline.ValueKit
public import Idealize.ShloMosaic.Lib.Tactic

@[expose] public section

set_option maxRecDepth 16384

noncomputable section

namespace Cert.EvenIdeal.Array

open Idealize.ShloMosaic Idealize.ShloMosaic.TcCoe
open Idealize.ShloMosaic.Pipeline (Dat)
open Cert.EvenIdeal Cert.EvenIdeal.Gen Cert.DenseMath Cert.EvenMath Cert.EvenEq Cert.EvenIdeal.Host

section Block

variable (x : Vec Ideal S512x1024 .f32) (w : Vec Ideal S1x1024 .f32) (a b : Vec Ideal S1x1x1x1024 .f32)
  (u : Vec Ideal S1024x2432 .bf16)

/-- The products of a block at an index. -/
theorem pay3_apply (r : Fin 512) (j : Fin 2432) :
    k0_pay3 x w a b u (ix2 r j)
      = ∑ k, modulated (fun d => x (ix2 r d)) (fun d => w (ix2 0 d)) (fun d => a (ix4 0 0 0 d))
          (fun d => b (ix4 0 0 0 d)) k * u (ix2 k j) := by
  pointwise [k0_pay3]
  rfl

theorem pay4_apply (r : Fin 512) (d : Fin 1024) (j : Fin 2432) (hj : j.val = d.val) :
    k0_pay4 x w a b u (ix2 r d) = k0_pay3 x w a b u (ix2 r j) := by
  pointwise [k0_pay4]
  exact congrArg (fun j => k0_pay3 x w a b u (ix2 r j)) (Fin.ext hj.symm)

theorem pay5_apply (r d : Fin 512) (j : Fin 2432) (hj : j.val = 1024 + d.val) :
    k0_pay5 x w a b u (ix2 r d) = k0_pay3 x w a b u (ix2 r j) := by
  pointwise [k0_pay5]
  exact congrArg (fun j => k0_pay3 x w a b u (ix2 r j)) (Fin.ext (by simp only; omega))

theorem pay6_apply (r d : Fin 512) (j : Fin 2432) (hj : j.val = 1536 + d.val) :
    k0_pay6 x w a b u (ix2 r d) = k0_pay3 x w a b u (ix2 r j) := by
  pointwise [k0_pay6]
  exact congrArg (fun j => k0_pay3 x w a b u (ix2 r j)) (Fin.ext (by simp only; omega))

theorem pay7_apply (r : Fin 512) (d : Fin 128) (j : Fin 2432) (hj : j.val = 2048 + d.val) :
    k0_pay7 x w a b u (ix2 r d) = k0_pay3 x w a b u (ix2 r j) := by
  pointwise [k0_pay7]
  exact congrArg (fun j => k0_pay3 x w a b u (ix2 r j)) (Fin.ext (by simp only; omega))

theorem pay8_apply (r : Fin 512) (d : Fin 128) (j : Fin 2432) (hj : j.val = 2176 + d.val) :
    k0_pay8 x w a b u (ix2 r d) = k0_pay3 x w a b u (ix2 r j) := by
  pointwise [k0_pay8]
  exact congrArg (fun j => k0_pay3 x w a b u (ix2 r j)) (Fin.ext (by simp only; omega))

/-- The added entries: a row of ones, and zeros. -/
theorem pay10_apply (e : Fin 16) (r : Fin 512) :
    k0_pay10 (F := Ideal) (ix2 e r) = if e.val = 0 then (1 : EReal) else 0 := by
  have h : IntOp.cmpi .eq (BitVec.ofNat 32 e.val) 0#32 = if e.val = 0 then 1#1 else 0#1 := by
    revert e; decide +kernel
  pointwise [k0_pay10]
  rw [h]
  split <;> rfl

/-- A table four times side by side. -/
theorem four (t : Vec Ideal S512x128 .f32) (r d : Fin 512) (j : Fin 128) (hj : j.val = d.val % 128) :
    (if h : d.val < 128 then t (ix2 r ⟨d.val, h⟩)
      else if h : d.val - 128 < 128 then t (ix2 r ⟨d.val - 128, h⟩)
      else if h : d.val - 128 - 128 < 128 then t (ix2 r ⟨d.val - 128 - 128, h⟩)
      else t (ix2 r ⟨d.val - 128 - 128 - 128, by omega⟩)) = t (ix2 r j) := by
  have hd := d.isLt
  split_ifs
  all_goals exact congrArg (fun j => t (ix2 r j)) (Fin.ext (by simp only; omega))

/-- A block's queries at an index. -/
theorem pay16_apply (X Y : FVec Ideal S512x512 .f32) (bd : Vec Ideal S512x512 .bf16) (tc ts : Vec Ideal S512x128 .f32)
    (r d : Fin 512) (j : Fin 128) (hj : j.val = d.val % 128)
    (hb : ∀ k, bd (ix2 k d) = if k.val / 64 = d.val / 64 then (1 : EReal) else 0) :
    k0_pay16 X Y (k0_pay15 X bd) (Scalar.ofBits .f32 0x358637BD#32) tc ts (ix2 r d)
      = (X (ix2 r d) * tc (ix2 r j) + Y (ix2 r d) * ts (ix2 r j)) * root (fun k => X (ix2 r k)) (d.val / 64) := by
  pointwise [k0_pay16, k0_pay15]
  simp only [hb, four _ r d j hj]
  rfl

/-- A block's keys at an index. -/
theorem pay17_apply (X Y : FVec Ideal S512x128 .f32) (bd : Vec Ideal S128x128 .bf16) (tc ts : Vec Ideal S512x128 .f32)
    (r : Fin 512) (d : Fin 128) (hb : ∀ k, bd (ix2 k d) = if k.val / 64 = d.val / 64 then (1 : EReal) else 0) :
    k0_pay17 X Y bd tc ts (ix2 r d)
      = (X (ix2 r d) * tc (ix2 r d) + Y (ix2 r d) * ts (ix2 r d)) * root (fun k => X (ix2 r k)) (d.val / 64) := by
  pointwise [k0_pay17]
  simp only [hb]
  rfl

end Block

variable (m : (ℓ : Loc nD τ sig) → Buf (Elt Ideal) ℓ)

/-- The group of the rows of grid point `t`. -/
def tgroup (t : Fin cfg0.N) : Fin 8 := ⟨min (t.val / 32) 2, by omega⟩

/-- The block of the tables at grid point `t`. -/
def tblock (t : Nat) : Nat := if t < 64 then t % 32 else 32

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, min (t.val / 32) 2, 0, 0] :=
  (by decide +kernel : ∀ t : Fin grid0.N, _)
theorem idx3 : ∀ t : Fin cfg0.N, win0_3.index t = ![1, min (t.val / 32) 2, 0, 0] :=
  (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![tblock t.val, 0] := (by decide +kernel : ∀ t : Fin grid0.N, _)
theorem idx8 : ∀ t : Fin cfg0.N, win0_8.index t = ![tblock t.val, 0] := (by decide +kernel : ∀ t : Fin grid0.N, _)
theorem idx9 : ∀ t : Fin cfg0.N, win0_9.index t = ![tblock t.val, 0] := (by decide +kernel : ∀ t : Fin grid0.N, _)
theorem idx10 : ∀ t : Fin cfg0.N, win0_10.index t = ![tblock t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, t.val, 0] := (by decide +kernel : ∀ t : Fin grid0.N, _)
theorem idx14 : ∀ t : Fin cfg0.N, win0_14.index t = ![0, 0, t.val] := (by decide +kernel : ∀ t : Fin grid0.N, _)

/-- The rows of a block. -/
theorem blk0 (c : Dev nD) (t : Fin cfg0.N) (r : Fin 512) (d : Fin 1024) (n : Fin 33280)
    (hn : n.val = 512 * t.val + r.val) :
    iblk m c 0 t (ix2 r d) = m ((c : Thread nD τ).loc main_arg0) (ix2 n d) := by
  blk_simp [iblk]
  rw [V_main_arg0]
  refine congrArg (m ((c : Thread nD τ).loc main_arg0)) (funext fun b => Fin.ext ?_)
  blk_simp [idx0]
  fin_cases b <;> simp <;> omega

/-- The norm's weights. -/
theorem blk1 (c : Dev nD) (t : Fin cfg0.N) (d : Fin 1024) :
    iblk m c 1 t (ix2 0 d) = m ((c : Thread nD τ).loc main_arg1) (ix2 0 d) := by
  blk_simp [iblk]
  rw [V_main_arg1]
  refine congrArg (m ((c : Thread nD τ).loc main_arg1)) (funext fun b => Fin.ext ?_)
  blk_simp [idx1]
  fin_cases b <;> simp

/-- The shift of the rows' group. -/
theorem blk2 (c : Dev nD) (t : Fin cfg0.N) (d : Fin 1024) :
    iblk m c 2 t (ix4 0 0 0 d) = m ((c : Thread nD τ).loc main_arg2) (ix4 0 (tgroup t) 0 d) := by
  blk_simp [iblk]
  rw [V_main_arg2]
  refine congrArg (m ((c : Thread nD τ).loc main_arg2)) (funext fun b => Fin.ext ?_)
  blk_simp [idx2, tgroup]
  fin_cases b <;> simp

/-- The scale of the rows' group. -/
theorem blk3 (c : Dev nD) (t : Fin cfg0.N) (d : Fin 1024) :
    iblk m c 3 t (ix4 0 0 0 d) = m ((c : Thread nD τ).loc main_arg2) (ix4 1 (tgroup t) 0 d) := by
  blk_simp [iblk]
  rw [V_main_arg2]
  refine congrArg (m ((c : Thread nD τ).loc main_arg2)) (funext fun b => Fin.ext ?_)
  blk_simp [idx3, tgroup]
  fin_cases b <;> simp

/-- The weights. -/
theorem blk4 (c : Dev nD) (t : Fin cfg0.N) (k : Fin 1024) (d : Fin 2432) :
    iblk m c 4 t (ix2 k d) = (V m c main_v74 : Vec Ideal S1024x2432 .bf16) (ix2 k d) := by
  blk_simp [iblk]
  refine congrArg (V m c main_v74 : Vec Ideal S1024x2432 .bf16) (funext fun b => Fin.ext ?_)
  blk_simp [idx4]
  fin_cases b <;> simp

/-- The queries' block diagonal ones. -/
theorem blk5 (c : Dev nD) (t : Fin cfg0.N) (k d : Fin 512) :
    iblk m c 5 t (ix2 k d) = if k.val / 64 = d.val / 64 then (1 : EReal) else 0 := by
  refine Eq.trans ?_ (bdq_apply m c k d)
  blk_simp [iblk]
  refine congrArg (V m c main_v4 : Vec Ideal S512x512 .bf16) (funext fun b => Fin.ext ?_)
  blk_simp [idx5]
  fin_cases b <;> simp

/-- The keys' block diagonal ones. -/
theorem blk6 (c : Dev nD) (t : Fin cfg0.N) (k d : Fin 128) :
    iblk m c 6 t (ix2 k d) = if k.val / 64 = d.val / 64 then (1 : EReal) else 0 := by
  refine Eq.trans ?_ (bdk_apply m c k d)
  blk_simp [iblk]
  refine congrArg (V m c main_v9 : Vec Ideal S128x128 .bf16) (funext fun b => Fin.ext ?_)
  blk_simp [idx6]
  fin_cases b <;> simp

/-- The table's row for row `n` holds its cosine. -/
theorem cosAt_eq (x : Vec Ideal S16384x32 .f32) (t : Nat) (r : Fin 512) (n : Fin 33280) (q : Fin 16896)
    (hn : n.val = 512 * t + r.val) (hq : q.val = 512 * tblock t + r.val) (i : Fin 32) :
    cosAt x q i = rowCos n (fun t i => x (ix2 t i)) i := by
  have hr := r.isLt
  unfold cosAt rowCos
  unfold tblock at hq
  by_cases h : t < 64
  · rw [if_pos h] at hq
    rw [dif_pos (by omega), if_pos (by omega)]
    exact congrArg (fun t => x (ix2 t i)) (Fin.ext (by simp only; omega))
  · rw [if_neg h] at hq
    rw [dif_neg (by omega), if_neg (by omega)]

/-- And its sine. -/
theorem sinAt_eq (x : Vec Ideal S16384x32 .f32) (t : Nat) (r : Fin 512) (n : Fin 33280) (q : Fin 16896)
    (hn : n.val = 512 * t + r.val) (hq : q.val = 512 * tblock t + r.val) (i : Fin 32) :
    sinAt x q i = rowSin n (fun t i => x (ix2 t i)) i := by
  have hr := r.isLt
  unfold sinAt rowSin
  unfold tblock at hq
  by_cases h : t < 64
  · rw [if_pos h] at hq
    rw [dif_pos (by omega), if_pos (by omega)]
    exact congrArg (fun t => x (ix2 t i)) (Fin.ext (by simp only; omega))
  · rw [if_neg h] at hq
    rw [dif_neg (by omega), if_neg (by omega)]

/-- Row `r` of the tables' block at grid point `t`. -/
def trow (t : Fin cfg0.N) (r : Fin 512) : Fin 16896 :=
  ⟨512 * tblock t.val + r.val, by have := r.isLt; unfold tblock; split <;> omega⟩

/-- The cosines for the queries. -/
theorem blk7 (c : Dev nD) (t : Fin cfg0.N) (r : Fin 512) (j : Fin 128) (e : Fin 64) (he : e.val = j.val % 64)
    (n : Fin 33280) (hn : n.val = 512 * t.val + r.val) :
    iblk m c 7 t (ix2 r j)
      = rowCos n (fun t i => (m ((c : Thread nD τ).loc main_arg7) : Vec Ideal S16384x32 .f32) (ix2 t i)) (pair e)
          * (m ((c : Thread nD τ).loc main_arg5) : Vec Ideal S64 .f32) (ix1 e) := by
  rw [← cosAt_eq _ t.val r n (trow t r) hn rfl]
  refine Eq.trans ?_ (tcq_apply m c (trow t r) j e he)
  blk_simp [iblk]
  refine congrArg (V m c main_v32 : Vec Ideal S16896x128 .f32) (funext fun b => Fin.ext ?_)
  blk_simp [idx7, trow]
  fin_cases b <;> simp <;> omega

/-- The sines for the queries. -/
theorem blk8 (c : Dev nD) (t : Fin cfg0.N) (r : Fin 512) (j : Fin 128) (e : Fin 64) (he : e.val = j.val % 64)
    (n : Fin 33280) (hn : n.val = 512 * t.val + r.val) :
    iblk m c 8 t (ix2 r j)
      = rowSin n (fun t i => (m ((c : Thread nD τ).loc main_arg8) : Vec Ideal S16384x32 .f32) (ix2 t i)) (pair e)
          * sign e * (m ((c : Thread nD τ).loc main_arg5) : Vec Ideal S64 .f32) (ix1 (other e)) := by
  rw [← sinAt_eq _ t.val r n (trow t r) hn rfl]
  refine Eq.trans ?_ (tsq_apply m c (trow t r) j e he)
  blk_simp [iblk]
  refine congrArg (V m c main_v38 : Vec Ideal S16896x128 .f32) (funext fun b => Fin.ext ?_)
  blk_simp [idx8, trow]
  fin_cases b <;> simp <;> omega

/-- The cosines for the keys. -/
theorem blk9 (c : Dev nD) (t : Fin cfg0.N) (r : Fin 512) (j : Fin 128) (e : Fin 64) (he : e.val = j.val % 64)
    (n : Fin 33280) (hn : n.val = 512 * t.val + r.val) :
    iblk m c 9 t (ix2 r j)
      = rowCos n (fun t i => (m ((c : Thread nD τ).loc main_arg7) : Vec Ideal S16384x32 .f32) (ix2 t i)) (pair e)
          * (m ((c : Thread nD τ).loc main_arg6) : Vec Ideal S64 .f32) (ix1 e) := by
  rw [← cosAt_eq _ t.val r n (trow t r) hn rfl]
  refine Eq.trans ?_ (tck_apply m c (trow t r) j e he)
  blk_simp [iblk]
  refine congrArg (V m c main_v47 : Vec Ideal S16896x128 .f32) (funext fun b => Fin.ext ?_)
  blk_simp [idx9, trow]
  fin_cases b <;> simp <;> omega

/-- The sines for the keys. -/
theorem blk10 (c : Dev nD) (t : Fin cfg0.N) (r : Fin 512) (j : Fin 128) (e : Fin 64) (he : e.val = j.val % 64)
    (n : Fin 33280) (hn : n.val = 512 * t.val + r.val) :
    iblk m c 10 t (ix2 r j)
      = rowSin n (fun t i => (m ((c : Thread nD τ).loc main_arg8) : Vec Ideal S16384x32 .f32) (ix2 t i)) (pair e)
          * sign e * (m ((c : Thread nD τ).loc main_arg6) : Vec Ideal S64 .f32) (ix1 (other e)) := by
  rw [← sinAt_eq _ t.val r n (trow t r) hn rfl]
  refine Eq.trans ?_ (tsk_apply m c (trow t r) j e he)
  blk_simp [iblk]
  refine congrArg (V m c main_v53 : Vec Ideal S16896x128 .f32) (funext fun b => Fin.ext ?_)
  blk_simp [idx10, trow]
  fin_cases b <;> simp <;> omega

end Cert.EvenIdeal.Array
-- ==== Proof.EvenFinal.lean ====
/- The four arrays the even layers' mixer input projection leaves, over the reals: the Fourier mixer's columns, the
   queries, the keys and the values of each row. -/
module

public import proofs.«01_k».proof.Proof.EvenArray

@[expose] public section

set_option maxRecDepth 16384

noncomputable section

namespace Cert.EvenIdeal.Final

open Idealize.ShloMosaic Idealize.ShloMosaic.TcCoe
open Idealize.ShloMosaic.Pipeline (Dat)
open Cert.EvenIdeal Cert.EvenIdeal.Gen Cert.DenseMath Cert.EvenMath Cert.EvenEq Cert.EvenIdeal.Host Cert.EvenIdeal.Array
open Cert.EvenIdeal.Cat (wcat V_main_v74)

variable (m : (ℓ : Loc nD τ sig) → Buf (Elt Ideal) ℓ) (c : Dev nD)

/-- The arguments a run was given. -/
abbrev A0 : Vec Ideal S33280x1024 .f32 := m ((c : Thread nD τ).loc main_arg0)
abbrev A1 : Vec Ideal S1x1024 .f32 := m ((c : Thread nD τ).loc main_arg1)
abbrev A2 : Vec Ideal S6x8x1x1024 .f32 := m ((c : Thread nD τ).loc main_arg2)
abbrev A3 : Vec Ideal S1024x1280 .f32 := m ((c : Thread nD τ).loc main_arg3)
abbrev A4 : Vec Ideal S128x256 .f32 := m ((c : Thread nD τ).loc main_arg4)
abbrev A5 : Vec Ideal S64 .f32 := m ((c : Thread nD τ).loc main_arg5)
abbrev A6 : Vec Ideal S64 .f32 := m ((c : Thread nD τ).loc main_arg6)
abbrev A7 : Vec Ideal S16384x32 .f32 := m ((c : Thread nD τ).loc main_arg7)
abbrev A8 : Vec Ideal S16384x32 .f32 := m ((c : Thread nD τ).loc main_arg8)

/-- All of them hold real numbers. -/
structure Reals : Prop where
  a0 : ∀ i j, IsReal (A0 m c (ix2 i j))
  a1 : ∀ i j, IsReal (A1 m c (ix2 i j))
  a2 : ∀ i j k l, IsReal (A2 m c (ix4 i j k l))
  a3 : ∀ i j, IsReal (A3 m c (ix2 i j))
  a4 : ∀ i j, IsReal (A4 m c (ix2 i j))
  a5 : ∀ i, IsReal (A5 m c (ix1 i))
  a6 : ∀ i, IsReal (A6 m c (ix1 i))
  a7 : ∀ i j, IsReal (A7 m c (ix2 i j))
  a8 : ∀ i j, IsReal (A8 m c (ix2 i j))

/-- Row `n` normed and modulated, at column `k`. -/
def normal (n : Fin 33280) (k : Fin 1024) : EReal :=
  modulated (fun d => A0 m c (ix2 n d)) (fun d => A1 m c (ix2 0 d)) (fun d => A2 m c (ix4 0 (group n) 0 d))
    (fun d => A2 m c (ix4 1 (group n) 0 d)) k

/-- Row `n`'s products with the weights. -/
def P (n : Fin 33280) (j : Fin 1280) : EReal := ∑ k, normal m c n k * A3 m c (ix2 k j)

/-- The entries of the tables. -/
abbrev cosines (t : Fin 16384) (i : Fin 32) : EReal := A7 m c (ix2 t i)
abbrev sines (t : Fin 16384) (i : Fin 32) : EReal := A8 m c (ix2 t i)

section
variable {m c} (hR : Reals m c)
include hR

theorem real_normal (n : Fin 33280) (k : Fin 1024) : IsReal (normal m c n k) :=
  real_modulated _ _ _ _ (fun _ => hR.a0 _ _) (fun _ => hR.a1 _ _) (fun _ => hR.a2 _ _ _ _) (fun _ => hR.a2 _ _ _ _) k

theorem real_P (n : Fin 33280) (j : Fin 1280) : IsReal (P m c n j) :=
  real_sum fun k => real_mul (real_normal hR n k) (hR.a3 _ _)

end

/-- The four results' entries. -/
abbrev xyAt (n : Fin 33280) (d : Fin 1024) : EReal := channels (P m c n) (fun i j => A4 m c (ix2 i j)) d
abbrev qAt (n : Fin 33280) (d : Fin 512) : EReal :=
  head n (qhead (P m c n) ⟨d.val / 64, by omega⟩) (fun e => A5 m c (ix1 e)) (cosines m c) (sines m c)
    ⟨d.val % 64, Nat.mod_lt _ (by norm_num)⟩
abbrev kAt (g : Fin 2) (n : Fin 33280) (e : Fin 64) : EReal :=
  head n (khead (P m c n) g) (fun e => A6 m c (ix1 e)) (cosines m c) (sines m c) e
abbrev vAt (g : Fin 2) (e : Fin 80) (n : Fin 33280) : EReal := values (P m c n) g e

variable (t : Fin cfg0.N) (r : Fin 512) (n : Fin 33280) (hn : n.val = 512 * t.val + r.val)
include hn

/-- A block's products. -/
theorem prod_at (j : Fin 2432) :
    k0_pay3 (iblk m c 0 t) (iblk m c 1 t) (iblk m c 2 t) (iblk m c 3 t) (iblk m c 4 t) (ix2 r j)
      = ∑ k, normal m c n k * wcat (F := Ideal) (A3 m c) (A4 m c) (ix2 k j) := by
  have hg : tgroup t = group n := Fin.ext (by
    have hr := r.isLt
    simp only [tgroup, group]
    omega)
  refine (pay3_apply _ _ _ _ _ r j).trans ?_
  unfold normal
  simp only [blk0 m c t r _ n hn, blk1, blk2, blk3, blk4, hg]
  exact Finset.sum_congr rfl fun k _ => congrArg (_ * ·) (congrFun (V_main_v74 m c) (ix2 k j))

/-- A column of the products that is a column of the weights. -/
theorem prod_col (j : Fin 2432) (l : Fin 1280)
    (h : ∀ k, wcat (F := Ideal) (A3 m c) (A4 m c) (ix2 k j) = A3 m c (ix2 k l)) :
    k0_pay3 (iblk m c 0 t) (iblk m c 1 t) (iblk m c 2 t) (iblk m c 3 t) (iblk m c 4 t) (ix2 r j) = P m c n l := by
  rw [prod_at m c t r n hn]
  unfold P
  exact Finset.sum_congr rfl fun k _ => congrArg (normal m c n k * ·) (h k)

/-- A block's queries before norm and rotation, and with the pairs' two exchanged. -/
theorem q_at (d : Fin 512) :
    k0_pay5 (iblk m c 0 t) (iblk m c 1 t) (iblk m c 2 t) (iblk m c 3 t) (iblk m c 4 t) (ix2 r d)
      = qhead (P m c n) ⟨d.val / 64, by omega⟩ ⟨d.val % 64, Nat.mod_lt _ (by norm_num)⟩ := by
  refine (pay5_apply _ _ _ _ _ r d ⟨1024 + d.val, by omega⟩ rfl).trans ?_
  refine prod_col m c t r n hn _ _ fun k => wcat_q _ _ k _ d _ rfl ?_
  simp only
  omega

theorem qs_at (d : Fin 512) :
    k0_pay6 (iblk m c 0 t) (iblk m c 1 t) (iblk m c 2 t) (iblk m c 3 t) (iblk m c 4 t) (ix2 r d)
      = qhead (P m c n) ⟨d.val / 64, by omega⟩ (other ⟨d.val % 64, Nat.mod_lt _ (by norm_num)⟩) := by
  refine (pay6_apply _ _ _ _ _ r d ⟨1536 + d.val, by omega⟩ rfl).trans ?_
  refine prod_col m c t r n hn _ _ fun k => wcat_qs _ _ k _ d _ rfl ?_
  simp only [other]
  omega

/-- A block's keys before norm and rotation, and with the pairs' two exchanged. -/
theorem k_at (d : Fin 128) :
    k0_pay7 (iblk m c 0 t) (iblk m c 1 t) (iblk m c 2 t) (iblk m c 3 t) (iblk m c 4 t) (ix2 r d)
      = khead (P m c n) ⟨d.val / 64, by omega⟩ ⟨d.val % 64, Nat.mod_lt _ (by norm_num)⟩ := by
  refine (pay7_apply _ _ _ _ _ r d ⟨2048 + d.val, by omega⟩ rfl).trans ?_
  refine prod_col m c t r n hn _ _ fun k => wcat_k _ _ k _ d _ rfl ?_
  simp only
  omega

theorem ks_at (d : Fin 128) :
    k0_pay8 (iblk m c 0 t) (iblk m c 1 t) (iblk m c 2 t) (iblk m c 3 t) (iblk m c 4 t) (ix2 r d)
      = khead (P m c n) ⟨d.val / 64, by omega⟩ (other ⟨d.val % 64, Nat.mod_lt _ (by norm_num)⟩) := by
  refine (pay8_apply _ _ _ _ _ r d ⟨2176 + d.val, by omega⟩ rfl).trans ?_
  refine prod_col m c t r n hn _ _ fun k => wcat_ks _ _ k _ d _ rfl ?_
  simp only [other]
  omega

/-- A block's entry of the Fourier mixer's columns. -/
theorem cell_xy (hR : Reals m c) (d e : Fin 1024) (he : e = d) :
    k0_pay4 (iblk m c 0 t) (iblk m c 1 t) (iblk m c 2 t) (iblk m c 3 t) (iblk m c 4 t) (ix2 r d) = xyAt m c n e := by
  subst he
  refine (pay4_apply _ _ _ _ _ r e ⟨e.val, by omega⟩ rfl).trans ?_
  rw [prod_at m c t r n hn]
  refine Eq.trans ?_ (channels_eq (normal m c n) (fun k j => A3 m c (ix2 k j)) (fun i j => A4 m c (ix2 i j))
    (real_normal hR n) (fun _ _ => hR.a3 _ _) (fun _ _ => hR.a4 _ _) e)
  exact Finset.sum_congr rfl fun k _ => congrArg (normal m c n k * ·) (wcat_xy _ _ k _ e rfl)

/-- A block's entry of the queries. -/
theorem cell_q (hR : Reals m c) (d e : Fin 512) (he : e = d) :
    k0_pay16 (k0_pay5 (iblk m c 0 t) (iblk m c 1 t) (iblk m c 2 t) (iblk m c 3 t) (iblk m c 4 t))
      (k0_pay6 (iblk m c 0 t) (iblk m c 1 t) (iblk m c 2 t) (iblk m c 3 t) (iblk m c 4 t))
      (k0_pay15 (k0_pay5 (iblk m c 0 t) (iblk m c 1 t) (iblk m c 2 t) (iblk m c 3 t) (iblk m c 4 t)) (iblk m c 5 t))
      (Scalar.ofBits .f32 0x358637BD#32) (iblk m c 7 t) (iblk m c 8 t) (ix2 r d) = qAt m c n e := by
  subst he
  have hreal : ∀ h k, IsReal (qhead (P m c n) h k) := fun h k => real_P hR n _
  have hz : e.val % 64 = (⟨e.val % 128, Nat.mod_lt _ (by norm_num)⟩ : Fin 128).val % 64 := by simp only; omega
  refine (pay16_apply _ _ _ _ _ r e ⟨e.val % 128, Nat.mod_lt _ (by norm_num)⟩ rfl (fun k => blk5 m c t k e)).trans ?_
  rw [q_at m c t r n hn, qs_at m c t r n hn,
    blk7 m c t r _ ⟨e.val % 64, Nat.mod_lt _ (by norm_num)⟩ hz n hn,
    blk8 m c t r _ ⟨e.val % 64, Nat.mod_lt _ (by norm_num)⟩ hz n hn,
    root_eq _ (fun k => by rw [q_at m c t r n hn]; exact hreal _ _) (e.val / 64) (by omega)
      (qhead (P m c n) ⟨e.val / 64, by omega⟩) (fun f => by
        rw [q_at m c t r n hn]
        refine congrArg₂ (qhead (P m c n)) (Fin.ext ?_) (Fin.ext ?_) <;> simp only <;> omega)]
  exact head_eq n _ (fun e => A5 m c (ix1 e)) (cosines m c) (sines m c) (hreal _) (fun _ => hR.a5 _)
    (fun _ _ => hR.a7 _ _) (fun _ _ => hR.a8 _ _) _

/-- A block's entry of the keys. -/
theorem cell_k (hR : Reals m c) (d : Fin 128) (g : Fin 2) (e : Fin 64) (hd : d.val = 64 * g.val + e.val) :
    Block.keys (iblk m c 0 t) (iblk m c 1 t) (iblk m c 2 t) (iblk m c 3 t) (iblk m c 4 t) (iblk m c 6 t) (iblk m c 9 t)
      (iblk m c 10 t) (ix2 r d) = kAt m c g n e := by
  have hreal : ∀ h k, IsReal (khead (P m c n) h k) := fun h k => real_P hR n _
  have he : e.val = d.val % 64 := by omega
  have hg : (⟨d.val / 64, by omega⟩ : Fin 2) = g := Fin.ext (by simp only; omega)
  have he' : (⟨d.val % 64, Nat.mod_lt _ (by norm_num)⟩ : Fin 64) = e := Fin.ext he.symm
  refine (pay17_apply _ _ _ _ _ r d (fun k => blk6 m c t k d)).trans ?_
  rw [k_at m c t r n hn, ks_at m c t r n hn, hg, he', blk9 m c t r _ e he n hn, blk10 m c t r _ e he n hn,
    root_eq _ (fun k => by rw [k_at m c t r n hn]; exact hreal _ _) (d.val / 64) (by omega)
      (khead (P m c n) g) (fun f => by
        rw [k_at m c t r n hn]
        refine congrArg₂ (khead (P m c n)) (Fin.ext ?_) (Fin.ext ?_) <;> simp only <;> omega)]
  exact head_eq n _ (fun e => A6 m c (ix1 e)) (cosines m c) (sines m c) (hreal _) (fun _ => hR.a6 _)
    (fun _ _ => hR.a7 _ _) (fun _ _ => hR.a8 _ _) _

/-- A block's entry of the values. -/
theorem cell_v (g g' : Fin 2) (e e' : Fin 80) (hg : g' = g) (he : e' = e) :
    Block.vals (F := Ideal) (iblk m c 0 t) (iblk m c 1 t) (iblk m c 2 t) (iblk m c 3 t) (iblk m c 4 t) g e r
      = vAt m c g' e' n := by
  subst hg he
  unfold Block.vals vAt values
  split
  · next h =>
    refine prod_col m c t r n hn _ _ fun k => wcat_v _ _ k _ ⟨64 * g'.val + e'.val, by omega⟩ _ ?_ ?_ <;>
      simp only <;> omega
  · next h =>
    refine (pay10_apply _ r).trans ?_
    refine if_congr ?_ rfl rfl
    simp only
    omega

omit hn

/-- The Fourier mixer's columns. -/
theorem final_xy (hR : Reals m c) (d : Fin 1024) : (dats m 0 c).arrAt 11 cfg0.N (ix2 n d) = xyAt m c n d := by
  have hd := d.isLt
  have hN : cfg0.N = 65 := rfl
  have hlt : n.val / 512 < cfg0.N := by rw [hN]; omega
  refine (dats m 0 c).arrAt_forall_of_flushed 11 (fun i v => v = xyAt m c (i 0) (i 1))
      (fun t _ y => ?_) cfg0.N ⟨n.val / 512, hlt⟩ (ix2 n d) hlt (flush0_11 _) ?_
  · rw [Value.flushed11_A, Block.out11_eq]
    blk_simp
    have hy : (y : S512x1024.Idx) = ix2 (y 0) (y 1) := eq_ix2 (y : S512x1024.Idx)
    refine Eq.trans (congrArg (k0_pay4 (iblk m c 0 t) (iblk m c 1 t) (iblk m c 2 t) (iblk m c 3 t) (iblk m c 4 t)) hy) ?_
    refine cell_xy m c t (y 0) _ ?_ hR (y 1) _ (Fin.ext ?_)
    · blk_simp [idx11]
      simp [Nat.mul_comm]
    · blk_simp [idx11]
  · mem_blk [idx11]
    change (n.val / 512 * 512 ≤ n.val ∧ n.val < n.val / 512 * 512 + 512)
      ∧ 0 * 1024 ≤ d.val ∧ d.val < 0 * 1024 + 1024
    omega

/-- The queries. -/
theorem final_q (hR : Reals m c) (d : Fin 512) : (dats m 0 c).arrAt 12 cfg0.N (ix2 n d) = qAt m c n d := by
  have hd := d.isLt
  have hN : cfg0.N = 65 := rfl
  have hlt : n.val / 512 < cfg0.N := by rw [hN]; omega
  refine (dats m 0 c).arrAt_forall_of_flushed 12 (fun i v => v = qAt m c (i 0) (i 1))
      (fun t _ y => ?_) cfg0.N ⟨n.val / 512, hlt⟩ (ix2 n d) hlt (flush0_12 _) ?_
  · rw [Value.flushed12_A, Block.out12_eq]
    blk_simp
    have hy : (y : S512x512.Idx) = ix2 (y 0) (y 1) := eq_ix2 (y : S512x512.Idx)
    refine Eq.trans (congrArg (k0_pay16 _ _ _ _ (iblk m c 7 t) (iblk m c 8 t)) hy) ?_
    refine cell_q m c t (y 0) _ ?_ hR (y 1) _ (Fin.ext ?_)
    · blk_simp [idx12]
      simp [Nat.mul_comm]
    · blk_simp [idx12]
  · mem_blk [idx12]
    change (n.val / 512 * 512 ≤ n.val ∧ n.val < n.val / 512 * 512 + 512)
      ∧ 0 * 512 ≤ d.val ∧ d.val < 0 * 512 + 512
    omega

/-- The keys. -/
theorem final_k (hR : Reals m c) (g : Fin 2) (e : Fin 64) :
    (dats m 0 c).arrAt 13 cfg0.N (ix3 g n e) = kAt m c g n e := by
  have hg := g.isLt
  have he := e.isLt
  have hN : cfg0.N = 65 := rfl
  have hlt : n.val / 512 < cfg0.N := by rw [hN]; omega
  refine (dats m 0 c).arrAt_forall_of_flushed 13 (fun i v => v = kAt m c (i 0) (i 1) (i 2))
      (fun t _ y => ?_) cfg0.N ⟨n.val / 512, hlt⟩ (ix3 g n e) hlt (flush0_13 _) ?_
  · rw [Value.flushed13_A, Block.out13_eq]
    blk_simp
    refine cell_k m c t (y 1) _ ?_ hR _ _ _ ?_
    · blk_simp [idx13]
      simp [Nat.mul_comm]
    · blk_simp [idx13]
  · mem_blk [idx13]
    change (0 * 2 ≤ g.val ∧ g.val < 0 * 2 + 2) ∧ (n.val / 512 * 512 ≤ n.val ∧ n.val < n.val / 512 * 512 + 512)
      ∧ 0 * 64 ≤ e.val ∧ e.val < 0 * 64 + 64
    omega

/-- The values. -/
theorem final_v (g : Fin 2) (e : Fin 80) : (dats m 0 c).arrAt 14 cfg0.N (ix3 g e n) = vAt m c g e n := by
  have hg := g.isLt
  have he := e.isLt
  have hN : cfg0.N = 65 := rfl
  have hlt : n.val / 512 < cfg0.N := by rw [hN]; omega
  refine (dats m 0 c).arrAt_forall_of_flushed 14 (fun i v => v = vAt m c (i 0) (i 1) (i 2))
      (fun t _ y => ?_) cfg0.N ⟨n.val / 512, hlt⟩ (ix3 g e n) hlt (flush0_14 _) ?_
  · rw [Value.flushed14_A, Block.out14_eq]
    blk_simp
    refine cell_v m c t (y 2) _ ?_ (y 0) _ (y 1) _ (Fin.ext ?_) (Fin.ext ?_)
    · blk_simp [idx14]
      simp [Nat.mul_comm]
    · blk_simp [idx14]
    · blk_simp [idx14]
  · mem_blk [idx14]
    change (0 * 2 ≤ g.val ∧ g.val < 0 * 2 + 2) ∧ (0 * 80 ≤ e.val ∧ e.val < 0 * 80 + 80)
      ∧ n.val / 512 * 512 ≤ n.val ∧ n.val < n.val / 512 * 512 + 512
    omega

end Cert.EvenIdeal.Final
-- ==== Proof.EvenRef.lean ====
/- The reference of the even layers' mixer input projection read at an index, over the extended reals. -/
module

public import proofs.«01_k».proof.Proof.Gen.EvenRefIdeal.Read
public import proofs.«01_k».proof.Proof.EvenMath
public import Idealize.ShloMosaic.Lib.Tactic.CleanTypes

@[expose] public section

set_option maxRecDepth 16384

noncomputable section

namespace Cert.EvenRefIdeal.Ref

open Idealize.ShloMosaic Idealize.ShloMosaic.TcCoe
open Cert.EvenRefIdeal Cert.EvenRefIdeal.Gen Cert.EvenRefIdeal.Read Cert.DenseMath Cert.EvenMath

variable (x0 : Vec Ideal S33280x1024 .f32) (x1 : Vec Ideal S1x1024 .f32) (x2 : Vec Ideal S6x8x1x1024 .f32)
  (x3 : Vec Ideal S1024x1280 .f32) (x4 : Vec Ideal S128x256 .f32) (x5 x6 : Vec Ideal S64 .f32)
  (x7 x8 : Vec Ideal S16384x32 .f32)

/-- The shift of each row. -/
theorem shift_apply (n : Fin 33280) (d : Fin 1024) :
    val_main_v21 (F := Ideal) x2 (ix2 n d) = x2 (ix4 0 (group n) 0 d) := by
  refine Eq.trans ?_ (group_ite (fun g => x2 (ix4 0 g 0 d)) n)
  pointwise [val_main_v21, val_main_v20, val_main_v19, val_main_v18, val_main_v17, val_main_v16, val_main_v15,
    val_main_v14, val_main_v13, val_main_v12]

/-- The scale of each row. -/
theorem scale_apply (n : Fin 33280) (d : Fin 1024) :
    val_main_v31 (F := Ideal) x2 (ix2 n d) = x2 (ix4 1 (group n) 0 d) := by
  refine Eq.trans ?_ (group_ite (fun g => x2 (ix4 1 g 0 d)) n)
  pointwise [val_main_v31, val_main_v30, val_main_v29, val_main_v28, val_main_v27, val_main_v26, val_main_v25,
    val_main_v24, val_main_v23, val_main_v22]

/-- The normed rows. -/
theorem norm_apply (n : Fin 33280) (d : Fin 1024) :
    val_main_v11 (F := Ideal) x0 x1 (ix2 n d) = rms (fun d => x0 (ix2 n d)) (fun d => x1 (ix2 0 d)) d := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The projected row `n`. -/
def proj (n : Fin 33280) (j : Fin 1280) : EReal :=
  ∑ k, modulated (fun d => x0 (ix2 n d)) (fun d => x1 (ix2 0 d)) (fun d => x2 (ix4 0 (group n) 0 d))
    (fun d => x2 (ix4 1 (group n) 0 d)) k * x3 (ix2 k j)

/-- The projection. -/
theorem proj_apply (n : Fin 33280) (j : Fin 1280) :
    val_main_v36 (F := Ideal) x0 x1 x2 x3 (ix2 n j) = proj x0 x1 x2 x3 n j := by
  pointwise [val_main_v36, val_main_v35, val_main_v34, val_main_v33, val_main_v32, val_main_cst_2]
  simp only [norm_apply, shift_apply, scale_apply]
  rfl

/-- The Fourier mixer's columns. -/
theorem xy_apply (n : Fin 33280) (j : Fin 1024) :
    val_main_v136 (F := Ideal) x0 x1 x2 x3 x4 (ix2 n j)
      = channels (proj x0 x1 x2 x3 n) (fun c d => x4 (ix2 c d)) j := by
  pointwise [val_main_v136, val_main_v45, val_main_v44, val_main_v43, val_main_v42, val_main_v41, val_main_v40,
    val_main_v39, val_main_v38, val_main_v37]
  simp only [proj_apply, channels]
  split
  · rename_i h
    refine Finset.sum_congr rfl fun c _ => ?_
    refine congrArg₂ (· * ·) (congrArg _ (Fin.ext ?_)) (congrArg (fun d => x4 (ix2 c d)) (Fin.ext ?_)) <;>
      simp only <;> omega
  · rename_i h
    refine Finset.sum_congr rfl fun c _ => ?_
    refine congrArg₂ (· * ·) (congrArg _ (Fin.ext ?_)) (congrArg (fun d => x4 (ix2 c d)) (Fin.ext ?_)) <;>
      simp only <;> omega

/-- The query heads, normed. -/
theorem q_norm_apply (n : Fin 33280) (h : Fin 8) (e : Fin 64) :
    val_main_v60 (F := Ideal) x0 x1 x2 x3 x5 (ix3 n h e)
      = normed (qhead (proj x0 x1 x2 x3 n) h) (fun e => x5 (ix1 e)) e := by
  pointwise [val_main_v60, val_main_v59, val_main_v58, val_main_v57, val_main_v56, val_main_v55, val_main_v54,
    val_main_v53, val_main_v52, val_main_v51, val_main_v50, val_main_v49, val_main_v48, val_main_v47, val_main_v46,
    val_main_cst_3, val_main_cst_4, val_main_cst_5]
  simp only [proj_apply, normed, scale, qhead, Nat.mul_comm h.val 64, ← Nat.add_assoc]

/-- The key heads, normed. -/
theorem k_norm_apply (n : Fin 33280) (h : Fin 2) (e : Fin 64) :
    val_main_v75 (F := Ideal) x0 x1 x2 x3 x6 (ix3 n h e)
      = normed (khead (proj x0 x1 x2 x3 n) h) (fun e => x6 (ix1 e)) e := by
  pointwise [val_main_v75, val_main_v74, val_main_v73, val_main_v72, val_main_v71, val_main_v70, val_main_v69,
    val_main_v68, val_main_v67, val_main_v66, val_main_v65, val_main_v64, val_main_v63, val_main_v62, val_main_v61,
    val_main_cst_6, val_main_cst_7, val_main_cst_8]
  simp only [proj_apply, normed, scale, khead, Nat.mul_comm h.val 64, ← Nat.add_assoc]

/-- The first entry of a turned pair. -/
theorem head_first {n : Fin 33280} (p w : Fin 64 → EReal) (c s : Fin 16384 → Fin 32 → EReal) {e : Fin 64}
    {t : Fin 16384} {a b : Fin 64} {i : Fin 32} (h : n.val < 32768) (h0 : e.val % 2 < 1) (ht : t.val = n.val % 16384)
    (ha : a.val = e.val / 2 * 2) (hb : b.val = e.val / 2 * 2 + 1) (hi : i.val = e.val / 2) :
    normed p w a * c t i - normed p w b * s t i = head n p w c s e := by
  have ht' : t = ⟨n.val % 16384, by omega⟩ := Fin.ext ht
  have hi' : i = pair e := Fin.ext hi
  have ha' : a = e := Fin.ext (by omega)
  have hb' : b = other e := Fin.ext (by simp only [other]; omega)
  unfold head turned
  rw [if_pos h, if_pos (by omega), ht', hi', ha', hb']

/-- The second entry of a turned pair. -/
theorem head_second {n : Fin 33280} (p w : Fin 64 → EReal) (c s : Fin 16384 → Fin 32 → EReal) {e : Fin 64}
    {t : Fin 16384} {a b : Fin 64} {i : Fin 32} (h : n.val < 32768) (h0 : ¬e.val % 2 < 1)
    (ht : t.val = n.val % 16384) (ha : a.val = e.val / 2 * 2) (hb : b.val = e.val / 2 * 2 + 1)
    (hi : i.val = e.val / 2) :
    normed p w a * s t i + normed p w b * c t i = head n p w c s e := by
  have ht' : t = ⟨n.val % 16384, by omega⟩ := Fin.ext ht
  have hi' : i = pair e := Fin.ext hi
  have ha' : a = other e := Fin.ext (by simp only [other]; omega)
  have hb' : b = e := Fin.ext (by omega)
  unfold head turned
  rw [if_pos h, if_neg (by omega), ht', hi', ha', hb']

/-- An entry of a row without a position. -/
theorem head_still {n : Fin 33280} (p w : Fin 64 → EReal) (c s : Fin 16384 → Fin 32 → EReal) {e : Fin 64}
    (h : ¬n.val < 32768) : normed p w e = head n p w c s e := by
  unfold head
  rw [if_neg h]

/-- The latent row put together again from its sample and position. -/
theorem row_lat (n : Fin 33280) (hp : n.val / 16384 * 16384 + n.val % 16384 < 33280) :
    (⟨n.val / 16384 * 16384 + n.val % 16384, hp⟩ : Fin 33280) = n := Fin.ext (by simp only; omega)

/-- The context row put together again. -/
theorem row_ctx (n : Fin 33280) (h : ¬n.val < 32768) (hp : 32768 + (n.val - 32768) < 33280) :
    (⟨32768 + (n.val - 32768), hp⟩ : Fin 33280) = n := Fin.ext (by simp only; omega)

/-- The queries. -/
theorem q_apply (n : Fin 33280) (j : Fin 512) :
    val_main_v137 (F := Ideal) x0 x1 x2 x3 x5 x7 x8 (ix2 n j)
      = head n (qhead (proj x0 x1 x2 x3 n) ⟨j.val / 64, by omega⟩) (fun e => x5 (ix1 e)) (fun t i => x7 (ix2 t i))
          (fun t i => x8 (ix2 t i)) ⟨j.val % 64, by omega⟩ := by
  pointwise [val_main_v137, val_main_v104, val_main_v103, val_main_v102, val_main_v101, val_main_v100, val_main_v99,
    val_main_v98, val_main_v97, val_main_v96, val_main_v95, val_main_v94, val_main_v93, val_main_v92, val_main_v91,
    val_main_v90, val_main_v89, val_main_v88, val_main_v87, val_main_v86, val_main_v85, val_main_v84, val_main_v83,
    val_main_v82, val_main_v81, val_main_v80, val_main_v79, val_main_v78]
  simp only [q_norm_apply]
  split
  · rename_i h
    simp only [row_lat]
    split
    · rename_i h0
      exact head_first (qhead (proj x0 x1 x2 x3 n) ⟨j.val / 64, by omega⟩) (fun e => x5 (ix1 e))
        (fun t i => x7 (ix2 t i)) (fun t i => x8 (ix2 t i)) h h0 rfl rfl rfl rfl
    · rename_i h0
      exact head_second (qhead (proj x0 x1 x2 x3 n) ⟨j.val / 64, by omega⟩) (fun e => x5 (ix1 e))
        (fun t i => x7 (ix2 t i)) (fun t i => x8 (ix2 t i)) h h0 rfl rfl rfl rfl
  · rename_i h
    simp only [row_ctx n h]
    exact head_still (qhead (proj x0 x1 x2 x3 n) ⟨j.val / 64, by omega⟩) (fun e => x5 (ix1 e))
        (fun t i => x7 (ix2 t i)) (fun t i => x8 (ix2 t i)) h

/-- The keys. -/
theorem k_apply (g : Fin 2) (n : Fin 33280) (e : Fin 64) :
    val_main_v138 (F := Ideal) x0 x1 x2 x3 x6 x7 x8 (ix3 g n e)
      = head n (khead (proj x0 x1 x2 x3 n) g) (fun e => x6 (ix1 e)) (fun t i => x7 (ix2 t i))
          (fun t i => x8 (ix2 t i)) e := by
  pointwise [val_main_v138, val_main_v131, val_main_v130, val_main_v129, val_main_v128, val_main_v127, val_main_v126,
    val_main_v125, val_main_v124, val_main_v123, val_main_v122, val_main_v121, val_main_v120, val_main_v119,
    val_main_v118, val_main_v117, val_main_v116, val_main_v115, val_main_v114, val_main_v113, val_main_v112,
    val_main_v111, val_main_v110, val_main_v109, val_main_v108, val_main_v107, val_main_v106, val_main_v105]
  simp only [k_norm_apply]
  split
  · rename_i h
    simp only [row_lat]
    split
    · rename_i h0
      exact head_first (khead (proj x0 x1 x2 x3 n) g) (fun e => x6 (ix1 e))
        (fun t i => x7 (ix2 t i)) (fun t i => x8 (ix2 t i)) h h0 rfl rfl rfl rfl
    · rename_i h0
      exact head_second (khead (proj x0 x1 x2 x3 n) g) (fun e => x6 (ix1 e))
        (fun t i => x7 (ix2 t i)) (fun t i => x8 (ix2 t i)) h h0 rfl rfl rfl rfl
  · rename_i h
    simp only [row_ctx n h]
    exact head_still (khead (proj x0 x1 x2 x3 n) g) (fun e => x6 (ix1 e))
        (fun t i => x7 (ix2 t i)) (fun t i => x8 (ix2 t i)) h

/-- The values. -/
theorem v_apply (g : Fin 2) (e : Fin 80) (n : Fin 33280) :
    val_main_v139 (F := Ideal) x0 x1 x2 x3 (ix3 g e n) = values (proj x0 x1 x2 x3 n) g e := by
  pointwise [val_main_v139, val_main_v135, val_main_v134, val_main_v133, val_main_v132, val_main_v77, val_main_v76,
    val_main_cst_9, val_main_cst_10]
  simp only [proj_apply, values, Nat.mul_comm g.val 64, ← Nat.add_assoc]
  have h64 : ¬e.val < 64 → ((e.val - 64 < 1) ↔ (e.val = 64)) := fun h => by omega
  split
  · rfl
  · rename_i h
    simp only [h64 h]
    split <;> rfl

end Cert.EvenRefIdeal.Ref
-- ==== Proof.EvenClaim.lean ====
/- The even layers' mixer input projection's claims: the runs, and the equality of its four results with the
   reference's. -/
module

public import proofs.«01_k».proof.Defs
public import proofs.«01_k».proof.Proof.AttnClaim
public import proofs.«01_k».proof.Proof.EvenFinal
public import proofs.«01_k».proof.Proof.EvenRef
public import proofs.«01_k».proof.Proof.Gen.Even
public import proofs.«01_k».proof.Proof.Gen.Even.Frame
public import proofs.«01_k».proof.Proof.Gen.EvenIdeal.Frame
public import proofs.«01_k».proof.Proof.Gen.EvenRefIdeal.Run
public import proofs.«01_k».proof.Proof.Gen.Pre_real_inputs
public import Idealize.ShloMosaic.Lib.Quiescent

@[expose] public section

set_option maxRecDepth 16384

noncomputable section

namespace Cert.EvenClaim

open Idealize.ShloMosaic Idealize.ShloMosaic.TcCoe Idealize.SL.Sem

/-- The kernel runs, leaves its arguments as they were and ends with every counter at zero. -/
theorem frame_Even : Cert.quiescent_Even := fun m g _ => Cert.Even.Gen.frame m g

/-- So does the kernel read over the extended reals. -/
theorem frame_EvenIdeal : Cert.quiescent_EvenIdeal := fun m g _ => Cert.EvenIdeal.Gen.frame m g

/-- The same from memories whose arguments are finite. -/
theorem frame_EvenIdeal_real : Cert.quiescent_EvenIdeal_pre_real_inputs := fun m g _ => Cert.EvenIdeal.Gen.frame m g

/-- The reference runs, leaves its arguments as they were and ends with every counter at zero. -/
theorem frame_EvenRefIdeal : Cert.quiescent_EvenRefIdeal := fun m g _ =>
  (θ_run _ _ _).mono (fun r h => ⟨fun c => (h c).2.2.2.2, sem_eq_zero_of_no_sems (by decide) r.2⟩)
    (Cert.EvenRefIdeal.Value.run m g)

/-- The same from memories whose arguments are finite. -/
theorem frame_EvenRefIdeal_real : Cert.quiescent_EvenRefIdeal_pre_real_inputs := fun m g _ =>
  frame_EvenRefIdeal m g trivial

/-- No constant is named. -/
theorem preserves : Cert.preserves_Even_EvenIdeal := trivial

open Cert.Pre_real_inputs in
/-- An array whose entries the precondition admits has real entries. -/
theorem real_of_all {S : Shape} (x : FVec Ideal S .f32)
    (b : S_.BroadcastsInDim S (![] : Fin 0 → Fin S.rank))
    (h : cmpf .olt (Host.absf x) (broadcastInDim S ![] b (constant S_ .f32 0x7F800000#32)) = (fun _ => 1#1)) (i : S.Idx) :
    Cert.EvenEq.IsReal (x i) :=
  Cert.AttnClaim.real_of_ofBool _ (congrFun h i)

/-- Arguments that the precondition admits are real. -/
theorem reals (m : (ℓ : Loc Cert.EvenIdeal.nD Cert.EvenIdeal.τ Cert.EvenIdeal.sig) → Buf (Elt Ideal) ℓ)
    (h : Cert.Pre_EvenIdeal_real_inputs m) (c : Dev Cert.EvenIdeal.nD) : Cert.EvenIdeal.Final.Reals m c := by
  obtain ⟨h0, h1, h2, h3, h4, h5, h6, h7, h8⟩ := h c
  exact ⟨fun i j => real_of_all _ _ h0 _, fun i j => real_of_all _ _ h1 _, fun i j k l => real_of_all _ _ h2 _,
    fun i j => real_of_all _ _ h3 _, fun i j => real_of_all _ _ h4 _, fun i => real_of_all _ _ h5 _,
    fun i => real_of_all _ _ h6 _, fun i j => real_of_all _ _ h7 _, fun i j => real_of_all _ _ h8 _⟩

/-- The reference's run, its results as named values of the arguments. -/
theorem ref_run (m : (ℓ : Loc Cert.EvenRefIdeal.nD Cert.EvenRefIdeal.τ Cert.EvenRefIdeal.sig) → Buf (Elt Ideal) ℓ)
    (g : Dev Cert.EvenRefIdeal.nD → PrngReg) :
    θ_run Cert.EvenRefIdeal.defs (onTc (τ := Cert.EvenRefIdeal.τ) (Cert.EvenRefIdeal.main (F := Ideal)))
      ⟨m, fun _ => 0, g⟩ fun r => ∀ c : Dev Cert.EvenRefIdeal.nD,
      r.2.mem ((c.tc : Thread _ _).loc Cert.EvenRefIdeal.main_v136)
        = Cert.EvenRefIdeal.Read.val_main_v136 (F := Ideal)
          (m ((c.tc : Thread _ _).loc Cert.EvenRefIdeal.main_arg0)) (m ((c.tc : Thread _ _).loc Cert.EvenRefIdeal.main_arg1))
          (m ((c.tc : Thread _ _).loc Cert.EvenRefIdeal.main_arg2)) (m ((c.tc : Thread _ _).loc Cert.EvenRefIdeal.main_arg3))
          (m ((c.tc : Thread _ _).loc Cert.EvenRefIdeal.main_arg4))
      ∧ r.2.mem ((c.tc : Thread _ _).loc Cert.EvenRefIdeal.main_v137)
        = Cert.EvenRefIdeal.Read.val_main_v137 (F := Ideal)
          (m ((c.tc : Thread _ _).loc Cert.EvenRefIdeal.main_arg0)) (m ((c.tc : Thread _ _).loc Cert.EvenRefIdeal.main_arg1))
          (m ((c.tc : Thread _ _).loc Cert.EvenRefIdeal.main_arg2)) (m ((c.tc : Thread _ _).loc Cert.EvenRefIdeal.main_arg3))
          (m ((c.tc : Thread _ _).loc Cert.EvenRefIdeal.main_arg5)) (m ((c.tc : Thread _ _).loc Cert.EvenRefIdeal.main_arg7))
          (m ((c.tc : Thread _ _).loc Cert.EvenRefIdeal.main_arg8))
      ∧ r.2.mem ((c.tc : Thread _ _).loc Cert.EvenRefIdeal.main_v138)
        = Cert.EvenRefIdeal.Read.val_main_v138 (F := Ideal)
          (m ((c.tc : Thread _ _).loc Cert.EvenRefIdeal.main_arg0)) (m ((c.tc : Thread _ _).loc Cert.EvenRefIdeal.main_arg1))
          (m ((c.tc : Thread _ _).loc Cert.EvenRefIdeal.main_arg2)) (m ((c.tc : Thread _ _).loc Cert.EvenRefIdeal.main_arg3))
          (m ((c.tc : Thread _ _).loc Cert.EvenRefIdeal.main_arg6)) (m ((c.tc : Thread _ _).loc Cert.EvenRefIdeal.main_arg7))
          (m ((c.tc : Thread _ _).loc Cert.EvenRefIdeal.main_arg8))
      ∧ r.2.mem ((c.tc : Thread _ _).loc Cert.EvenRefIdeal.main_v139)
        = Cert.EvenRefIdeal.Read.val_main_v139 (F := Ideal)
          (m ((c.tc : Thread _ _).loc Cert.EvenRefIdeal.main_arg0)) (m ((c.tc : Thread _ _).loc Cert.EvenRefIdeal.main_arg1))
          (m ((c.tc : Thread _ _).loc Cert.EvenRefIdeal.main_arg2)) (m ((c.tc : Thread _ _).loc Cert.EvenRefIdeal.main_arg3))
      ∧ r.2.mem ((c.tc : Thread _ _).loc Cert.EvenRefIdeal.main_arg0) = m ((c.tc : Thread _ _).loc Cert.EvenRefIdeal.main_arg0)
      ∧ r.2.mem ((c.tc : Thread _ _).loc Cert.EvenRefIdeal.main_arg1) = m ((c.tc : Thread _ _).loc Cert.EvenRefIdeal.main_arg1)
      ∧ r.2.mem ((c.tc : Thread _ _).loc Cert.EvenRefIdeal.main_arg2) = m ((c.tc : Thread _ _).loc Cert.EvenRefIdeal.main_arg2)
      ∧ r.2.mem ((c.tc : Thread _ _).loc Cert.EvenRefIdeal.main_arg3) = m ((c.tc : Thread _ _).loc Cert.EvenRefIdeal.main_arg3)
      ∧ r.2.mem ((c.tc : Thread _ _).loc Cert.EvenRefIdeal.main_arg4) = m ((c.tc : Thread _ _).loc Cert.EvenRefIdeal.main_arg4)
      ∧ r.2.mem ((c.tc : Thread _ _).loc Cert.EvenRefIdeal.main_arg5) = m ((c.tc : Thread _ _).loc Cert.EvenRefIdeal.main_arg5)
      ∧ r.2.mem ((c.tc : Thread _ _).loc Cert.EvenRefIdeal.main_arg6) = m ((c.tc : Thread _ _).loc Cert.EvenRefIdeal.main_arg6)
      ∧ r.2.mem ((c.tc : Thread _ _).loc Cert.EvenRefIdeal.main_arg7) = m ((c.tc : Thread _ _).loc Cert.EvenRefIdeal.main_arg7)
      ∧ r.2.mem ((c.tc : Thread _ _).loc Cert.EvenRefIdeal.main_arg8) = m ((c.tc : Thread _ _).loc Cert.EvenRefIdeal.main_arg8) :=
  (θ_run _ _ _).mono (fun r h c =>
    ⟨(h c).1.trans (Cert.EvenRefIdeal.Read.val_main_v136_eq m c),
      (h c).2.1.trans (Cert.EvenRefIdeal.Read.val_main_v137_eq m c),
      (h c).2.2.1.trans (Cert.EvenRefIdeal.Read.val_main_v138_eq m c),
      (h c).2.2.2.1.trans (Cert.EvenRefIdeal.Read.val_main_v139_eq _ _ _ _), (h c).2.2.2.2⟩)
    (Cert.EvenRefIdeal.Value.run m g)

section
variable (m : (ℓ : Loc Cert.EvenIdeal.nD Cert.EvenIdeal.τ Cert.EvenIdeal.sig) → Buf (Elt Ideal) ℓ)
  (hpre : Cert.Pre_EvenIdeal_real_inputs m) (c : Dev Cert.EvenIdeal.nD)
include hpre

/-- The kernel's first result is the reference's: the channels. -/
theorem xy_eq : (Cert.EvenIdeal.Gen.dats m 0 c).arrAt 11 Cert.EvenIdeal.cfg0.N
    = Cert.EvenRefIdeal.Read.val_main_v136 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg4)) := by
  funext (i : Cert.EvenRefIdeal.S33280x1024.Idx)
  obtain ⟨n, d, rfl⟩ : ∃ n d, i = ix2 n d := ⟨_, _, eq_ix2 i⟩
  exact (Cert.EvenIdeal.Final.final_xy m c n (reals m hpre c) d).trans
    (Cert.EvenRefIdeal.Ref.xy_apply _ _ _ _ _ n d).symm

/-- The second: the queries. -/
theorem q_eq : (Cert.EvenIdeal.Gen.dats m 0 c).arrAt 12 Cert.EvenIdeal.cfg0.N
    = Cert.EvenRefIdeal.Read.val_main_v137 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg5)) (m ((c.tc : Thread _ _).loc Cert.EvenIdeal.main_arg7))
        (m ((c.tc : Thread _ _).loc Cert.EvenIdeal.main_arg8)) := by
  funext (i : Cert.EvenRefIdeal.S33280x512.Idx)
  obtain ⟨n, d, rfl⟩ : ∃ n d, i = ix2 n d := ⟨_, _, eq_ix2 i⟩
  exact (Cert.EvenIdeal.Final.final_q m c n (reals m hpre c) d).trans
    (Cert.EvenRefIdeal.Ref.q_apply _ _ _ _ _ _ _ n d).symm

/-- The third: the keys. -/
theorem k_eq : (Cert.EvenIdeal.Gen.dats m 0 c).arrAt 13 Cert.EvenIdeal.cfg0.N
    = Cert.EvenRefIdeal.Read.val_main_v138 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg6)) (m ((c.tc : Thread _ _).loc Cert.EvenIdeal.main_arg7))
        (m ((c.tc : Thread _ _).loc Cert.EvenIdeal.main_arg8)) := by
  funext (i : Cert.EvenRefIdeal.S2x33280x64.Idx)
  obtain ⟨a, n, e, rfl⟩ : ∃ a n e, i = ix3 a n e := ⟨_, _, _, eq_ix3 i⟩
  exact (Cert.EvenIdeal.Final.final_k m c n (reals m hpre c) a e).trans
    (Cert.EvenRefIdeal.Ref.k_apply _ _ _ _ _ _ _ a n e).symm

omit hpre in
/-- The fourth: the values. -/
theorem v_eq : (Cert.EvenIdeal.Gen.dats m 0 c).arrAt 14 Cert.EvenIdeal.cfg0.N
    = Cert.EvenRefIdeal.Read.val_main_v139 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3)) := by
  funext (i : Cert.EvenRefIdeal.S2x80x33280.Idx)
  obtain ⟨a, e, n, rfl⟩ : ∃ a e n, i = ix3 a e n := ⟨_, _, _, eq_ix3 i⟩
  exact (Cert.EvenIdeal.Final.final_v m c n a e).trans (Cert.EvenRefIdeal.Ref.v_apply _ _ _ _ a e n).symm

end

/-- Kernel and reference agree on all four results. -/
theorem algebraic : Cert.algebraic_EvenIdeal_EvenRefIdeal_pre_real_inputs := by
  intro m g m' g' hpre hagree
  refine ⟨fun c => Cert.EvenRefIdeal.Read.val_main_v136 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg4)),
    fun c => Cert.EvenRefIdeal.Read.val_main_v137 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg5)) (m ((c.tc : Thread _ _).loc Cert.EvenIdeal.main_arg7))
        (m ((c.tc : Thread _ _).loc Cert.EvenIdeal.main_arg8)),
    fun c => Cert.EvenRefIdeal.Read.val_main_v138 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3))
        (m ((c.tc : Thread _ _).loc Cert.EvenIdeal.main_arg6)) (m ((c.tc : Thread _ _).loc Cert.EvenIdeal.main_arg7))
        (m ((c.tc : Thread _ _).loc Cert.EvenIdeal.main_arg8)),
    fun c => Cert.EvenRefIdeal.Read.val_main_v139 (F := Ideal)
        (m ((c.tc : Thread _ _).loc Cert.EvenIdeal.main_arg0)) (m ((c.tc : Thread _ _).loc Cert.EvenIdeal.main_arg1))
        (m ((c.tc : Thread _ _).loc Cert.EvenIdeal.main_arg2)) (m ((c.tc : Thread _ _).loc Cert.EvenIdeal.main_arg3)),
    (θ_run _ _ _).mono (fun r h c => ⟨(h c).1.trans (xy_eq m hpre c), (h c).2.1.trans (q_eq m hpre c),
        (h c).2.2.1.trans (k_eq m hpre c), (h c).2.2.2.1.trans (v_eq m c), (h c).2.2.2.2⟩)
      (Cert.EvenIdeal.Value.run_blocks m g),
    (θ_run _ _ _).mono (fun r h c => ⟨(h c).1.trans ?_, (h c).2.1.trans ?_, (h c).2.2.1.trans ?_,
        (h c).2.2.2.1.trans ?_, (h c).2.2.2.2⟩) (ref_run m' g')⟩
  all_goals obtain ⟨a0, a1, a2, a3, a4, a5, a6, a7, a8⟩ := hagree c
  · rw [a0, a1, a2, a3, a4]
  · rw [a0, a1, a2, a3, a5, a7, a8]
  · rw [a0, a1, a2, a3, a6, a7, a8]
  · rw [a0, a1, a2, a3]

end Cert.EvenClaim
-- ==== Proof.OutArray.lean ====
/- The array the state mixer's output projection leaves, over the extended reals: each row is the residual row and the
   gated norm of the row's product. -/
module

public import proofs.«01_k».proof.Proof.Gen.OutIdeal.Value
public import proofs.«01_k».proof.Proof.DenseMath
public import Idealize.ShloMosaic.Lib.Pipeline.ValueKit
public import Idealize.ShloMosaic.Lib.Tactic

@[expose] public section

set_option maxRecDepth 16384

noncomputable section

namespace Cert.OutIdeal.Array

open Idealize.ShloMosaic Idealize.ShloMosaic.TcCoe
open Idealize.ShloMosaic.Pipeline (Dat)
open Cert.OutIdeal Cert.OutIdeal.Gen Cert.DenseMath

theorem z2 : (![0, 0] : Fin 2 → Nat) = fun _ => 0 := funext fun a => by fin_cases a <;> rfl
theorem z4 : (![0, 0, 0, 0] : Fin 4 → Nat) = fun _ => 0 := funext fun a => by fin_cases a <;> rfl

/-- The output block at an index. -/
theorem pay1_apply (y : Vec Ideal S512x2048 .bf16) (w : Vec Ideal S2048x1024 .bf16) (x : Vec Ideal S512x1024 .f32)
    (g : Vec Ideal S1x1x1x1024 .f32) (nw : Vec Ideal S1x1024 .f32) (r : Fin 512) (d : Fin 1024) :
    k0_pay1 y w x g nw (ix2 r d)
      = residual (fun d => x (ix2 r d)) (fun d => g (ix4 0 0 0 d)) (fun d => nw (ix2 0 d))
          (fun d => ∑ k, y (ix2 r k) * w (ix2 k d)) d := by
  pointwise [k0_pay1]
  rfl

/-- What a grid point leaves in its block, at an index. -/
theorem out_apply (x0 : Vec Ideal S512x2048 .bf16) (x1 : Vec Ideal S2048x1024 .bf16) (x2 : Vec Ideal S512x1024 .f32)
    (x3 : Vec Ideal S1x1024 .f32) (x4 : Vec Ideal S1x1x1x1024 .f32) (r : Fin 512) (d : Fin 1024) :
    out0_5 x0 x1 x2 x3 x4 (ix2 r d)
      = residual (fun d => x2 (ix2 r d)) (fun d => x4 (ix4 0 0 0 d)) (fun d => x3 (ix2 0 d))
          (fun d => ∑ k, x0 (ix2 r k) * x1 (ix2 k d)) d := by
  unfold out0_5
  rw [View.canon_cons_unit_zero (S := S512x1024) z2]
  simp only [View.ld_unit_zero (S := S512x1024) z2, View.ld_unit_zero (S := S1x1024) z2,
    View.ld_unit_zero (S := S1x1x1x1024) z4, View.ld_unit_zero (S := S512x2048) z2,
    View.ld_unit_zero (S := S2048x1024) z2]
  rw [pay1_apply]

variable (m : (ℓ : Loc nD τ sig) → Buf (Elt Ideal) ℓ)

/-- The group of the rows of grid point `t`. -/
def tgroup (t : Fin cfg0.N) : Fin 8 := ⟨min (t.val / 32) 2, by omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![2, min (t.val / 32) 2, 0, 0] :=
  (by decide +kernel : ∀ t : Fin grid0.N, _)
theorem idx5 : ∀ t : Fin cfg0.N, win0_5.index t = ![t.val, 0] := (by decide +kernel : ∀ t : Fin grid0.N, _)

/-- The rows the projection multiplies. -/
theorem blk0 (c : Dev nD) (t : Fin cfg0.N) (r : Fin 512) (k : Fin 2048) (n : Fin 33280)
    (hn : n.val = 512 * t.val + r.val) :
    iblk m c 0 t (ix2 r k) = m ((c : Thread nD τ).loc main_arg0) (ix2 n k) := by
  blk_simp [iblk]
  rw [V_main_arg0]
  refine congrArg (m ((c : Thread nD τ).loc main_arg0)) (funext fun b => Fin.ext ?_)
  blk_simp [idx0]
  fin_cases b <;> simp <;> omega

/-- The projection. -/
theorem blk1 (c : Dev nD) (t : Fin cfg0.N) (k : Fin 2048) (d : Fin 1024) :
    iblk m c 1 t (ix2 k d) = m ((c : Thread nD τ).loc main_arg1) (ix2 k d) := by
  blk_simp [iblk]
  rw [V_main_arg1]
  refine congrArg (m ((c : Thread nD τ).loc main_arg1)) (funext fun b => Fin.ext ?_)
  blk_simp [idx1]
  fin_cases b <;> simp

/-- The residual's rows. -/
theorem blk2 (c : Dev nD) (t : Fin cfg0.N) (r : Fin 512) (d : Fin 1024) (n : Fin 33280)
    (hn : n.val = 512 * t.val + r.val) :
    iblk m c 2 t (ix2 r d) = m ((c : Thread nD τ).loc main_arg2) (ix2 n d) := by
  blk_simp [iblk]
  rw [V_main_arg2]
  refine congrArg (m ((c : Thread nD τ).loc main_arg2)) (funext fun b => Fin.ext ?_)
  blk_simp [idx2]
  fin_cases b <;> simp <;> omega

/-- The norm's weights. -/
theorem blk3 (c : Dev nD) (t : Fin cfg0.N) (d : Fin 1024) :
    iblk m c 3 t (ix2 0 d) = m ((c : Thread nD τ).loc main_arg3) (ix2 0 d) := by
  blk_simp [iblk]
  rw [V_main_arg3]
  refine congrArg (m ((c : Thread nD τ).loc main_arg3)) (funext fun b => Fin.ext ?_)
  blk_simp [idx3]
  fin_cases b <;> simp

/-- The gate of the rows' group. -/
theorem blk4 (c : Dev nD) (t : Fin cfg0.N) (d : Fin 1024) :
    iblk m c 4 t (ix4 0 0 0 d) = m ((c : Thread nD τ).loc main_arg4) (ix4 2 (tgroup t) 0 d) := by
  blk_simp [iblk]
  rw [V_main_arg4]
  refine congrArg (m ((c : Thread nD τ).loc main_arg4)) (funext fun b => Fin.ext ?_)
  blk_simp [idx4, tgroup]
  fin_cases b <;> simp

/-- What the projection computes at row `n` and column `d`. -/
def out (y : Vec Ideal S33280x2048 .bf16) (w : Vec Ideal S2048x1024 .bf16) (x : Vec Ideal S33280x1024 .f32)
    (nw : Vec Ideal S1x1024 .f32) (mods : Vec Ideal S6x8x1x1024 .f32) (n : Fin 33280) (d : Fin 1024) : EReal :=
  residual (fun d => x (ix2 n d)) (fun d => mods (ix4 2 (group n) 0 d)) (fun d => nw (ix2 0 d))
    (fun d => ∑ k, y (ix2 n k) * w (ix2 k d)) d

/-- What a grid point computes for an index of its block is the array's entry at the block's index. -/
theorem cell_eq (c : Dev nD) (t : Fin cfg0.N) (r : Fin 512) (d : Fin 1024) (n : Fin 33280) (e : Fin 1024)
    (hn : n.val = 512 * t.val + r.val) (he : e = d) :
    out0_5 (iblk m c 0 t) (iblk m c 1 t) (iblk m c 2 t) (iblk m c 3 t) (iblk m c 4 t) (ix2 r d)
      = out (m ((c : Thread nD τ).loc main_arg0)) (m ((c : Thread nD τ).loc main_arg1))
          (m ((c : Thread nD τ).loc main_arg2)) (m ((c : Thread nD τ).loc main_arg3))
          (m ((c : Thread nD τ).loc main_arg4)) n e := by
  subst he
  have hg : tgroup t = group n := Fin.ext (by
    have hr := r.isLt
    simp only [tgroup, group]
    omega)
  refine (out_apply _ _ _ _ _ r e).trans ?_
  unfold out
  simp only [blk0 m c t r _ n hn, blk1, blk2 m c t r _ n hn, blk3, blk4, hg]

/-- The result array. -/
theorem final_apply (c : Dev nD) (n : Fin 33280) (d : Fin 1024) :
    (dats m 0 c).arrAt 5 cfg0.N (ix2 n d)
      = out (m ((c : Thread nD τ).loc main_arg0)) (m ((c : Thread nD τ).loc main_arg1))
          (m ((c : Thread nD τ).loc main_arg2)) (m ((c : Thread nD τ).loc main_arg3))
          (m ((c : Thread nD τ).loc main_arg4)) n d := by
  have hd := d.isLt
  have hN : cfg0.N = 65 := rfl
  have hlt : n.val / 512 < cfg0.N := by rw [hN]; omega
  refine (dats m 0 c).arrAt_forall_of_flushed 5 (fun i v => v
      = out (m ((c : Thread nD τ).loc main_arg0)) (m ((c : Thread nD τ).loc main_arg1))
          (m ((c : Thread nD τ).loc main_arg2)) (m ((c : Thread nD τ).loc main_arg3))
          (m ((c : Thread nD τ).loc main_arg4)) (i 0) (i 1))
      (fun t _ y => ?_) cfg0.N ⟨n.val / 512, hlt⟩ (ix2 n d) hlt (flush0_5 _) ?_
  · rw [Value.flushed5]
    blk_simp
    have hy : (y : S512x1024.Idx) = ix2 (y 0) (y 1) := eq_ix2 (y : S512x1024.Idx)
    refine Eq.trans (congrArg (out0_5 (iblk m c 0 t) (iblk m c 1 t) (iblk m c 2 t) (iblk m c 3 t) (iblk m c 4 t))
      hy) ?_
    refine cell_eq m c t (y 0) (y 1) _ _ ?_ (Fin.ext ?_)
    · blk_simp [idx5]
      simp [Nat.mul_comm]
    · blk_simp [idx5]
  · mem_blk [idx5]
    change (n.val / 512 * 512 ≤ n.val ∧ n.val < n.val / 512 * 512 + 512)
      ∧ 0 * 1024 ≤ d.val ∧ d.val < 0 * 1024 + 1024
    omega

end Cert.OutIdeal.Array
-- ==== Proof.OutClaim.lean ====
/- The claims of the state mixer's output projection: the reference read at an index, the runs, and the equality. -/
module

public import proofs.«01_k».proof.Defs
public import proofs.«01_k».proof.Proof.OutArray
public import proofs.«01_k».proof.Proof.Gen.Out
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import Idealize.ShloMosaic.Lib.Quiescent

@[expose] public section

set_option maxRecDepth 16384

noncomputable section

namespace Cert.OutRefIdeal.Ref

open Idealize.ShloMosaic Idealize.ShloMosaic.TcCoe
open Cert.OutRefIdeal Cert.OutRefIdeal.Gen Cert.OutRefIdeal.Read Cert.DenseMath

/-- The gate of each row. -/
theorem gate_apply (x4 : Vec Ideal S6x8x1x1024 .f32) (n : Fin 33280) (d : Fin 1024) :
    val_main_v12 (F := Ideal) x4 (ix2 n d) = x4 (ix4 2 (group n) 0 d) := by
  refine Eq.trans ?_ (group_ite (fun g => x4 (ix4 2 g 0 d)) n)
  pointwise [val_main_v12, val_main_v11, val_main_v10, val_main_v9, val_main_v8, val_main_v7, val_main_v6, val_main_v5,
    val_main_v4, val_main_v3]

variable (x0 : Vec Ideal S33280x2048 .bf16) (x1 : Vec Ideal S2048x1024 .bf16)

/-- The product at an index. -/
theorem prod_apply (n : Fin 33280) (d : Fin 1024) :
    val_main_v2 (F := Ideal) x0 x1 (ix2 n d) = ∑ k, x0 (ix2 n k) * x1 (ix2 k d) := by
  pointwise [val_main_v2, val_main_v1, val_main_v0]

/-- The reference's result at an index. -/
theorem out_apply (x2 : Vec Ideal S33280x1024 .f32) (x3 : Vec Ideal S1x1024 .f32) (x4 : Vec Ideal S6x8x1x1024 .f32)
    (n : Fin 33280) (d : Fin 1024) :
    val_main_v26 (F := Ideal) x0 x1 x2 x3 x4 (ix2 n d)
      = residual (fun d => x2 (ix2 n d)) (fun d => x4 (ix4 2 (group n) 0 d)) (fun d => x3 (ix2 0 d))
          (fun d => ∑ k, x0 (ix2 n k) * x1 (ix2 k d)) d := by
  pointwise [val_main_v26, val_main_v25, val_main_v24, val_main_v23, val_main_v22, val_main_v21, val_main_v20,
    val_main_v19, val_main_v18, val_main_v17, val_main_v16, val_main_v15, val_main_v14, val_main_v13, val_main_cst,
    val_main_cst_0, val_main_cst_1]
  simp only [gate_apply, prod_apply]
  rfl

end Cert.OutRefIdeal.Ref

namespace Cert.OutClaim

open Idealize.ShloMosaic Idealize.ShloMosaic.TcCoe Idealize.SL.Sem

/-- The kernel runs, leaves its arguments as they were and ends with every counter at zero. -/
theorem frame_Out : Cert.quiescent_Out := fun m g _ => Cert.Out.Gen.frame m g

/-- So does the kernel read over the extended reals. -/
theorem frame_OutIdeal : Cert.quiescent_OutIdeal := fun m g _ => Cert.OutIdeal.Gen.frame m g

/-- The reference runs, leaves its arguments as they were and ends with every counter at zero. -/
theorem frame_OutRefIdeal : Cert.quiescent_OutRefIdeal := fun m g _ =>
  (θ_run _ _ _).mono (fun r h => ⟨fun c => (h c).2, sem_eq_zero_of_no_sems (by decide) r.2⟩)
    (Cert.OutRefIdeal.Value.run m g)

/-- No constant is named. -/
theorem preserves : Cert.preserves_Out_OutIdeal := trivial

/-- Kernel and reference agree. -/
theorem algebraic : Cert.algebraic_OutIdeal_OutRefIdeal := by
  intro m g m' g' hpre hagree
  refine ⟨fun c => Cert.OutRefIdeal.Read.val_main_v26 (F := Ideal)
            (m ((c.tc : Thread _ _).loc Cert.OutIdeal.main_arg0))
            (m ((c.tc : Thread _ _).loc Cert.OutIdeal.main_arg1))
            (m ((c.tc : Thread _ _).loc Cert.OutIdeal.main_arg2))
            (m ((c.tc : Thread _ _).loc Cert.OutIdeal.main_arg3))
            (m ((c.tc : Thread _ _).loc Cert.OutIdeal.main_arg4)),
    (θ_run _ _ _).mono (fun r h c => ⟨(h c).1.trans (funext fun i => ?_), (h c).2⟩)
      (Cert.OutIdeal.Value.run_blocks m g),
    (θ_run _ _ _).mono (fun r h c => ⟨(h c).1.trans ?_, (h c).2⟩) (Cert.OutRefIdeal.Value.run m' g')⟩
  · obtain ⟨n, d, rfl⟩ : ∃ n d, i = ix2 n d := ⟨_, _, eq_ix2 i⟩
    exact (Cert.OutIdeal.Array.final_apply m c n d).trans (Cert.OutRefIdeal.Ref.out_apply _ _ _ _ _ n d).symm
  · rw [Cert.OutRefIdeal.Read.val_main_v26_eq, (hagree c).1, (hagree c).2.1, (hagree c).2.2.1, (hagree c).2.2.2.1,
      (hagree c).2.2.2.2]

end Cert.OutClaim
-- ==== Proof.MixOutArray.lean ====
/- The array the output projection of the attention and Fourier mixer leaves, over the extended reals: each row is the
   residual row and the gated norm of the sum of the row's two products. -/
module

public import proofs.«01_k».proof.Proof.Gen.MixOutIdeal.Value
public import proofs.«01_k».proof.Proof.DenseMath
public import Idealize.ShloMosaic.Lib.Pipeline.ValueKit
public import Idealize.ShloMosaic.Lib.Tactic

@[expose] public section

set_option maxRecDepth 16384

noncomputable section

namespace Cert.MixOutIdeal.Array

open Idealize.ShloMosaic Idealize.ShloMosaic.TcCoe
open Idealize.ShloMosaic.Pipeline (Dat)
open Cert.MixOutIdeal Cert.MixOutIdeal.Gen Cert.DenseMath

theorem z2 : (![0, 0] : Fin 2 → Nat) = fun _ => 0 := funext fun a => by fin_cases a <;> rfl
theorem z4 : (![0, 0, 0, 0] : Fin 4 → Nat) = fun _ => 0 := funext fun a => by fin_cases a <;> rfl

/-- The output block at an index. -/
theorem pay1_apply (f : Vec Ideal S512x512 .bf16) (wf : Vec Ideal S512x1024 .bf16) (a : Vec Ideal S512x512 .bf16)
    (wa : Vec Ideal S512x1024 .bf16) (x : Vec Ideal S512x1024 .f32)
    (g : Vec Ideal S1x1x1x1024 .f32) (nw : Vec Ideal S1x1024 .f32) (r : Fin 512) (d : Fin 1024) :
    k0_pay1 f wf a wa x g nw (ix2 r d)
      = residual (fun d => x (ix2 r d)) (fun d => g (ix4 0 0 0 d)) (fun d => nw (ix2 0 d))
          (fun d => (∑ k, f (ix2 r k) * wf (ix2 k d)) + ∑ k, a (ix2 r k) * wa (ix2 k d)) d := by
  pointwise [k0_pay1]
  rfl

/-- What a grid point leaves in its block, at an index. -/
theorem out_apply (x0 x1 : Vec Ideal S512x512 .bf16) (x2 x3 : Vec Ideal S512x1024 .bf16)
    (x4 : Vec Ideal S512x1024 .f32) (x5 : Vec Ideal S1x1024 .f32) (x6 : Vec Ideal S1x1x1x1024 .f32) (r : Fin 512)
    (d : Fin 1024) :
    out0_7 x0 x1 x2 x3 x4 x5 x6 (ix2 r d)
      = residual (fun d => x4 (ix2 r d)) (fun d => x6 (ix4 0 0 0 d)) (fun d => x5 (ix2 0 d))
          (fun d => (∑ k, x0 (ix2 r k) * x2 (ix2 k d)) + ∑ k, x1 (ix2 r k) * x3 (ix2 k d)) d := by
  unfold out0_7
  rw [View.canon_cons_unit_zero (S := S512x1024) z2]
  simp only [View.ld_unit_zero (S := S512x1024) z2, View.ld_unit_zero (S := S1x1024) z2,
    View.ld_unit_zero (S := S1x1x1x1024) z4, View.ld_unit_zero (S := S512x512) z2]
  rw [pay1_apply]

variable (m : (ℓ : Loc nD τ sig) → Buf (Elt Ideal) ℓ)

/-- The group of the rows of grid point `t`. -/
def tgroup (t : Fin cfg0.N) : Fin 8 := ⟨min (t.val / 32) 2, by omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![2, min (t.val / 32) 2, 0, 0] :=
  (by decide +kernel : ∀ t : Fin grid0.N, _)
theorem idx7 : ∀ t : Fin cfg0.N, win0_7.index t = ![t.val, 0] := (by decide +kernel : ∀ t : Fin grid0.N, _)

/-- The Fourier mixer's rows. -/
theorem blk0 (c : Dev nD) (t : Fin cfg0.N) (r k : Fin 512) (n : Fin 33280)
    (hn : n.val = 512 * t.val + r.val) :
    iblk m c 0 t (ix2 r k) = m ((c : Thread nD τ).loc main_arg0) (ix2 n k) := by
  blk_simp [iblk]
  rw [V_main_arg0]
  refine congrArg (m ((c : Thread nD τ).loc main_arg0)) (funext fun b => Fin.ext ?_)
  blk_simp [idx0]
  fin_cases b <;> simp <;> omega

/-- The attention's rows. -/
theorem blk1 (c : Dev nD) (t : Fin cfg0.N) (r k : Fin 512) (n : Fin 33280)
    (hn : n.val = 512 * t.val + r.val) :
    iblk m c 1 t (ix2 r k) = m ((c : Thread nD τ).loc main_arg1) (ix2 n k) := by
  blk_simp [iblk]
  rw [V_main_arg1]
  refine congrArg (m ((c : Thread nD τ).loc main_arg1)) (funext fun b => Fin.ext ?_)
  blk_simp [idx1]
  fin_cases b <;> simp <;> omega

/-- The Fourier mixer's projection. -/
theorem blk2 (c : Dev nD) (t : Fin cfg0.N) (k : Fin 512) (d : Fin 1024) :
    iblk m c 2 t (ix2 k d) = m ((c : Thread nD τ).loc main_arg2) (ix2 k d) := by
  blk_simp [iblk]
  rw [V_main_arg2]
  refine congrArg (m ((c : Thread nD τ).loc main_arg2)) (funext fun b => Fin.ext ?_)
  blk_simp [idx2]
  fin_cases b <;> simp

/-- The attention's projection. -/
theorem blk3 (c : Dev nD) (t : Fin cfg0.N) (k : Fin 512) (d : Fin 1024) :
    iblk m c 3 t (ix2 k d) = m ((c : Thread nD τ).loc main_arg3) (ix2 k d) := by
  blk_simp [iblk]
  rw [V_main_arg3]
  refine congrArg (m ((c : Thread nD τ).loc main_arg3)) (funext fun b => Fin.ext ?_)
  blk_simp [idx3]
  fin_cases b <;> simp

/-- The residual's rows. -/
theorem blk4 (c : Dev nD) (t : Fin cfg0.N) (r : Fin 512) (d : Fin 1024) (n : Fin 33280)
    (hn : n.val = 512 * t.val + r.val) :
    iblk m c 4 t (ix2 r d) = m ((c : Thread nD τ).loc main_arg4) (ix2 n d) := by
  blk_simp [iblk]
  rw [V_main_arg4]
  refine congrArg (m ((c : Thread nD τ).loc main_arg4)) (funext fun b => Fin.ext ?_)
  blk_simp [idx4]
  fin_cases b <;> simp <;> omega

/-- The norm's weights. -/
theorem blk5 (c : Dev nD) (t : Fin cfg0.N) (d : Fin 1024) :
    iblk m c 5 t (ix2 0 d) = m ((c : Thread nD τ).loc main_arg5) (ix2 0 d) := by
  blk_simp [iblk]
  rw [V_main_arg5]
  refine congrArg (m ((c : Thread nD τ).loc main_arg5)) (funext fun b => Fin.ext ?_)
  blk_simp [idx5]
  fin_cases b <;> simp

/-- The gate of the rows' group. -/
theorem blk6 (c : Dev nD) (t : Fin cfg0.N) (d : Fin 1024) :
    iblk m c 6 t (ix4 0 0 0 d) = m ((c : Thread nD τ).loc main_arg6) (ix4 2 (tgroup t) 0 d) := by
  blk_simp [iblk]
  rw [V_main_arg6]
  refine congrArg (m ((c : Thread nD τ).loc main_arg6)) (funext fun b => Fin.ext ?_)
  blk_simp [idx6, tgroup]
  fin_cases b <;> simp

/-- What the projection computes at row `n` and column `d`. -/
def out (f a : Vec Ideal S33280x512 .bf16) (wf wa : Vec Ideal S512x1024 .bf16) (x : Vec Ideal S33280x1024 .f32)
    (nw : Vec Ideal S1x1024 .f32) (mods : Vec Ideal S6x8x1x1024 .f32) (n : Fin 33280) (d : Fin 1024) : EReal :=
  residual (fun d => x (ix2 n d)) (fun d => mods (ix4 2 (group n) 0 d)) (fun d => nw (ix2 0 d))
    (fun d => (∑ k, f (ix2 n k) * wf (ix2 k d)) + ∑ k, a (ix2 n k) * wa (ix2 k d)) d

/-- What a grid point computes for an index of its block is the array's entry at the block's index. -/
theorem cell_eq (c : Dev nD) (t : Fin cfg0.N) (r : Fin 512) (d : Fin 1024) (n : Fin 33280) (e : Fin 1024)
    (hn : n.val = 512 * t.val + r.val) (he : e = d) :
    out0_7 (iblk m c 0 t) (iblk m c 1 t) (iblk m c 2 t) (iblk m c 3 t) (iblk m c 4 t) (iblk m c 5 t) (iblk m c 6 t)
        (ix2 r d)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) n e := by
  subst he
  have hg : tgroup t = group n := Fin.ext (by
    have hr := r.isLt
    simp only [tgroup, group]
    omega)
  refine (out_apply _ _ _ _ _ _ _ r e).trans ?_
  unfold out
  simp only [blk0 m c t r _ n hn, blk1 m c t r _ n hn, blk2, blk3,
    blk4 m c t r _ n hn, blk5, blk6, hg]

/-- The result array. -/
theorem final_apply (c : Dev nD) (n : Fin 33280) (d : Fin 1024) :
    (dats m 0 c).arrAt 7 cfg0.N (ix2 n d)
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) n d := by
  have hd := d.isLt
  have hN : cfg0.N = 65 := rfl
  have hlt : n.val / 512 < cfg0.N := by rw [hN]; omega
  refine (dats m 0 c).arrAt_forall_of_flushed 7 (fun i v => v
      = out (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (i 0) (i 1))
      (fun t _ y => ?_) cfg0.N ⟨n.val / 512, hlt⟩ (ix2 n d) hlt (flush0_7 _) ?_
  · rw [Value.flushed7]
    blk_simp
    have hy : (y : S512x1024.Idx) = ix2 (y 0) (y 1) := eq_ix2 (y : S512x1024.Idx)
    refine Eq.trans (congrArg (out0_7 (iblk m c 0 t) (iblk m c 1 t) (iblk m c 2 t) (iblk m c 3 t) (iblk m c 4 t)
      (iblk m c 5 t) (iblk m c 6 t)) hy) ?_
    refine cell_eq m c t (y 0) (y 1) _ _ ?_ (Fin.ext ?_)
    · blk_simp [idx7]
      simp [Nat.mul_comm]
    · blk_simp [idx7]
  · mem_blk [idx7]
    change (n.val / 512 * 512 ≤ n.val ∧ n.val < n.val / 512 * 512 + 512)
      ∧ 0 * 1024 ≤ d.val ∧ d.val < 0 * 1024 + 1024
    omega

end Cert.MixOutIdeal.Array
-- ==== Proof.MixOutClaim.lean ====
/- The claims of the output projection of the attention and Fourier mixer: the reference read at an
   index, the runs, and the equality. -/
module

public import proofs.«01_k».proof.Defs
public import proofs.«01_k».proof.Proof.MixOutArray
public import proofs.«01_k».proof.Proof.Gen.MixOut
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.MixOutRefIdeal.Read
public import Idealize.ShloMosaic.Lib.Quiescent

@[expose] public section

set_option maxRecDepth 16384

noncomputable section

namespace Cert.MixOutRefIdeal.Ref

open Idealize.ShloMosaic Idealize.ShloMosaic.TcCoe
open Cert.MixOutRefIdeal Cert.MixOutRefIdeal.Gen Cert.MixOutRefIdeal.Read Cert.DenseMath

/-- The gate of each row. -/
theorem gate_apply (x6 : Vec Ideal S6x8x1x1024 .f32) (n : Fin 33280) (d : Fin 1024) :
    val_main_v14 (F := Ideal) x6 (ix2 n d) = x6 (ix4 2 (group n) 0 d) := by
  refine Eq.trans ?_ (group_ite (fun g => x6 (ix4 2 g 0 d)) n)
  pointwise [val_main_v14, val_main_v13, val_main_v12, val_main_v11, val_main_v10, val_main_v9, val_main_v8,
    val_main_v7, val_main_v6, val_main_v5]

variable (x0 x1 : Vec Ideal S33280x512 .bf16) (x2 x3 : Vec Ideal S512x1024 .bf16)

/-- The product at an index: the two mixers' columns one after the other. -/
theorem prod_apply (n : Fin 33280) (d : Fin 1024) :
    val_main_v4 (F := Ideal) x0 x1 x2 x3 (ix2 n d)
      = (∑ k, x0 (ix2 n k) * x2 (ix2 k d)) + ∑ k, x1 (ix2 n k) * x3 (ix2 k d) := by
  pointwise [val_main_v4, val_main_v3, val_main_v2, val_main_v1, val_main_v0]

/-- The reference's result at an index. -/
theorem out_apply (x4 : Vec Ideal S33280x1024 .f32) (x5 : Vec Ideal S1x1024 .f32) (x6 : Vec Ideal S6x8x1x1024 .f32)
    (n : Fin 33280) (d : Fin 1024) :
    val_main_v28 (F := Ideal) x0 x1 x2 x3 x4 x5 x6 (ix2 n d)
      = residual (fun d => x4 (ix2 n d)) (fun d => x6 (ix4 2 (group n) 0 d)) (fun d => x5 (ix2 0 d))
          (fun d => (∑ k, x0 (ix2 n k) * x2 (ix2 k d)) + ∑ k, x1 (ix2 n k) * x3 (ix2 k d)) d := by
  pointwise [val_main_v28, val_main_v27, val_main_v26, val_main_v25, val_main_v24, val_main_v23, val_main_v22,
    val_main_v21, val_main_v20, val_main_v19, val_main_v18, val_main_v17, val_main_v16, val_main_v15, val_main_cst,
    val_main_cst_0, val_main_cst_1]
  simp only [gate_apply, prod_apply]
  rfl

end Cert.MixOutRefIdeal.Ref

namespace Cert.MixOutClaim

open Idealize.ShloMosaic Idealize.ShloMosaic.TcCoe Idealize.SL.Sem

/-- The kernel runs, leaves its arguments as they were and ends with every counter at zero. -/
theorem frame_MixOut : Cert.quiescent_MixOut := fun m g _ => Cert.MixOut.Gen.frame m g

/-- So does the kernel read over the extended reals. -/
theorem frame_MixOutIdeal : Cert.quiescent_MixOutIdeal := fun m g _ => Cert.MixOutIdeal.Gen.frame m g

/-- The reference runs, leaves its arguments as they were and ends with every counter at zero. -/
theorem frame_MixOutRefIdeal : Cert.quiescent_MixOutRefIdeal := fun m g _ =>
  (θ_run _ _ _).mono (fun r h => ⟨fun c => (h c).2, sem_eq_zero_of_no_sems (by decide) r.2⟩)
    (Cert.MixOutRefIdeal.Value.run m g)

/-- No constant is named. -/
theorem preserves : Cert.preserves_MixOut_MixOutIdeal := trivial

/-- Kernel and reference agree. -/
theorem algebraic : Cert.algebraic_MixOutIdeal_MixOutRefIdeal := by
  intro m g m' g' hpre hagree
  refine ⟨fun c => Cert.MixOutRefIdeal.Read.val_main_v28 (F := Ideal)
            (m ((c.tc : Thread _ _).loc Cert.MixOutIdeal.main_arg0))
            (m ((c.tc : Thread _ _).loc Cert.MixOutIdeal.main_arg1))
            (m ((c.tc : Thread _ _).loc Cert.MixOutIdeal.main_arg2))
            (m ((c.tc : Thread _ _).loc Cert.MixOutIdeal.main_arg3))
            (m ((c.tc : Thread _ _).loc Cert.MixOutIdeal.main_arg4))
            (m ((c.tc : Thread _ _).loc Cert.MixOutIdeal.main_arg5))
            (m ((c.tc : Thread _ _).loc Cert.MixOutIdeal.main_arg6)),
    (θ_run _ _ _).mono (fun r h c => ⟨(h c).1.trans (funext fun i => ?_), (h c).2⟩)
      (Cert.MixOutIdeal.Value.run_blocks m g),
    (θ_run _ _ _).mono (fun r h c => ⟨(h c).1.trans ?_, (h c).2⟩) (Cert.MixOutRefIdeal.Value.run m' g')⟩
  · obtain ⟨n, d, rfl⟩ : ∃ n d, i = ix2 n d := ⟨_, _, eq_ix2 i⟩
    exact (Cert.MixOutIdeal.Array.final_apply m c n d).trans
      (Cert.MixOutRefIdeal.Ref.out_apply _ _ _ _ _ _ _ n d).symm
  · rw [Cert.MixOutRefIdeal.Read.val_main_v28_eq, (hagree c).1, (hagree c).2.1, (hagree c).2.2.1, (hagree c).2.2.2.1,
      (hagree c).2.2.2.2.1, (hagree c).2.2.2.2.2.1, (hagree c).2.2.2.2.2.2]

end Cert.MixOutClaim
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Moe
public import proofs.«01_k».proof.Proof.Gen.Moe.Frame
public import proofs.«01_k».proof.Proof.Gen.MoeIdeal
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_finite
public import proofs.«01_k».proof.Proof.Gen.Pre_experts_in_range
public import proofs.«01_k».proof.Proof.Gen.On_latent_rows
public import proofs.«01_k».proof.Proof.Gen.On_first_part
public import proofs.«01_k».proof.Proof.Gen.MoeSecond
public import proofs.«01_k».proof.Proof.Gen.MoeSecond.Frame
public import proofs.«01_k».proof.Proof.Gen.MoeSecondIdeal
public import proofs.«01_k».proof.Proof.Gen.MoeSecondIdeal.Frame
public import proofs.«01_k».proof.Proof.Gen.MoeSecondRefIdeal
public import proofs.«01_k».proof.Proof.Gen.MoeSecondRefIdeal.Run
public import proofs.«01_k».proof.Proof.Gen.MoeSecondRefIdeal.Read
public import proofs.«01_k».proof.Proof.Gen.MoeThird
public import proofs.«01_k».proof.Proof.Gen.MoeThird.Frame
public import proofs.«01_k».proof.Proof.Gen.MoeThirdIdeal
public import proofs.«01_k».proof.Proof.Gen.MoeThirdIdeal.Frame
public import proofs.«01_k».proof.Proof.Gen.MoeThirdRefIdeal
public import proofs.«01_k».proof.Proof.Gen.MoeThirdRefIdeal.Run
public import proofs.«01_k».proof.Proof.Gen.MoeThirdRefIdeal.Read
public import proofs.«01_k».proof.Proof.Gen.Pre_next_experts_in_range
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.In
public import proofs.«01_k».proof.Proof.Gen.In.Frame
public import proofs.«01_k».proof.Proof.Gen.In.Skeleton
public import proofs.«01_k».proof.Proof.Gen.InIdeal
public import proofs.«01_k».proof.Proof.Gen.InIdeal.Frame
public import proofs.«01_k».proof.Proof.Gen.InIdeal.Skeleton
public import proofs.«01_k».proof.Proof.Gen.InRefIdeal
public import proofs.«01_k».proof.Proof.Gen.InRefIdeal.Run
public import proofs.«01_k».proof.Proof.Gen.InRefIdeal.Read
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenIdeal.Value
public import proofs.«01_k».proof.Proof.Gen.EvenRefIdeal
public import proofs.«01_k».proof.Proof.Gen.EvenRefIdeal.Run
public import proofs.«01_k».proof.Proof.Gen.EvenRefIdeal.Read
public import proofs.«01_k».proof.Proof.Gen.Pre_real_inputs
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.AttnClaim
public import proofs.«01_k».proof.Proof.MoeClaim
public import proofs.«01_k».proof.Proof.MoeSecondClaim
public import proofs.«01_k».proof.Proof.MoeThirdClaim
public import proofs.«01_k».proof.Proof.FfnClaim
public import proofs.«01_k».proof.Proof.InClaim
public import proofs.«01_k».proof.Proof.EvenClaim
public import proofs.«01_k».proof.Proof.OutClaim
public import proofs.«01_k».proof.Proof.MixOutClaim
public import Idealize.ShloMosaic.Adequacy
public import Idealize.ShloMosaic.Init

@[expose] public section

noncomputable section

namespace Cert.Proof

open Idealize.ShloMosaic Idealize.SL.Sem

/-- The certificate. -/
theorem claim : Cert.Claim := ⟨Cert.Attn.Gen.facts, Cert.AttnIdeal.Gen.facts, Cert.AttnRefIdeal.Gen.facts,
  Cert.Moe.Gen.facts, Cert.MoeIdeal.Gen.facts, Cert.MoeRefIdeal.Gen.facts,
  Cert.MoeSecond.Gen.facts, Cert.MoeSecondIdeal.Gen.facts, Cert.MoeSecondRefIdeal.Gen.facts,
  Cert.MoeThird.Gen.facts, Cert.MoeThirdIdeal.Gen.facts, Cert.MoeThirdRefIdeal.Gen.facts,
  Cert.Ffn.Gen.facts, Cert.FfnIdeal.Gen.facts, Cert.FfnRefIdeal.Gen.facts,
  Cert.In.Gen.facts, Cert.InIdeal.Gen.facts, Cert.InRefIdeal.Gen.facts,
  Cert.Even.Gen.facts, Cert.EvenIdeal.Gen.facts, Cert.EvenRefIdeal.Gen.facts,
  Cert.Out.Gen.facts, Cert.OutIdeal.Gen.facts, Cert.OutRefIdeal.Gen.facts,
  Cert.MixOut.Gen.facts, Cert.MixOutIdeal.Gen.facts, Cert.MixOutRefIdeal.Gen.facts,
  Cert.Pre_finite.Gen.facts, Cert.Pre_experts_in_range.Gen.facts, Cert.Pre_next_experts_in_range.Gen.facts,
  Cert.Pre_real_inputs.Gen.facts, Cert.On_latent_rows.Gen.facts, Cert.On_first_part.Gen.facts,
  Cert.AttnClaim.frame_Attn, Cert.AttnClaim.frame_AttnIdeal, Cert.AttnClaim.frame_AttnIdeal_finite,
  Cert.AttnClaim.frame_AttnRefIdeal, Cert.AttnClaim.frame_AttnRefIdeal_finite,
  Cert.MoeClaim.frame_Moe, Cert.MoeClaim.frame_MoeIdeal,
  Cert.MoeClaim.frame_MoeRefIdeal, Cert.MoeClaim.frame_MoeRefIdeal_range,
  Cert.MoeSecondClaim.frame_MoeSecond, Cert.MoeSecondClaim.frame_MoeSecondIdeal,
  Cert.MoeSecondClaim.frame_MoeSecondRefIdeal, Cert.MoeSecondClaim.frame_MoeSecondRefIdeal_range,
  Cert.MoeThirdClaim.frame_MoeThird, Cert.MoeThirdClaim.frame_MoeThirdIdeal,
  Cert.MoeThirdClaim.frame_MoeThirdRefIdeal, Cert.MoeThirdClaim.frame_MoeThirdRefIdeal_range,
  Cert.FfnClaim.frame_Ffn, Cert.FfnClaim.frame_FfnIdeal, Cert.FfnClaim.frame_FfnRefIdeal,
  Cert.InClaim.frame_In, Cert.InClaim.frame_InIdeal, Cert.InClaim.frame_InRefIdeal,
  Cert.EvenClaim.frame_Even, Cert.EvenClaim.frame_EvenIdeal, Cert.EvenClaim.frame_EvenIdeal_real,
  Cert.EvenClaim.frame_EvenRefIdeal, Cert.EvenClaim.frame_EvenRefIdeal_real,
  Cert.OutClaim.frame_Out, Cert.OutClaim.frame_OutIdeal, Cert.OutClaim.frame_OutRefIdeal,
  Cert.MixOutClaim.frame_MixOut, Cert.MixOutClaim.frame_MixOutIdeal, Cert.MixOutClaim.frame_MixOutRefIdeal,
  Cert.AttnClaim.preserves, Cert.AttnClaim.algebraic,
  Cert.MoeClaim.preserves, Cert.MoeClaim.algebraic,
  Cert.MoeSecondClaim.preserves, Cert.MoeSecondClaim.algebraic,
  Cert.MoeThirdClaim.preserves, Cert.MoeThirdClaim.algebraic,
  Cert.FfnClaim.preserves, Cert.FfnClaim.algebraic,
  Cert.InClaim.preserves, Cert.InClaim.algebraic,
  Cert.EvenClaim.preserves, Cert.EvenClaim.algebraic,
  Cert.OutClaim.preserves, Cert.OutClaim.algebraic,
  Cert.MixOutClaim.preserves, Cert.MixOutClaim.algebraic⟩

end Cert.Proof

end
